-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvKernelIdeal_cotangent_finite [hPre_cotangent_finite : Cert.Pre_cotangent_finite.Facts] (m : (ℓ : Loc Cert.ConvKernelIdeal.nD Cert.ConvKernelIdeal.τ Cert.ConvKernelIdeal.sig) → Buf (Elt Ideal) ℓ) : Prop :=
  ∀ c : Dev Cert.ConvKernelIdeal.nD,
    (Cert.Pre_cotangent_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3))) = (fun _ => 1#1)

def Pre_ConvReferenceIdeal (m : (ℓ : Loc Cert.ConvReferenceIdeal.nD Cert.ConvReferenceIdeal.τ Cert.ConvReferenceIdeal.sig) → Buf (Elt Ideal) ℓ) : Prop :=
  True

def Pre_ConvReferenceIdeal_cotangent_finite [hPre_cotangent_finite : Cert.Pre_cotangent_finite.Facts] (m : (ℓ : Loc Cert.ConvReferenceIdeal.nD Cert.ConvReferenceIdeal.τ Cert.ConvReferenceIdeal.sig) → Buf (Elt Ideal) ℓ) : Prop :=
  ∀ c : Dev Cert.ConvReferenceIdeal.nD,
    (Cert.Pre_cotangent_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7)
      ∧ r.2.mem ((c.tc : Thread Cert.InKernel.nD Cert.InKernel.τ).loc Cert.InKernel.main_arg8) = m ((c.tc : Thread Cert.InKernel.nD Cert.InKernel.τ).loc Cert.InKernel.main_arg8)
      ∧ r.2.mem ((c.tc : Thread Cert.InKernel.nD Cert.InKernel.τ).loc Cert.InKernel.main_arg9) = m ((c.tc : Thread Cert.InKernel.nD Cert.InKernel.τ).loc Cert.InKernel.main_arg9)
      ∧ r.2.mem ((c.tc : Thread Cert.InKernel.nD Cert.InKernel.τ).loc Cert.InKernel.main_arg10) = m ((c.tc : Thread Cert.InKernel.nD Cert.InKernel.τ).loc Cert.InKernel.main_arg10))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
      ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9)
      ∧ r.2.mem ((c.tc : Thread Cert.InKernelIdeal.nD Cert.InKernelIdeal.τ).loc Cert.InKernelIdeal.main_arg10) = m ((c.tc : Thread Cert.InKernelIdeal.nD Cert.InKernelIdeal.τ).loc Cert.InKernelIdeal.main_arg10))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8)
      ∧ r.2.mem ((c.tc : Thread Cert.InReferenceIdeal.nD Cert.InReferenceIdeal.τ).loc Cert.InReferenceIdeal.main_arg9) = m ((c.tc : Thread Cert.InReferenceIdeal.nD Cert.InReferenceIdeal.τ).loc Cert.InReferenceIdeal.main_arg9)
      ∧ r.2.mem ((c.tc : Thread Cert.InReferenceIdeal.nD Cert.InReferenceIdeal.τ).loc Cert.InReferenceIdeal.main_arg10) = m ((c.tc : Thread Cert.InReferenceIdeal.nD Cert.InReferenceIdeal.τ).loc Cert.InReferenceIdeal.main_arg10))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3)
      ∧ r.2.mem ((c.tc : Thread Cert.AdamKernel.nD Cert.AdamKernel.τ).loc Cert.AdamKernel.main_arg4) = m ((c.tc : Thread Cert.AdamKernel.nD Cert.AdamKernel.τ).loc Cert.AdamKernel.main_arg4)
      ∧ r.2.mem ((c.tc : Thread Cert.AdamKernel.nD Cert.AdamKernel.τ).loc Cert.AdamKernel.main_arg5) = m ((c.tc : Thread Cert.AdamKernel.nD Cert.AdamKernel.τ).loc Cert.AdamKernel.main_arg5)
      ∧ r.2.mem ((c.tc : Thread Cert.AdamKernel.nD Cert.AdamKernel.τ).loc Cert.AdamKernel.main_arg6) = m ((c.tc : Thread Cert.AdamKernel.nD Cert.AdamKernel.τ).loc Cert.AdamKernel.main_arg6)
      ∧ r.2.mem ((c.tc : Thread Cert.AdamKernel.nD Cert.AdamKernel.τ).loc Cert.AdamKernel.main_arg7) = m ((c.tc : Thread Cert.AdamKernel.nD Cert.AdamKernel.τ).loc Cert.AdamKernel.main_arg7)
      ∧ r.2.mem ((c.tc : Thread Cert.AdamKernel.nD Cert.AdamKernel.τ).loc Cert.AdamKernel.main_arg8) = m ((c.tc : Thread Cert.AdamKernel.nD Cert.AdamKernel.τ).loc Cert.AdamKernel.main_arg8)
      ∧ r.2.mem ((c.tc : Thread Cert.AdamKernel.nD Cert.AdamKernel.τ).loc Cert.AdamKernel.main_arg9) = m ((c.tc : Thread Cert.AdamKernel.nD Cert.AdamKernel.τ).loc Cert.AdamKernel.main_arg9)
      ∧ r.2.mem ((c.tc : Thread Cert.AdamKernel.nD Cert.AdamKernel.τ).loc Cert.AdamKernel.main_arg10) = m ((c.tc : Thread Cert.AdamKernel.nD Cert.AdamKernel.τ).loc Cert.AdamKernel.main_arg10)
      ∧ r.2.mem ((c.tc : Thread Cert.AdamKernel.nD Cert.AdamKernel.τ).loc Cert.AdamKernel.main_arg11) = m ((c.tc : Thread Cert.AdamKernel.nD Cert.AdamKernel.τ).loc Cert.AdamKernel.main_arg11)
      ∧ r.2.mem ((c.tc : Thread Cert.AdamKernel.nD Cert.AdamKernel.τ).loc Cert.AdamKernel.main_arg12) = m ((c.tc : Thread Cert.AdamKernel.nD Cert.AdamKernel.τ).loc Cert.AdamKernel.main_arg12)
      ∧ r.2.mem ((c.tc : Thread Cert.AdamKernel.nD Cert.AdamKernel.τ).loc Cert.AdamKernel.main_arg13) = m ((c.tc : Thread Cert.AdamKernel.nD Cert.AdamKernel.τ).loc Cert.AdamKernel.main_arg13)
      ∧ r.2.mem ((c.tc : Thread Cert.AdamKernel.nD Cert.AdamKernel.τ).loc Cert.AdamKernel.main_arg14) = m ((c.tc : Thread Cert.AdamKernel.nD Cert.AdamKernel.τ).loc Cert.AdamKernel.main_arg14)
      ∧ r.2.mem ((c.tc : Thread Cert.AdamKernel.nD Cert.AdamKernel.τ).loc Cert.AdamKernel.main_arg15) = m ((c.tc : Thread Cert.AdamKernel.nD Cert.AdamKernel.τ).loc Cert.AdamKernel.main_arg15)
      ∧ r.2.mem ((c.tc : Thread Cert.AdamKernel.nD Cert.AdamKernel.τ).loc Cert.AdamKernel.main_arg16) = m ((c.tc : Thread Cert.AdamKernel.nD Cert.AdamKernel.τ).loc Cert.AdamKernel.main_arg16)
      ∧ r.2.mem ((c.tc : Thread Cert.AdamKernel.nD Cert.AdamKernel.τ).loc Cert.AdamKernel.main_arg17) = m ((c.tc : Thread Cert.AdamKernel.nD Cert.AdamKernel.τ).loc Cert.AdamKernel.main_arg17)
      ∧ r.2.mem ((c.tc : Thread Cert.AdamKernel.nD Cert.AdamKernel.τ).loc Cert.AdamKernel.main_arg18) = m ((c.tc : Thread Cert.AdamKernel.nD Cert.AdamKernel.τ).loc Cert.AdamKernel.main_arg18)
      ∧ r.2.mem ((c.tc : Thread Cert.AdamKernel.nD Cert.AdamKernel.τ).loc Cert.AdamKernel.main_arg19) = m ((c.tc : Thread Cert.AdamKernel.nD Cert.AdamKernel.τ).loc Cert.AdamKernel.main_arg19)
      ∧ r.2.mem ((c.tc : Thread Cert.AdamKernel.nD Cert.AdamKernel.τ).loc Cert.AdamKernel.main_arg20) = m ((c.tc : Thread Cert.AdamKernel.nD Cert.AdamKernel.τ).loc Cert.AdamKernel.main_arg20)
      ∧ r.2.mem ((c.tc : Thread Cert.AdamKernel.nD Cert.AdamKernel.τ).loc Cert.AdamKernel.main_arg21) = m ((c.tc : Thread Cert.AdamKernel.nD Cert.AdamKernel.τ).loc Cert.AdamKernel.main_arg21)
      ∧ r.2.mem ((c.tc : Thread Cert.AdamKernel.nD Cert.AdamKernel.τ).loc Cert.AdamKernel.main_arg22) = m ((c.tc : Thread Cert.AdamKernel.nD Cert.AdamKernel.τ).loc Cert.AdamKernel.main_arg22)
      ∧ r.2.mem ((c.tc : Thread Cert.AdamKernel.nD Cert.AdamKernel.τ).loc Cert.AdamKernel.main_arg23) = m ((c.tc : Thread Cert.AdamKernel.nD Cert.AdamKernel.τ).loc Cert.AdamKernel.main_arg23)
      ∧ r.2.mem ((c.tc : Thread Cert.AdamKernel.nD Cert.AdamKernel.τ).loc Cert.AdamKernel.main_arg24) = m ((c.tc : Thread Cert.AdamKernel.nD Cert.AdamKernel.τ).loc Cert.AdamKernel.main_arg24)
      ∧ r.2.mem ((c.tc : Thread Cert.AdamKernel.nD Cert.AdamKernel.τ).loc Cert.AdamKernel.main_arg25) = m ((c.tc : Thread Cert.AdamKernel.nD Cert.AdamKernel.τ).loc Cert.AdamKernel.main_arg25)
      ∧ r.2.mem ((c.tc : Thread Cert.AdamKernel.nD Cert.AdamKernel.τ).loc Cert.AdamKernel.main_arg26) = m ((c.tc : Thread Cert.AdamKernel.nD Cert.AdamKernel.τ).loc Cert.AdamKernel.main_arg26)
      ∧ r.2.mem ((c.tc : Thread Cert.AdamKernel.nD Cert.AdamKernel.τ).loc Cert.AdamKernel.main_arg27) = m ((c.tc : Thread Cert.AdamKernel.nD Cert.AdamKernel.τ).loc Cert.AdamKernel.main_arg27))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
      ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4)
      ∧ r.2.mem ((c.tc : Thread Cert.AdamKernelIdeal.nD Cert.AdamKernelIdeal.τ).loc Cert.AdamKernelIdeal.main_arg5) = m ((c.tc : Thread Cert.AdamKernelIdeal.nD Cert.AdamKernelIdeal.τ).loc Cert.AdamKernelIdeal.main_arg5)
      ∧ r.2.mem ((c.tc : Thread Cert.AdamKernelIdeal.nD Cert.AdamKernelIdeal.τ).loc Cert.AdamKernelIdeal.main_arg6) = m ((c.tc : Thread Cert.AdamKernelIdeal.nD Cert.AdamKernelIdeal.τ).loc Cert.AdamKernelIdeal.main_arg6)
      ∧ r.2.mem ((c.tc : Thread Cert.AdamKernelIdeal.nD Cert.AdamKernelIdeal.τ).loc Cert.AdamKernelIdeal.main_arg7) = m ((c.tc : Thread Cert.AdamKernelIdeal.nD Cert.AdamKernelIdeal.τ).loc Cert.AdamKernelIdeal.main_arg7)
      ∧ r.2.mem ((c.tc : Thread Cert.AdamKernelIdeal.nD Cert.AdamKernelIdeal.τ).loc Cert.AdamKernelIdeal.main_arg8) = m ((c.tc : Thread Cert.AdamKernelIdeal.nD Cert.AdamKernelIdeal.τ).loc Cert.AdamKernelIdeal.main_arg8)
      ∧ r.2.mem ((c.tc : Thread Cert.AdamKernelIdeal.nD Cert.AdamKernelIdeal.τ).loc Cert.AdamKernelIdeal.main_arg9) = m ((c.tc : Thread Cert.AdamKernelIdeal.nD Cert.AdamKernelIdeal.τ).loc Cert.AdamKernelIdeal.main_arg9)
      ∧ r.2.mem ((c.tc : Thread Cert.AdamKernelIdeal.nD Cert.AdamKernelIdeal.τ).loc Cert.AdamKernelIdeal.main_arg10) = m ((c.tc : Thread Cert.AdamKernelIdeal.nD Cert.AdamKernelIdeal.τ).loc Cert.AdamKernelIdeal.main_arg10)
      ∧ r.2.mem ((c.tc : Thread Cert.AdamKernelIdeal.nD Cert.AdamKernelIdeal.τ).loc Cert.AdamKernelIdeal.main_arg11) = m ((c.tc : Thread Cert.AdamKernelIdeal.nD Cert.AdamKernelIdeal.τ).loc Cert.AdamKernelIdeal.main_arg11)
      ∧ r.2.mem ((c.tc : Thread Cert.AdamKernelIdeal.nD Cert.AdamKernelIdeal.τ).loc Cert.AdamKernelIdeal.main_arg12) = m ((c.tc : Thread Cert.AdamKernelIdeal.nD Cert.AdamKernelIdeal.τ).loc Cert.AdamKernelIdeal.main_arg12)
      ∧ r.2.mem ((c.tc : Thread Cert.AdamKernelIdeal.nD Cert.AdamKernelIdeal.τ).loc Cert.AdamKernelIdeal.main_arg13) = m ((c.tc : Thread Cert.AdamKernelIdeal.nD Cert.AdamKernelIdeal.τ).loc Cert.AdamKernelIdeal.main_arg13)
      ∧ r.2.mem ((c.tc : Thread Cert.AdamKernelIdeal.nD Cert.AdamKernelIdeal.τ).loc Cert.AdamKernelIdeal.main_arg14) = m ((c.tc : Thread Cert.AdamKernelIdeal.nD Cert.AdamKernelIdeal.τ).loc Cert.AdamKernelIdeal.main_arg14)
      ∧ r.2.mem ((c.tc : Thread Cert.AdamKernelIdeal.nD Cert.AdamKernelIdeal.τ).loc Cert.AdamKernelIdeal.main_arg15) = m ((c.tc : Thread Cert.AdamKernelIdeal.nD Cert.AdamKernelIdeal.τ).loc Cert.AdamKernelIdeal.main_arg15)
      ∧ r.2.mem ((c.tc : Thread Cert.AdamKernelIdeal.nD Cert.AdamKernelIdeal.τ).loc Cert.AdamKernelIdeal.main_arg16) = m ((c.tc : Thread Cert.AdamKernelIdeal.nD Cert.AdamKernelIdeal.τ).loc Cert.AdamKernelIdeal.main_arg16)
      ∧ r.2.mem ((c.tc : Thread Cert.AdamKernelIdeal.nD Cert.AdamKernelIdeal.τ).loc Cert.AdamKernelIdeal.main_arg17) = m ((c.tc : Thread Cert.AdamKernelIdeal.nD Cert.AdamKernelIdeal.τ).loc Cert.AdamKernelIdeal.main_arg17)
      ∧ r.2.mem ((c.tc : Thread Cert.AdamKernelIdeal.nD Cert.AdamKernelIdeal.τ).loc Cert.AdamKernelIdeal.main_arg18) = m ((c.tc : Thread Cert.AdamKernelIdeal.nD Cert.AdamKernelIdeal.τ).loc Cert.AdamKernelIdeal.main_arg18)
      ∧ r.2.mem ((c.tc : Thread Cert.AdamKernelIdeal.nD Cert.AdamKernelIdeal.τ).loc Cert.AdamKernelIdeal.main_arg19) = m ((c.tc : Thread Cert.AdamKernelIdeal.nD Cert.AdamKernelIdeal.τ).loc Cert.AdamKernelIdeal.main_arg19)
      ∧ r.2.mem ((c.tc : Thread Cert.AdamKernelIdeal.nD Cert.AdamKernelIdeal.τ).loc Cert.AdamKernelIdeal.main_arg20) = m ((c.tc : Thread Cert.AdamKernelIdeal.nD Cert.AdamKernelIdeal.τ).loc Cert.AdamKernelIdeal.main_arg20)
      ∧ r.2.mem ((c.tc : Thread Cert.AdamKernelIdeal.nD Cert.AdamKernelIdeal.τ).loc Cert.AdamKernelIdeal.main_arg21) = m ((c.tc : Thread Cert.AdamKernelIdeal.nD Cert.AdamKernelIdeal.τ).loc Cert.AdamKernelIdeal.main_arg21)
      ∧ r.2.mem ((c.tc : Thread Cert.AdamKernelIdeal.nD Cert.AdamKernelIdeal.τ).loc Cert.AdamKernelIdeal.main_arg22) = m ((c.tc : Thread Cert.AdamKernelIdeal.nD Cert.AdamKernelIdeal.τ).loc Cert.AdamKernelIdeal.main_arg22)
      ∧ r.2.mem ((c.tc : Thread Cert.AdamKernelIdeal.nD Cert.AdamKernelIdeal.τ).loc Cert.AdamKernelIdeal.main_arg23) = m ((c.tc : Thread Cert.AdamKernelIdeal.nD Cert.AdamKernelIdeal.τ).loc Cert.AdamKernelIdeal.main_arg23)
      ∧ r.2.mem ((c.tc : Thread Cert.AdamKernelIdeal.nD Cert.AdamKernelIdeal.τ).loc Cert.AdamKernelIdeal.main_arg24) = m ((c.tc : Thread Cert.AdamKernelIdeal.nD Cert.AdamKernelIdeal.τ).loc Cert.AdamKernelIdeal.main_arg24)
      ∧ r.2.mem ((c.tc : Thread Cert.AdamKernelIdeal.nD Cert.AdamKernelIdeal.τ).loc Cert.AdamKernelIdeal.main_arg25) = m ((c.tc : Thread Cert.AdamKernelIdeal.nD Cert.AdamKernelIdeal.τ).loc Cert.AdamKernelIdeal.main_arg25)
      ∧ r.2.mem ((c.tc : Thread Cert.AdamKernelIdeal.nD Cert.AdamKernelIdeal.τ).loc Cert.AdamKernelIdeal.main_arg26) = m ((c.tc : Thread Cert.AdamKernelIdeal.nD Cert.AdamKernelIdeal.τ).loc Cert.AdamKernelIdeal.main_arg26)
      ∧ r.2.mem ((c.tc : Thread Cert.AdamKernelIdeal.nD Cert.AdamKernelIdeal.τ).loc Cert.AdamKernelIdeal.main_arg27) = m ((c.tc : Thread Cert.AdamKernelIdeal.nD Cert.AdamKernelIdeal.τ).loc Cert.AdamKernelIdeal.main_arg27))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4)
      ∧ r.2.mem ((c.tc : Thread Cert.AdamReferenceIdeal.nD Cert.AdamReferenceIdeal.τ).loc Cert.AdamReferenceIdeal.main_arg5) = m ((c.tc : Thread Cert.AdamReferenceIdeal.nD Cert.AdamReferenceIdeal.τ).loc Cert.AdamReferenceIdeal.main_arg5)
      ∧ r.2.mem ((c.tc : Thread Cert.AdamReferenceIdeal.nD Cert.AdamReferenceIdeal.τ).loc Cert.AdamReferenceIdeal.main_arg6) = m ((c.tc : Thread Cert.AdamReferenceIdeal.nD Cert.AdamReferenceIdeal.τ).loc Cert.AdamReferenceIdeal.main_arg6)
      ∧ r.2.mem ((c.tc : Thread Cert.AdamReferenceIdeal.nD Cert.AdamReferenceIdeal.τ).loc Cert.AdamReferenceIdeal.main_arg7) = m ((c.tc : Thread Cert.AdamReferenceIdeal.nD Cert.AdamReferenceIdeal.τ).loc Cert.AdamReferenceIdeal.main_arg7)
      ∧ r.2.mem ((c.tc : Thread Cert.AdamReferenceIdeal.nD Cert.AdamReferenceIdeal.τ).loc Cert.AdamReferenceIdeal.main_arg8) = m ((c.tc : Thread Cert.AdamReferenceIdeal.nD Cert.AdamReferenceIdeal.τ).loc Cert.AdamReferenceIdeal.main_arg8)
      ∧ r.2.mem ((c.tc : Thread Cert.AdamReferenceIdeal.nD Cert.AdamReferenceIdeal.τ).loc Cert.AdamReferenceIdeal.main_arg9) = m ((c.tc : Thread Cert.AdamReferenceIdeal.nD Cert.AdamReferenceIdeal.τ).loc Cert.AdamReferenceIdeal.main_arg9)
      ∧ r.2.mem ((c.tc : Thread Cert.AdamReferenceIdeal.nD Cert.AdamReferenceIdeal.τ).loc Cert.AdamReferenceIdeal.main_arg10) = m ((c.tc : Thread Cert.AdamReferenceIdeal.nD Cert.AdamReferenceIdeal.τ).loc Cert.AdamReferenceIdeal.main_arg10)
      ∧ r.2.mem ((c.tc : Thread Cert.AdamReferenceIdeal.nD Cert.AdamReferenceIdeal.τ).loc Cert.AdamReferenceIdeal.main_arg11) = m ((c.tc : Thread Cert.AdamReferenceIdeal.nD Cert.AdamReferenceIdeal.τ).loc Cert.AdamReferenceIdeal.main_arg11)
      ∧ r.2.mem ((c.tc : Thread Cert.AdamReferenceIdeal.nD Cert.AdamReferenceIdeal.τ).loc Cert.AdamReferenceIdeal.main_arg12) = m ((c.tc : Thread Cert.AdamReferenceIdeal.nD Cert.AdamReferenceIdeal.τ).loc Cert.AdamReferenceIdeal.main_arg12)
      ∧ r.2.mem ((c.tc : Thread Cert.AdamReferenceIdeal.nD Cert.AdamReferenceIdeal.τ).loc Cert.AdamReferenceIdeal.main_arg13) = m ((c.tc : Thread Cert.AdamReferenceIdeal.nD Cert.AdamReferenceIdeal.τ).loc Cert.AdamReferenceIdeal.main_arg13)
      ∧ r.2.mem ((c.tc : Thread Cert.AdamReferenceIdeal.nD Cert.AdamReferenceIdeal.τ).loc Cert.AdamReferenceIdeal.main_arg14) = m ((c.tc : Thread Cert.AdamReferenceIdeal.nD Cert.AdamReferenceIdeal.τ).loc Cert.AdamReferenceIdeal.main_arg14)
      ∧ r.2.mem ((c.tc : Thread Cert.AdamReferenceIdeal.nD Cert.AdamReferenceIdeal.τ).loc Cert.AdamReferenceIdeal.main_arg15) = m ((c.tc : Thread Cert.AdamReferenceIdeal.nD Cert.AdamReferenceIdeal.τ).loc Cert.AdamReferenceIdeal.main_arg15)
      ∧ r.2.mem ((c.tc : Thread Cert.AdamReferenceIdeal.nD Cert.AdamReferenceIdeal.τ).loc Cert.AdamReferenceIdeal.main_arg16) = m ((c.tc : Thread Cert.AdamReferenceIdeal.nD Cert.AdamReferenceIdeal.τ).loc Cert.AdamReferenceIdeal.main_arg16)
      ∧ r.2.mem ((c.tc : Thread Cert.AdamReferenceIdeal.nD Cert.AdamReferenceIdeal.τ).loc Cert.AdamReferenceIdeal.main_arg17) = m ((c.tc : Thread Cert.AdamReferenceIdeal.nD Cert.AdamReferenceIdeal.τ).loc Cert.AdamReferenceIdeal.main_arg17)
      ∧ r.2.mem ((c.tc : Thread Cert.AdamReferenceIdeal.nD Cert.AdamReferenceIdeal.τ).loc Cert.AdamReferenceIdeal.main_arg18) = m ((c.tc : Thread Cert.AdamReferenceIdeal.nD Cert.AdamReferenceIdeal.τ).loc Cert.AdamReferenceIdeal.main_arg18)
      ∧ r.2.mem ((c.tc : Thread Cert.AdamReferenceIdeal.nD Cert.AdamReferenceIdeal.τ).loc Cert.AdamReferenceIdeal.main_arg19) = m ((c.tc : Thread Cert.AdamReferenceIdeal.nD Cert.AdamReferenceIdeal.τ).loc Cert.AdamReferenceIdeal.main_arg19)
      ∧ r.2.mem ((c.tc : Thread Cert.AdamReferenceIdeal.nD Cert.AdamReferenceIdeal.τ).loc Cert.AdamReferenceIdeal.main_arg20) = m ((c.tc : Thread Cert.AdamReferenceIdeal.nD Cert.AdamReferenceIdeal.τ).loc Cert.AdamReferenceIdeal.main_arg20)
      ∧ r.2.mem ((c.tc : Thread Cert.AdamReferenceIdeal.nD Cert.AdamReferenceIdeal.τ).loc Cert.AdamReferenceIdeal.main_arg21) = m ((c.tc : Thread Cert.AdamReferenceIdeal.nD Cert.AdamReferenceIdeal.τ).loc Cert.AdamReferenceIdeal.main_arg21)
      ∧ r.2.mem ((c.tc : Thread Cert.AdamReferenceIdeal.nD Cert.AdamReferenceIdeal.τ).loc Cert.AdamReferenceIdeal.main_arg22) = m ((c.tc : Thread Cert.AdamReferenceIdeal.nD Cert.AdamReferenceIdeal.τ).loc Cert.AdamReferenceIdeal.main_arg22)
      ∧ r.2.mem ((c.tc : Thread Cert.AdamReferenceIdeal.nD Cert.AdamReferenceIdeal.τ).loc Cert.AdamReferenceIdeal.main_arg23) = m ((c.tc : Thread Cert.AdamReferenceIdeal.nD Cert.AdamReferenceIdeal.τ).loc Cert.AdamReferenceIdeal.main_arg23)
      ∧ r.2.mem ((c.tc : Thread Cert.AdamReferenceIdeal.nD Cert.AdamReferenceIdeal.τ).loc Cert.AdamReferenceIdeal.main_arg24) = m ((c.tc : Thread Cert.AdamReferenceIdeal.nD Cert.AdamReferenceIdeal.τ).loc Cert.AdamReferenceIdeal.main_arg24)
      ∧ r.2.mem ((c.tc : Thread Cert.AdamReferenceIdeal.nD Cert.AdamReferenceIdeal.τ).loc Cert.AdamReferenceIdeal.main_arg25) = m ((c.tc : Thread Cert.AdamReferenceIdeal.nD Cert.AdamReferenceIdeal.τ).loc Cert.AdamReferenceIdeal.main_arg25)
      ∧ r.2.mem ((c.tc : Thread Cert.AdamReferenceIdeal.nD Cert.AdamReferenceIdeal.τ).loc Cert.AdamReferenceIdeal.main_arg26) = m ((c.tc : Thread Cert.AdamReferenceIdeal.nD Cert.AdamReferenceIdeal.τ).loc Cert.AdamReferenceIdeal.main_arg26)
      ∧ r.2.mem ((c.tc : Thread Cert.AdamReferenceIdeal.nD Cert.AdamReferenceIdeal.τ).loc Cert.AdamReferenceIdeal.main_arg27) = m ((c.tc : Thread Cert.AdamReferenceIdeal.nD Cert.AdamReferenceIdeal.τ).loc Cert.AdamReferenceIdeal.main_arg27))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4)
      ∧ r.2.mem ((c.tc : Thread Cert.NormKernel.nD Cert.NormKernel.τ).loc Cert.NormKernel.main_arg5) = m ((c.tc : Thread Cert.NormKernel.nD Cert.NormKernel.τ).loc Cert.NormKernel.main_arg5)
      ∧ r.2.mem ((c.tc : Thread Cert.NormKernel.nD Cert.NormKernel.τ).loc Cert.NormKernel.main_arg6) = m ((c.tc : Thread Cert.NormKernel.nD Cert.NormKernel.τ).loc Cert.NormKernel.main_arg6)
      ∧ r.2.mem ((c.tc : Thread Cert.NormKernel.nD Cert.NormKernel.τ).loc Cert.NormKernel.main_arg7) = m ((c.tc : Thread Cert.NormKernel.nD Cert.NormKernel.τ).loc Cert.NormKernel.main_arg7)
      ∧ r.2.mem ((c.tc : Thread Cert.NormKernel.nD Cert.NormKernel.τ).loc Cert.NormKernel.main_arg8) = m ((c.tc : Thread Cert.NormKernel.nD Cert.NormKernel.τ).loc Cert.NormKernel.main_arg8)
      ∧ r.2.mem ((c.tc : Thread Cert.NormKernel.nD Cert.NormKernel.τ).loc Cert.NormKernel.main_arg9) = m ((c.tc : Thread Cert.NormKernel.nD Cert.NormKernel.τ).loc Cert.NormKernel.main_arg9)
      ∧ r.2.mem ((c.tc : Thread Cert.NormKernel.nD Cert.NormKernel.τ).loc Cert.NormKernel.main_arg10) = m ((c.tc : Thread Cert.NormKernel.nD Cert.NormKernel.τ).loc Cert.NormKernel.main_arg10)
      ∧ r.2.mem ((c.tc : Thread Cert.NormKernel.nD Cert.NormKernel.τ).loc Cert.NormKernel.main_arg11) = m ((c.tc : Thread Cert.NormKernel.nD Cert.NormKernel.τ).loc Cert.NormKernel.main_arg11)
      ∧ r.2.mem ((c.tc : Thread Cert.NormKernel.nD Cert.NormKernel.τ).loc Cert.NormKernel.main_arg12) = m ((c.tc : Thread Cert.NormKernel.nD Cert.NormKernel.τ).loc Cert.NormKernel.main_arg12))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
      ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6)
      ∧ r.2.mem ((c.tc : Thread Cert.NormKernelIdeal.nD Cert.NormKernelIdeal.τ).loc Cert.NormKernelIdeal.main_arg7) = m ((c.tc : Thread Cert.NormKernelIdeal.nD Cert.NormKernelIdeal.τ).loc Cert.NormKernelIdeal.main_arg7)
      ∧ r.2.mem ((c.tc : Thread Cert.NormKernelIdeal.nD Cert.NormKernelIdeal.τ).loc Cert.NormKernelIdeal.main_arg8) = m ((c.tc : Thread Cert.NormKernelIdeal.nD Cert.NormKernelIdeal.τ).loc Cert.NormKernelIdeal.main_arg8)
      ∧ r.2.mem ((c.tc : Thread Cert.NormKernelIdeal.nD Cert.NormKernelIdeal.τ).loc Cert.NormKernelIdeal.main_arg9) = m ((c.tc : Thread Cert.NormKernelIdeal.nD Cert.NormKernelIdeal.τ).loc Cert.NormKernelIdeal.main_arg9)
      ∧ r.2.mem ((c.tc : Thread Cert.NormKernelIdeal.nD Cert.NormKernelIdeal.τ).loc Cert.NormKernelIdeal.main_arg10) = m ((c.tc : Thread Cert.NormKernelIdeal.nD Cert.NormKernelIdeal.τ).loc Cert.NormKernelIdeal.main_arg10)
      ∧ r.2.mem ((c.tc : Thread Cert.NormKernelIdeal.nD Cert.NormKernelIdeal.τ).loc Cert.NormKernelIdeal.main_arg11) = m ((c.tc : Thread Cert.NormKernelIdeal.nD Cert.NormKernelIdeal.τ).loc Cert.NormKernelIdeal.main_arg11)
      ∧ r.2.mem ((c.tc : Thread Cert.NormKernelIdeal.nD Cert.NormKernelIdeal.τ).loc Cert.NormKernelIdeal.main_arg12) = m ((c.tc : Thread Cert.NormKernelIdeal.nD Cert.NormKernelIdeal.τ).loc Cert.NormKernelIdeal.main_arg12))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6)
      ∧ r.2.mem ((c.tc : Thread Cert.NormReferenceIdeal.nD Cert.NormReferenceIdeal.τ).loc Cert.NormReferenceIdeal.main_arg7) = m ((c.tc : Thread Cert.NormReferenceIdeal.nD Cert.NormReferenceIdeal.τ).loc Cert.NormReferenceIdeal.main_arg7)
      ∧ r.2.mem ((c.tc : Thread Cert.NormReferenceIdeal.nD Cert.NormReferenceIdeal.τ).loc Cert.NormReferenceIdeal.main_arg8) = m ((c.tc : Thread Cert.NormReferenceIdeal.nD Cert.NormReferenceIdeal.τ).loc Cert.NormReferenceIdeal.main_arg8)
      ∧ r.2.mem ((c.tc : Thread Cert.NormReferenceIdeal.nD Cert.NormReferenceIdeal.τ).loc Cert.NormReferenceIdeal.main_arg9) = m ((c.tc : Thread Cert.NormReferenceIdeal.nD Cert.NormReferenceIdeal.τ).loc Cert.NormReferenceIdeal.main_arg9)
      ∧ r.2.mem ((c.tc : Thread Cert.NormReferenceIdeal.nD Cert.NormReferenceIdeal.τ).loc Cert.NormReferenceIdeal.main_arg10) = m ((c.tc : Thread Cert.NormReferenceIdeal.nD Cert.NormReferenceIdeal.τ).loc Cert.NormReferenceIdeal.main_arg10)
      ∧ r.2.mem ((c.tc : Thread Cert.NormReferenceIdeal.nD Cert.NormReferenceIdeal.τ).loc Cert.NormReferenceIdeal.main_arg11) = m ((c.tc : Thread Cert.NormReferenceIdeal.nD Cert.NormReferenceIdeal.τ).loc Cert.NormReferenceIdeal.main_arg11)
      ∧ r.2.mem ((c.tc : Thread Cert.NormReferenceIdeal.nD Cert.NormReferenceIdeal.τ).loc Cert.NormReferenceIdeal.main_arg12) = m ((c.tc : Thread Cert.NormReferenceIdeal.nD Cert.NormReferenceIdeal.τ).loc Cert.NormReferenceIdeal.main_arg12))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvKernelIdeal_pre_cotangent_finite [hConvKernelIdeal : Cert.ConvKernelIdeal.Facts] [hPre_cotangent_finite : Cert.Pre_cotangent_finite.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal_cotangent_finite m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_ConvReferenceIdeal_pre_cotangent_finite [hConvReferenceIdeal : Cert.ConvReferenceIdeal.Facts] [hPre_cotangent_finite : Cert.Pre_cotangent_finite.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal_cotangent_finite m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)) →
    ∃ (v0 : (c : Dev Cert.MlpKernelIdeal.nD) → Buf (Elt Ideal) ((c.tc : Thread Cert.MlpKernelIdeal.nD Cert.MlpKernelIdeal.τ).loc Cert.MlpKernelIdeal.main_v1)) (v1 : (c : Dev Cert.MlpKernelIdeal.nD) → Buf (Elt Ideal) ((c.tc : Thread Cert.MlpKernelIdeal.nD Cert.MlpKernelIdeal.τ).loc Cert.MlpKernelIdeal.main_v4)) (v2 : (c : Dev Cert.MlpKernelIdeal.nD) → Buf (Elt Ideal) ((c.tc : Thread Cert.MlpKernelIdeal.nD Cert.MlpKernelIdeal.τ).loc Cert.MlpKernelIdeal.main_v5)) (v3 : (c : Dev Cert.MlpKernelIdeal.nD) → Buf (Elt Ideal) ((c.tc : Thread Cert.MlpKernelIdeal.nD Cert.MlpKernelIdeal.τ).loc Cert.MlpKernelIdeal.main_v3)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v1) = v0 c
          ∧ r.2.mem ((c.tc : Thread Cert.MlpKernelIdeal.nD Cert.MlpKernelIdeal.τ).loc Cert.MlpKernelIdeal.main_v4) = v1 c
          ∧ r.2.mem ((c.tc : Thread Cert.MlpKernelIdeal.nD Cert.MlpKernelIdeal.τ).loc Cert.MlpKernelIdeal.main_v5) = v2 c
          ∧ r.2.mem ((c.tc : Thread Cert.MlpKernelIdeal.nD Cert.MlpKernelIdeal.τ).loc Cert.MlpKernelIdeal.main_v3) = v3 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v12) = v0 c
          ∧ r.2.mem ((c.tc : Thread Cert.MlpReferenceIdeal.nD Cert.MlpReferenceIdeal.τ).loc Cert.MlpReferenceIdeal.main_v21) = v1 c
          ∧ r.2.mem ((c.tc : Thread Cert.MlpReferenceIdeal.nD Cert.MlpReferenceIdeal.τ).loc Cert.MlpReferenceIdeal.main_v20) = v2 c
          ∧ r.2.mem ((c.tc : Thread Cert.MlpReferenceIdeal.nD Cert.MlpReferenceIdeal.τ).loc Cert.MlpReferenceIdeal.main_v14) = v3 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)
      ∧ m' ((c.tc : Thread Cert.InReferenceIdeal.nD Cert.InReferenceIdeal.τ).loc Cert.InReferenceIdeal.main_arg8) = m ((c.tc : Thread Cert.InKernelIdeal.nD Cert.InKernelIdeal.τ).loc Cert.InKernelIdeal.main_arg8)
      ∧ m' ((c.tc : Thread Cert.InReferenceIdeal.nD Cert.InReferenceIdeal.τ).loc Cert.InReferenceIdeal.main_arg9) = m ((c.tc : Thread Cert.InKernelIdeal.nD Cert.InKernelIdeal.τ).loc Cert.InKernelIdeal.main_arg9)
      ∧ m' ((c.tc : Thread Cert.InReferenceIdeal.nD Cert.InReferenceIdeal.τ).loc Cert.InReferenceIdeal.main_arg10) = m ((c.tc : Thread Cert.InKernelIdeal.nD Cert.InKernelIdeal.τ).loc Cert.InKernelIdeal.main_arg10)) →
    ∃ (v0 : (c : Dev Cert.InKernelIdeal.nD) → Buf (Elt Ideal) ((c.tc : Thread Cert.InKernelIdeal.nD Cert.InKernelIdeal.τ).loc Cert.InKernelIdeal.main_v0)) (v1 : (c : Dev Cert.InKernelIdeal.nD) → Buf (Elt Ideal) ((c.tc : Thread Cert.InKernelIdeal.nD Cert.InKernelIdeal.τ).loc Cert.InKernelIdeal.main_v1)) (v2 : (c : Dev Cert.InKernelIdeal.nD) → Buf (Elt Ideal) ((c.tc : Thread Cert.InKernelIdeal.nD Cert.InKernelIdeal.τ).loc Cert.InKernelIdeal.main_v12)) (v3 : (c : Dev Cert.InKernelIdeal.nD) → Buf (Elt Ideal) ((c.tc : Thread Cert.InKernelIdeal.nD Cert.InKernelIdeal.τ).loc Cert.InKernelIdeal.main_v3)) (v4 : (c : Dev Cert.InKernelIdeal.nD) → Buf (Elt Ideal) ((c.tc : Thread Cert.InKernelIdeal.nD Cert.InKernelIdeal.τ).loc Cert.InKernelIdeal.main_v4)) (v5 : (c : Dev Cert.InKernelIdeal.nD) → Buf (Elt Ideal) ((c.tc : Thread Cert.InKernelIdeal.nD Cert.InKernelIdeal.τ).loc Cert.InKernelIdeal.main_v5)) (v6 : (c : Dev Cert.InKernelIdeal.nD) → Buf (Elt Ideal) ((c.tc : Thread Cert.InKernelIdeal.nD Cert.InKernelIdeal.τ).loc Cert.InKernelIdeal.main_v6)) (v7 : (c : Dev Cert.InKernelIdeal.nD) → Buf (Elt Ideal) ((c.tc : Thread Cert.InKernelIdeal.nD Cert.InKernelIdeal.τ).loc Cert.InKernelIdeal.main_v7)) (v8 : (c : Dev Cert.InKernelIdeal.nD) → Buf (Elt Ideal) ((c.tc : Thread Cert.InKernelIdeal.nD Cert.InKernelIdeal.τ).loc Cert.InKernelIdeal.main_v8)) (v9 : (c : Dev Cert.InKernelIdeal.nD) → Buf (Elt Ideal) ((c.tc : Thread Cert.InKernelIdeal.nD Cert.InKernelIdeal.τ).loc Cert.InKernelIdeal.main_v9)) (v10 : (c : Dev Cert.InKernelIdeal.nD) → Buf (Elt Ideal) ((c.tc : Thread Cert.InKernelIdeal.nD Cert.InKernelIdeal.τ).loc Cert.InKernelIdeal.main_v10)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v0) = v0 c
          ∧ r.2.mem ((c.tc : Thread Cert.InKernelIdeal.nD Cert.InKernelIdeal.τ).loc Cert.InKernelIdeal.main_v1) = v1 c
          ∧ r.2.mem ((c.tc : Thread Cert.InKernelIdeal.nD Cert.InKernelIdeal.τ).loc Cert.InKernelIdeal.main_v12) = v2 c
          ∧ r.2.mem ((c.tc : Thread Cert.InKernelIdeal.nD Cert.InKernelIdeal.τ).loc Cert.InKernelIdeal.main_v3) = v3 c
          ∧ r.2.mem ((c.tc : Thread Cert.InKernelIdeal.nD Cert.InKernelIdeal.τ).loc Cert.InKernelIdeal.main_v4) = v4 c
          ∧ r.2.mem ((c.tc : Thread Cert.InKernelIdeal.nD Cert.InKernelIdeal.τ).loc Cert.InKernelIdeal.main_v5) = v5 c
          ∧ r.2.mem ((c.tc : Thread Cert.InKernelIdeal.nD Cert.InKernelIdeal.τ).loc Cert.InKernelIdeal.main_v6) = v6 c
          ∧ r.2.mem ((c.tc : Thread Cert.InKernelIdeal.nD Cert.InKernelIdeal.τ).loc Cert.InKernelIdeal.main_v7) = v7 c
          ∧ r.2.mem ((c.tc : Thread Cert.InKernelIdeal.nD Cert.InKernelIdeal.τ).loc Cert.InKernelIdeal.main_v8) = v8 c
          ∧ r.2.mem ((c.tc : Thread Cert.InKernelIdeal.nD Cert.InKernelIdeal.τ).loc Cert.InKernelIdeal.main_v9) = v9 c
          ∧ r.2.mem ((c.tc : Thread Cert.InKernelIdeal.nD Cert.InKernelIdeal.τ).loc Cert.InKernelIdeal.main_v10) = v10 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
          ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
          ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9)
          ∧ r.2.mem ((c.tc : Thread Cert.InKernelIdeal.nD Cert.InKernelIdeal.τ).loc Cert.InKernelIdeal.main_arg10) = m ((c.tc : Thread Cert.InKernelIdeal.nD Cert.InKernelIdeal.τ).loc Cert.InKernelIdeal.main_arg10))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v26) = v0 c
          ∧ r.2.mem ((c.tc : Thread Cert.InReferenceIdeal.nD Cert.InReferenceIdeal.τ).loc Cert.InReferenceIdeal.main_v27) = v1 c
          ∧ r.2.mem ((c.tc : Thread Cert.InReferenceIdeal.nD Cert.InReferenceIdeal.τ).loc Cert.InReferenceIdeal.main_v58) = v2 c
          ∧ r.2.mem ((c.tc : Thread Cert.InReferenceIdeal.nD Cert.InReferenceIdeal.τ).loc Cert.InReferenceIdeal.main_v56) = v3 c
          ∧ r.2.mem ((c.tc : Thread Cert.InReferenceIdeal.nD Cert.InReferenceIdeal.τ).loc Cert.InReferenceIdeal.main_v52) = v4 c
          ∧ r.2.mem ((c.tc : Thread Cert.InReferenceIdeal.nD Cert.InReferenceIdeal.τ).loc Cert.InReferenceIdeal.main_v48) = v5 c
          ∧ r.2.mem ((c.tc : Thread Cert.InReferenceIdeal.nD Cert.InReferenceIdeal.τ).loc Cert.InReferenceIdeal.main_v44) = v6 c
          ∧ r.2.mem ((c.tc : Thread Cert.InReferenceIdeal.nD Cert.InReferenceIdeal.τ).loc Cert.InReferenceIdeal.main_v40) = v7 c
          ∧ r.2.mem ((c.tc : Thread Cert.InReferenceIdeal.nD Cert.InReferenceIdeal.τ).loc Cert.InReferenceIdeal.main_v36) = v8 c
          ∧ r.2.mem ((c.tc : Thread Cert.InReferenceIdeal.nD Cert.InReferenceIdeal.τ).loc Cert.InReferenceIdeal.main_v32) = v9 c
          ∧ r.2.mem ((c.tc : Thread Cert.InReferenceIdeal.nD Cert.InReferenceIdeal.τ).loc Cert.InReferenceIdeal.main_v29) = v10 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7)
          ∧ r.2.mem ((c.tc : Thread Cert.InReferenceIdeal.nD Cert.InReferenceIdeal.τ).loc Cert.InReferenceIdeal.main_arg8) = m' ((c.tc : Thread Cert.InReferenceIdeal.nD Cert.InReferenceIdeal.τ).loc Cert.InReferenceIdeal.main_arg8)
          ∧ r.2.mem ((c.tc : Thread Cert.InReferenceIdeal.nD Cert.InReferenceIdeal.τ).loc Cert.InReferenceIdeal.main_arg9) = m' ((c.tc : Thread Cert.InReferenceIdeal.nD Cert.InReferenceIdeal.τ).loc Cert.InReferenceIdeal.main_arg9)
          ∧ r.2.mem ((c.tc : Thread Cert.InReferenceIdeal.nD Cert.InReferenceIdeal.τ).loc Cert.InReferenceIdeal.main_arg10) = m' ((c.tc : Thread Cert.InReferenceIdeal.nD Cert.InReferenceIdeal.τ).loc Cert.InReferenceIdeal.main_arg10))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)) →
    ∃ (v0 : (c : Dev Cert.MixKernelIdeal.nD) → Buf (Elt Ideal) ((c.tc : Thread Cert.MixKernelIdeal.nD Cert.MixKernelIdeal.τ).loc Cert.MixKernelIdeal.main_v4)) (v1 : (c : Dev Cert.MixKernelIdeal.nD) → Buf (Elt Ideal) ((c.tc : Thread Cert.MixKernelIdeal.nD Cert.MixKernelIdeal.τ).loc Cert.MixKernelIdeal.main_v7_3)) (v2 : (c : Dev Cert.MixKernelIdeal.nD) → Buf (Elt Ideal) ((c.tc : Thread Cert.MixKernelIdeal.nD Cert.MixKernelIdeal.τ).loc Cert.MixKernelIdeal.main_v8)) (v3 : (c : Dev Cert.MixKernelIdeal.nD) → Buf (Elt Ideal) ((c.tc : Thread Cert.MixKernelIdeal.nD Cert.MixKernelIdeal.τ).loc Cert.MixKernelIdeal.main_v10)) (v4 : (c : Dev Cert.MixKernelIdeal.nD) → Buf (Elt Ideal) ((c.tc : Thread Cert.MixKernelIdeal.nD Cert.MixKernelIdeal.τ).loc Cert.MixKernelIdeal.main_v12)) (v5 : (c : Dev Cert.MixKernelIdeal.nD) → Buf (Elt Ideal) ((c.tc : Thread Cert.MixKernelIdeal.nD Cert.MixKernelIdeal.τ).loc Cert.MixKernelIdeal.main_v9)) (v6 : (c : Dev Cert.MixKernelIdeal.nD) → Buf (Elt Ideal) ((c.tc : Thread Cert.MixKernelIdeal.nD Cert.MixKernelIdeal.τ).loc Cert.MixKernelIdeal.main_v11)) (v7 : (c : Dev Cert.MixKernelIdeal.nD) → Buf (Elt Ideal) ((c.tc : Thread Cert.MixKernelIdeal.nD Cert.MixKernelIdeal.τ).loc Cert.MixKernelIdeal.main_v13)) (v8 : (c : Dev Cert.MixKernelIdeal.nD) → Buf (Elt Ideal) ((c.tc : Thread Cert.MixKernelIdeal.nD Cert.MixKernelIdeal.τ).loc Cert.MixKernelIdeal.main_v6)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v4) = v0 c
          ∧ r.2.mem ((c.tc : Thread Cert.MixKernelIdeal.nD Cert.MixKernelIdeal.τ).loc Cert.MixKernelIdeal.main_v7_3) = v1 c
          ∧ r.2.mem ((c.tc : Thread Cert.MixKernelIdeal.nD Cert.MixKernelIdeal.τ).loc Cert.MixKernelIdeal.main_v8) = v2 c
          ∧ r.2.mem ((c.tc : Thread Cert.MixKernelIdeal.nD Cert.MixKernelIdeal.τ).loc Cert.MixKernelIdeal.main_v10) = v3 c
          ∧ r.2.mem ((c.tc : Thread Cert.MixKernelIdeal.nD Cert.MixKernelIdeal.τ).loc Cert.MixKernelIdeal.main_v12) = v4 c
          ∧ r.2.mem ((c.tc : Thread Cert.MixKernelIdeal.nD Cert.MixKernelIdeal.τ).loc Cert.MixKernelIdeal.main_v9) = v5 c
          ∧ r.2.mem ((c.tc : Thread Cert.MixKernelIdeal.nD Cert.MixKernelIdeal.τ).loc Cert.MixKernelIdeal.main_v11) = v6 c
          ∧ r.2.mem ((c.tc : Thread Cert.MixKernelIdeal.nD Cert.MixKernelIdeal.τ).loc Cert.MixKernelIdeal.main_v13) = v7 c
          ∧ r.2.mem ((c.tc : Thread Cert.MixKernelIdeal.nD Cert.MixKernelIdeal.τ).loc Cert.MixKernelIdeal.main_v6) = v8 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v46) = v0 c
          ∧ r.2.mem ((c.tc : Thread Cert.MixReferenceIdeal.nD Cert.MixReferenceIdeal.τ).loc Cert.MixReferenceIdeal.main_v70) = v1 c
          ∧ r.2.mem ((c.tc : Thread Cert.MixReferenceIdeal.nD Cert.MixReferenceIdeal.τ).loc Cert.MixReferenceIdeal.main_v67) = v2 c
          ∧ r.2.mem ((c.tc : Thread Cert.MixReferenceIdeal.nD Cert.MixReferenceIdeal.τ).loc Cert.MixReferenceIdeal.main_v61) = v3 c
          ∧ r.2.mem ((c.tc : Thread Cert.MixReferenceIdeal.nD Cert.MixReferenceIdeal.τ).loc Cert.MixReferenceIdeal.main_v55) = v4 c
          ∧ r.2.mem ((c.tc : Thread Cert.MixReferenceIdeal.nD Cert.MixReferenceIdeal.τ).loc Cert.MixReferenceIdeal.main_v66) = v5 c
          ∧ r.2.mem ((c.tc : Thread Cert.MixReferenceIdeal.nD Cert.MixReferenceIdeal.τ).loc Cert.MixReferenceIdeal.main_v60) = v6 c
          ∧ r.2.mem ((c.tc : Thread Cert.MixReferenceIdeal.nD Cert.MixReferenceIdeal.τ).loc Cert.MixReferenceIdeal.main_v54) = v7 c
          ∧ r.2.mem ((c.tc : Thread Cert.MixReferenceIdeal.nD Cert.MixReferenceIdeal.τ).loc Cert.MixReferenceIdeal.main_v49) = v8 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)
      ∧ m' ((c.tc : Thread Cert.AdamReferenceIdeal.nD Cert.AdamReferenceIdeal.τ).loc Cert.AdamReferenceIdeal.main_arg4) = m ((c.tc : Thread Cert.AdamKernelIdeal.nD Cert.AdamKernelIdeal.τ).loc Cert.AdamKernelIdeal.main_arg4)
      ∧ m' ((c.tc : Thread Cert.AdamReferenceIdeal.nD Cert.AdamReferenceIdeal.τ).loc Cert.AdamReferenceIdeal.main_arg5) = m ((c.tc : Thread Cert.AdamKernelIdeal.nD Cert.AdamKernelIdeal.τ).loc Cert.AdamKernelIdeal.main_arg5)
      ∧ m' ((c.tc : Thread Cert.AdamReferenceIdeal.nD Cert.AdamReferenceIdeal.τ).loc Cert.AdamReferenceIdeal.main_arg6) = m ((c.tc : Thread Cert.AdamKernelIdeal.nD Cert.AdamKernelIdeal.τ).loc Cert.AdamKernelIdeal.main_arg6)
      ∧ m' ((c.tc : Thread Cert.AdamReferenceIdeal.nD Cert.AdamReferenceIdeal.τ).loc Cert.AdamReferenceIdeal.main_arg7) = m ((c.tc : Thread Cert.AdamKernelIdeal.nD Cert.AdamKernelIdeal.τ).loc Cert.AdamKernelIdeal.main_arg7)
      ∧ m' ((c.tc : Thread Cert.AdamReferenceIdeal.nD Cert.AdamReferenceIdeal.τ).loc Cert.AdamReferenceIdeal.main_arg8) = m ((c.tc : Thread Cert.AdamKernelIdeal.nD Cert.AdamKernelIdeal.τ).loc Cert.AdamKernelIdeal.main_arg8)
      ∧ m' ((c.tc : Thread Cert.AdamReferenceIdeal.nD Cert.AdamReferenceIdeal.τ).loc Cert.AdamReferenceIdeal.main_arg9) = m ((c.tc : Thread Cert.AdamKernelIdeal.nD Cert.AdamKernelIdeal.τ).loc Cert.AdamKernelIdeal.main_arg9)
      ∧ m' ((c.tc : Thread Cert.AdamReferenceIdeal.nD Cert.AdamReferenceIdeal.τ).loc Cert.AdamReferenceIdeal.main_arg10) = m ((c.tc : Thread Cert.AdamKernelIdeal.nD Cert.AdamKernelIdeal.τ).loc Cert.AdamKernelIdeal.main_arg10)
      ∧ m' ((c.tc : Thread Cert.AdamReferenceIdeal.nD Cert.AdamReferenceIdeal.τ).loc Cert.AdamReferenceIdeal.main_arg11) = m ((c.tc : Thread Cert.AdamKernelIdeal.nD Cert.AdamKernelIdeal.τ).loc Cert.AdamKernelIdeal.main_arg11)
      ∧ m' ((c.tc : Thread Cert.AdamReferenceIdeal.nD Cert.AdamReferenceIdeal.τ).loc Cert.AdamReferenceIdeal.main_arg12) = m ((c.tc : Thread Cert.AdamKernelIdeal.nD Cert.AdamKernelIdeal.τ).loc Cert.AdamKernelIdeal.main_arg12)
      ∧ m' ((c.tc : Thread Cert.AdamReferenceIdeal.nD Cert.AdamReferenceIdeal.τ).loc Cert.AdamReferenceIdeal.main_arg13) = m ((c.tc : Thread Cert.AdamKernelIdeal.nD Cert.AdamKernelIdeal.τ).loc Cert.AdamKernelIdeal.main_arg13)
      ∧ m' ((c.tc : Thread Cert.AdamReferenceIdeal.nD Cert.AdamReferenceIdeal.τ).loc Cert.AdamReferenceIdeal.main_arg14) = m ((c.tc : Thread Cert.AdamKernelIdeal.nD Cert.AdamKernelIdeal.τ).loc Cert.AdamKernelIdeal.main_arg14)
      ∧ m' ((c.tc : Thread Cert.AdamReferenceIdeal.nD Cert.AdamReferenceIdeal.τ).loc Cert.AdamReferenceIdeal.main_arg15) = m ((c.tc : Thread Cert.AdamKernelIdeal.nD Cert.AdamKernelIdeal.τ).loc Cert.AdamKernelIdeal.main_arg15)
      ∧ m' ((c.tc : Thread Cert.AdamReferenceIdeal.nD Cert.AdamReferenceIdeal.τ).loc Cert.AdamReferenceIdeal.main_arg16) = m ((c.tc : Thread Cert.AdamKernelIdeal.nD Cert.AdamKernelIdeal.τ).loc Cert.AdamKernelIdeal.main_arg16)
      ∧ m' ((c.tc : Thread Cert.AdamReferenceIdeal.nD Cert.AdamReferenceIdeal.τ).loc Cert.AdamReferenceIdeal.main_arg17) = m ((c.tc : Thread Cert.AdamKernelIdeal.nD Cert.AdamKernelIdeal.τ).loc Cert.AdamKernelIdeal.main_arg17)
      ∧ m' ((c.tc : Thread Cert.AdamReferenceIdeal.nD Cert.AdamReferenceIdeal.τ).loc Cert.AdamReferenceIdeal.main_arg18) = m ((c.tc : Thread Cert.AdamKernelIdeal.nD Cert.AdamKernelIdeal.τ).loc Cert.AdamKernelIdeal.main_arg18)
      ∧ m' ((c.tc : Thread Cert.AdamReferenceIdeal.nD Cert.AdamReferenceIdeal.τ).loc Cert.AdamReferenceIdeal.main_arg19) = m ((c.tc : Thread Cert.AdamKernelIdeal.nD Cert.AdamKernelIdeal.τ).loc Cert.AdamKernelIdeal.main_arg19)
      ∧ m' ((c.tc : Thread Cert.AdamReferenceIdeal.nD Cert.AdamReferenceIdeal.τ).loc Cert.AdamReferenceIdeal.main_arg20) = m ((c.tc : Thread Cert.AdamKernelIdeal.nD Cert.AdamKernelIdeal.τ).loc Cert.AdamKernelIdeal.main_arg20)
      ∧ m' ((c.tc : Thread Cert.AdamReferenceIdeal.nD Cert.AdamReferenceIdeal.τ).loc Cert.AdamReferenceIdeal.main_arg21) = m ((c.tc : Thread Cert.AdamKernelIdeal.nD Cert.AdamKernelIdeal.τ).loc Cert.AdamKernelIdeal.main_arg21)
      ∧ m' ((c.tc : Thread Cert.AdamReferenceIdeal.nD Cert.AdamReferenceIdeal.τ).loc Cert.AdamReferenceIdeal.main_arg22) = m ((c.tc : Thread Cert.AdamKernelIdeal.nD Cert.AdamKernelIdeal.τ).loc Cert.AdamKernelIdeal.main_arg22)
      ∧ m' ((c.tc : Thread Cert.AdamReferenceIdeal.nD Cert.AdamReferenceIdeal.τ).loc Cert.AdamReferenceIdeal.main_arg23) = m ((c.tc : Thread Cert.AdamKernelIdeal.nD Cert.AdamKernelIdeal.τ).loc Cert.AdamKernelIdeal.main_arg23)
      ∧ m' ((c.tc : Thread Cert.AdamReferenceIdeal.nD Cert.AdamReferenceIdeal.τ).loc Cert.AdamReferenceIdeal.main_arg24) = m ((c.tc : Thread Cert.AdamKernelIdeal.nD Cert.AdamKernelIdeal.τ).loc Cert.AdamKernelIdeal.main_arg24)
      ∧ m' ((c.tc : Thread Cert.AdamReferenceIdeal.nD Cert.AdamReferenceIdeal.τ).loc Cert.AdamReferenceIdeal.main_arg25) = m ((c.tc : Thread Cert.AdamKernelIdeal.nD Cert.AdamKernelIdeal.τ).loc Cert.AdamKernelIdeal.main_arg25)
      ∧ m' ((c.tc : Thread Cert.AdamReferenceIdeal.nD Cert.AdamReferenceIdeal.τ).loc Cert.AdamReferenceIdeal.main_arg26) = m ((c.tc : Thread Cert.AdamKernelIdeal.nD Cert.AdamKernelIdeal.τ).loc Cert.AdamKernelIdeal.main_arg26)
      ∧ m' ((c.tc : Thread Cert.AdamReferenceIdeal.nD Cert.AdamReferenceIdeal.τ).loc Cert.AdamReferenceIdeal.main_arg27) = m ((c.tc : Thread Cert.AdamKernelIdeal.nD Cert.AdamKernelIdeal.τ).loc Cert.AdamKernelIdeal.main_arg27)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)) (v3 : (c : Dev Cert.AdamKernelIdeal.nD) → Buf (Elt Ideal) ((c.tc : Thread Cert.AdamKernelIdeal.nD Cert.AdamKernelIdeal.τ).loc Cert.AdamKernelIdeal.main_v0_3)) (v4 : (c : Dev Cert.AdamKernelIdeal.nD) → Buf (Elt Ideal) ((c.tc : Thread Cert.AdamKernelIdeal.nD Cert.AdamKernelIdeal.τ).loc Cert.AdamKernelIdeal.main_v1_0)) (v5 : (c : Dev Cert.AdamKernelIdeal.nD) → Buf (Elt Ideal) ((c.tc : Thread Cert.AdamKernelIdeal.nD Cert.AdamKernelIdeal.τ).loc Cert.AdamKernelIdeal.main_v1_1)) (v6 : (c : Dev Cert.AdamKernelIdeal.nD) → Buf (Elt Ideal) ((c.tc : Thread Cert.AdamKernelIdeal.nD Cert.AdamKernelIdeal.τ).loc Cert.AdamKernelIdeal.main_v1_2)) (v7 : (c : Dev Cert.AdamKernelIdeal.nD) → Buf (Elt Ideal) ((c.tc : Thread Cert.AdamKernelIdeal.nD Cert.AdamKernelIdeal.τ).loc Cert.AdamKernelIdeal.main_v1_3)) (v8 : (c : Dev Cert.AdamKernelIdeal.nD) → Buf (Elt Ideal) ((c.tc : Thread Cert.AdamKernelIdeal.nD Cert.AdamKernelIdeal.τ).loc Cert.AdamKernelIdeal.main_v2_0)) (v9 : (c : Dev Cert.AdamKernelIdeal.nD) → Buf (Elt Ideal) ((c.tc : Thread Cert.AdamKernelIdeal.nD Cert.AdamKernelIdeal.τ).loc Cert.AdamKernelIdeal.main_v2_1)) (v10 : (c : Dev Cert.AdamKernelIdeal.nD) → Buf (Elt Ideal) ((c.tc : Thread Cert.AdamKernelIdeal.nD Cert.AdamKernelIdeal.τ).loc Cert.AdamKernelIdeal.main_v2_2)) (v11 : (c : Dev Cert.AdamKernelIdeal.nD) → Buf (Elt Ideal) ((c.tc : Thread Cert.AdamKernelIdeal.nD Cert.AdamKernelIdeal.τ).loc Cert.AdamKernelIdeal.main_v2_3)) (v12 : (c : Dev Cert.AdamKernelIdeal.nD) → Buf (Elt Ideal) ((c.tc : Thread Cert.AdamKernelIdeal.nD Cert.AdamKernelIdeal.τ).loc Cert.AdamKernelIdeal.main_v3_0)) (v13 : (c : Dev Cert.AdamKernelIdeal.nD) → Buf (Elt Ideal) ((c.tc : Thread Cert.AdamKernelIdeal.nD Cert.AdamKernelIdeal.τ).loc Cert.AdamKernelIdeal.main_v3_1)) (v14 : (c : Dev Cert.AdamKernelIdeal.nD) → Buf (Elt Ideal) ((c.tc : Thread Cert.AdamKernelIdeal.nD Cert.AdamKernelIdeal.τ).loc Cert.AdamKernelIdeal.main_v3_2)) (v15 : (c : Dev Cert.AdamKernelIdeal.nD) → Buf (Elt Ideal) ((c.tc : Thread Cert.AdamKernelIdeal.nD Cert.AdamKernelIdeal.τ).loc Cert.AdamKernelIdeal.main_v3_3)) (v16 : (c : Dev Cert.AdamKernelIdeal.nD) → Buf (Elt Ideal) ((c.tc : Thread Cert.AdamKernelIdeal.nD Cert.AdamKernelIdeal.τ).loc Cert.AdamKernelIdeal.main_v4_0)) (v17 : (c : Dev Cert.AdamKernelIdeal.nD) → Buf (Elt Ideal) ((c.tc : Thread Cert.AdamKernelIdeal.nD Cert.AdamKernelIdeal.τ).loc Cert.AdamKernelIdeal.main_v4_1)) (v18 : (c : Dev Cert.AdamKernelIdeal.nD) → Buf (Elt Ideal) ((c.tc : Thread Cert.AdamKernelIdeal.nD Cert.AdamKernelIdeal.τ).loc Cert.AdamKernelIdeal.main_v4_2)) (v19 : (c : Dev Cert.AdamKernelIdeal.nD) → Buf (Elt Ideal) ((c.tc : Thread Cert.AdamKernelIdeal.nD Cert.AdamKernelIdeal.τ).loc Cert.AdamKernelIdeal.main_v4_3)) (v20 : (c : Dev Cert.AdamKernelIdeal.nD) → Buf (Elt Ideal) ((c.tc : Thread Cert.AdamKernelIdeal.nD Cert.AdamKernelIdeal.τ).loc Cert.AdamKernelIdeal.main_v5_0)) (v21 : (c : Dev Cert.AdamKernelIdeal.nD) → Buf (Elt Ideal) ((c.tc : Thread Cert.AdamKernelIdeal.nD Cert.AdamKernelIdeal.τ).loc Cert.AdamKernelIdeal.main_v5_1)) (v22 : (c : Dev Cert.AdamKernelIdeal.nD) → Buf (Elt Ideal) ((c.tc : Thread Cert.AdamKernelIdeal.nD Cert.AdamKernelIdeal.τ).loc Cert.AdamKernelIdeal.main_v5_2)) (v23 : (c : Dev Cert.AdamKernelIdeal.nD) → Buf (Elt Ideal) ((c.tc : Thread Cert.AdamKernelIdeal.nD Cert.AdamKernelIdeal.τ).loc Cert.AdamKernelIdeal.main_v5_3)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_v0_3) = v3 c
          ∧ r.2.mem ((c.tc : Thread Cert.AdamKernelIdeal.nD Cert.AdamKernelIdeal.τ).loc Cert.AdamKernelIdeal.main_v1_0) = v4 c
          ∧ r.2.mem ((c.tc : Thread Cert.AdamKernelIdeal.nD Cert.AdamKernelIdeal.τ).loc Cert.AdamKernelIdeal.main_v1_1) = v5 c
          ∧ r.2.mem ((c.tc : Thread Cert.AdamKernelIdeal.nD Cert.AdamKernelIdeal.τ).loc Cert.AdamKernelIdeal.main_v1_2) = v6 c
          ∧ r.2.mem ((c.tc : Thread Cert.AdamKernelIdeal.nD Cert.AdamKernelIdeal.τ).loc Cert.AdamKernelIdeal.main_v1_3) = v7 c
          ∧ r.2.mem ((c.tc : Thread Cert.AdamKernelIdeal.nD Cert.AdamKernelIdeal.τ).loc Cert.AdamKernelIdeal.main_v2_0) = v8 c
          ∧ r.2.mem ((c.tc : Thread Cert.AdamKernelIdeal.nD Cert.AdamKernelIdeal.τ).loc Cert.AdamKernelIdeal.main_v2_1) = v9 c
          ∧ r.2.mem ((c.tc : Thread Cert.AdamKernelIdeal.nD Cert.AdamKernelIdeal.τ).loc Cert.AdamKernelIdeal.main_v2_2) = v10 c
          ∧ r.2.mem ((c.tc : Thread Cert.AdamKernelIdeal.nD Cert.AdamKernelIdeal.τ).loc Cert.AdamKernelIdeal.main_v2_3) = v11 c
          ∧ r.2.mem ((c.tc : Thread Cert.AdamKernelIdeal.nD Cert.AdamKernelIdeal.τ).loc Cert.AdamKernelIdeal.main_v3_0) = v12 c
          ∧ r.2.mem ((c.tc : Thread Cert.AdamKernelIdeal.nD Cert.AdamKernelIdeal.τ).loc Cert.AdamKernelIdeal.main_v3_1) = v13 c
          ∧ r.2.mem ((c.tc : Thread Cert.AdamKernelIdeal.nD Cert.AdamKernelIdeal.τ).loc Cert.AdamKernelIdeal.main_v3_2) = v14 c
          ∧ r.2.mem ((c.tc : Thread Cert.AdamKernelIdeal.nD Cert.AdamKernelIdeal.τ).loc Cert.AdamKernelIdeal.main_v3_3) = v15 c
          ∧ r.2.mem ((c.tc : Thread Cert.AdamKernelIdeal.nD Cert.AdamKernelIdeal.τ).loc Cert.AdamKernelIdeal.main_v4_0) = v16 c
          ∧ r.2.mem ((c.tc : Thread Cert.AdamKernelIdeal.nD Cert.AdamKernelIdeal.τ).loc Cert.AdamKernelIdeal.main_v4_1) = v17 c
          ∧ r.2.mem ((c.tc : Thread Cert.AdamKernelIdeal.nD Cert.AdamKernelIdeal.τ).loc Cert.AdamKernelIdeal.main_v4_2) = v18 c
          ∧ r.2.mem ((c.tc : Thread Cert.AdamKernelIdeal.nD Cert.AdamKernelIdeal.τ).loc Cert.AdamKernelIdeal.main_v4_3) = v19 c
          ∧ r.2.mem ((c.tc : Thread Cert.AdamKernelIdeal.nD Cert.AdamKernelIdeal.τ).loc Cert.AdamKernelIdeal.main_v5_0) = v20 c
          ∧ r.2.mem ((c.tc : Thread Cert.AdamKernelIdeal.nD Cert.AdamKernelIdeal.τ).loc Cert.AdamKernelIdeal.main_v5_1) = v21 c
          ∧ r.2.mem ((c.tc : Thread Cert.AdamKernelIdeal.nD Cert.AdamKernelIdeal.τ).loc Cert.AdamKernelIdeal.main_v5_2) = v22 c
          ∧ r.2.mem ((c.tc : Thread Cert.AdamKernelIdeal.nD Cert.AdamKernelIdeal.τ).loc Cert.AdamKernelIdeal.main_v5_3) = v23 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
          ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4)
          ∧ r.2.mem ((c.tc : Thread Cert.AdamKernelIdeal.nD Cert.AdamKernelIdeal.τ).loc Cert.AdamKernelIdeal.main_arg5) = m ((c.tc : Thread Cert.AdamKernelIdeal.nD Cert.AdamKernelIdeal.τ).loc Cert.AdamKernelIdeal.main_arg5)
          ∧ r.2.mem ((c.tc : Thread Cert.AdamKernelIdeal.nD Cert.AdamKernelIdeal.τ).loc Cert.AdamKernelIdeal.main_arg6) = m ((c.tc : Thread Cert.AdamKernelIdeal.nD Cert.AdamKernelIdeal.τ).loc Cert.AdamKernelIdeal.main_arg6)
          ∧ r.2.mem ((c.tc : Thread Cert.AdamKernelIdeal.nD Cert.AdamKernelIdeal.τ).loc Cert.AdamKernelIdeal.main_arg7) = m ((c.tc : Thread Cert.AdamKernelIdeal.nD Cert.AdamKernelIdeal.τ).loc Cert.AdamKernelIdeal.main_arg7)
          ∧ r.2.mem ((c.tc : Thread Cert.AdamKernelIdeal.nD Cert.AdamKernelIdeal.τ).loc Cert.AdamKernelIdeal.main_arg8) = m ((c.tc : Thread Cert.AdamKernelIdeal.nD Cert.AdamKernelIdeal.τ).loc Cert.AdamKernelIdeal.main_arg8)
          ∧ r.2.mem ((c.tc : Thread Cert.AdamKernelIdeal.nD Cert.AdamKernelIdeal.τ).loc Cert.AdamKernelIdeal.main_arg9) = m ((c.tc : Thread Cert.AdamKernelIdeal.nD Cert.AdamKernelIdeal.τ).loc Cert.AdamKernelIdeal.main_arg9)
          ∧ r.2.mem ((c.tc : Thread Cert.AdamKernelIdeal.nD Cert.AdamKernelIdeal.τ).loc Cert.AdamKernelIdeal.main_arg10) = m ((c.tc : Thread Cert.AdamKernelIdeal.nD Cert.AdamKernelIdeal.τ).loc Cert.AdamKernelIdeal.main_arg10)
          ∧ r.2.mem ((c.tc : Thread Cert.AdamKernelIdeal.nD Cert.AdamKernelIdeal.τ).loc Cert.AdamKernelIdeal.main_arg11) = m ((c.tc : Thread Cert.AdamKernelIdeal.nD Cert.AdamKernelIdeal.τ).loc Cert.AdamKernelIdeal.main_arg11)
          ∧ r.2.mem ((c.tc : Thread Cert.AdamKernelIdeal.nD Cert.AdamKernelIdeal.τ).loc Cert.AdamKernelIdeal.main_arg12) = m ((c.tc : Thread Cert.AdamKernelIdeal.nD Cert.AdamKernelIdeal.τ).loc Cert.AdamKernelIdeal.main_arg12)
          ∧ r.2.mem ((c.tc : Thread Cert.AdamKernelIdeal.nD Cert.AdamKernelIdeal.τ).loc Cert.AdamKernelIdeal.main_arg13) = m ((c.tc : Thread Cert.AdamKernelIdeal.nD Cert.AdamKernelIdeal.τ).loc Cert.AdamKernelIdeal.main_arg13)
          ∧ r.2.mem ((c.tc : Thread Cert.AdamKernelIdeal.nD Cert.AdamKernelIdeal.τ).loc Cert.AdamKernelIdeal.main_arg14) = m ((c.tc : Thread Cert.AdamKernelIdeal.nD Cert.AdamKernelIdeal.τ).loc Cert.AdamKernelIdeal.main_arg14)
          ∧ r.2.mem ((c.tc : Thread Cert.AdamKernelIdeal.nD Cert.AdamKernelIdeal.τ).loc Cert.AdamKernelIdeal.main_arg15) = m ((c.tc : Thread Cert.AdamKernelIdeal.nD Cert.AdamKernelIdeal.τ).loc Cert.AdamKernelIdeal.main_arg15)
          ∧ r.2.mem ((c.tc : Thread Cert.AdamKernelIdeal.nD Cert.AdamKernelIdeal.τ).loc Cert.AdamKernelIdeal.main_arg16) = m ((c.tc : Thread Cert.AdamKernelIdeal.nD Cert.AdamKernelIdeal.τ).loc Cert.AdamKernelIdeal.main_arg16)
          ∧ r.2.mem ((c.tc : Thread Cert.AdamKernelIdeal.nD Cert.AdamKernelIdeal.τ).loc Cert.AdamKernelIdeal.main_arg17) = m ((c.tc : Thread Cert.AdamKernelIdeal.nD Cert.AdamKernelIdeal.τ).loc Cert.AdamKernelIdeal.main_arg17)
          ∧ r.2.mem ((c.tc : Thread Cert.AdamKernelIdeal.nD Cert.AdamKernelIdeal.τ).loc Cert.AdamKernelIdeal.main_arg18) = m ((c.tc : Thread Cert.AdamKernelIdeal.nD Cert.AdamKernelIdeal.τ).loc Cert.AdamKernelIdeal.main_arg18)
          ∧ r.2.mem ((c.tc : Thread Cert.AdamKernelIdeal.nD Cert.AdamKernelIdeal.τ).loc Cert.AdamKernelIdeal.main_arg19) = m ((c.tc : Thread Cert.AdamKernelIdeal.nD Cert.AdamKernelIdeal.τ).loc Cert.AdamKernelIdeal.main_arg19)
          ∧ r.2.mem ((c.tc : Thread Cert.AdamKernelIdeal.nD Cert.AdamKernelIdeal.τ).loc Cert.AdamKernelIdeal.main_arg20) = m ((c.tc : Thread Cert.AdamKernelIdeal.nD Cert.AdamKernelIdeal.τ).loc Cert.AdamKernelIdeal.main_arg20)
          ∧ r.2.mem ((c.tc : Thread Cert.AdamKernelIdeal.nD Cert.AdamKernelIdeal.τ).loc Cert.AdamKernelIdeal.main_arg21) = m ((c.tc : Thread Cert.AdamKernelIdeal.nD Cert.AdamKernelIdeal.τ).loc Cert.AdamKernelIdeal.main_arg21)
          ∧ r.2.mem ((c.tc : Thread Cert.AdamKernelIdeal.nD Cert.AdamKernelIdeal.τ).loc Cert.AdamKernelIdeal.main_arg22) = m ((c.tc : Thread Cert.AdamKernelIdeal.nD Cert.AdamKernelIdeal.τ).loc Cert.AdamKernelIdeal.main_arg22)
          ∧ r.2.mem ((c.tc : Thread Cert.AdamKernelIdeal.nD Cert.AdamKernelIdeal.τ).loc Cert.AdamKernelIdeal.main_arg23) = m ((c.tc : Thread Cert.AdamKernelIdeal.nD Cert.AdamKernelIdeal.τ).loc Cert.AdamKernelIdeal.main_arg23)
          ∧ r.2.mem ((c.tc : Thread Cert.AdamKernelIdeal.nD Cert.AdamKernelIdeal.τ).loc Cert.AdamKernelIdeal.main_arg24) = m ((c.tc : Thread Cert.AdamKernelIdeal.nD Cert.AdamKernelIdeal.τ).loc Cert.AdamKernelIdeal.main_arg24)
          ∧ r.2.mem ((c.tc : Thread Cert.AdamKernelIdeal.nD Cert.AdamKernelIdeal.τ).loc Cert.AdamKernelIdeal.main_arg25) = m ((c.tc : Thread Cert.AdamKernelIdeal.nD Cert.AdamKernelIdeal.τ).loc Cert.AdamKernelIdeal.main_arg25)
          ∧ r.2.mem ((c.tc : Thread Cert.AdamKernelIdeal.nD Cert.AdamKernelIdeal.τ).loc Cert.AdamKernelIdeal.main_arg26) = m ((c.tc : Thread Cert.AdamKernelIdeal.nD Cert.AdamKernelIdeal.τ).loc Cert.AdamKernelIdeal.main_arg26)
          ∧ r.2.mem ((c.tc : Thread Cert.AdamKernelIdeal.nD Cert.AdamKernelIdeal.τ).loc Cert.AdamKernelIdeal.main_arg27) = m ((c.tc : Thread Cert.AdamKernelIdeal.nD Cert.AdamKernelIdeal.τ).loc Cert.AdamKernelIdeal.main_arg27))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_arg3) = v0 c
          ∧ r.2.mem ((c.tc : Thread Cert.AdamReferenceIdeal.nD Cert.AdamReferenceIdeal.τ).loc Cert.AdamReferenceIdeal.main_v23) = v1 c
          ∧ r.2.mem ((c.tc : Thread Cert.AdamReferenceIdeal.nD Cert.AdamReferenceIdeal.τ).loc Cert.AdamReferenceIdeal.main_v4) = v2 c
          ∧ r.2.mem ((c.tc : Thread Cert.AdamReferenceIdeal.nD Cert.AdamReferenceIdeal.τ).loc Cert.AdamReferenceIdeal.main_v10) = v3 c
          ∧ r.2.mem ((c.tc : Thread Cert.AdamReferenceIdeal.nD Cert.AdamReferenceIdeal.τ).loc Cert.AdamReferenceIdeal.main_v24) = v4 c
          ∧ r.2.mem ((c.tc : Thread Cert.AdamReferenceIdeal.nD Cert.AdamReferenceIdeal.τ).loc Cert.AdamReferenceIdeal.main_v48) = v5 c
          ∧ r.2.mem ((c.tc : Thread Cert.AdamReferenceIdeal.nD Cert.AdamReferenceIdeal.τ).loc Cert.AdamReferenceIdeal.main_v29) = v6 c
          ∧ r.2.mem ((c.tc : Thread Cert.AdamReferenceIdeal.nD Cert.AdamReferenceIdeal.τ).loc Cert.AdamReferenceIdeal.main_v35) = v7 c
          ∧ r.2.mem ((c.tc : Thread Cert.AdamReferenceIdeal.nD Cert.AdamReferenceIdeal.τ).loc Cert.AdamReferenceIdeal.main_v49) = v8 c
          ∧ r.2.mem ((c.tc : Thread Cert.AdamReferenceIdeal.nD Cert.AdamReferenceIdeal.τ).loc Cert.AdamReferenceIdeal.main_v73) = v9 c
          ∧ r.2.mem ((c.tc : Thread Cert.AdamReferenceIdeal.nD Cert.AdamReferenceIdeal.τ).loc Cert.AdamReferenceIdeal.main_v54) = v10 c
          ∧ r.2.mem ((c.tc : Thread Cert.AdamReferenceIdeal.nD Cert.AdamReferenceIdeal.τ).loc Cert.AdamReferenceIdeal.main_v60) = v11 c
          ∧ r.2.mem ((c.tc : Thread Cert.AdamReferenceIdeal.nD Cert.AdamReferenceIdeal.τ).loc Cert.AdamReferenceIdeal.main_v74) = v12 c
          ∧ r.2.mem ((c.tc : Thread Cert.AdamReferenceIdeal.nD Cert.AdamReferenceIdeal.τ).loc Cert.AdamReferenceIdeal.main_v98) = v13 c
          ∧ r.2.mem ((c.tc : Thread Cert.AdamReferenceIdeal.nD Cert.AdamReferenceIdeal.τ).loc Cert.AdamReferenceIdeal.main_v79) = v14 c
          ∧ r.2.mem ((c.tc : Thread Cert.AdamReferenceIdeal.nD Cert.AdamReferenceIdeal.τ).loc Cert.AdamReferenceIdeal.main_v85) = v15 c
          ∧ r.2.mem ((c.tc : Thread Cert.AdamReferenceIdeal.nD Cert.AdamReferenceIdeal.τ).loc Cert.AdamReferenceIdeal.main_v99) = v16 c
          ∧ r.2.mem ((c.tc : Thread Cert.AdamReferenceIdeal.nD Cert.AdamReferenceIdeal.τ).loc Cert.AdamReferenceIdeal.main_v123) = v17 c
          ∧ r.2.mem ((c.tc : Thread Cert.AdamReferenceIdeal.nD Cert.AdamReferenceIdeal.τ).loc Cert.AdamReferenceIdeal.main_v104) = v18 c
          ∧ r.2.mem ((c.tc : Thread Cert.AdamReferenceIdeal.nD Cert.AdamReferenceIdeal.τ).loc Cert.AdamReferenceIdeal.main_v110) = v19 c
          ∧ r.2.mem ((c.tc : Thread Cert.AdamReferenceIdeal.nD Cert.AdamReferenceIdeal.τ).loc Cert.AdamReferenceIdeal.main_arg27) = v20 c
          ∧ r.2.mem ((c.tc : Thread Cert.AdamReferenceIdeal.nD Cert.AdamReferenceIdeal.τ).loc Cert.AdamReferenceIdeal.main_v147) = v21 c
          ∧ r.2.mem ((c.tc : Thread Cert.AdamReferenceIdeal.nD Cert.AdamReferenceIdeal.τ).loc Cert.AdamReferenceIdeal.main_v128) = v22 c
          ∧ r.2.mem ((c.tc : Thread Cert.AdamReferenceIdeal.nD Cert.AdamReferenceIdeal.τ).loc Cert.AdamReferenceIdeal.main_v134) = v23 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3)
          ∧ r.2.mem ((c.tc : Thread Cert.AdamReferenceIdeal.nD Cert.AdamReferenceIdeal.τ).loc Cert.AdamReferenceIdeal.main_arg4) = m' ((c.tc : Thread Cert.AdamReferenceIdeal.nD Cert.AdamReferenceIdeal.τ).loc Cert.AdamReferenceIdeal.main_arg4)
          ∧ r.2.mem ((c.tc : Thread Cert.AdamReferenceIdeal.nD Cert.AdamReferenceIdeal.τ).loc Cert.AdamReferenceIdeal.main_arg5) = m' ((c.tc : Thread Cert.AdamReferenceIdeal.nD Cert.AdamReferenceIdeal.τ).loc Cert.AdamReferenceIdeal.main_arg5)
          ∧ r.2.mem ((c.tc : Thread Cert.AdamReferenceIdeal.nD Cert.AdamReferenceIdeal.τ).loc Cert.AdamReferenceIdeal.main_arg6) = m' ((c.tc : Thread Cert.AdamReferenceIdeal.nD Cert.AdamReferenceIdeal.τ).loc Cert.AdamReferenceIdeal.main_arg6)
          ∧ r.2.mem ((c.tc : Thread Cert.AdamReferenceIdeal.nD Cert.AdamReferenceIdeal.τ).loc Cert.AdamReferenceIdeal.main_arg7) = m' ((c.tc : Thread Cert.AdamReferenceIdeal.nD Cert.AdamReferenceIdeal.τ).loc Cert.AdamReferenceIdeal.main_arg7)
          ∧ r.2.mem ((c.tc : Thread Cert.AdamReferenceIdeal.nD Cert.AdamReferenceIdeal.τ).loc Cert.AdamReferenceIdeal.main_arg8) = m' ((c.tc : Thread Cert.AdamReferenceIdeal.nD Cert.AdamReferenceIdeal.τ).loc Cert.AdamReferenceIdeal.main_arg8)
          ∧ r.2.mem ((c.tc : Thread Cert.AdamReferenceIdeal.nD Cert.AdamReferenceIdeal.τ).loc Cert.AdamReferenceIdeal.main_arg9) = m' ((c.tc : Thread Cert.AdamReferenceIdeal.nD Cert.AdamReferenceIdeal.τ).loc Cert.AdamReferenceIdeal.main_arg9)
          ∧ r.2.mem ((c.tc : Thread Cert.AdamReferenceIdeal.nD Cert.AdamReferenceIdeal.τ).loc Cert.AdamReferenceIdeal.main_arg10) = m' ((c.tc : Thread Cert.AdamReferenceIdeal.nD Cert.AdamReferenceIdeal.τ).loc Cert.AdamReferenceIdeal.main_arg10)
          ∧ r.2.mem ((c.tc : Thread Cert.AdamReferenceIdeal.nD Cert.AdamReferenceIdeal.τ).loc Cert.AdamReferenceIdeal.main_arg11) = m' ((c.tc : Thread Cert.AdamReferenceIdeal.nD Cert.AdamReferenceIdeal.τ).loc Cert.AdamReferenceIdeal.main_arg11)
          ∧ r.2.mem ((c.tc : Thread Cert.AdamReferenceIdeal.nD Cert.AdamReferenceIdeal.τ).loc Cert.AdamReferenceIdeal.main_arg12) = m' ((c.tc : Thread Cert.AdamReferenceIdeal.nD Cert.AdamReferenceIdeal.τ).loc Cert.AdamReferenceIdeal.main_arg12)
          ∧ r.2.mem ((c.tc : Thread Cert.AdamReferenceIdeal.nD Cert.AdamReferenceIdeal.τ).loc Cert.AdamReferenceIdeal.main_arg13) = m' ((c.tc : Thread Cert.AdamReferenceIdeal.nD Cert.AdamReferenceIdeal.τ).loc Cert.AdamReferenceIdeal.main_arg13)
          ∧ r.2.mem ((c.tc : Thread Cert.AdamReferenceIdeal.nD Cert.AdamReferenceIdeal.τ).loc Cert.AdamReferenceIdeal.main_arg14) = m' ((c.tc : Thread Cert.AdamReferenceIdeal.nD Cert.AdamReferenceIdeal.τ).loc Cert.AdamReferenceIdeal.main_arg14)
          ∧ r.2.mem ((c.tc : Thread Cert.AdamReferenceIdeal.nD Cert.AdamReferenceIdeal.τ).loc Cert.AdamReferenceIdeal.main_arg15) = m' ((c.tc : Thread Cert.AdamReferenceIdeal.nD Cert.AdamReferenceIdeal.τ).loc Cert.AdamReferenceIdeal.main_arg15)
          ∧ r.2.mem ((c.tc : Thread Cert.AdamReferenceIdeal.nD Cert.AdamReferenceIdeal.τ).loc Cert.AdamReferenceIdeal.main_arg16) = m' ((c.tc : Thread Cert.AdamReferenceIdeal.nD Cert.AdamReferenceIdeal.τ).loc Cert.AdamReferenceIdeal.main_arg16)
          ∧ r.2.mem ((c.tc : Thread Cert.AdamReferenceIdeal.nD Cert.AdamReferenceIdeal.τ).loc Cert.AdamReferenceIdeal.main_arg17) = m' ((c.tc : Thread Cert.AdamReferenceIdeal.nD Cert.AdamReferenceIdeal.τ).loc Cert.AdamReferenceIdeal.main_arg17)
          ∧ r.2.mem ((c.tc : Thread Cert.AdamReferenceIdeal.nD Cert.AdamReferenceIdeal.τ).loc Cert.AdamReferenceIdeal.main_arg18) = m' ((c.tc : Thread Cert.AdamReferenceIdeal.nD Cert.AdamReferenceIdeal.τ).loc Cert.AdamReferenceIdeal.main_arg18)
          ∧ r.2.mem ((c.tc : Thread Cert.AdamReferenceIdeal.nD Cert.AdamReferenceIdeal.τ).loc Cert.AdamReferenceIdeal.main_arg19) = m' ((c.tc : Thread Cert.AdamReferenceIdeal.nD Cert.AdamReferenceIdeal.τ).loc Cert.AdamReferenceIdeal.main_arg19)
          ∧ r.2.mem ((c.tc : Thread Cert.AdamReferenceIdeal.nD Cert.AdamReferenceIdeal.τ).loc Cert.AdamReferenceIdeal.main_arg20) = m' ((c.tc : Thread Cert.AdamReferenceIdeal.nD Cert.AdamReferenceIdeal.τ).loc Cert.AdamReferenceIdeal.main_arg20)
          ∧ r.2.mem ((c.tc : Thread Cert.AdamReferenceIdeal.nD Cert.AdamReferenceIdeal.τ).loc Cert.AdamReferenceIdeal.main_arg21) = m' ((c.tc : Thread Cert.AdamReferenceIdeal.nD Cert.AdamReferenceIdeal.τ).loc Cert.AdamReferenceIdeal.main_arg21)
          ∧ r.2.mem ((c.tc : Thread Cert.AdamReferenceIdeal.nD Cert.AdamReferenceIdeal.τ).loc Cert.AdamReferenceIdeal.main_arg22) = m' ((c.tc : Thread Cert.AdamReferenceIdeal.nD Cert.AdamReferenceIdeal.τ).loc Cert.AdamReferenceIdeal.main_arg22)
          ∧ r.2.mem ((c.tc : Thread Cert.AdamReferenceIdeal.nD Cert.AdamReferenceIdeal.τ).loc Cert.AdamReferenceIdeal.main_arg23) = m' ((c.tc : Thread Cert.AdamReferenceIdeal.nD Cert.AdamReferenceIdeal.τ).loc Cert.AdamReferenceIdeal.main_arg23)
          ∧ r.2.mem ((c.tc : Thread Cert.AdamReferenceIdeal.nD Cert.AdamReferenceIdeal.τ).loc Cert.AdamReferenceIdeal.main_arg24) = m' ((c.tc : Thread Cert.AdamReferenceIdeal.nD Cert.AdamReferenceIdeal.τ).loc Cert.AdamReferenceIdeal.main_arg24)
          ∧ r.2.mem ((c.tc : Thread Cert.AdamReferenceIdeal.nD Cert.AdamReferenceIdeal.τ).loc Cert.AdamReferenceIdeal.main_arg25) = m' ((c.tc : Thread Cert.AdamReferenceIdeal.nD Cert.AdamReferenceIdeal.τ).loc Cert.AdamReferenceIdeal.main_arg25)
          ∧ r.2.mem ((c.tc : Thread Cert.AdamReferenceIdeal.nD Cert.AdamReferenceIdeal.τ).loc Cert.AdamReferenceIdeal.main_arg26) = m' ((c.tc : Thread Cert.AdamReferenceIdeal.nD Cert.AdamReferenceIdeal.τ).loc Cert.AdamReferenceIdeal.main_arg26)
          ∧ r.2.mem ((c.tc : Thread Cert.AdamReferenceIdeal.nD Cert.AdamReferenceIdeal.τ).loc Cert.AdamReferenceIdeal.main_arg27) = m' ((c.tc : Thread Cert.AdamReferenceIdeal.nD Cert.AdamReferenceIdeal.τ).loc Cert.AdamReferenceIdeal.main_arg27))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)
      ∧ m' ((c.tc : Thread Cert.NormReferenceIdeal.nD Cert.NormReferenceIdeal.τ).loc Cert.NormReferenceIdeal.main_arg5) = m ((c.tc : Thread Cert.NormKernelIdeal.nD Cert.NormKernelIdeal.τ).loc Cert.NormKernelIdeal.main_arg5)
      ∧ m' ((c.tc : Thread Cert.NormReferenceIdeal.nD Cert.NormReferenceIdeal.τ).loc Cert.NormReferenceIdeal.main_arg6) = m ((c.tc : Thread Cert.NormKernelIdeal.nD Cert.NormKernelIdeal.τ).loc Cert.NormKernelIdeal.main_arg6)
      ∧ m' ((c.tc : Thread Cert.NormReferenceIdeal.nD Cert.NormReferenceIdeal.τ).loc Cert.NormReferenceIdeal.main_arg7) = m ((c.tc : Thread Cert.NormKernelIdeal.nD Cert.NormKernelIdeal.τ).loc Cert.NormKernelIdeal.main_arg7)
      ∧ m' ((c.tc : Thread Cert.NormReferenceIdeal.nD Cert.NormReferenceIdeal.τ).loc Cert.NormReferenceIdeal.main_arg8) = m ((c.tc : Thread Cert.NormKernelIdeal.nD Cert.NormKernelIdeal.τ).loc Cert.NormKernelIdeal.main_arg8)
      ∧ m' ((c.tc : Thread Cert.NormReferenceIdeal.nD Cert.NormReferenceIdeal.τ).loc Cert.NormReferenceIdeal.main_arg9) = m ((c.tc : Thread Cert.NormKernelIdeal.nD Cert.NormKernelIdeal.τ).loc Cert.NormKernelIdeal.main_arg9)
      ∧ m' ((c.tc : Thread Cert.NormReferenceIdeal.nD Cert.NormReferenceIdeal.τ).loc Cert.NormReferenceIdeal.main_arg10) = m ((c.tc : Thread Cert.NormKernelIdeal.nD Cert.NormKernelIdeal.τ).loc Cert.NormKernelIdeal.main_arg10)
      ∧ m' ((c.tc : Thread Cert.NormReferenceIdeal.nD Cert.NormReferenceIdeal.τ).loc Cert.NormReferenceIdeal.main_arg11) = m ((c.tc : Thread Cert.NormKernelIdeal.nD Cert.NormKernelIdeal.τ).loc Cert.NormKernelIdeal.main_arg11)
      ∧ m' ((c.tc : Thread Cert.NormReferenceIdeal.nD Cert.NormReferenceIdeal.τ).loc Cert.NormReferenceIdeal.main_arg12) = m ((c.tc : Thread Cert.NormKernelIdeal.nD Cert.NormKernelIdeal.τ).loc Cert.NormKernelIdeal.main_arg12)) →
    ∃ (v0 : (c : Dev Cert.NormKernelIdeal.nD) → Buf (Elt Ideal) ((c.tc : Thread Cert.NormKernelIdeal.nD Cert.NormKernelIdeal.τ).loc Cert.NormKernelIdeal.main_v0)) (v1 : (c : Dev Cert.NormKernelIdeal.nD) → Buf (Elt Ideal) ((c.tc : Thread Cert.NormKernelIdeal.nD Cert.NormKernelIdeal.τ).loc Cert.NormKernelIdeal.main_v1)) (v2 : (c : Dev Cert.NormKernelIdeal.nD) → Buf (Elt Ideal) ((c.tc : Thread Cert.NormKernelIdeal.nD Cert.NormKernelIdeal.τ).loc Cert.NormKernelIdeal.main_v3)) (v3 : (c : Dev Cert.NormKernelIdeal.nD) → Buf (Elt Ideal) ((c.tc : Thread Cert.NormKernelIdeal.nD Cert.NormKernelIdeal.τ).loc Cert.NormKernelIdeal.main_v4_1)) (v4 : (c : Dev Cert.NormKernelIdeal.nD) → Buf (Elt Ideal) ((c.tc : Thread Cert.NormKernelIdeal.nD Cert.NormKernelIdeal.τ).loc Cert.NormKernelIdeal.main_v5_0)) (v5 : (c : Dev Cert.NormKernelIdeal.nD) → Buf (Elt Ideal) ((c.tc : Thread Cert.NormKernelIdeal.nD Cert.NormKernelIdeal.τ).loc Cert.NormKernelIdeal.main_v7_0)) (v6 : (c : Dev Cert.NormKernelIdeal.nD) → Buf (Elt Ideal) ((c.tc : Thread Cert.NormKernelIdeal.nD Cert.NormKernelIdeal.τ).loc Cert.NormKernelIdeal.main_v9_0)) (v7 : (c : Dev Cert.NormKernelIdeal.nD) → Buf (Elt Ideal) ((c.tc : Thread Cert.NormKernelIdeal.nD Cert.NormKernelIdeal.τ).loc Cert.NormKernelIdeal.main_v9_1)) (v8 : (c : Dev Cert.NormKernelIdeal.nD) → Buf (Elt Ideal) ((c.tc : Thread Cert.NormKernelIdeal.nD Cert.NormKernelIdeal.τ).loc Cert.NormKernelIdeal.main_v8_1)) (v9 : (c : Dev Cert.NormKernelIdeal.nD) → Buf (Elt Ideal) ((c.tc : Thread Cert.NormKernelIdeal.nD Cert.NormKernelIdeal.τ).loc Cert.NormKernelIdeal.main_v7_1)) (v10 : (c : Dev Cert.NormKernelIdeal.nD) → Buf (Elt Ideal) ((c.tc : Thread Cert.NormKernelIdeal.nD Cert.NormKernelIdeal.τ).loc Cert.NormKernelIdeal.main_v6_1)) (v11 : (c : Dev Cert.NormKernelIdeal.nD) → Buf (Elt Ideal) ((c.tc : Thread Cert.NormKernelIdeal.nD Cert.NormKernelIdeal.τ).loc Cert.NormKernelIdeal.main_v5_1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v0) = v0 c
          ∧ r.2.mem ((c.tc : Thread Cert.NormKernelIdeal.nD Cert.NormKernelIdeal.τ).loc Cert.NormKernelIdeal.main_v1) = v1 c
          ∧ r.2.mem ((c.tc : Thread Cert.NormKernelIdeal.nD Cert.NormKernelIdeal.τ).loc Cert.NormKernelIdeal.main_v3) = v2 c
          ∧ r.2.mem ((c.tc : Thread Cert.NormKernelIdeal.nD Cert.NormKernelIdeal.τ).loc Cert.NormKernelIdeal.main_v4_1) = v3 c
          ∧ r.2.mem ((c.tc : Thread Cert.NormKernelIdeal.nD Cert.NormKernelIdeal.τ).loc Cert.NormKernelIdeal.main_v5_0) = v4 c
          ∧ r.2.mem ((c.tc : Thread Cert.NormKernelIdeal.nD Cert.NormKernelIdeal.τ).loc Cert.NormKernelIdeal.main_v7_0) = v5 c
          ∧ r.2.mem ((c.tc : Thread Cert.NormKernelIdeal.nD Cert.NormKernelIdeal.τ).loc Cert.NormKernelIdeal.main_v9_0) = v6 c
          ∧ r.2.mem ((c.tc : Thread Cert.NormKernelIdeal.nD Cert.NormKernelIdeal.τ).loc Cert.NormKernelIdeal.main_v9_1) = v7 c
          ∧ r.2.mem ((c.tc : Thread Cert.NormKernelIdeal.nD Cert.NormKernelIdeal.τ).loc Cert.NormKernelIdeal.main_v8_1) = v8 c
          ∧ r.2.mem ((c.tc : Thread Cert.NormKernelIdeal.nD Cert.NormKernelIdeal.τ).loc Cert.NormKernelIdeal.main_v7_1) = v9 c
          ∧ r.2.mem ((c.tc : Thread Cert.NormKernelIdeal.nD Cert.NormKernelIdeal.τ).loc Cert.NormKernelIdeal.main_v6_1) = v10 c
          ∧ r.2.mem ((c.tc : Thread Cert.NormKernelIdeal.nD Cert.NormKernelIdeal.τ).loc Cert.NormKernelIdeal.main_v5_1) = v11 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
          ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
          ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6)
          ∧ r.2.mem ((c.tc : Thread Cert.NormKernelIdeal.nD Cert.NormKernelIdeal.τ).loc Cert.NormKernelIdeal.main_arg7) = m ((c.tc : Thread Cert.NormKernelIdeal.nD Cert.NormKernelIdeal.τ).loc Cert.NormKernelIdeal.main_arg7)
          ∧ r.2.mem ((c.tc : Thread Cert.NormKernelIdeal.nD Cert.NormKernelIdeal.τ).loc Cert.NormKernelIdeal.main_arg8) = m ((c.tc : Thread Cert.NormKernelIdeal.nD Cert.NormKernelIdeal.τ).loc Cert.NormKernelIdeal.main_arg8)
          ∧ r.2.mem ((c.tc : Thread Cert.NormKernelIdeal.nD Cert.NormKernelIdeal.τ).loc Cert.NormKernelIdeal.main_arg9) = m ((c.tc : Thread Cert.NormKernelIdeal.nD Cert.NormKernelIdeal.τ).loc Cert.NormKernelIdeal.main_arg9)
          ∧ r.2.mem ((c.tc : Thread Cert.NormKernelIdeal.nD Cert.NormKernelIdeal.τ).loc Cert.NormKernelIdeal.main_arg10) = m ((c.tc : Thread Cert.NormKernelIdeal.nD Cert.NormKernelIdeal.τ).loc Cert.NormKernelIdeal.main_arg10)
          ∧ r.2.mem ((c.tc : Thread Cert.NormKernelIdeal.nD Cert.NormKernelIdeal.τ).loc Cert.NormKernelIdeal.main_arg11) = m ((c.tc : Thread Cert.NormKernelIdeal.nD Cert.NormKernelIdeal.τ).loc Cert.NormKernelIdeal.main_arg11)
          ∧ r.2.mem ((c.tc : Thread Cert.NormKernelIdeal.nD Cert.NormKernelIdeal.τ).loc Cert.NormKernelIdeal.main_arg12) = m ((c.tc : Thread Cert.NormKernelIdeal.nD Cert.NormKernelIdeal.τ).loc Cert.NormKernelIdeal.main_arg12))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v170) = v0 c
          ∧ r.2.mem ((c.tc : Thread Cert.NormReferenceIdeal.nD Cert.NormReferenceIdeal.τ).loc Cert.NormReferenceIdeal.main_v171) = v1 c
          ∧ r.2.mem ((c.tc : Thread Cert.NormReferenceIdeal.nD Cert.NormReferenceIdeal.τ).loc Cert.NormReferenceIdeal.main_v172) = v2 c
          ∧ r.2.mem ((c.tc : Thread Cert.NormReferenceIdeal.nD Cert.NormReferenceIdeal.τ).loc Cert.NormReferenceIdeal.main_v173) = v3 c
          ∧ r.2.mem ((c.tc : Thread Cert.NormReferenceIdeal.nD Cert.NormReferenceIdeal.τ).loc Cert.NormReferenceIdeal.main_v174) = v4 c
          ∧ r.2.mem ((c.tc : Thread Cert.NormReferenceIdeal.nD Cert.NormReferenceIdeal.τ).loc Cert.NormReferenceIdeal.main_v175) = v5 c
          ∧ r.2.mem ((c.tc : Thread Cert.NormReferenceIdeal.nD Cert.NormReferenceIdeal.τ).loc Cert.NormReferenceIdeal.main_v150) = v6 c
          ∧ r.2.mem ((c.tc : Thread Cert.NormReferenceIdeal.nD Cert.NormReferenceIdeal.τ).loc Cert.NormReferenceIdeal.main_v107) = v7 c
          ∧ r.2.mem ((c.tc : Thread Cert.NormReferenceIdeal.nD Cert.NormReferenceIdeal.τ).loc Cert.NormReferenceIdeal.main_v104) = v8 c
          ∧ r.2.mem ((c.tc : Thread Cert.NormReferenceIdeal.nD Cert.NormReferenceIdeal.τ).loc Cert.NormReferenceIdeal.main_v153) = v9 c
          ∧ r.2.mem ((c.tc : Thread Cert.NormReferenceIdeal.nD Cert.NormReferenceIdeal.τ).loc Cert.NormReferenceIdeal.main_v85) = v10 c
          ∧ r.2.mem ((c.tc : Thread Cert.NormReferenceIdeal.nD Cert.NormReferenceIdeal.τ).loc Cert.NormReferenceIdeal.main_v133) = v11 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5)
          ∧ r.2.mem ((c.tc : Thread Cert.NormReferenceIdeal.nD Cert.NormReferenceIdeal.τ).loc Cert.NormReferenceIdeal.main_arg6) = m' ((c.tc : Thread Cert.NormReferenceIdeal.nD Cert.NormReferenceIdeal.τ).loc Cert.NormReferenceIdeal.main_arg6)
          ∧ r.2.mem ((c.tc : Thread Cert.NormReferenceIdeal.nD Cert.NormReferenceIdeal.τ).loc Cert.NormReferenceIdeal.main_arg7) = m' ((c.tc : Thread Cert.NormReferenceIdeal.nD Cert.NormReferenceIdeal.τ).loc Cert.NormReferenceIdeal.main_arg7)
          ∧ r.2.mem ((c.tc : Thread Cert.NormReferenceIdeal.nD Cert.NormReferenceIdeal.τ).loc Cert.NormReferenceIdeal.main_arg8) = m' ((c.tc : Thread Cert.NormReferenceIdeal.nD Cert.NormReferenceIdeal.τ).loc Cert.NormReferenceIdeal.main_arg8)
          ∧ r.2.mem ((c.tc : Thread Cert.NormReferenceIdeal.nD Cert.NormReferenceIdeal.τ).loc Cert.NormReferenceIdeal.main_arg9) = m' ((c.tc : Thread Cert.NormReferenceIdeal.nD Cert.NormReferenceIdeal.τ).loc Cert.NormReferenceIdeal.main_arg9)
          ∧ r.2.mem ((c.tc : Thread Cert.NormReferenceIdeal.nD Cert.NormReferenceIdeal.τ).loc Cert.NormReferenceIdeal.main_arg10) = m' ((c.tc : Thread Cert.NormReferenceIdeal.nD Cert.NormReferenceIdeal.τ).loc Cert.NormReferenceIdeal.main_arg10)
          ∧ r.2.mem ((c.tc : Thread Cert.NormReferenceIdeal.nD Cert.NormReferenceIdeal.τ).loc Cert.NormReferenceIdeal.main_arg11) = m' ((c.tc : Thread Cert.NormReferenceIdeal.nD Cert.NormReferenceIdeal.τ).loc Cert.NormReferenceIdeal.main_arg11)
          ∧ r.2.mem ((c.tc : Thread Cert.NormReferenceIdeal.nD Cert.NormReferenceIdeal.τ).loc Cert.NormReferenceIdeal.main_arg12) = m' ((c.tc : Thread Cert.NormReferenceIdeal.nD Cert.NormReferenceIdeal.τ).loc Cert.NormReferenceIdeal.main_arg12))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)) →
    ∃ (v0 : (c : Dev Cert.MemKernelIdeal.nD) → Buf (Elt Ideal) ((c.tc : Thread Cert.MemKernelIdeal.nD Cert.MemKernelIdeal.τ).loc Cert.MemKernelIdeal.main_v1)) (v1 : (c : Dev Cert.MemKernelIdeal.nD) → Buf (Elt Ideal) ((c.tc : Thread Cert.MemKernelIdeal.nD Cert.MemKernelIdeal.τ).loc Cert.MemKernelIdeal.main_v3)) (v2 : (c : Dev Cert.MemKernelIdeal.nD) → Buf (Elt Ideal) ((c.tc : Thread Cert.MemKernelIdeal.nD Cert.MemKernelIdeal.τ).loc Cert.MemKernelIdeal.main_v2)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v1) = v0 c
          ∧ r.2.mem ((c.tc : Thread Cert.MemKernelIdeal.nD Cert.MemKernelIdeal.τ).loc Cert.MemKernelIdeal.main_v3) = v1 c
          ∧ r.2.mem ((c.tc : Thread Cert.MemKernelIdeal.nD Cert.MemKernelIdeal.τ).loc Cert.MemKernelIdeal.main_v2) = v2 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v26) = v0 c
          ∧ r.2.mem ((c.tc : Thread Cert.MemReferenceIdeal.nD Cert.MemReferenceIdeal.τ).loc Cert.MemReferenceIdeal.main_v29) = v1 c
          ∧ r.2.mem ((c.tc : Thread Cert.MemReferenceIdeal.nD Cert.MemReferenceIdeal.τ).loc Cert.MemReferenceIdeal.main_v28) = v2 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def preserves_ConvKernel_ConvKernelIdeal : Prop :=
  True

def algebraic_ConvKernelIdeal_ConvReferenceIdeal_pre_cotangent_finite [hConvKernelIdeal : Cert.ConvKernelIdeal.Facts] [hConvReferenceIdeal : Cert.ConvReferenceIdeal.Facts] [hPre_cotangent_finite : Cert.Pre_cotangent_finite.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal_cotangent_finite m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)) →
    ∃ (v0 : (c : Dev Cert.ConvKernelIdeal.nD) → Buf (Elt Ideal) ((c.tc : Thread Cert.ConvKernelIdeal.nD Cert.ConvKernelIdeal.τ).loc Cert.ConvKernelIdeal.main_v0_1)) (v1 : (c : Dev Cert.ConvKernelIdeal.nD) → Buf (Elt Ideal) ((c.tc : Thread Cert.ConvKernelIdeal.nD Cert.ConvKernelIdeal.τ).loc Cert.ConvKernelIdeal.main_v1_0)) (v2 : (c : Dev Cert.ConvKernelIdeal.nD) → Buf (Elt Ideal) ((c.tc : Thread Cert.ConvKernelIdeal.nD Cert.ConvKernelIdeal.τ).loc Cert.ConvKernelIdeal.main_v1_1)) (v3 : (c : Dev Cert.ConvKernelIdeal.nD) → Buf (Elt Ideal) ((c.tc : Thread Cert.ConvKernelIdeal.nD Cert.ConvKernelIdeal.τ).loc Cert.ConvKernelIdeal.main_v1_2)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v0_1) = v0 c
          ∧ r.2.mem ((c.tc : Thread Cert.ConvKernelIdeal.nD Cert.ConvKernelIdeal.τ).loc Cert.ConvKernelIdeal.main_v1_0) = v1 c
          ∧ r.2.mem ((c.tc : Thread Cert.ConvKernelIdeal.nD Cert.ConvKernelIdeal.τ).loc Cert.ConvKernelIdeal.main_v1_1) = v2 c
          ∧ r.2.mem ((c.tc : Thread Cert.ConvKernelIdeal.nD Cert.ConvKernelIdeal.τ).loc Cert.ConvKernelIdeal.main_v1_2) = v3 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v35_0) = v0 c
          ∧ r.2.mem ((c.tc : Thread Cert.ConvReferenceIdeal.nD Cert.ConvReferenceIdeal.τ).loc Cert.ConvReferenceIdeal.main_v83) = v1 c
          ∧ r.2.mem ((c.tc : Thread Cert.ConvReferenceIdeal.nD Cert.ConvReferenceIdeal.τ).loc Cert.ConvReferenceIdeal.main_v84) = v2 c
          ∧ r.2.mem ((c.tc : Thread Cert.ConvReferenceIdeal.nD Cert.ConvReferenceIdeal.τ).loc Cert.ConvReferenceIdeal.main_v38) = v3 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def Claim : Prop :=
  ∃ (hKernel : Cert.Kernel.Facts) (hKernelIdeal : Cert.KernelIdeal.Facts) (hReferenceIdeal : Cert.ReferenceIdeal.Facts) (hMlpKernel : Cert.MlpKernel.Facts) (hMlpKernelIdeal : Cert.MlpKernelIdeal.Facts) (hMlpReferenceIdeal : Cert.MlpReferenceIdeal.Facts) (hInKernel : Cert.InKernel.Facts) (hInKernelIdeal : Cert.InKernelIdeal.Facts) (hInReferenceIdeal : Cert.InReferenceIdeal.Facts) (hMixKernel : Cert.MixKernel.Facts) (hMixKernelIdeal : Cert.MixKernelIdeal.Facts) (hMixReferenceIdeal : Cert.MixReferenceIdeal.Facts) (hAdamKernel : Cert.AdamKernel.Facts) (hAdamKernelIdeal : Cert.AdamKernelIdeal.Facts) (hAdamReferenceIdeal : Cert.AdamReferenceIdeal.Facts) (hNormKernel : Cert.NormKernel.Facts) (hNormKernelIdeal : Cert.NormKernelIdeal.Facts) (hNormReferenceIdeal : Cert.NormReferenceIdeal.Facts) (hMemKernel : Cert.MemKernel.Facts) (hMemKernelIdeal : Cert.MemKernelIdeal.Facts) (hMemReferenceIdeal : Cert.MemReferenceIdeal.Facts) (hConvKernel : Cert.ConvKernel.Facts) (hConvKernelIdeal : Cert.ConvKernelIdeal.Facts) (hConvReferenceIdeal : Cert.ConvReferenceIdeal.Facts) (hPre_scores_finite : Cert.Pre_scores_finite.Facts) (hPre_cotangent_finite : Cert.Pre_cotangent_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_ConvKernel (hConvKernel := hConvKernel)
    ∧ quiescent_ConvKernelIdeal (hConvKernelIdeal := hConvKernelIdeal)
    ∧ quiescent_ConvKernelIdeal_pre_cotangent_finite (hConvKernelIdeal := hConvKernelIdeal) (hPre_cotangent_finite := hPre_cotangent_finite)
    ∧ quiescent_ConvReferenceIdeal (hConvReferenceIdeal := hConvReferenceIdeal)
    ∧ quiescent_ConvReferenceIdeal_pre_cotangent_finite (hConvReferenceIdeal := hConvReferenceIdeal) (hPre_cotangent_finite := hPre_cotangent_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_MlpKernel_MlpKernelIdeal
    ∧ algebraic_MlpKernelIdeal_MlpReferenceIdeal (hMlpKernelIdeal := hMlpKernelIdeal) (hMlpReferenceIdeal := hMlpReferenceIdeal)
    ∧ preserves_InKernel_InKernelIdeal
    ∧ algebraic_InKernelIdeal_InReferenceIdeal (hInKernelIdeal := hInKernelIdeal) (hInReferenceIdeal := hInReferenceIdeal)
    ∧ preserves_MixKernel_MixKernelIdeal
    ∧ algebraic_MixKernelIdeal_MixReferenceIdeal (hMixKernelIdeal := hMixKernelIdeal) (hMixReferenceIdeal := hMixReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_NormKernel_NormKernelIdeal
    ∧ algebraic_NormKernelIdeal_NormReferenceIdeal (hNormKernelIdeal := hNormKernelIdeal) (hNormReferenceIdeal := hNormReferenceIdeal)
    ∧ preserves_MemKernel_MemKernelIdeal
    ∧ algebraic_MemKernelIdeal_MemReferenceIdeal (hMemKernelIdeal := hMemKernelIdeal) (hMemReferenceIdeal := hMemReferenceIdeal)
    ∧ preserves_ConvKernel_ConvKernelIdeal
    ∧ algebraic_ConvKernelIdeal_ConvReferenceIdeal_pre_cotangent_finite (hConvKernelIdeal := hConvKernelIdeal) (hConvReferenceIdeal := hConvReferenceIdeal) (hPre_cotangent_finite := hPre_cotangent_finite)
-- ==== Pre_cotangent_finite.lean ====
abbrev S4096x12288 : Shape := ⟨2, ![4096, 12288]⟩
abbrev S4x3072 : Shape := ⟨2, ![4, 3072]⟩
abbrev S1x3072 : Shape := ⟨2, ![1, 3072]⟩
abbrev S4096x3072 : Shape := ⟨2, ![4096, 3072]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel

variable [Facts]

def fn {F : FTy → Type} [FloatOps F] (main_arg0 : FVec F S4096x12288 .f32) (main_arg1 : FVec F S4x3072 .f32) (main_arg2 : FVec F S1x3072 .f32) (main_arg3 : FVec F S4096x3072 .f32) : IVec S_ 1 :=
  let main_v0 : FVec F S4096x3072 .f32 := Host.absf main_arg3
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  main_v3
-- ==== Pre_scores_finite.lean ====
abbrev S4096x12288 : Shape := ⟨2, ![4096, 12288]⟩
abbrev S256x2048 : Shape := ⟨2, ![256, 2048]⟩
abbrev S4096x1024 : Shape := ⟨2, ![4096, 1024]⟩
abbrev S256x1024 : Shape := ⟨2, ![256, 1024]⟩
abbrev S_ : Shape := ⟨0, ![]⟩

class Facts : Prop where
  slices_S4096x12288_S4096x1024_0_9216 : S4096x12288.Slices ![0, 9216] S4096x1024
  slices_S256x2048_S256x1024_0_0 : S256x2048.Slices ![0, 0] S256x1024
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S4096x12288 .f32) (main_arg1 : FVec F S256x2048 .f32) (main_arg2 : FVec F S4096x1024 .f32) : IVec S_ 1 :=
  let main_v0 : FVec F S4096x1024 .f32 := (extractStridedSlice S4096x1024 ![0, 9216] · slices_S4096x12288_S4096x1024_0_9216) main_arg0
  let main_v1 : FVec F S256x1024 .f32 := (extractStridedSlice S256x1024 ![0, 0] · slices_S256x2048_S256x1024_0_0) main_arg1
  let main_v2 : FVec F S4096x1024 .f32 := Host.absf main_v0
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_c : IVec S_ 1 := constantI S_ 1 1#1
  let main_v5 : IVec S_ 1 := (fun x v => Host.reduce IntOp.andi x v reducesTo_S4096x1024_S_d0_1 h_S_) main_v4 main_c
  let main_v6 : FVec F S256x1024 .f32 := Host.absf main_v1
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  let main_c_1 : IVec S_ 1 := constantI S_ 1 1#1
  let main_v9 : IVec S_ 1 := (fun x v => Host.reduce IntOp.andi x v reducesTo_S256x1024_S_d0_1 h_S_) main_v8 main_c_1
  let main_v10 : IVec S_ 1 := andi main_v5 main_v9
  main_v10
-- ==== Kernel.lean ====
abbrev S4096x12288 : Shape := ⟨2, ![4096, 12288]⟩
abbrev S256x2048 : Shape := ⟨2, ![256, 2048]⟩
abbrev S4096x1024 : Shape := ⟨2, ![4096, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x12288, .f32⟩
  | .hbm, ⟨1, _⟩ => ⟨S256x2048, .f32⟩
  | .hbm, ⟨2, _⟩ => ⟨S4096x1024, .f32⟩
  | .hbm, ⟨3, _⟩ => ⟨S4096x1024, .bf16⟩
  | .hbm, ⟨4, _⟩ => ⟨S256x2048, .f32⟩
  | .local _ .vmem, ⟨0, _⟩ => ⟨S512x1024, .f32⟩
  | .local _ .vmem, ⟨1, _⟩ => ⟨S512x1024, .f32⟩
  | .local _ .vmem, ⟨2, _⟩ => ⟨S256x2048, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x12288 : Shape := ⟨2, ![4096, 12288]⟩
abbrev S256x2048 : Shape := ⟨2, ![256, 2048]⟩
abbrev S4096x1024 : Shape := ⟨2, ![4096, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 85
  | .vmem => 0
  | .smem => 0
  | _ => 0

abbrev bufTy : (tb : Table) → Fin (tcTables nBuf tb) → BufTy
  | .hbm, ⟨0, _⟩ => ⟨S4096x12288, .f32⟩
  | .hbm, ⟨1, _⟩ => ⟨S256x2048, .f32⟩
  | .hbm, ⟨2, _⟩ => ⟨S4096x1024, .f32⟩
  | .hbm, ⟨3, _⟩ => ⟨S4096x1024, .f32⟩
  | .hbm, ⟨4, _⟩ => ⟨S256x1024, .f32⟩
  | .hbm, ⟨5, _⟩ => ⟨S256x1024, .f32⟩
  | .hbm, ⟨6, _⟩ => ⟨S4096x4x256, .f32⟩
  | .hbm, ⟨7, _⟩ => ⟨S256x4x256, .f32⟩
  | .hbm, ⟨8, _⟩ => ⟨S256x4x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x256, .f32⟩
  | .hbm, ⟨17, _⟩ => ⟨S4x4096x256, .i1⟩
  | .hbm, ⟨18, _⟩ => ⟨S4x4096x256, .f32⟩
  | .hbm, ⟨19, _⟩ => ⟨S_, .f32⟩
  | .hbm, ⟨20, _⟩ => ⟨S4x4096, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .i1⟩
  | .hbm, ⟨27, _⟩ => ⟨S_, .f32⟩
  | .hbm, ⟨28, _⟩ => ⟨S4x4096, .f32⟩
  | .hbm, ⟨29, _⟩ => ⟨S4x4096, .i1⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .f32⟩
  | .hbm, ⟨37, _⟩ => ⟨S4x4096, .f32⟩
  | .hbm, ⟨38, _⟩ => ⟨S4x4096x1, .f32⟩
  | .hbm, ⟨39, _⟩ => ⟨S4x4096x256, .f32⟩
  | .hbm, ⟨40, _⟩ => ⟨S4x4096x256, .f32⟩
  | .hbm, ⟨41, _⟩ => ⟨S4x4096x256, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S4x4096x256, .f32⟩
  | .hbm, ⟨46, _⟩ => ⟨S4x4096x256, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x256x4096, .f32⟩
  | .hbm, ⟨52, _⟩ => ⟨S4096x4x256, .f32⟩
  | .hbm, ⟨53, _⟩ => ⟨S4096x1024, .f32⟩
  | .hbm, ⟨54, _⟩ => ⟨S4096x4x256, .f32⟩
  | .hbm, ⟨55, _⟩ => ⟨S4x256x4096, .f32⟩
  | .hbm, ⟨56, _⟩ => ⟨S4x4096x256, .f32⟩
  | .hbm, ⟨57, _⟩ => ⟨S4x256x256, .f32⟩
  | .hbm, ⟨58, _⟩ => ⟨S256x4x256, .f32⟩
  | .hbm, ⟨59, _⟩ => ⟨S4x4096x256, .f32⟩
  | .hbm, ⟨60, _⟩ => ⟨S4x4096x256, .f32⟩
  | .hbm, ⟨61, _⟩ => ⟨S4x4096x256, .f32⟩
  | .hbm, ⟨62, _⟩ => ⟨S_, .f32⟩
  | .hbm, ⟨63, _⟩ => ⟨S4x4096, .f32⟩
  | .hbm, ⟨64, _⟩ => ⟨S4x4096x1, .f32⟩
  | .hbm, ⟨65, _⟩ => ⟨S4x4096x1, .f32⟩
  | .hbm, ⟨66, _⟩ => ⟨S4x4096x256, .f32⟩
  | .hbm, ⟨67, _⟩ => ⟨S4x4096x256, .f32⟩
  | .hbm, ⟨68, _⟩ => ⟨S_, .f32⟩
  | .hbm, ⟨69, _⟩ => ⟨S4x4096, .f32⟩
  | .hbm, ⟨70, _⟩ => ⟨S4x4096x256, .f32⟩
  | .hbm, ⟨71, _⟩ => ⟨S4x4096x256, .f32⟩
  | .hbm, ⟨72, _⟩ => ⟨S4x4096x256, .f32⟩
  | .hbm, ⟨73, _⟩ => ⟨S_, .f32⟩
  | .hbm, ⟨74, _⟩ => ⟨S4x4096x256, .f32⟩
  | .hbm, ⟨75, _⟩ => ⟨S4x4096x256, .f32⟩
  | .hbm, ⟨76, _⟩ => ⟨S4x256x256, .f32⟩
  | .hbm, ⟨77, _⟩ => ⟨S256x4x256, .f32⟩
  | .hbm, ⟨78, _⟩ => ⟨S4x4096x256, .f32⟩
  | .hbm, ⟨79, _⟩ => ⟨S4096x4x256, .f32⟩
  | .hbm, ⟨80, _⟩ => ⟨S256x1024, .f32⟩
  | .hbm, ⟨81, _⟩ => ⟨S256x1024, .f32⟩
  | .hbm, ⟨82, _⟩ => ⟨S4096x1024, .f32⟩
  | .hbm, ⟨83, _⟩ => ⟨S256x2048, .f32⟩
  | .hbm, ⟨84, _⟩ => ⟨S4096x1024, .bf16⟩
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== MlpKernel.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 11
  | .vmem => 36
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x4096, .f32⟩
  | .hbm, ⟨5, _⟩ => ⟨S4096x4096, .bf16⟩
  | .hbm, ⟨6, _⟩ => ⟨S4096x1024, .f32⟩
  | .hbm, ⟨7, _⟩ => ⟨S4096x4096, .bf16⟩
  | .hbm, ⟨8, _⟩ => ⟨S4096x1024, .f32⟩
  | .hbm, ⟨9, _⟩ => ⟨S4096x1024, .f32⟩
  | .hbm, ⟨10, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x4096, .bf16⟩
  | .local _ .vmem, ⟨9, _⟩ => ⟨S1024x4096, .bf16⟩
  | .local _ .vmem, ⟨10, _⟩ => ⟨S4096x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .bf16⟩
  | .local _ .vmem, ⟨21, _⟩ => ⟨S4096x1024, .bf16⟩
  | .local _ .vmem, ⟨22, _⟩ => ⟨S4096x1024, .bf16⟩
  | .local _ .vmem, ⟨23, _⟩ => ⟨S4096x1024, .bf16⟩
  | .local _ .vmem, ⟨24, _⟩ => ⟨S1024x1024, .f32⟩
  | .local _ .vmem, ⟨25, _⟩ => ⟨S1024x1024, .f32⟩
  | .local _ .vmem, ⟨26, _⟩ => ⟨S1024x4096, .bf16⟩
  | .local _ .vmem, ⟨27, _⟩ => ⟨S1024x4096, .bf16⟩
  | .local _ .vmem, ⟨28, _⟩ => ⟨S1024x4096, .bf16⟩
  | .local _ .vmem, ⟨29, _⟩ => ⟨S1024x1024, .f32⟩
  | .local _ .vmem, ⟨30, _⟩ => ⟨S1024x1024, .f32⟩
  | .local _ .vmem, ⟨31, _⟩ => ⟨S4096x1024, .bf16⟩
  | .local _ .vmem, ⟨32, _⟩ => ⟨S4096x1024, .bf16⟩
  | .local _ .vmem, ⟨33, _⟩ => ⟨S4096x1024, .bf16⟩
  | .local _ .vmem, ⟨34, _⟩ => ⟨S1024x1024, .f32⟩
  | .local _ .vmem, ⟨35, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![4, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S1024x4096 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== MlpReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4096x1024, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x1024, .f32⟩
  | .hbm, ⟨22, _⟩ => ⟨S1024x4096, .f32⟩
  | .hbm, ⟨23, _⟩ => ⟨S4096x1024, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x1024, .f32⟩
  | .hbm, ⟨30, _⟩ => ⟨S1024x4096, .f32⟩
  | .hbm, ⟨31, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== InKernel.lean ====
abbrev S4096x1024 : Shape := ⟨2, ![4096, 1024]⟩
abbrev S1024x12288 : Shape := ⟨2, ![1024, 12288]⟩
abbrev S1024x128 : Shape := ⟨2, ![1024, 128]⟩
abbrev S4096x3072 : Shape := ⟨2, ![4096, 3072]⟩
abbrev S4096x2048 : Shape := ⟨2, ![4096, 2048]⟩
abbrev S4096x128 : Shape := ⟨2, ![4096, 128]⟩
abbrev S4096x12288 : Shape := ⟨2, ![4096, 12288]⟩
abbrev S1024x1024 : Shape := ⟨2, ![1024, 1024]⟩
abbrev S1024x4096 : Shape := ⟨2, ![1024, 4096]⟩
abbrev S512x4096 : Shape := ⟨2, ![512, 4096]⟩
abbrev S512x1024 : Shape := ⟨2, ![512, 1024]⟩
abbrev S1024x3072 : Shape := ⟨2, ![1024, 3072]⟩
abbrev S1024x2048 : Shape := ⟨2, ![1024, 2048]⟩
abbrev S512x128 : Shape := ⟨2, ![512, 128]⟩
abbrev S512x3072 : Shape := ⟨2, ![512, 3072]⟩
abbrev S512x2048 : Shape := ⟨2, ![512, 2048]⟩
abbrev S256x12288 : Shape := ⟨2, ![256, 12288]⟩
abbrev S512x256 : Shape := ⟨2, ![512, 256]⟩
abbrev S256x1024 : Shape := ⟨2, ![256, 1024]⟩
abbrev S256x3072 : Shape := ⟨2, ![256, 3072]⟩
abbrev S256x2048 : Shape := ⟨2, ![256, 2048]⟩

abbrev nBuf : Space → Nat
  | .hbm => 24
  | .vmem => 79
  | .smem => 0
  | _ => 0

abbrev bufTy : (tb : Table) → Fin (tcTables nBuf tb) → BufTy
  | .hbm, ⟨0, _⟩ => ⟨S4096x1024, .bf16⟩
  | .hbm, ⟨1, _⟩ => ⟨S1024x12288, .bf16⟩
  | .hbm, ⟨2, _⟩ => ⟨S1024x128, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x3072, .bf16⟩
  | .hbm, ⟨7, _⟩ => ⟨S4096x3072, .bf16⟩
  | .hbm, ⟨8, _⟩ => ⟨S4096x1024, .bf16⟩
  | .hbm, ⟨9, _⟩ => ⟨S4096x2048, .bf16⟩
  | .hbm, ⟨10, _⟩ => ⟨S4096x128, .bf16⟩
  | .hbm, ⟨11, _⟩ => ⟨S4096x12288, .f32⟩
  | .hbm, ⟨12, _⟩ => ⟨S4096x128, .f32⟩
  | .hbm, ⟨13, _⟩ => ⟨S1024x4096, .bf16⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x3072, .f32⟩
  | .hbm, ⟨18, _⟩ => ⟨S1024x3072, .f32⟩
  | .hbm, ⟨19, _⟩ => ⟨S1024x1024, .f32⟩
  | .hbm, ⟨20, _⟩ => ⟨S1024x2048, .f32⟩
  | .hbm, ⟨21, _⟩ => ⟨S1024x128, .f32⟩
  | .hbm, ⟨22, _⟩ => ⟨S4096x1024, .f32⟩
  | .hbm, ⟨23, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x128, .bf16⟩
  | .local _ .vmem, ⟨9, _⟩ => ⟨S1024x128, .f32⟩
  | .local _ .vmem, ⟨10, _⟩ => ⟨S1024x128, .f32⟩
  | .local _ .vmem, ⟨11, _⟩ => ⟨S512x4096, .bf16⟩
  | .local _ .vmem, ⟨12, _⟩ => ⟨S512x4096, .bf16⟩
  | .local _ .vmem, ⟨13, _⟩ => ⟨S4096x1024, .bf16⟩
  | .local _ .vmem, ⟨14, _⟩ => ⟨S512x1024, .f32⟩
  | .local _ .vmem, ⟨15, _⟩ => ⟨S512x1024, .f32⟩
  | .local _ .vmem, ⟨16, _⟩ => ⟨S512x4096, .bf16⟩
  | .local _ .vmem, ⟨17, _⟩ => ⟨S512x4096, .bf16⟩
  | .local _ .vmem, ⟨18, _⟩ => ⟨S4096x1024, .bf16⟩
  | .local _ .vmem, ⟨19, _⟩ => ⟨S512x1024, .f32⟩
  | .local _ .vmem, ⟨20, _⟩ => ⟨S512x1024, .f32⟩
  | .local _ .vmem, ⟨21, _⟩ => ⟨S512x4096, .bf16⟩
  | .local _ .vmem, ⟨22, _⟩ => ⟨S512x4096, .bf16⟩
  | .local _ .vmem, ⟨23, _⟩ => ⟨S4096x1024, .bf16⟩
  | .local _ .vmem, ⟨24, _⟩ => ⟨S512x1024, .f32⟩
  | .local _ .vmem, ⟨25, _⟩ => ⟨S512x1024, .f32⟩
  | .local _ .vmem, ⟨26, _⟩ => ⟨S512x4096, .bf16⟩
  | .local _ .vmem, ⟨27, _⟩ => ⟨S512x4096, .bf16⟩
  | .local _ .vmem, ⟨28, _⟩ => ⟨S4096x1024, .bf16⟩
  | .local _ .vmem, ⟨29, _⟩ => ⟨S4096x1024, .bf16⟩
  | .local _ .vmem, ⟨30, _⟩ => ⟨S512x1024, .f32⟩
  | .local _ .vmem, ⟨31, _⟩ => ⟨S512x1024, .f32⟩
  | .local _ .vmem, ⟨32, _⟩ => ⟨S512x4096, .bf16⟩
  | .local _ .vmem, ⟨33, _⟩ => ⟨S512x4096, .bf16⟩
  | .local _ .vmem, ⟨34, _⟩ => ⟨S4096x1024, .bf16⟩
  | .local _ .vmem, ⟨35, _⟩ => ⟨S4096x1024, .bf16⟩
  | .local _ .vmem, ⟨36, _⟩ => ⟨S512x1024, .f32⟩
  | .local _ .vmem, ⟨37, _⟩ => ⟨S512x1024, .f32⟩
  | .local _ .vmem, ⟨38, _⟩ => ⟨S512x4096, .bf16⟩
  | .local _ .vmem, ⟨39, _⟩ => ⟨S512x4096, .bf16⟩
  | .local _ .vmem, ⟨40, _⟩ => ⟨S4096x1024, .bf16⟩
  | .local _ .vmem, ⟨41, _⟩ => ⟨S512x1024, .f32⟩
  | .local _ .vmem, ⟨42, _⟩ => ⟨S512x1024, .f32⟩
  | .local _ .vmem, ⟨43, _⟩ => ⟨S512x4096, .bf16⟩
  | .local _ .vmem, ⟨44, _⟩ => ⟨S512x4096, .bf16⟩
  | .local _ .vmem, ⟨45, _⟩ => ⟨S4096x1024, .bf16⟩
  | .local _ .vmem, ⟨46, _⟩ => ⟨S4096x1024, .bf16⟩
  | .local _ .vmem, ⟨47, _⟩ => ⟨S512x1024, .f32⟩
  | .local _ .vmem, ⟨48, _⟩ => ⟨S512x1024, .f32⟩
  | .local _ .vmem, ⟨49, _⟩ => ⟨S512x4096, .bf16⟩
  | .local _ .vmem, ⟨50, _⟩ => ⟨S512x4096, .bf16⟩
  | .local _ .vmem, ⟨51, _⟩ => ⟨S4096x128, .bf16⟩
  | .local _ .vmem, ⟨52, _⟩ => ⟨S512x128, .f32⟩
  | .local _ .vmem, ⟨53, _⟩ => ⟨S512x128, .f32⟩
  | .local _ .vmem, ⟨54, _⟩ => ⟨S1024x128, .bf16⟩
  | .local _ .vmem, ⟨55, _⟩ => ⟨S1024x128, .bf16⟩
  | .local _ .vmem, ⟨56, _⟩ => ⟨S1024x128, .bf16⟩
  | .local _ .vmem, ⟨57, _⟩ => ⟨S1024x1024, .f32⟩
  | .local _ .vmem, ⟨58, _⟩ => ⟨S1024x1024, .f32⟩
  | .local _ .vmem, ⟨59, _⟩ => ⟨S512x1024, .bf16⟩
  | .local _ .vmem, ⟨60, _⟩ => ⟨S512x1024, .bf16⟩
  | .local _ .vmem, ⟨61, _⟩ => ⟨S512x1024, .bf16⟩
  | .local _ .vmem, ⟨62, _⟩ => ⟨S512x1024, .bf16⟩
  | .local _ .vmem, ⟨63, _⟩ => ⟨S512x1024, .bf16⟩
  | .local _ .vmem, ⟨64, _⟩ => ⟨S512x1024, .bf16⟩
  | .local _ .vmem, ⟨65, _⟩ => ⟨S512x3072, .bf16⟩
  | .local _ .vmem, ⟨66, _⟩ => ⟨S512x3072, .bf16⟩
  | .local _ .vmem, ⟨67, _⟩ => ⟨S512x3072, .bf16⟩
  | .local _ .vmem, ⟨68, _⟩ => ⟨S512x3072, .bf16⟩
  | .local _ .vmem, ⟨69, _⟩ => ⟨S512x1024, .bf16⟩
  | .local _ .vmem, ⟨70, _⟩ => ⟨S512x1024, .bf16⟩
  | .local _ .vmem, ⟨71, _⟩ => ⟨S512x2048, .bf16⟩
  | .local _ .vmem, ⟨72, _⟩ => ⟨S512x2048, .bf16⟩
  | .local _ .vmem, ⟨73, _⟩ => ⟨S256x12288, .bf16⟩
  | .local _ .vmem, ⟨74, _⟩ => ⟨S256x12288, .bf16⟩
  | .local _ .vmem, ⟨75, _⟩ => ⟨S512x256, .f32⟩
  | .local _ .vmem, ⟨76, _⟩ => ⟨S512x256, .f32⟩
  | .local _ .vmem, ⟨77, _⟩ => ⟨S512x256, .f32⟩
  | .local _ .vmem, ⟨78, _⟩ => ⟨S512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_stg2_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg1_1 : Ref sig .tc := ⟨.vmem, 46, rfl⟩
abbrev cc8_stg2_0 : Ref sig .tc := ⟨.vmem, 47, rfl⟩
abbrev cc8_stg2_1 : Ref sig .tc := ⟨.vmem, 48, rfl⟩
abbrev cc9_stg0_0 : Ref sig .tc := ⟨.vmem, 49, rfl⟩
abbrev cc9_stg0_1 : Ref sig .tc := ⟨.vmem, 50, rfl⟩
abbrev cc9_stg1_0 : Ref sig .tc := ⟨.vmem, 51, rfl⟩
abbrev cc9_stg2_0 : Ref sig .tc := ⟨.vmem, 52, rfl⟩
abbrev cc9_stg2_1 : Ref sig .tc := ⟨.vmem, 53, rfl⟩
abbrev cc10_stg0_0 : Ref sig .tc := ⟨.vmem, 54, rfl⟩
abbrev cc10_stg0_1 : Ref sig .tc := ⟨.vmem, 55, rfl⟩
abbrev cc10_stg1_0 : Ref sig .tc := ⟨.vmem, 56, rfl⟩
abbrev cc10_stg2_0 : Ref sig .tc := ⟨.vmem, 57, rfl⟩
abbrev cc10_stg2_1 : Ref sig .tc := ⟨.vmem, 58, rfl⟩
abbrev cc11_stg0_0 : Ref sig .tc := ⟨.vmem, 59, rfl⟩
abbrev cc11_stg0_1 : Ref sig .tc := ⟨.vmem, 60, rfl⟩
abbrev cc11_stg1_0 : Ref sig .tc := ⟨.vmem, 61, rfl⟩
abbrev cc11_stg1_1 : Ref sig .tc := ⟨.vmem, 62, rfl⟩
abbrev cc11_stg2_0 : Ref sig .tc := ⟨.vmem, 63, rfl⟩
abbrev cc11_stg2_1 : Ref sig .tc := ⟨.vmem, 64, rfl⟩
abbrev cc11_stg3_0 : Ref sig .tc := ⟨.vmem, 65, rfl⟩
abbrev cc11_stg3_1 : Ref sig .tc := ⟨.vmem, 66, rfl⟩
abbrev cc11_stg4_0 : Ref sig .tc := ⟨.vmem, 67, rfl⟩
abbrev cc11_stg4_1 : Ref sig .tc := ⟨.vmem, 68, rfl⟩
abbrev cc11_stg5_0 : Ref sig .tc := ⟨.vmem, 69, rfl⟩
abbrev cc11_stg5_1 : Ref sig .tc := ⟨.vmem, 70, rfl⟩
abbrev cc11_stg6_0 : Ref sig .tc := ⟨.vmem, 71, rfl⟩
abbrev cc11_stg6_1 : Ref sig .tc := ⟨.vmem, 72, rfl⟩
abbrev cc11_stg7_0 : Ref sig .tc := ⟨.vmem, 73, rfl⟩
abbrev cc11_stg7_1 : Ref sig .tc := ⟨.vmem, 74, rfl⟩
abbrev cc11_stg8_0 : Ref sig .tc := ⟨.vmem, 75, rfl⟩
abbrev cc11_stg8_1 : Ref sig .tc := ⟨.vmem, 76, rfl⟩
abbrev cc11_stg9_0 : Ref sig .tc := ⟨.vmem, 77, rfl⟩
abbrev cc11_stg9_1 : Ref sig .tc := ⟨.vmem, 78, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem1_1 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem1_1 : DmaSem sig := 46
abbrev cc8_sem2_0 : DmaSem sig := 47
abbrev cc8_sem2_1 : DmaSem sig := 48
abbrev cc9_sem0_0 : DmaSem sig := 49
abbrev cc9_sem0_1 : DmaSem sig := 50
abbrev cc9_sem1_0 : DmaSem sig := 51
abbrev cc9_sem2_0 : DmaSem sig := 52
abbrev cc9_sem2_1 : DmaSem sig := 53
abbrev cc10_sem0_0 : DmaSem sig := 54
abbrev cc10_sem0_1 : DmaSem sig := 55
abbrev cc10_sem1_0 : DmaSem sig := 56
abbrev cc10_sem2_0 : DmaSem sig := 57
abbrev cc10_sem2_1 : DmaSem sig := 58
abbrev cc11_sem0_0 : DmaSem sig := 59
abbrev cc11_sem0_1 : DmaSem sig := 60
abbrev cc11_sem1_0 : DmaSem sig := 61
abbrev cc11_sem1_1 : DmaSem sig := 62
abbrev cc11_sem2_0 : DmaSem sig := 63
abbrev cc11_sem2_1 : DmaSem sig := 64
abbrev cc11_sem3_0 : DmaSem sig := 65
abbrev cc11_sem3_1 : DmaSem sig := 66
abbrev cc11_sem4_0 : DmaSem sig := 67
abbrev cc11_sem4_1 : DmaSem sig := 68
abbrev cc11_sem5_0 : DmaSem sig := 69
abbrev cc11_sem5_1 : DmaSem sig := 70
abbrev cc11_sem6_0 : DmaSem sig := 71
abbrev cc11_sem6_1 : DmaSem sig := 72
abbrev cc11_sem7_0 : DmaSem sig := 73
abbrev cc11_sem7_1 : DmaSem sig := 74
abbrev cc11_sem8_0 : DmaSem sig := 75
abbrev cc11_sem8_1 : DmaSem sig := 76
abbrev cc11_sem9_0 : DmaSem sig := 77
abbrev cc11_sem9_1 : DmaSem sig := 78

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 3], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![2, 3], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S512x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![2, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S512x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S4096x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 2 → Memref sig .tc .vmem S512x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![2, 2], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S512x4096 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S4096x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S512x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![2, 1], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S512x4096 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 1 → Memref sig .tc .vmem S4096x128 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 2 → Memref sig .tc .vmem S512x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨2, ![4, 1], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S1024x128 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 1 → Memref sig .tc .vmem S1024x128 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true]

abbrev stage10_2 : Fin 2 → Memref sig .tc .vmem S1024x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨2, ![8, 4], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_7 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_8 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_9 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 2 → Memref sig .tc .vmem S512x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false]

abbrev stage11_1 : Fin 2 → Memref sig .tc .vmem S512x1024 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true, false]

abbrev stage11_2 : Fin 2 → Memref sig .tc .vmem S512x1024 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, false]

abbrev stage11_3 : Fin 2 → Memref sig .tc .vmem S512x3072 .bf16 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, false]

abbrev stage11_4 : Fin 2 → Memref sig .tc .vmem S512x3072 .bf16 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true, false]

abbrev stage11_5 : Fin 2 → Memref sig .tc .vmem S512x1024 .bf16 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true, false]

abbrev stage11_6 : Fin 2 → Memref sig .tc .vmem S512x2048 .bf16 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true, false]

abbrev stage11_7 : Fin 2 → Memref sig .tc .vmem S256x12288 .bf16 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![false, true]

abbrev stage11_8 : Fin 2 → Memref sig .tc .vmem S512x256 .f32 := fun | 0 => Memref.whole cc11_stg8_0 | 1 => Memref.whole cc11_stg8_1 | ⟨_ + 2, h⟩ => absurd h (Nat.not_lt.2 (Nat.le_add_left _ _))
abbrev sem11_8 : Fin 2 → DmaSem sig := fun | 0 => cc11_sem8_0 | 1 => cc11_sem8_1 | ⟨_ + 2, h⟩ => absurd h (Nat.not_lt.2 (Nat.le_add_left _ _))
abbrev reads11_8 : Fin grid11.rank → Bool := ![true, true]

abbrev stage11_9 : Fin 2 → Memref sig .tc .vmem S512x256 .f32 := fun | 0 => Memref.whole cc11_stg9_0 | 1 => Memref.whole cc11_stg9_1 | ⟨_ + 2, h⟩ => absurd h (Nat.not_lt.2 (Nat.le_add_left _ _))
abbrev sem11_9 : Fin 2 → DmaSem sig := fun | 0 => cc11_sem9_0 | 1 => cc11_sem9_1 | ⟨_ + 2, h⟩ => absurd h (Nat.not_lt.2 (Nat.le_add_left _ _))
abbrev reads11_9 : Fin grid11.rank → Bool := ![true, true]
-- ==== InReferenceIdeal.lean ====
abbrev S4096x1024 : Shape := ⟨2, ![4096, 1024]⟩
abbrev S1024x12288 : Shape := ⟨2, ![1024, 12288]⟩
abbrev S1024x128 : Shape := ⟨2, ![1024, 128]⟩
abbrev S4096x3072 : Shape := ⟨2, ![4096, 3072]⟩
abbrev S4096x2048 : Shape := ⟨2, ![4096, 2048]⟩
abbrev S4096x128 : Shape := ⟨2, ![4096, 128]⟩
abbrev S1024x1024 : Shape := ⟨2, ![1024, 1024]⟩
abbrev S1024x3072 : Shape := ⟨2, ![1024, 3072]⟩
abbrev S1024x2048 : Shape := ⟨2, ![1024, 2048]⟩
abbrev S4096x12288 : Shape := ⟨2, ![4096, 12288]⟩
abbrev S128x1024 : Shape := ⟨2, ![128, 1024]⟩
abbrev S2048x1024 : Shape := ⟨2, ![2048, 1024]⟩
abbrev S3072x1024 : Shape := ⟨2, ![3072, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x12288, .bf16⟩
  | .hbm, ⟨2, _⟩ => ⟨S1024x128, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x3072, .bf16⟩
  | .hbm, ⟨7, _⟩ => ⟨S4096x3072, .bf16⟩
  | .hbm, ⟨8, _⟩ => ⟨S4096x1024, .bf16⟩
  | .hbm, ⟨9, _⟩ => ⟨S4096x2048, .bf16⟩
  | .hbm, ⟨10, _⟩ => ⟨S4096x128, .bf16⟩
  | .hbm, ⟨11, _⟩ => ⟨S4096x1024, .f32⟩
  | .hbm, ⟨12, _⟩ => ⟨S1024x12288, .f32⟩
  | .hbm, ⟨13, _⟩ => ⟨S1024x128, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x3072, .f32⟩
  | .hbm, ⟨18, _⟩ => ⟨S4096x3072, .f32⟩
  | .hbm, ⟨19, _⟩ => ⟨S4096x1024, .f32⟩
  | .hbm, ⟨20, _⟩ => ⟨S4096x2048, .f32⟩
  | .hbm, ⟨21, _⟩ => ⟨S4096x128, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x3072, .f32⟩
  | .hbm, ⟨26, _⟩ => ⟨S1024x3072, .f32⟩
  | .hbm, ⟨27, _⟩ => ⟨S1024x1024, .f32⟩
  | .hbm, ⟨28, _⟩ => ⟨S1024x2048, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x3072, .f32⟩
  | .hbm, ⟨33, _⟩ => ⟨S4096x3072, .f32⟩
  | .hbm, ⟨34, _⟩ => ⟨S4096x1024, .f32⟩
  | .hbm, ⟨35, _⟩ => ⟨S4096x2048, .f32⟩
  | .hbm, ⟨36, _⟩ => ⟨S4096x128, .f32⟩
  | .hbm, ⟨37, _⟩ => ⟨S4096x12288, .f32⟩
  | .hbm, ⟨38, _⟩ => ⟨S4096x128, .f32⟩
  | .hbm, ⟨39, _⟩ => ⟨S128x1024, .f32⟩
  | .hbm, ⟨40, _⟩ => ⟨S1024x128, .f32⟩
  | .hbm, ⟨41, _⟩ => ⟨S4096x1024, .f32⟩
  | .hbm, ⟨42, _⟩ => ⟨S2048x1024, .f32⟩
  | .hbm, ⟨43, _⟩ => ⟨S1024x2048, .f32⟩
  | .hbm, ⟨44, _⟩ => ⟨S4096x1024, .f32⟩
  | .hbm, ⟨45, _⟩ => ⟨S4096x1024, .f32⟩
  | .hbm, ⟨46, _⟩ => ⟨S1024x1024, .f32⟩
  | .hbm, ⟨47, _⟩ => ⟨S1024x1024, .f32⟩
  | .hbm, ⟨48, _⟩ => ⟨S4096x1024, .f32⟩
  | .hbm, ⟨49, _⟩ => ⟨S4096x1024, .f32⟩
  | .hbm, ⟨50, _⟩ => ⟨S3072x1024, .f32⟩
  | .hbm, ⟨51, _⟩ => ⟨S1024x3072, .f32⟩
  | .hbm, ⟨52, _⟩ => ⟨S4096x1024, .f32⟩
  | .hbm, ⟨53, _⟩ => ⟨S4096x1024, .f32⟩
  | .hbm, ⟨54, _⟩ => ⟨S3072x1024, .f32⟩
  | .hbm, ⟨55, _⟩ => ⟨S1024x3072, .f32⟩
  | .hbm, ⟨56, _⟩ => ⟨S4096x1024, .f32⟩
  | .hbm, ⟨57, _⟩ => ⟨S4096x1024, .f32⟩
  | .hbm, ⟨58, _⟩ => ⟨S1024x1024, .f32⟩
  | .hbm, ⟨59, _⟩ => ⟨S1024x1024, .f32⟩
  | .hbm, ⟨60, _⟩ => ⟨S4096x1024, .f32⟩
  | .hbm, ⟨61, _⟩ => ⟨S4096x1024, .f32⟩
  | .hbm, ⟨62, _⟩ => ⟨S1024x1024, .f32⟩
  | .hbm, ⟨63, _⟩ => ⟨S1024x1024, .f32⟩
  | .hbm, ⟨64, _⟩ => ⟨S4096x1024, .f32⟩
  | .hbm, ⟨65, _⟩ => ⟨S4096x1024, .f32⟩
  | .hbm, ⟨66, _⟩ => ⟨S1024x1024, .f32⟩
  | .hbm, ⟨67, _⟩ => ⟨S1024x1024, .f32⟩
  | .hbm, ⟨68, _⟩ => ⟨S4096x1024, .f32⟩
  | .hbm, ⟨69, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩

abbrev nD : Nat := 1
abbrev τ : Topo := Topo.v7x

variable {F : FTy → Type} [FloatOps F]
-- ==== MixKernel.lean ====
abbrev S4096x12288 : Shape := ⟨2, ![4096, 12288]⟩
abbrev S4096x1024 : Shape := ⟨2, ![4096, 1024]⟩
abbrev S4096x2048 : Shape := ⟨2, ![4096, 2048]⟩
abbrev S1024x1024 : Shape := ⟨2, ![1024, 1024]⟩
abbrev S2048x1024 : Shape := ⟨2, ![2048, 1024]⟩
abbrev S1024x2048 : Shape := ⟨2, ![1024, 2048]⟩
abbrev S512x3072 : Shape := ⟨2, ![512, 3072]⟩
abbrev S512x1024 : Shape := ⟨2, ![512, 1024]⟩
abbrev S4096x3072 : Shape := ⟨2, ![4096, 3072]⟩

abbrev nBuf : Space → Nat
  | .hbm => 26
  | .vmem => 83
  | .smem => 0
  | _ => 0

abbrev bufTy : (tb : Table) → Fin (tcTables nBuf tb) → BufTy
  | .hbm, ⟨0, _⟩ => ⟨S4096x12288, .f32⟩
  | .hbm, ⟨1, _⟩ => ⟨S4096x1024, .bf16⟩
  | .hbm, ⟨2, _⟩ => ⟨S4096x2048, .bf16⟩
  | .hbm, ⟨3, _⟩ => ⟨S4096x1024, .bf16⟩
  | .hbm, ⟨4, _⟩ => ⟨S1024x1024, .bf16⟩
  | .hbm, ⟨5, _⟩ => ⟨S2048x1024, .bf16⟩
  | .hbm, ⟨6, _⟩ => ⟨S1024x1024, .bf16⟩
  | .hbm, ⟨7, _⟩ => ⟨S1024x1024, .bf16⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .f32⟩
  | .hbm, ⟨15, _⟩ => ⟨S1024x1024, .f32⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x3072, .bf16⟩
  | .hbm, ⟨20, _⟩ => ⟨S4096x1024, .f32⟩
  | .hbm, ⟨21, _⟩ => ⟨S1024x1024, .f32⟩
  | .hbm, ⟨22, _⟩ => ⟨S4096x2048, .f32⟩
  | .hbm, ⟨23, _⟩ => ⟨S2048x1024, .f32⟩
  | .hbm, ⟨24, _⟩ => ⟨S4096x1024, .f32⟩
  | .hbm, ⟨25, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S512x3072, .f32⟩
  | .local _ .vmem, ⟨16, _⟩ => ⟨S512x3072, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .f32⟩
  | .local _ .vmem, ⟨29, _⟩ => ⟨S1024x1024, .f32⟩
  | .local _ .vmem, ⟨30, _⟩ => ⟨S1024x1024, .bf16⟩
  | .local _ .vmem, ⟨31, _⟩ => ⟨S1024x1024, .bf16⟩
  | .local _ .vmem, ⟨32, _⟩ => ⟨S1024x1024, .bf16⟩
  | .local _ .vmem, ⟨33, _⟩ => ⟨S1024x1024, .f32⟩
  | .local _ .vmem, ⟨34, _⟩ => ⟨S1024x1024, .f32⟩
  | .local _ .vmem, ⟨35, _⟩ => ⟨S4096x1024, .bf16⟩
  | .local _ .vmem, ⟨36, _⟩ => ⟨S4096x1024, .bf16⟩
  | .local _ .vmem, ⟨37, _⟩ => ⟨S1024x1024, .f32⟩
  | .local _ .vmem, ⟨38, _⟩ => ⟨S512x3072, .f32⟩
  | .local _ .vmem, ⟨39, _⟩ => ⟨S512x3072, .f32⟩
  | .local _ .vmem, ⟨40, _⟩ => ⟨S512x1024, .f32⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | .local _ .vmem, ⟨48, _⟩ => ⟨S512x1024, .bf16⟩
  | .local _ .vmem, ⟨49, _⟩ => ⟨S512x1024, .bf16⟩
  | .local _ .vmem, ⟨50, _⟩ => ⟨S512x1024, .bf16⟩
  | .local _ .vmem, ⟨51, _⟩ => ⟨S512x1024, .bf16⟩
  | .local _ .vmem, ⟨52, _⟩ => ⟨S512x1024, .bf16⟩
  | .local _ .vmem, ⟨53, _⟩ => ⟨S512x1024, .bf16⟩
  | .local _ .vmem, ⟨54, _⟩ => ⟨S512x3072, .bf16⟩
  | .local _ .vmem, ⟨55, _⟩ => ⟨S512x3072, .bf16⟩
  | .local _ .vmem, ⟨56, _⟩ => ⟨S1024x1024, .bf16⟩
  | .local _ .vmem, ⟨57, _⟩ => ⟨S1024x1024, .bf16⟩
  | .local _ .vmem, ⟨58, _⟩ => ⟨S1024x1024, .bf16⟩
  | .local _ .vmem, ⟨59, _⟩ => ⟨S1024x1024, .f32⟩
  | .local _ .vmem, ⟨60, _⟩ => ⟨S1024x1024, .f32⟩
  | .local _ .vmem, ⟨61, _⟩ => ⟨S4096x1024, .bf16⟩
  | .local _ .vmem, ⟨62, _⟩ => ⟨S4096x1024, .bf16⟩
  | .local _ .vmem, ⟨63, _⟩ => ⟨S1024x1024, .f32⟩
  | .local _ .vmem, ⟨64, _⟩ => ⟨S1024x1024, .bf16⟩
  | .local _ .vmem, ⟨65, _⟩ => ⟨S1024x1024, .bf16⟩
  | .local _ .vmem, ⟨66, _⟩ => ⟨S1024x1024, .bf16⟩
  | .local _ .vmem, ⟨67, _⟩ => ⟨S1024x1024, .bf16⟩
  | .local _ .vmem, ⟨68, _⟩ => ⟨S1024x1024, .f32⟩
  | .local _ .vmem, ⟨69, _⟩ => ⟨S1024x1024, .f32⟩
  | .local _ .vmem, ⟨70, _⟩ => ⟨S4096x1024, .bf16⟩
  | .local _ .vmem, ⟨71, _⟩ => ⟨S4096x1024, .bf16⟩
  | .local _ .vmem, ⟨72, _⟩ => ⟨S4096x1024, .bf16⟩
  | .local _ .vmem, ⟨73, _⟩ => ⟨S1024x1024, .f32⟩
  | .local _ .vmem, ⟨74, _⟩ => ⟨S1024x1024, .f32⟩
  | .local _ .vmem, ⟨75, _⟩ => ⟨S1024x1024, .bf16⟩
  | .local _ .vmem, ⟨76, _⟩ => ⟨S1024x1024, .bf16⟩
  | .local _ .vmem, ⟨77, _⟩ => ⟨S1024x1024, .bf16⟩
  | .local _ .vmem, ⟨78, _⟩ => ⟨S1024x1024, .f32⟩
  | .local _ .vmem, ⟨79, _⟩ => ⟨S1024x1024, .f32⟩
  | .local _ .vmem, ⟨80, _⟩ => ⟨S4096x1024, .bf16⟩
  | .local _ .vmem, ⟨81, _⟩ => ⟨S4096x1024, .bf16⟩
  | .local _ .vmem, ⟨82, _⟩ => ⟨S1024x1024, .f32⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | _, _ => false

abbrev semScoped : Fin 0 → Bool
  | ⟨_, h⟩ => absurd h (Nat.not_lt_zero _)

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  ofTc nBuf bufTy 0 83 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg1_0 : Ref sig .tc := ⟨.vmem, 36, rfl⟩
abbrev cc6_stg2_0 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg1_1 : Ref sig .tc := ⟨.vmem, 41, rfl⟩
abbrev cc7_stg2_0 : Ref sig .tc := ⟨.vmem, 42, rfl⟩
abbrev cc7_stg2_1 : Ref sig .tc := ⟨.vmem, 43, rfl⟩
abbrev cc7_stg3_0 : Ref sig .tc := ⟨.vmem, 44, rfl⟩
abbrev cc7_stg3_1 : Ref sig .tc := ⟨.vmem, 45, rfl⟩
abbrev cc7_stg4_0 : Ref sig .tc := ⟨.vmem, 46, rfl⟩
abbrev cc7_stg4_1 : Ref sig .tc := ⟨.vmem, 47, rfl⟩
abbrev cc7_stg5_0 : Ref sig .tc := ⟨.vmem, 48, rfl⟩
abbrev cc7_stg5_1 : Ref sig .tc := ⟨.vmem, 49, rfl⟩
abbrev cc7_stg6_0 : Ref sig .tc := ⟨.vmem, 50, rfl⟩
abbrev cc7_stg6_1 : Ref sig .tc := ⟨.vmem, 51, rfl⟩
abbrev cc7_stg7_0 : Ref sig .tc := ⟨.vmem, 52, rfl⟩
abbrev cc7_stg7_1 : Ref sig .tc := ⟨.vmem, 53, rfl⟩
abbrev cc7_stg8_0 : Ref sig .tc := ⟨.vmem, 54, rfl⟩
abbrev cc7_stg8_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc9_stg0_0 : Ref sig .tc := ⟨.vmem, 61, rfl⟩
abbrev cc9_stg1_0 : Ref sig .tc := ⟨.vmem, 62, rfl⟩
abbrev cc9_stg2_0 : Ref sig .tc := ⟨.vmem, 63, rfl⟩
abbrev cc10_stg0_0 : Ref sig .tc := ⟨.vmem, 64, rfl⟩
abbrev cc10_stg0_1 : Ref sig .tc := ⟨.vmem, 65, rfl⟩
abbrev cc10_stg1_0 : Ref sig .tc := ⟨.vmem, 66, rfl⟩
abbrev cc10_stg1_1 : Ref sig .tc := ⟨.vmem, 67, rfl⟩
abbrev cc10_stg2_0 : Ref sig .tc := ⟨.vmem, 68, rfl⟩
abbrev cc10_stg2_1 : Ref sig .tc := ⟨.vmem, 69, rfl⟩
abbrev cc11_stg0_0 : Ref sig .tc := ⟨.vmem, 70, rfl⟩
abbrev cc11_stg0_1 : Ref sig .tc := ⟨.vmem, 71, rfl⟩
abbrev cc11_stg1_0 : Ref sig .tc := ⟨.vmem, 72, rfl⟩
abbrev cc11_stg2_0 : Ref sig .tc := ⟨.vmem, 73, rfl⟩
abbrev cc11_stg2_1 : Ref sig .tc := ⟨.vmem, 74, rfl⟩
abbrev cc12_stg0_0 : Ref sig .tc := ⟨.vmem, 75, rfl⟩
abbrev cc12_stg0_1 : Ref sig .tc := ⟨.vmem, 76, rfl⟩
abbrev cc12_stg1_0 : Ref sig .tc := ⟨.vmem, 77, rfl⟩
abbrev cc12_stg2_0 : Ref sig .tc := ⟨.vmem, 78, rfl⟩
abbrev cc12_stg2_1 : Ref sig .tc := ⟨.vmem, 79, rfl⟩
abbrev cc13_stg0_0 : Ref sig .tc := ⟨.vmem, 80, rfl⟩
abbrev cc13_stg1_0 : Ref sig .tc := ⟨.vmem, 81, rfl⟩
abbrev cc13_stg2_0 : Ref sig .tc := ⟨.vmem, 82, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem2_1 : DmaSem sig := 34
abbrev cc6_sem0_0 : DmaSem sig := 35
abbrev cc6_sem1_0 : DmaSem sig := 36
abbrev cc6_sem2_0 : DmaSem sig := 37
abbrev cc7_sem0_0 : DmaSem sig := 38
abbrev cc7_sem0_1 : DmaSem sig := 39
abbrev cc7_sem1_0 : DmaSem sig := 40
abbrev cc7_sem1_1 : DmaSem sig := 41
abbrev cc7_sem2_0 : DmaSem sig := 42
abbrev cc7_sem2_1 : DmaSem sig := 43
abbrev cc7_sem3_0 : DmaSem sig := 44
abbrev cc7_sem3_1 : DmaSem sig := 45
abbrev cc7_sem4_0 : DmaSem sig := 46
abbrev cc7_sem4_1 : DmaSem sig := 47
abbrev cc7_sem5_0 : DmaSem sig := 48
abbrev cc7_sem5_1 : DmaSem sig := 49
abbrev cc7_sem6_0 : DmaSem sig := 50
abbrev cc7_sem6_1 : DmaSem sig := 51
abbrev cc7_sem7_0 : DmaSem sig := 52
abbrev cc7_sem7_1 : DmaSem sig := 53
abbrev cc7_sem8_0 : DmaSem sig := 54
abbrev cc7_sem8_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem2_1 : DmaSem sig := 60
abbrev cc9_sem0_0 : DmaSem sig := 61
abbrev cc9_sem1_0 : DmaSem sig := 62
abbrev cc9_sem2_0 : DmaSem sig := 63
abbrev cc10_sem0_0 : DmaSem sig := 64
abbrev cc10_sem0_1 : DmaSem sig := 65
abbrev cc10_sem1_0 : DmaSem sig := 66
abbrev cc10_sem1_1 : DmaSem sig := 67
abbrev cc10_sem2_0 : DmaSem sig := 68
abbrev cc10_sem2_1 : DmaSem sig := 69
abbrev cc11_sem0_0 : DmaSem sig := 70
abbrev cc11_sem0_1 : DmaSem sig := 71
abbrev cc11_sem1_0 : DmaSem sig := 72
abbrev cc11_sem2_0 : DmaSem sig := 73
abbrev cc11_sem2_1 : DmaSem sig := 74
abbrev cc12_sem0_0 : DmaSem sig := 75
abbrev cc12_sem0_1 : DmaSem sig := 76
abbrev cc12_sem1_0 : DmaSem sig := 77
abbrev cc12_sem2_0 : DmaSem sig := 78
abbrev cc12_sem2_1 : DmaSem sig := 79
abbrev cc13_sem0_0 : DmaSem sig := 80
abbrev cc13_sem1_0 : DmaSem sig := 81
abbrev cc13_sem2_0 : DmaSem sig := 82

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![8], ![false]⟩

def cc3_transform_0 (i : grid3.Coords) : Fin 2 → Nat :=
  let arg0 : BitVec 32 := BitVec.ofNat 32 (i 0).val
  let c2_i32 : BitVec 32 := 2#32
  let c0_i32 : BitVec 32 := 0#32
  ![arg0.toNat, c2_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x3072 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨2, ![4, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S4096x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 1 → Memref sig .tc .vmem S4096x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 1 → Memref sig .tc .vmem S1024x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true]

abbrev grid7 : Pipeline.Grid := ⟨1, ![8], ![false]⟩

def cc7_transform_0 (i : grid7.Coords) : Fin 2 → Nat :=
  let arg0 : BitVec 32 := BitVec.ofNat 32 (i 0).val
  let c2_i32 : BitVec 32 := 2#32
  let c0_i32 : BitVec 32 := 0#32
  ![arg0.toNat, c2_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x3072 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S512x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S512x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S512x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S512x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S512x1024 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S512x1024 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S512x1024 .bf16 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S512x3072 .bf16 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨2, ![4, 1], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 1 → Memref sig .tc .vmem S1024x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![1, 1], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 1 → Memref sig .tc .vmem S4096x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false]

abbrev stage9_1 : Fin 1 → Memref sig .tc .vmem S4096x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 1 → Memref sig .tc .vmem S1024x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, true]

abbrev grid10 : Pipeline.Grid := ⟨2, ![4, 2], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S1024x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S1024x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1024x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨2, ![2, 1], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 2 → Memref sig .tc .vmem S4096x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false]

abbrev stage11_1 : Fin 1 → Memref sig .tc .vmem S4096x1024 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, true]

abbrev stage11_2 : Fin 2 → Memref sig .tc .vmem S1024x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev grid12 : Pipeline.Grid := ⟨2, ![4, 1], ![false, false]⟩

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage12_0 : Fin 2 → Memref sig .tc .vmem S1024x1024 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false]

abbrev stage12_1 : Fin 1 → Memref sig .tc .vmem S1024x1024 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, true]

abbrev stage12_2 : Fin 2 → Memref sig .tc .vmem S1024x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true]

abbrev grid13 : Pipeline.Grid := ⟨2, ![1, 1], ![false, false]⟩

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage13_0 : Fin 1 → Memref sig .tc .vmem S4096x1024 .bf16 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true, false]

abbrev stage13_1 : Fin 1 → Memref sig .tc .vmem S4096x1024 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false, true]

abbrev stage13_2 : Fin 1 → Memref sig .tc .vmem S1024x1024 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![true, true]
-- ==== MixReferenceIdeal.lean ====
abbrev S4096x12288 : Shape := ⟨2, ![4096, 12288]⟩
abbrev S4096x1024 : Shape := ⟨2, ![4096, 1024]⟩
abbrev S4096x2048 : Shape := ⟨2, ![4096, 2048]⟩
abbrev S1024x1024 : Shape := ⟨2, ![1024, 1024]⟩
abbrev S2048x1024 : Shape := ⟨2, ![2048, 1024]⟩
abbrev S4096x3072 : Shape := ⟨2, ![4096, 3072]⟩
abbrev S_ : Shape := ⟨0, ![]⟩
abbrev S1024x2048 : Shape := ⟨2, ![1024, 2048]⟩

abbrev nBuf : Space → Nat
  | .hbm => 89
  | .vmem => 0
  | .smem => 0
  | _ => 0

abbrev bufTy : (tb : Table) → Fin (tcTables nBuf tb) → BufTy
  | .hbm, ⟨0, _⟩ => ⟨S4096x12288, .f32⟩
  | .hbm, ⟨1, _⟩ => ⟨S4096x1024, .bf16⟩
  | .hbm, ⟨2, _⟩ => ⟨S4096x2048, .bf16⟩
  | .hbm, ⟨3, _⟩ => ⟨S4096x1024, .bf16⟩
  | .hbm, ⟨4, _⟩ => ⟨S1024x1024, .bf16⟩
  | .hbm, ⟨5, _⟩ => ⟨S2048x1024, .bf16⟩
  | .hbm, ⟨6, _⟩ => ⟨S1024x1024, .bf16⟩
  | .hbm, ⟨7, _⟩ => ⟨S1024x1024, .bf16⟩
  | .hbm, ⟨8, _⟩ => ⟨S4096x1024, .bf16⟩
  | .hbm, ⟨9, _⟩ => ⟨S4096x3072, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x2048, .f32⟩
  | .hbm, ⟨15, _⟩ => ⟨S4096x1024, .f32⟩
  | .hbm, ⟨16, _⟩ => ⟨S1024x1024, .f32⟩
  | .hbm, ⟨17, _⟩ => ⟨S2048x1024, .f32⟩
  | .hbm, ⟨18, _⟩ => ⟨S1024x1024, .f32⟩
  | .hbm, ⟨19, _⟩ => ⟨S1024x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S1024x1024, .f32⟩
  | .hbm, ⟨67, _⟩ => ⟨S1024x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1024x1024, .f32⟩
  | .hbm, ⟨72, _⟩ => ⟨S1024x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S1024x2048, .f32⟩
  | .hbm, ⟨78, _⟩ => ⟨S2048x1024, .f32⟩
  | .hbm, ⟨79, _⟩ => ⟨S4096x2048, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S1024x1024, .f32⟩
  | .hbm, ⟨84, _⟩ => ⟨S1024x1024, .f32⟩
  | .hbm, ⟨85, _⟩ => ⟨S4096x1024, .f32⟩
  | .hbm, ⟨86, _⟩ => ⟨S4096x1024, .f32⟩
  | .hbm, ⟨87, _⟩ => ⟨S4096x3072, .f32⟩
  | .hbm, ⟨88, _⟩ => ⟨S4096x3072, .bf16⟩
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== AdamKernel.lean ====
abbrev S1024x3080 : Shape := ⟨2, ![1024, 3080]⟩
abbrev S1024x512 : Shape := ⟨2, ![1024, 512]⟩
abbrev S256x1024 : Shape := ⟨2, ![256, 1024]⟩
abbrev S512x1024 : Shape := ⟨2, ![512, 1024]⟩
abbrev S1024x1024 : Shape := ⟨2, ![1024, 1024]⟩
abbrev S184x128 : Shape := ⟨2, ![184, 128]⟩
abbrev S64x3080 : Shape := ⟨2, ![64, 3080]⟩
abbrev S512x512 : Shape := ⟨2, ![512, 512]⟩

abbrev nBuf : Space → Nat
  | .hbm => 52
  | .vmem => 87
  | .smem => 0
  | _ => 0

abbrev bufTy : (tb : Table) → Fin (tcTables nBuf tb) → BufTy
  | .hbm, ⟨0, _⟩ => ⟨S1024x3080, .f32⟩
  | .hbm, ⟨1, _⟩ => ⟨S1024x3080, .f32⟩
  | .hbm, ⟨2, _⟩ => ⟨S1024x3080, .f32⟩
  | .hbm, ⟨3, _⟩ => ⟨S1024x3080, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S184x128, .f32⟩
  | .hbm, ⟨25, _⟩ => ⟨S184x128, .f32⟩
  | .hbm, ⟨26, _⟩ => ⟨S184x128, .f32⟩
  | .hbm, ⟨27, _⟩ => ⟨S184x128, .f32⟩
  | .hbm, ⟨28, _⟩ => ⟨S1024x3080, .f32⟩
  | .hbm, ⟨29, _⟩ => ⟨S1024x3080, .f32⟩
  | .hbm, ⟨30, _⟩ => ⟨S1024x3080, .f32⟩
  | .hbm, ⟨31, _⟩ => ⟨S1024x3080, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S512x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S184x128, .f32⟩
  | .hbm, ⟨49, _⟩ => ⟨S184x128, .f32⟩
  | .hbm, ⟨50, _⟩ => ⟨S184x128, .f32⟩
  | .hbm, ⟨51, _⟩ => ⟨S184x128, .f32⟩
  | .local _ .vmem, ⟨0, _⟩ => ⟨S64x3080, .f32⟩
  | .local _ .vmem, ⟨1, _⟩ => ⟨S64x3080, .f32⟩
  | .local _ .vmem, ⟨2, _⟩ => ⟨S64x3080, .f32⟩
  | .local _ .vmem, ⟨3, _⟩ => ⟨S64x3080, .f32⟩
  | .local _ .vmem, ⟨4, _⟩ => ⟨S64x3080, .f32⟩
  | .local _ .vmem, ⟨5, _⟩ => ⟨S64x3080, .f32⟩
  | .local _ .vmem, ⟨6, _⟩ => ⟨S64x3080, .f32⟩
  | .local _ .vmem, ⟨7, _⟩ => ⟨S64x3080, .f32⟩
  | .local _ .vmem, ⟨8, _⟩ => ⟨S64x3080, .f32⟩
  | .local _ .vmem, ⟨9, _⟩ => ⟨S64x3080, .f32⟩
  | .local _ .vmem, ⟨10, _⟩ => ⟨S64x3080, .f32⟩
  | .local _ .vmem, ⟨11, _⟩ => ⟨S64x3080, .f32⟩
  | .local _ .vmem, ⟨12, _⟩ => ⟨S64x3080, .f32⟩
  | .local _ .vmem, ⟨13, _⟩ => ⟨S64x3080, .f32⟩
  | .local _ .vmem, ⟨14, _⟩ => ⟨S64x3080, .f32⟩
  | .local _ .vmem, ⟨15, _⟩ => ⟨S64x3080, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S256x1024, .f32⟩
  | .local _ .vmem, ⟨46, _⟩ => ⟨S256x1024, .f32⟩
  | .local _ .vmem, ⟨47, _⟩ => ⟨S256x1024, .f32⟩
  | .local _ .vmem, ⟨48, _⟩ => ⟨S256x1024, .f32⟩
  | .local _ .vmem, ⟨49, _⟩ => ⟨S256x1024, .f32⟩
  | .local _ .vmem, ⟨50, _⟩ => ⟨S256x1024, .f32⟩
  | .local _ .vmem, ⟨51, _⟩ => ⟨S256x1024, .f32⟩
  | .local _ .vmem, ⟨52, _⟩ => ⟨S256x1024, .f32⟩
  | .local _ .vmem, ⟨53, _⟩ => ⟨S256x1024, .f32⟩
  | .local _ .vmem, ⟨54, _⟩ => ⟨S256x1024, .f32⟩
  | .local _ .vmem, ⟨55, _⟩ => ⟨S256x1024, .f32⟩
  | .local _ .vmem, ⟨56, _⟩ => ⟨S256x1024, .f32⟩
  | .local _ .vmem, ⟨57, _⟩ => ⟨S256x1024, .f32⟩
  | .local _ .vmem, ⟨58, _⟩ => ⟨S256x1024, .f32⟩
  | .local _ .vmem, ⟨59, _⟩ => ⟨S256x1024, .f32⟩
  | .local _ .vmem, ⟨60, _⟩ => ⟨S256x1024, .f32⟩
  | .local _ .vmem, ⟨61, _⟩ => ⟨S256x1024, .f32⟩
  | .local _ .vmem, ⟨62, _⟩ => ⟨S256x1024, .f32⟩
  | .local _ .vmem, ⟨63, _⟩ => ⟨S256x1024, .f32⟩
  | .local _ .vmem, ⟨64, _⟩ => ⟨S256x1024, .f32⟩
  | .local _ .vmem, ⟨65, _⟩ => ⟨S256x1024, .f32⟩
  | .local _ .vmem, ⟨66, _⟩ => ⟨S256x1024, .f32⟩
  | .local _ .vmem, ⟨67, _⟩ => ⟨S256x1024, .f32⟩
  | .local _ .vmem, ⟨68, _⟩ => ⟨S256x1024, .f32⟩
  | .local _ .vmem, ⟨69, _⟩ => ⟨S256x1024, .f32⟩
  | .local _ .vmem, ⟨70, _⟩ => ⟨S256x1024, .f32⟩
  | .local _ .vmem, ⟨71, _⟩ => ⟨S256x1024, .f32⟩
  | .local _ .vmem, ⟨72, _⟩ => ⟨S256x1024, .f32⟩
  | .local _ .vmem, ⟨73, _⟩ => ⟨S256x1024, .f32⟩
  | .local _ .vmem, ⟨74, _⟩ => ⟨S256x1024, .f32⟩
  | .local _ .vmem, ⟨75, _⟩ => ⟨S256x1024, .f32⟩
  | .local _ .vmem, ⟨76, _⟩ => ⟨S256x1024, .f32⟩
  | .local _ .vmem, ⟨77, _⟩ => ⟨S256x1024, .f32⟩
  | .local _ .vmem, ⟨78, _⟩ => ⟨S256x1024, .f32⟩
  | .local _ .vmem, ⟨79, _⟩ => ⟨S184x128, .f32⟩
  | .local _ .vmem, ⟨80, _⟩ => ⟨S184x128, .f32⟩
  | .local _ .vmem, ⟨81, _⟩ => ⟨S184x128, .f32⟩
  | .local _ .vmem, ⟨82, _⟩ => ⟨S184x128, .f32⟩
  | .local _ .vmem, ⟨83, _⟩ => ⟨S184x128, .f32⟩
  | .local _ .vmem, ⟨84, _⟩ => ⟨S184x128, .f32⟩
  | .local _ .vmem, ⟨85, _⟩ => ⟨S184x128, .f32⟩
  | .local _ .vmem, ⟨86, _⟩ => ⟨S184x128, .f32⟩
  | _, _ => ⟨S1024x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0_0 : Ref sig .tc := ⟨.hbm, 28, rfl⟩
abbrev main_v0_1 : Ref sig .tc := ⟨.hbm, 29, rfl⟩
abbrev main_v0_2 : Ref sig .tc := ⟨.hbm, 30, rfl⟩
abbrev main_v0_3 : Ref sig .tc := ⟨.hbm, 31, rfl⟩
abbrev main_v1_0 : Ref sig .tc := ⟨.hbm, 32, rfl⟩
abbrev main_v1_1 : Ref sig .tc := ⟨.hbm, 33, rfl⟩
abbrev main_v1_2 : Ref sig .tc := ⟨.hbm, 34, rfl⟩
abbrev main_v1_3 : Ref sig .tc := ⟨.hbm, 35, rfl⟩
abbrev main_v2_0 : Ref sig .tc := ⟨.hbm, 36, rfl⟩
abbrev main_v2_1 : Ref sig .tc := ⟨.hbm, 37, rfl⟩
abbrev main_v2_2 : Ref sig .tc := ⟨.hbm, 38, rfl⟩
abbrev main_v2_3 : Ref sig .tc := ⟨.hbm, 39, rfl⟩
abbrev main_v3_0 : Ref sig .tc := ⟨.hbm, 40, rfl⟩
abbrev main_v3_1 : Ref sig .tc := ⟨.hbm, 41, rfl⟩
abbrev main_v3_2 : Ref sig .tc := ⟨.hbm, 42, rfl⟩
abbrev main_v3_3 : Ref sig .tc := ⟨.hbm, 43, rfl⟩
abbrev main_v4_0 : Ref sig .tc := ⟨.hbm, 44, rfl⟩
abbrev main_v4_1 : Ref sig .tc := ⟨.hbm, 45, rfl⟩
abbrev main_v4_2 : Ref sig .tc := ⟨.hbm, 46, rfl⟩
abbrev main_v4_3 : Ref sig .tc := ⟨.hbm, 47, rfl⟩
abbrev main_v5_0 : Ref sig .tc := ⟨.hbm, 48, rfl⟩
abbrev main_v5_1 : Ref sig .tc := ⟨.hbm, 49, rfl⟩
abbrev main_v5_2 : Ref sig .tc := ⟨.hbm, 50, rfl⟩
abbrev main_v5_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc2_stg0_0 : Ref sig .tc := ⟨.vmem, 34, rfl⟩
abbrev cc2_stg1_0 : Ref sig .tc := ⟨.vmem, 35, rfl⟩
abbrev cc2_stg2_0 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg5_0 : Ref sig .tc := ⟨.vmem, 39, rfl⟩
abbrev cc2_stg6_0 : Ref sig .tc := ⟨.vmem, 40, rfl⟩
abbrev cc2_stg7_0 : Ref sig .tc := ⟨.vmem, 41, rfl⟩
abbrev cc2_stg8_0 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg1_1 : Ref sig .tc := ⟨.vmem, 46, rfl⟩
abbrev cc3_stg2_0 : Ref sig .tc := ⟨.vmem, 47, rfl⟩
abbrev cc3_stg2_1 : Ref sig .tc := ⟨.vmem, 48, rfl⟩
abbrev cc3_stg3_0 : Ref sig .tc := ⟨.vmem, 49, rfl⟩
abbrev cc3_stg3_1 : Ref sig .tc := ⟨.vmem, 50, rfl⟩
abbrev cc3_stg4_0 : Ref sig .tc := ⟨.vmem, 51, rfl⟩
abbrev cc3_stg4_1 : Ref sig .tc := ⟨.vmem, 52, rfl⟩
abbrev cc3_stg5_0 : Ref sig .tc := ⟨.vmem, 53, rfl⟩
abbrev cc3_stg5_1 : Ref sig .tc := ⟨.vmem, 54, rfl⟩
abbrev cc3_stg6_0 : Ref sig .tc := ⟨.vmem, 55, rfl⟩
abbrev cc3_stg6_1 : Ref sig .tc := ⟨.vmem, 56, rfl⟩
abbrev cc3_stg7_0 : Ref sig .tc := ⟨.vmem, 57, rfl⟩
abbrev cc3_stg7_1 : Ref sig .tc := ⟨.vmem, 58, rfl⟩
abbrev cc3_stg8_0 : Ref sig .tc := ⟨.vmem, 59, rfl⟩
abbrev cc3_stg8_1 : Ref sig .tc := ⟨.vmem, 60, rfl⟩
abbrev cc4_stg0_0 : Ref sig .tc := ⟨.vmem, 61, rfl⟩
abbrev cc4_stg0_1 : Ref sig .tc := ⟨.vmem, 62, rfl⟩
abbrev cc4_stg1_0 : Ref sig .tc := ⟨.vmem, 63, rfl⟩
abbrev cc4_stg1_1 : Ref sig .tc := ⟨.vmem, 64, rfl⟩
abbrev cc4_stg2_0 : Ref sig .tc := ⟨.vmem, 65, rfl⟩
abbrev cc4_stg2_1 : Ref sig .tc := ⟨.vmem, 66, rfl⟩
abbrev cc4_stg3_0 : Ref sig .tc := ⟨.vmem, 67, rfl⟩
abbrev cc4_stg3_1 : Ref sig .tc := ⟨.vmem, 68, rfl⟩
abbrev cc4_stg4_0 : Ref sig .tc := ⟨.vmem, 69, rfl⟩
abbrev cc4_stg4_1 : Ref sig .tc := ⟨.vmem, 70, rfl⟩
abbrev cc4_stg5_0 : Ref sig .tc := ⟨.vmem, 71, rfl⟩
abbrev cc4_stg5_1 : Ref sig .tc := ⟨.vmem, 72, rfl⟩
abbrev cc4_stg6_0 : Ref sig .tc := ⟨.vmem, 73, rfl⟩
abbrev cc4_stg6_1 : Ref sig .tc := ⟨.vmem, 74, rfl⟩
abbrev cc4_stg7_0 : Ref sig .tc := ⟨.vmem, 75, rfl⟩
abbrev cc4_stg7_1 : Ref sig .tc := ⟨.vmem, 76, rfl⟩
abbrev cc4_stg8_0 : Ref sig .tc := ⟨.vmem, 77, rfl⟩
abbrev cc4_stg8_1 : Ref sig .tc := ⟨.vmem, 78, rfl⟩
abbrev cc5_stg0_0 : Ref sig .tc := ⟨.vmem, 79, rfl⟩
abbrev cc5_stg1_0 : Ref sig .tc := ⟨.vmem, 80, rfl⟩
abbrev cc5_stg2_0 : Ref sig .tc := ⟨.vmem, 81, rfl⟩
abbrev cc5_stg3_0 : Ref sig .tc := ⟨.vmem, 82, rfl⟩
abbrev cc5_stg4_0 : Ref sig .tc := ⟨.vmem, 83, rfl⟩
abbrev cc5_stg5_0 : Ref sig .tc := ⟨.vmem, 84, rfl⟩
abbrev cc5_stg6_0 : Ref sig .tc := ⟨.vmem, 85, rfl⟩
abbrev cc5_stg7_0 : Ref sig .tc := ⟨.vmem, 86, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc2_sem0_0 : DmaSem sig := 34
abbrev cc2_sem1_0 : DmaSem sig := 35
abbrev cc2_sem2_0 : DmaSem sig := 36
abbrev cc2_sem3_0 : DmaSem sig := 37
abbrev cc2_sem4_0 : DmaSem sig := 38
abbrev cc2_sem5_0 : DmaSem sig := 39
abbrev cc2_sem6_0 : DmaSem sig := 40
abbrev cc2_sem7_0 : DmaSem sig := 41
abbrev cc2_sem8_0 : DmaSem sig := 42
abbrev cc3_sem0_0 : DmaSem sig := 43
abbrev cc3_sem0_1 : DmaSem sig := 44
abbrev cc3_sem1_0 : DmaSem sig := 45
abbrev cc3_sem1_1 : DmaSem sig := 46
abbrev cc3_sem2_0 : DmaSem sig := 47
abbrev cc3_sem2_1 : DmaSem sig := 48
abbrev cc3_sem3_0 : DmaSem sig := 49
abbrev cc3_sem3_1 : DmaSem sig := 50
abbrev cc3_sem4_0 : DmaSem sig := 51
abbrev cc3_sem4_1 : DmaSem sig := 52
abbrev cc3_sem5_0 : DmaSem sig := 53
abbrev cc3_sem5_1 : DmaSem sig := 54
abbrev cc3_sem6_0 : DmaSem sig := 55
abbrev cc3_sem6_1 : DmaSem sig := 56
abbrev cc3_sem7_0 : DmaSem sig := 57
abbrev cc3_sem7_1 : DmaSem sig := 58
abbrev cc3_sem8_0 : DmaSem sig := 59
abbrev cc3_sem8_1 : DmaSem sig := 60
abbrev cc4_sem0_0 : DmaSem sig := 61
abbrev cc4_sem0_1 : DmaSem sig := 62
abbrev cc4_sem1_0 : DmaSem sig := 63
abbrev cc4_sem1_1 : DmaSem sig := 64
abbrev cc4_sem2_0 : DmaSem sig := 65
abbrev cc4_sem2_1 : DmaSem sig := 66
abbrev cc4_sem3_0 : DmaSem sig := 67
abbrev cc4_sem3_1 : DmaSem sig := 68
abbrev cc4_sem4_0 : DmaSem sig := 69
abbrev cc4_sem4_1 : DmaSem sig := 70
abbrev cc4_sem5_0 : DmaSem sig := 71
abbrev cc4_sem5_1 : DmaSem sig := 72
abbrev cc4_sem6_0 : DmaSem sig := 73
abbrev cc4_sem6_1 : DmaSem sig := 74
abbrev cc4_sem7_0 : DmaSem sig := 75
abbrev cc4_sem7_1 : DmaSem sig := 76
abbrev cc4_sem8_0 : DmaSem sig := 77
abbrev cc4_sem8_1 : DmaSem sig := 78
abbrev cc5_sem0_0 : DmaSem sig := 79
abbrev cc5_sem1_0 : DmaSem sig := 80
abbrev cc5_sem2_0 : DmaSem sig := 81
abbrev cc5_sem3_0 : DmaSem sig := 82
abbrev cc5_sem4_0 : DmaSem sig := 83
abbrev cc5_sem5_0 : DmaSem sig := 84
abbrev cc5_sem6_0 : DmaSem sig := 85
abbrev cc5_sem7_0 : DmaSem sig := 86

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3080 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3080 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3080 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3080 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3080 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3080 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3080 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x3080 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S256x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S256x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S256x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S256x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S256x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S256x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S256x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S256x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev stage2_8 : Fin 1 → Memref sig .tc .vmem S256x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S256x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S256x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S256x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S256x1024 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S184x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S184x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S184x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S184x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S184x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S184x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S184x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev stage5_7 : Fin 1 → Memref sig .tc .vmem S184x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![true]
-- ==== AdamReferenceIdeal.lean ====
abbrev S1024x3080 : Shape := ⟨2, ![1024, 3080]⟩
abbrev S1024x512 : Shape := ⟨2, ![1024, 512]⟩
abbrev S256x1024 : Shape := ⟨2, ![256, 1024]⟩
abbrev S512x1024 : Shape := ⟨2, ![512, 1024]⟩
abbrev S1024x1024 : Shape := ⟨2, ![1024, 1024]⟩
abbrev S184x128 : Shape := ⟨2, ![184, 128]⟩
abbrev S_ : Shape := ⟨0, ![]⟩

abbrev nBuf : Space → Nat
  | .hbm => 230
  | .vmem => 0
  | .smem => 0
  | _ => 0

abbrev hbmTy0_0 (i : Nat) : BufTy := match i % 128 with
  | 0 => ⟨S1024x3080, .f32⟩
  | 1 => ⟨S1024x3080, .f32⟩
  | 2 => ⟨S1024x3080, .f32⟩
  | 3 => ⟨S1024x3080, .f32⟩
  | 4 => ⟨S1024x512, .f32⟩
  | 5 => ⟨S1024x512, .f32⟩
  | 6 => ⟨S1024x512, .f32⟩
  | 7 => ⟨S1024x512, .f32⟩
  | 8 => ⟨S1024x512, .f32⟩
  | 9 => ⟨S256x1024, .f32⟩
  | 10 => ⟨S256x1024, .f32⟩
  | 11 => ⟨S256x1024, .f32⟩
  | 12 => ⟨S256x1024, .f32⟩
  | 13 => ⟨S256x1024, .f32⟩
  | 14 => ⟨S512x1024, .f32⟩
  | 15 => ⟨S512x1024, .f32⟩
  | 16 => ⟨S512x1024, .f32⟩
  | 17 => ⟨S512x1024, .f32⟩
  | 18 => ⟨S512x1024, .f32⟩
  | 19 => ⟨S1024x1024, .f32⟩
  | 20 => ⟨S1024x1024, .f32⟩
  | 21 => ⟨S1024x1024, .f32⟩
  | 22 => ⟨S1024x1024, .f32⟩
  | 23 => ⟨S1024x1024, .f32⟩
  | 24 => ⟨S184x128, .f32⟩
  | 25 => ⟨S184x128, .f32⟩
  | 26 => ⟨S184x128, .f32⟩
  | 27 => ⟨S184x128, .f32⟩
  | 28 => ⟨S_, .f32⟩
  | 29 => ⟨S1024x3080, .f32⟩
  | 30 => ⟨S1024x3080, .f32⟩
  | 31 => ⟨S_, .f32⟩
  | 32 => ⟨S1024x3080, .f32⟩
  | 33 => ⟨S1024x3080, .f32⟩
  | 34 => ⟨S1024x3080, .f32⟩
  | 35 => ⟨S_, .f32⟩
  | 36 => ⟨S1024x3080, .f32⟩
  | 37 => ⟨S1024x3080, .f32⟩
  | 38 => ⟨S1024x3080, .f32⟩
  | 39 => ⟨S_, .f32⟩
  | 40 => ⟨S1024x3080, .f32⟩
  | 41 => ⟨S1024x3080, .f32⟩
  | 42 => ⟨S1024x3080, .f32⟩
  | 43 => ⟨S_, .f32⟩
  | 44 => ⟨S1024x3080, .f32⟩
  | 45 => ⟨S1024x3080, .f32⟩
  | 46 => ⟨S_, .f32⟩
  | 47 => ⟨S1024x3080, .f32⟩
  | 48 => ⟨S1024x3080, .f32⟩
  | 49 => ⟨S1024x3080, .f32⟩
  | 50 => ⟨S_, .f32⟩
  | 51 => ⟨S1024x3080, .f32⟩
  | 52 => ⟨S1024x3080, .f32⟩
  | 53 => ⟨S1024x3080, .f32⟩
  | 54 => ⟨S_, .f32⟩
  | 55 => ⟨S1024x3080, .f32⟩
  | 56 => ⟨S1024x3080, .f32⟩
  | 57 => ⟨S1024x3080, .f32⟩
  | 58 => ⟨S_, .f32⟩
  | 59 => ⟨S1024x3080, .f32⟩
  | 60 => ⟨S1024x3080, .f32⟩
  | 61 => ⟨S1024x512, .f32⟩
  | 62 => ⟨S_, .f32⟩
  | 63 => ⟨S1024x512, .f32⟩
  | 64 => ⟨S1024x512, .f32⟩
  | 65 => ⟨S_, .f32⟩
  | 66 => ⟨S1024x512, .f32⟩
  | 67 => ⟨S1024x512, .f32⟩
  | 68 => ⟨S1024x512, .f32⟩
  | 69 => ⟨S_, .f32⟩
  | 70 => ⟨S1024x512, .f32⟩
  | 71 => ⟨S1024x512, .f32⟩
  | 72 => ⟨S1024x512, .f32⟩
  | 73 => ⟨S_, .f32⟩
  | 74 => ⟨S1024x512, .f32⟩
  | 75 => ⟨S1024x512, .f32⟩
  | 76 => ⟨S1024x512, .f32⟩
  | 77 => ⟨S_, .f32⟩
  | 78 => ⟨S1024x512, .f32⟩
  | 79 => ⟨S1024x512, .f32⟩
  | 80 => ⟨S_, .f32⟩
  | 81 => ⟨S1024x512, .f32⟩
  | 82 => ⟨S1024x512, .f32⟩
  | 83 => ⟨S1024x512, .f32⟩
  | 84 => ⟨S_, .f32⟩
  | 85 => ⟨S1024x512, .f32⟩
  | 86 => ⟨S1024x512, .f32⟩
  | 87 => ⟨S1024x512, .f32⟩
  | 88 => ⟨S_, .f32⟩
  | 89 => ⟨S1024x512, .f32⟩
  | 90 => ⟨S1024x512, .f32⟩
  | 91 => ⟨S1024x512, .f32⟩
  | 92 => ⟨S_, .f32⟩
  | 93 => ⟨S1024x512, .f32⟩
  | 94 => ⟨S1024x512, .f32⟩
  | 95 => ⟨S256x1024, .f32⟩
  | 96 => ⟨S_, .f32⟩
  | 97 => ⟨S256x1024, .f32⟩
  | 98 => ⟨S256x1024, .f32⟩
  | 99 => ⟨S_, .f32⟩
  | 100 => ⟨S256x1024, .f32⟩
  | 101 => ⟨S256x1024, .f32⟩
  | 102 => ⟨S256x1024, .f32⟩
  | 103 => ⟨S_, .f32⟩
  | 104 => ⟨S256x1024, .f32⟩
  | 105 => ⟨S256x1024, .f32⟩
  | 106 => ⟨S256x1024, .f32⟩
  | 107 => ⟨S_, .f32⟩
  | 108 => ⟨S256x1024, .f32⟩
  | 109 => ⟨S256x1024, .f32⟩
  | 110 => ⟨S256x1024, .f32⟩
  | 111 => ⟨S_, .f32⟩
  | 112 => ⟨S256x1024, .f32⟩
  | 113 => ⟨S256x1024, .f32⟩
  | 114 => ⟨S_, .f32⟩
  | 115 => ⟨S256x1024, .f32⟩
  | 116 => ⟨S256x1024, .f32⟩
  | 117 => ⟨S256x1024, .f32⟩
  | 118 => ⟨S_, .f32⟩
  | 119 => ⟨S256x1024, .f32⟩
  | 120 => ⟨S256x1024, .f32⟩
  | 121 => ⟨S256x1024, .f32⟩
  | 122 => ⟨S_, .f32⟩
  | 123 => ⟨S256x1024, .f32⟩
  | 124 => ⟨S256x1024, .f32⟩
  | 125 => ⟨S256x1024, .f32⟩
  | 126 => ⟨S_, .f32⟩
  | 127 => ⟨S256x1024, .f32⟩
  | _ => ⟨S1024x3080, .f32⟩

abbrev hbmTy0_1 (i : Nat) : BufTy := match i % 128 with
  | 0 => ⟨S256x1024, .f32⟩
  | 1 => ⟨S512x1024, .f32⟩
  | 2 => ⟨S_, .f32⟩
  | 3 => ⟨S512x1024, .f32⟩
  | 4 => ⟨S512x1024, .f32⟩
  | 5 => ⟨S_, .f32⟩
  | 6 => ⟨S512x1024, .f32⟩
  | 7 => ⟨S512x1024, .f32⟩
  | 8 => ⟨S512x1024, .f32⟩
  | 9 => ⟨S_, .f32⟩
  | 10 => ⟨S512x1024, .f32⟩
  | 11 => ⟨S512x1024, .f32⟩
  | 12 => ⟨S512x1024, .f32⟩
  | 13 => ⟨S_, .f32⟩
  | 14 => ⟨S512x1024, .f32⟩
  | 15 => ⟨S512x1024, .f32⟩
  | 16 => ⟨S512x1024, .f32⟩
  | 17 => ⟨S_, .f32⟩
  | 18 => ⟨S512x1024, .f32⟩
  | 19 => ⟨S512x1024, .f32⟩
  | 20 => ⟨S_, .f32⟩
  | 21 => ⟨S512x1024, .f32⟩
  | 22 => ⟨S512x1024, .f32⟩
  | 23 => ⟨S512x1024, .f32⟩
  | 24 => ⟨S_, .f32⟩
  | 25 => ⟨S512x1024, .f32⟩
  | 26 => ⟨S512x1024, .f32⟩
  | 27 => ⟨S512x1024, .f32⟩
  | 28 => ⟨S_, .f32⟩
  | 29 => ⟨S512x1024, .f32⟩
  | 30 => ⟨S512x1024, .f32⟩
  | 31 => ⟨S512x1024, .f32⟩
  | 32 => ⟨S_, .f32⟩
  | 33 => ⟨S512x1024, .f32⟩
  | 34 => ⟨S512x1024, .f32⟩
  | 35 => ⟨S1024x1024, .f32⟩
  | 36 => ⟨S_, .f32⟩
  | 37 => ⟨S1024x1024, .f32⟩
  | 38 => ⟨S1024x1024, .f32⟩
  | 39 => ⟨S_, .f32⟩
  | 40 => ⟨S1024x1024, .f32⟩
  | 41 => ⟨S1024x1024, .f32⟩
  | 42 => ⟨S1024x1024, .f32⟩
  | 43 => ⟨S_, .f32⟩
  | 44 => ⟨S1024x1024, .f32⟩
  | 45 => ⟨S1024x1024, .f32⟩
  | 46 => ⟨S1024x1024, .f32⟩
  | 47 => ⟨S_, .f32⟩
  | 48 => ⟨S1024x1024, .f32⟩
  | 49 => ⟨S1024x1024, .f32⟩
  | 50 => ⟨S1024x1024, .f32⟩
  | 51 => ⟨S_, .f32⟩
  | 52 => ⟨S1024x1024, .f32⟩
  | 53 => ⟨S1024x1024, .f32⟩
  | 54 => ⟨S_, .f32⟩
  | 55 => ⟨S1024x1024, .f32⟩
  | 56 => ⟨S1024x1024, .f32⟩
  | 57 => ⟨S1024x1024, .f32⟩
  | 58 => ⟨S_, .f32⟩
  | 59 => ⟨S1024x1024, .f32⟩
  | 60 => ⟨S1024x1024, .f32⟩
  | 61 => ⟨S1024x1024, .f32⟩
  | 62 => ⟨S_, .f32⟩
  | 63 => ⟨S1024x1024, .f32⟩
  | 64 => ⟨S1024x1024, .f32⟩
  | 65 => ⟨S1024x1024, .f32⟩
  | 66 => ⟨S_, .f32⟩
  | 67 => ⟨S1024x1024, .f32⟩
  | 68 => ⟨S1024x1024, .f32⟩
  | 69 => ⟨S_, .f32⟩
  | 70 => ⟨S184x128, .f32⟩
  | 71 => ⟨S184x128, .f32⟩
  | 72 => ⟨S_, .f32⟩
  | 73 => ⟨S184x128, .f32⟩
  | 74 => ⟨S184x128, .f32⟩
  | 75 => ⟨S184x128, .f32⟩
  | 76 => ⟨S_, .f32⟩
  | 77 => ⟨S184x128, .f32⟩
  | 78 => ⟨S184x128, .f32⟩
  | 79 => ⟨S184x128, .f32⟩
  | 80 => ⟨S_, .f32⟩
  | 81 => ⟨S184x128, .f32⟩
  | 82 => ⟨S184x128, .f32⟩
  | 83 => ⟨S184x128, .f32⟩
  | 84 => ⟨S_, .f32⟩
  | 85 => ⟨S184x128, .f32⟩
  | 86 => ⟨S184x128, .f32⟩
  | 87 => ⟨S_, .f32⟩
  | 88 => ⟨S184x128, .f32⟩
  | 89 => ⟨S184x128, .f32⟩
  | 90 => ⟨S184x128, .f32⟩
  | 91 => ⟨S_, .f32⟩
  | 92 => ⟨S184x128, .f32⟩
  | 93 => ⟨S184x128, .f32⟩
  | 94 => ⟨S184x128, .f32⟩
  | 95 => ⟨S_, .f32⟩
  | 96 => ⟨S184x128, .f32⟩
  | 97 => ⟨S184x128, .f32⟩
  | 98 => ⟨S184x128, .f32⟩
  | 99 => ⟨S_, .f32⟩
  | 100 => ⟨S184x128, .f32⟩
  | 101 => ⟨S184x128, .f32⟩
  | _ => ⟨S1024x3080, .f32⟩

abbrev hbmTy (i : Nat) : BufTy := match i / 128 with
  | 0 => hbmTy0_0 i
  | 1 => hbmTy0_1 i
  | _ => ⟨S1024x3080, .f32⟩

abbrev bufTy : (tb : Table) → Fin (tcTables nBuf tb) → BufTy
  | .hbm, ⟨i, _⟩ => hbmTy i
  | _, _ => ⟨S1024x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_8 : Ref sig .tc := ⟨.hbm, 62, rfl⟩
abbrev main_v25 : Ref sig .tc := ⟨.hbm, 63, rfl⟩
abbrev main_v26 : Ref sig .tc := ⟨.hbm, 64, rfl⟩
abbrev main_cst_9 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_10 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_11 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_12 : Ref sig .tc := ⟨.hbm, 77, rfl⟩
abbrev main_v36 : Ref sig .tc := ⟨.hbm, 78, rfl⟩
abbrev main_v37 : Ref sig .tc := ⟨.hbm, 79, rfl⟩
abbrev main_cst_13 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_14 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_15 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_16 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_17 : Ref sig .tc := ⟨.hbm, 96, rfl⟩
abbrev main_v50 : Ref sig .tc := ⟨.hbm, 97, rfl⟩
abbrev main_v51 : Ref sig .tc := ⟨.hbm, 98, rfl⟩
abbrev main_cst_18 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_cst_19 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_cst_20 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_cst_21 : Ref sig .tc := ⟨.hbm, 111, rfl⟩
abbrev main_v61 : Ref sig .tc := ⟨.hbm, 112, rfl⟩
abbrev main_v62 : Ref sig .tc := ⟨.hbm, 113, rfl⟩
abbrev main_cst_22 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_23 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_cst_24 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_cst_25 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_cst_26 : Ref sig .tc := ⟨.hbm, 130, rfl⟩
abbrev main_v75 : Ref sig .tc := ⟨.hbm, 131, rfl⟩
abbrev main_v76 : Ref sig .tc := ⟨.hbm, 132, rfl⟩
abbrev main_cst_27 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_cst_28 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_cst_29 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_cst_30 : Ref sig .tc := ⟨.hbm, 145, rfl⟩
abbrev main_v86 : Ref sig .tc := ⟨.hbm, 146, rfl⟩
abbrev main_v87 : Ref sig .tc := ⟨.hbm, 147, rfl⟩
abbrev main_cst_31 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_cst_32 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_cst_33 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_cst_34 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_cst_35 : Ref sig .tc := ⟨.hbm, 164, rfl⟩
abbrev main_v100 : Ref sig .tc := ⟨.hbm, 165, rfl⟩
abbrev main_v101 : Ref sig .tc := ⟨.hbm, 166, rfl⟩
abbrev main_cst_36 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_cst_37 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_cst_38 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_cst_39 : Ref sig .tc := ⟨.hbm, 179, rfl⟩
abbrev main_v111 : Ref sig .tc := ⟨.hbm, 180, rfl⟩
abbrev main_v112 : Ref sig .tc := ⟨.hbm, 181, rfl⟩
abbrev main_cst_40 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_cst_41 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_cst_42 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_cst_43 : Ref sig .tc := ⟨.hbm, 194, rfl⟩
abbrev main_v122 : Ref sig .tc := ⟨.hbm, 195, rfl⟩
abbrev main_v123 : Ref sig .tc := ⟨.hbm, 196, rfl⟩
abbrev main_cst_44 : Ref sig .tc := ⟨.hbm, 197, rfl⟩
abbrev main_v124 : Ref sig .tc := ⟨.hbm, 198, rfl⟩
abbrev main_v125 : Ref sig .tc := ⟨.hbm, 199, rfl⟩
abbrev main_cst_45 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_cst_46 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_cst_47 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_cst_48 : Ref sig .tc := ⟨.hbm, 212, rfl⟩
abbrev main_v135 : Ref sig .tc := ⟨.hbm, 213, rfl⟩
abbrev main_v136 : Ref sig .tc := ⟨.hbm, 214, rfl⟩
abbrev main_cst_49 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_cst_50 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_cst_51 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_cst_52 : Ref sig .tc := ⟨.hbm, 227, rfl⟩
abbrev main_v146 : Ref sig .tc := ⟨.hbm, 228, rfl⟩
abbrev main_v147 : Ref sig .tc := ⟨.hbm, 229, rfl⟩

abbrev nD : Nat := 1
abbrev τ : Topo := Topo.v7x

variable {F : FTy → Type} [FloatOps F]
-- ==== NormKernel.lean ====
abbrev S4096x1024 : Shape := ⟨2, ![4096, 1024]⟩
abbrev S256x1024 : Shape := ⟨2, ![256, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S256 : Shape := ⟨1, ![256]⟩
abbrev S256x1 : Shape := ⟨2, ![256, 1]⟩
abbrev S1x128 : Shape := ⟨2, ![1, 128]⟩
abbrev S1 : Shape := ⟨1, ![1]⟩
abbrev S1x1 : Shape := ⟨2, ![1, 1]⟩
abbrev S1024 : Shape := ⟨1, ![1024]⟩

abbrev nBuf : Space → Nat
  | .hbm => 29
  | .vmem => 71
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S256x1024, .f32⟩
  | .hbm, ⟨13, _⟩ => ⟨S4096x1024, .bf16⟩
  | .hbm, ⟨14, _⟩ => ⟨S256x1024, .bf16⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S1x128, .f32⟩
  | .hbm, ⟨19, _⟩ => ⟨S4096x1024, .bf16⟩
  | .hbm, ⟨20, _⟩ => ⟨S1x1024, .f32⟩
  | .hbm, ⟨21, _⟩ => ⟨S4096x1024, .f32⟩
  | .hbm, ⟨22, _⟩ => ⟨S1x1024, .f32⟩
  | .hbm, ⟨23, _⟩ => ⟨S4096x1024, .bf16⟩
  | .hbm, ⟨24, _⟩ => ⟨S1x1024, .f32⟩
  | .hbm, ⟨25, _⟩ => ⟨S256x1024, .bf16⟩
  | .hbm, ⟨26, _⟩ => ⟨S1x1024, .f32⟩
  | .hbm, ⟨27, _⟩ => ⟨S4096x1024, .f32⟩
  | .hbm, ⟨28, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S1x128, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S1x1024, .f32⟩
  | .local _ .vmem, ⟨35, _⟩ => ⟨S512x1024, .bf16⟩
  | .local _ .vmem, ⟨36, _⟩ => ⟨S512x1024, .bf16⟩
  | .local _ .vmem, ⟨37, _⟩ => ⟨S1x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S1x1024, .f32⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S1x1024, .f32⟩
  | .local _ .vmem, ⟨48, _⟩ => ⟨S512x1024, .f32⟩
  | .local _ .vmem, ⟨49, _⟩ => ⟨S512x1024, .f32⟩
  | .local _ .vmem, ⟨50, _⟩ => ⟨S512x1024, .f32⟩
  | .local _ .vmem, ⟨51, _⟩ => ⟨S512x1024, .f32⟩
  | .local _ .vmem, ⟨52, _⟩ => ⟨S1x1024, .f32⟩
  | .local _ .vmem, ⟨53, _⟩ => ⟨S512x1024, .bf16⟩
  | .local _ .vmem, ⟨54, _⟩ => ⟨S512x1024, .bf16⟩
  | .local _ .vmem, ⟨55, _⟩ => ⟨S1x1024, .f32⟩
  | .local _ .vmem, ⟨56, _⟩ => ⟨S256x1024, .f32⟩
  | .local _ .vmem, ⟨57, _⟩ => ⟨S256x1024, .f32⟩
  | .local _ .vmem, ⟨58, _⟩ => ⟨S1x1024, .f32⟩
  | .local _ .vmem, ⟨59, _⟩ => ⟨S256x1024, .bf16⟩
  | .local _ .vmem, ⟨60, _⟩ => ⟨S1x1024, .f32⟩
  | .local _ .vmem, ⟨61, _⟩ => ⟨S512x1024, .f32⟩
  | .local _ .vmem, ⟨62, _⟩ => ⟨S512x1024, .f32⟩
  | .local _ .vmem, ⟨63, _⟩ => ⟨S512x1024, .f32⟩
  | .local _ .vmem, ⟨64, _⟩ => ⟨S512x1024, .f32⟩
  | .local _ .vmem, ⟨65, _⟩ => ⟨S1x1024, .f32⟩
  | .local _ .vmem, ⟨66, _⟩ => ⟨S512x1024, .f32⟩
  | .local _ .vmem, ⟨67, _⟩ => ⟨S512x1024, .f32⟩
  | .local _ .vmem, ⟨68, _⟩ => ⟨S512x1024, .f32⟩
  | .local _ .vmem, ⟨69, _⟩ => ⟨S512x1024, .f32⟩
  | .local _ .vmem, ⟨70, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v5_0 : Ref sig .tc := ⟨.hbm, 19, rfl⟩
abbrev main_v5_1 : Ref sig .tc := ⟨.hbm, 20, rfl⟩
abbrev main_v6_0 : Ref sig .tc := ⟨.hbm, 21, rfl⟩
abbrev main_v6_1 : Ref sig .tc := ⟨.hbm, 22, rfl⟩
abbrev main_v7_0 : Ref sig .tc := ⟨.hbm, 23, rfl⟩
abbrev main_v7_1 : Ref sig .tc := ⟨.hbm, 24, rfl⟩
abbrev main_v8_0 : Ref sig .tc := ⟨.hbm, 25, rfl⟩
abbrev main_v8_1 : Ref sig .tc := ⟨.hbm, 26, rfl⟩
abbrev main_v9_0 : Ref sig .tc := ⟨.hbm, 27, rfl⟩
abbrev main_v9_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg3_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc4_stg3_0 : Ref sig .tc := ⟨.vmem, 25, rfl⟩
abbrev cc4_stg3_1 : Ref sig .tc := ⟨.vmem, 26, rfl⟩
abbrev cc4_stg4_0 : Ref sig .tc := ⟨.vmem, 27, rfl⟩
abbrev cc4_stg4_1 : Ref sig .tc := ⟨.vmem, 28, rfl⟩
abbrev cc4_stg5_0 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg3_1 : Ref sig .tc := ⟨.vmem, 36, rfl⟩
abbrev cc5_stg4_0 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg3_1 : Ref sig .tc := ⟨.vmem, 44, rfl⟩
abbrev cc6_stg4_0 : Ref sig .tc := ⟨.vmem, 45, rfl⟩
abbrev cc6_stg4_1 : Ref sig .tc := ⟨.vmem, 46, rfl⟩
abbrev cc6_stg5_0 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg3_1 : Ref sig .tc := ⟨.vmem, 54, rfl⟩
abbrev cc7_stg4_0 : Ref sig .tc := ⟨.vmem, 55, rfl⟩
abbrev cc8_stg0_0 : Ref sig .tc := ⟨.vmem, 56, rfl⟩
abbrev cc8_stg1_0 : Ref sig .tc := ⟨.vmem, 57, rfl⟩
abbrev cc8_stg2_0 : Ref sig .tc := ⟨.vmem, 58, rfl⟩
abbrev cc8_stg3_0 : Ref sig .tc := ⟨.vmem, 59, rfl⟩
abbrev cc8_stg4_0 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg1_1 : Ref sig .tc := ⟨.vmem, 64, rfl⟩
abbrev cc9_stg2_0 : Ref sig .tc := ⟨.vmem, 65, rfl⟩
abbrev cc9_stg3_0 : Ref sig .tc := ⟨.vmem, 66, rfl⟩
abbrev cc9_stg3_1 : Ref sig .tc := ⟨.vmem, 67, rfl⟩
abbrev cc9_stg4_0 : Ref sig .tc := ⟨.vmem, 68, rfl⟩
abbrev cc9_stg4_1 : Ref sig .tc := ⟨.vmem, 69, rfl⟩
abbrev cc9_stg5_0 : Ref sig .tc := ⟨.vmem, 70, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc2_sem3_0 : DmaSem sig := 13
abbrev cc2_sem3_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc4_sem3_0 : DmaSem sig := 25
abbrev cc4_sem3_1 : DmaSem sig := 26
abbrev cc4_sem4_0 : DmaSem sig := 27
abbrev cc4_sem4_1 : DmaSem sig := 28
abbrev cc4_sem5_0 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem3_0 : DmaSem sig := 35
abbrev cc5_sem3_1 : DmaSem sig := 36
abbrev cc5_sem4_0 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem3_0 : DmaSem sig := 43
abbrev cc6_sem3_1 : DmaSem sig := 44
abbrev cc6_sem4_0 : DmaSem sig := 45
abbrev cc6_sem4_1 : DmaSem sig := 46
abbrev cc6_sem5_0 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem3_1 : DmaSem sig := 54
abbrev cc7_sem4_0 : DmaSem sig := 55
abbrev cc8_sem0_0 : DmaSem sig := 56
abbrev cc8_sem1_0 : DmaSem sig := 57
abbrev cc8_sem2_0 : DmaSem sig := 58
abbrev cc8_sem3_0 : DmaSem sig := 59
abbrev cc8_sem4_0 : DmaSem sig := 60
abbrev cc9_sem0_0 : DmaSem sig := 61
abbrev cc9_sem0_1 : DmaSem sig := 62
abbrev cc9_sem1_0 : DmaSem sig := 63
abbrev cc9_sem1_1 : DmaSem sig := 64
abbrev cc9_sem2_0 : DmaSem sig := 65
abbrev cc9_sem3_0 : DmaSem sig := 66
abbrev cc9_sem3_1 : DmaSem sig := 67
abbrev cc9_sem4_0 : DmaSem sig := 68
abbrev cc9_sem4_1 : DmaSem sig := 69
abbrev cc9_sem5_0 : DmaSem sig := 70

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S512x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S512x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S512x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S512x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S512x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S512x1024 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x1024 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S256x1024 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S256x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S1x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x1024 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

abbrev stage8_4 : Fin 1 → Memref sig .tc .vmem S1x1024 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S512x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S512x1024 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S512x1024 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S512x1024 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S1x1024 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]
-- ==== NormReferenceIdeal.lean ====
abbrev S4096x1024 : Shape := ⟨2, ![4096, 1024]⟩
abbrev S256x1024 : Shape := ⟨2, ![256, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S1024 : Shape := ⟨1, ![1024]⟩
abbrev S1x128 : Shape := ⟨2, ![1, 128]⟩

abbrev nBuf : Space → Nat
  | .hbm => 233
  | .vmem => 0
  | .smem => 0
  | _ => 0

abbrev hbmTy0_0 (i : Nat) : BufTy := match i % 128 with
  | 0 => ⟨S4096x1024, .f32⟩
  | 1 => ⟨S256x1024, .f32⟩
  | 2 => ⟨S4096x1024, .f32⟩
  | 3 => ⟨S4096x1024, .f32⟩
  | 4 => ⟨S4096x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S4096x1024, .f32⟩
  | 11 => ⟨S4096x1024, .f32⟩
  | 12 => ⟨S256x1024, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S_, .f32⟩
  | 35 => ⟨S4096, .f32⟩
  | 36 => ⟨S4096x1, .f32⟩
  | 37 => ⟨S_, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x1, .f32⟩
  | 44 => ⟨S4096x1, .f32⟩
  | 45 => ⟨S_, .f32⟩
  | 46 => ⟨S4096x1, .f32⟩
  | 47 => ⟨S4096x1, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S_, .f32⟩
  | 59 => ⟨S4096, .f32⟩
  | 60 => ⟨S_, .f32⟩
  | 61 => ⟨S4096, .f32⟩
  | 62 => ⟨S4096, .f32⟩
  | 63 => ⟨S_, .f32⟩
  | 64 => ⟨S_, .f32⟩
  | 65 => ⟨S_, .f32⟩
  | 66 => ⟨S_, .f32⟩
  | 67 => ⟨S4096x1024, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1, .f32⟩
  | 78 => ⟨S4096x1, .f32⟩
  | 79 => ⟨S_, .f32⟩
  | 80 => ⟨S4096x1, .f32⟩
  | 81 => ⟨S4096x1, .f32⟩
  | 82 => ⟨S4096x1024, .f32⟩
  | 83 => ⟨S4096x1024, .f32⟩
  | 84 => ⟨S4096x1024, .f32⟩
  | 85 => ⟨S4096x1024, .f32⟩
  | 86 => ⟨S256x1024, .f32⟩
  | 87 => ⟨S_, .f32⟩
  | 88 => ⟨S256, .f32⟩
  | 89 => ⟨S256x1, .f32⟩
  | 90 => ⟨S_, .f32⟩
  | 91 => ⟨S256x1, .f32⟩
  | 92 => ⟨S256x1, .f32⟩
  | 93 => ⟨S_, .f32⟩
  | 94 => ⟨S256x1, .f32⟩
  | 95 => ⟨S256x1, .f32⟩
  | 96 => ⟨S256x1, .f32⟩
  | 97 => ⟨S256x1024, .f32⟩
  | 98 => ⟨S256x1024, .f32⟩
  | 99 => ⟨S256x1024, .f32⟩
  | 100 => ⟨S256x1024, .f32⟩
  | 101 => ⟨S4096x1024, .f32⟩
  | 102 => ⟨S_, .f32⟩
  | 103 => ⟨S4096, .f32⟩
  | 104 => ⟨S4096x1, .f32⟩
  | 105 => ⟨S_, .f32⟩
  | 106 => ⟨S4096x1, .f32⟩
  | 107 => ⟨S4096x1, .f32⟩
  | 108 => ⟨S_, .f32⟩
  | 109 => ⟨S4096x1, .f32⟩
  | 110 => ⟨S4096x1, .f32⟩
  | 111 => ⟨S4096x1, .f32⟩
  | 112 => ⟨S4096x1, .f32⟩
  | 113 => ⟨S_, .f32⟩
  | 114 => ⟨S4096x1, .f32⟩
  | 115 => ⟨S4096x1, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S_, .f32⟩
  | 122 => ⟨S1024, .f32⟩
  | 123 => ⟨S1x1024, .f32⟩
  | 124 => ⟨S4096x1024, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S4096, .f32⟩
  | 1 => ⟨S4096x1, .f32⟩
  | 2 => ⟨S4096x1024, .f32⟩
  | 3 => ⟨S4096x1024, .f32⟩
  | 4 => ⟨S4096x1, .f32⟩
  | 5 => ⟨S_, .f32⟩
  | 6 => ⟨S4096x1, .f32⟩
  | 7 => ⟨S4096x1, .f32⟩
  | 8 => ⟨S_, .f32⟩
  | 9 => ⟨S4096, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S256x1024, .f32⟩
  | 16 => ⟨S_, .f32⟩
  | 17 => ⟨S1024, .f32⟩
  | 18 => ⟨S1x1024, .f32⟩
  | 19 => ⟨S4096x1024, .f32⟩
  | 20 => ⟨S_, .f32⟩
  | 21 => ⟨S1024, .f32⟩
  | 22 => ⟨S1x1024, .f32⟩
  | 23 => ⟨S4096x1024, .f32⟩
  | 24 => ⟨S4096x1024, .f32⟩
  | 25 => ⟨S4096x1024, .f32⟩
  | 26 => ⟨S_, .f32⟩
  | 27 => ⟨S4096, .f32⟩
  | 28 => ⟨S4096x1, .f32⟩
  | 29 => ⟨S4096x1024, .f32⟩
  | 30 => ⟨S4096x1024, .f32⟩
  | 31 => ⟨S4096x1, .f32⟩
  | 32 => ⟨S_, .f32⟩
  | 33 => ⟨S4096x1, .f32⟩
  | 34 => ⟨S4096x1, .f32⟩
  | 35 => ⟨S_, .f32⟩
  | 36 => ⟨S4096, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S_, .f32⟩
  | 43 => ⟨S_, .f32⟩
  | 44 => ⟨S_, .f32⟩
  | 45 => ⟨S4096, .f32⟩
  | 46 => ⟨S_, .f32⟩
  | 47 => ⟨S4096, .f32⟩
  | 48 => ⟨S4096, .f32⟩
  | 49 => ⟨S4096x1024, .f32⟩
  | 50 => ⟨S4096x1024, .f32⟩
  | 51 => ⟨S4096x1024, .f32⟩
  | 52 => ⟨S4096x1024, .f32⟩
  | 53 => ⟨S_, .f32⟩
  | 54 => ⟨S1024, .f32⟩
  | 55 => ⟨S1x1024, .f32⟩
  | 56 => ⟨S4096x1024, .f32⟩
  | 57 => ⟨S4096x1024, .f32⟩
  | 58 => ⟨S4096x1024, .f32⟩
  | 59 => ⟨S_, .f32⟩
  | 60 => ⟨S4096, .f32⟩
  | 61 => ⟨S4096x1, .f32⟩
  | 62 => ⟨S4096x1024, .f32⟩
  | 63 => ⟨S4096x1024, .f32⟩
  | 64 => ⟨S4096x1, .f32⟩
  | 65 => ⟨S_, .f32⟩
  | 66 => ⟨S4096x1, .f32⟩
  | 67 => ⟨S4096x1, .f32⟩
  | 68 => ⟨S_, .f32⟩
  | 69 => ⟨S4096, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S_, .f32⟩
  | 78 => ⟨S1024, .f32⟩
  | 79 => ⟨S1x1024, .f32⟩
  | 80 => ⟨S4096x1024, .f32⟩
  | 81 => ⟨S4096x1024, .f32⟩
  | 82 => ⟨S4096x1024, .f32⟩
  | 83 => ⟨S_, .f32⟩
  | 84 => ⟨S4096, .f32⟩
  | 85 => ⟨S4096x1, .f32⟩
  | 86 => ⟨S4096x1024, .f32⟩
  | 87 => ⟨S4096x1024, .f32⟩
  | 88 => ⟨S4096x1, .f32⟩
  | 89 => ⟨S_, .f32⟩
  | 90 => ⟨S4096x1, .f32⟩
  | 91 => ⟨S4096x1, .f32⟩
  | 92 => ⟨S_, .f32⟩
  | 93 => ⟨S4096, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S4096x1024, .bf16⟩
  | 100 => ⟨S256x1024, .bf16⟩
  | 101 => ⟨S4096x1024, .bf16⟩
  | 102 => ⟨S1x128, .f32⟩
  | 103 => ⟨S4096x1024, .bf16⟩
  | 104 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_cst_10 : Ref sig .tc := ⟨.hbm, 63, rfl⟩
abbrev main_v39 : Ref sig .tc := ⟨.hbm, 64, rfl⟩
abbrev main_cst_11 : Ref sig .tc := ⟨.hbm, 65, rfl⟩
abbrev main_v40 : Ref sig .tc := ⟨.hbm, 66, rfl⟩
abbrev main_v41 : Ref sig .tc := ⟨.hbm, 67, rfl⟩
abbrev main_cst_12 : Ref sig .tc := ⟨.hbm, 68, rfl⟩
abbrev main_v42 : Ref sig .tc := ⟨.hbm, 69, rfl⟩
abbrev main_v43 : Ref sig .tc := ⟨.hbm, 70, rfl⟩
abbrev main_cst_13 : Ref sig .tc := ⟨.hbm, 71, rfl⟩
abbrev main_v44 : Ref sig .tc := ⟨.hbm, 72, rfl⟩
abbrev main_v45 : Ref sig .tc := ⟨.hbm, 73, rfl⟩
abbrev main_cst_14 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_15 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_16 : Ref sig .tc := ⟨.hbm, 87, rfl⟩
abbrev main_v57 : Ref sig .tc := ⟨.hbm, 88, rfl⟩
abbrev main_v58 : Ref sig .tc := ⟨.hbm, 89, rfl⟩
abbrev main_cst_17 : Ref sig .tc := ⟨.hbm, 90, rfl⟩
abbrev main_v59 : Ref sig .tc := ⟨.hbm, 91, rfl⟩
abbrev main_v60 : Ref sig .tc := ⟨.hbm, 92, rfl⟩
abbrev main_cst_18 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_19 : Ref sig .tc := ⟨.hbm, 102, rfl⟩
abbrev main_v69 : Ref sig .tc := ⟨.hbm, 103, rfl⟩
abbrev main_v70 : Ref sig .tc := ⟨.hbm, 104, rfl⟩
abbrev main_cst_20 : Ref sig .tc := ⟨.hbm, 105, rfl⟩
abbrev main_v71 : Ref sig .tc := ⟨.hbm, 106, rfl⟩
abbrev main_v72 : Ref sig .tc := ⟨.hbm, 107, rfl⟩
abbrev main_cst_21 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_22 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_23 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_24 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_25 : Ref sig .tc := ⟨.hbm, 133, rfl⟩
abbrev main_v94 : Ref sig .tc := ⟨.hbm, 134, rfl⟩
abbrev main_v95 : Ref sig .tc := ⟨.hbm, 135, rfl⟩
abbrev main_cst_26 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_27 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_28 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_29 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_30 : Ref sig .tc := ⟨.hbm, 160, rfl⟩
abbrev main_v116 : Ref sig .tc := ⟨.hbm, 161, rfl⟩
abbrev main_v117 : Ref sig .tc := ⟨.hbm, 162, rfl⟩
abbrev main_cst_31 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_32 : Ref sig .tc := ⟨.hbm, 170, rfl⟩
abbrev main_cst_33 : Ref sig .tc := ⟨.hbm, 171, rfl⟩
abbrev main_v124 : Ref sig .tc := ⟨.hbm, 172, rfl⟩
abbrev main_v125 : Ref sig .tc := ⟨.hbm, 173, rfl⟩
abbrev main_cst_34 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_35 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_36 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_37 : Ref sig .tc := ⟨.hbm, 193, rfl⟩
abbrev main_v142 : Ref sig .tc := ⟨.hbm, 194, rfl⟩
abbrev main_v143 : Ref sig .tc := ⟨.hbm, 195, rfl⟩
abbrev main_cst_38 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_cst_39 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_cst_40 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_cst_41 : Ref sig .tc := ⟨.hbm, 217, rfl⟩
abbrev main_v162 : Ref sig .tc := ⟨.hbm, 218, rfl⟩
abbrev main_v163 : Ref sig .tc := ⟨.hbm, 219, rfl⟩
abbrev main_cst_42 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩

abbrev nD : Nat := 1
abbrev τ : Topo := Topo.v7x

variable {F : FTy → Type} [FloatOps F]
-- ==== MemKernel.lean ====
abbrev S256x1024 : Shape := ⟨2, ![256, 1024]⟩
abbrev S1024x2048 : Shape := ⟨2, ![1024, 2048]⟩
abbrev S4096x12288 : Shape := ⟨2, ![4096, 12288]⟩
abbrev S256x2048 : Shape := ⟨2, ![256, 2048]⟩
abbrev S1024x1024 : Shape := ⟨2, ![1024, 1024]⟩
abbrev S4096x1024 : Shape := ⟨2, ![4096, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 8
  | .vmem => 18
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S4096x12288, .f32⟩
  | .hbm, ⟨3, _⟩ => ⟨S256x2048, .f32⟩
  | .hbm, ⟨4, _⟩ => ⟨S256x2048, .f32⟩
  | .hbm, ⟨5, _⟩ => ⟨S4096x1024, .bf16⟩
  | .hbm, ⟨6, _⟩ => ⟨S1024x2048, .f32⟩
  | .hbm, ⟨7, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S512x1024, .f32⟩
  | .local _ .vmem, ⟨6, _⟩ => ⟨S512x1024, .f32⟩
  | .local _ .vmem, ⟨7, _⟩ => ⟨S256x2048, .f32⟩
  | .local _ .vmem, ⟨8, _⟩ => ⟨S512x1024, .bf16⟩
  | .local _ .vmem, ⟨9, _⟩ => ⟨S512x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S1024x1024, .f32⟩
  | .local _ .vmem, ⟨14, _⟩ => ⟨S1024x1024, .f32⟩
  | .local _ .vmem, ⟨15, _⟩ => ⟨S256x2048, .f32⟩
  | .local _ .vmem, ⟨16, _⟩ => ⟨S1024x2048, .bf16⟩
  | .local _ .vmem, ⟨17, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c9_i32 : BitVec 32 := 9#32
  let c0_i32 : BitVec 32 := 0#32
  ![arg0.toNat, c9_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![1, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S256x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S256x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S1024x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S256x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]
-- ==== MemReferenceIdeal.lean ====
abbrev S256x1024 : Shape := ⟨2, ![256, 1024]⟩
abbrev S1024x2048 : Shape := ⟨2, ![1024, 2048]⟩
abbrev S4096x12288 : Shape := ⟨2, ![4096, 12288]⟩
abbrev S256x2048 : Shape := ⟨2, ![256, 2048]⟩
abbrev S4096x1024 : Shape := ⟨2, ![4096, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S2048x1024 : Shape := ⟨2, ![2048, 1024]⟩

abbrev nBuf : Space → Nat
  | .hbm => 38
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S4096x12288, .f32⟩
  | .hbm, ⟨3, _⟩ => ⟨S256x2048, .f32⟩
  | .hbm, ⟨4, _⟩ => ⟨S256x1024, .f32⟩
  | .hbm, ⟨5, _⟩ => ⟨S1024x2048, .f32⟩
  | .hbm, ⟨6, _⟩ => ⟨S256x2048, .f32⟩
  | .hbm, ⟨7, _⟩ => ⟨S4096x1024, .f32⟩
  | .hbm, ⟨8, _⟩ => ⟨S256x1024, .f32⟩
  | .hbm, ⟨9, _⟩ => ⟨S256x1024, .f32⟩
  | .hbm, ⟨10, _⟩ => ⟨S4096x4x256, .f32⟩
  | .hbm, ⟨11, _⟩ => ⟨S256x4x256, .f32⟩
  | .hbm, ⟨12, _⟩ => ⟨S256x4x256, .f32⟩
  | .hbm, ⟨13, _⟩ => ⟨S4x4096x256, .f32⟩
  | .hbm, ⟨14, _⟩ => ⟨S_, .f32⟩
  | .hbm, ⟨15, _⟩ => ⟨S4x4096x256, .f32⟩
  | .hbm, ⟨16, _⟩ => ⟨S4x4096x256, .f32⟩
  | .hbm, ⟨17, _⟩ => ⟨S_, .f32⟩
  | .hbm, ⟨18, _⟩ => ⟨S4x4096, .f32⟩
  | .hbm, ⟨19, _⟩ => ⟨S_, .f32⟩
  | .hbm, ⟨20, _⟩ => ⟨S4x4096, .f32⟩
  | .hbm, ⟨21, _⟩ => ⟨S4x4096, .f32⟩
  | .hbm, ⟨22, _⟩ => ⟨S4x4096x1, .f32⟩
  | .hbm, ⟨23, _⟩ => ⟨S4x4096x256, .f32⟩
  | .hbm, ⟨24, _⟩ => ⟨S4x4096x256, .f32⟩
  | .hbm, ⟨25, _⟩ => ⟨S4x4096x256, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S4x4096x256, .f32⟩
  | .hbm, ⟨30, _⟩ => ⟨S4x4096x256, .f32⟩
  | .hbm, ⟨31, _⟩ => ⟨S4x256x4096, .f32⟩
  | .hbm, ⟨32, _⟩ => ⟨S4096x4x256, .f32⟩
  | .hbm, ⟨33, _⟩ => ⟨S4096x1024, .f32⟩
  | .hbm, ⟨34, _⟩ => ⟨S4096x1024, .bf16⟩
  | .hbm, ⟨35, _⟩ => ⟨S2048x1024, .f32⟩
  | .hbm, ⟨36, _⟩ => ⟨S1024x2048, .f32⟩
  | .hbm, ⟨37, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== ConvKernel.lean ====
abbrev S4096x12288 : Shape := ⟨2, ![4096, 12288]⟩
abbrev S4x3072 : Shape := ⟨2, ![4, 3072]⟩
abbrev S1x3072 : Shape := ⟨2, ![1, 3072]⟩
abbrev S4096x3072 : Shape := ⟨2, ![4096, 3072]⟩
abbrev S4096x256 : Shape := ⟨2, ![4096, 256]⟩
abbrev S4x256 : Shape := ⟨2, ![4, 256]⟩
abbrev S1x256 : Shape := ⟨2, ![1, 256]⟩
abbrev S512x256 : Shape := ⟨2, ![512, 256]⟩
abbrev S8x256 : Shape := ⟨2, ![8, 256]⟩
abbrev S520x256 : Shape := ⟨2, ![520, 256]⟩
abbrev S8x3072 : Shape := ⟨2, ![8, 3072]⟩
abbrev S4104x256 : Shape := ⟨2, ![4104, 256]⟩
abbrev S256 : Shape := ⟨1, ![256]⟩

abbrev nBuf : Space → Nat
  | .hbm => 9
  | .vmem => 25
  | .smem => 0
  | _ => 0

abbrev bufTy : (tb : Table) → Fin (tcTables nBuf tb) → BufTy
  | .hbm, ⟨0, _⟩ => ⟨S4096x12288, .f32⟩
  | .hbm, ⟨1, _⟩ => ⟨S4x3072, .f32⟩
  | .hbm, ⟨2, _⟩ => ⟨S1x3072, .f32⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S4096x3072, .bf16⟩
  | .hbm, ⟨7, _⟩ => ⟨S8x3072, .f32⟩
  | .hbm, ⟨8, _⟩ => ⟨S1x3072, .f32⟩
  | .local _ .vmem, ⟨0, _⟩ => ⟨S4096x256, .f32⟩
  | .local _ .vmem, ⟨1, _⟩ => ⟨S4096x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S4096x256, .f32⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S4096x256, .f32⟩
  | .local _ .vmem, ⟨14, _⟩ => ⟨S4096x256, .f32⟩
  | .local _ .vmem, ⟨15, _⟩ => ⟨S4096x256, .f32⟩
  | .local _ .vmem, ⟨16, _⟩ => ⟨S4x256, .f32⟩
  | .local _ .vmem, ⟨17, _⟩ => ⟨S4x256, .f32⟩
  | .local _ .vmem, ⟨18, _⟩ => ⟨S4096x256, .bf16⟩
  | .local _ .vmem, ⟨19, _⟩ => ⟨S4096x256, .bf16⟩
  | .local _ .vmem, ⟨20, _⟩ => ⟨S8x256, .f32⟩
  | .local _ .vmem, ⟨21, _⟩ => ⟨S8x256, .f32⟩
  | .local _ .vmem, ⟨22, _⟩ => ⟨S1x256, .f32⟩
  | .local _ .vmem, ⟨23, _⟩ => ⟨S1x256, .f32⟩
  | .local _ .vmem, ⟨24, _⟩ => ⟨S4104x256, .f32⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ConvReferenceIdeal.lean ====
abbrev S4096x12288 : Shape := ⟨2, ![4096, 12288]⟩
abbrev S4x3072 : Shape := ⟨2, ![4, 3072]⟩
abbrev S1x3072 : Shape := ⟨2, ![1, 3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S3072 : Shape := ⟨1, ![3072]⟩
abbrev S8x3072 : Shape := ⟨2, ![8, 3072]⟩

abbrev nBuf : Space → Nat
  | .hbm => 126
  | .vmem => 0
  | .smem => 0
  | _ => 0

abbrev bufTy : (tb : Table) → Fin (tcTables nBuf tb) → BufTy
  | .hbm, ⟨0, _⟩ => ⟨S4096x12288, .f32⟩
  | .hbm, ⟨1, _⟩ => ⟨S4x3072, .f32⟩
  | .hbm, ⟨2, _⟩ => ⟨S1x3072, .f32⟩
  | .hbm, ⟨3, _⟩ => ⟨S4096x3072, .f32⟩
  | .hbm, ⟨4, _⟩ => ⟨S4096x3072, .f32⟩
  | .hbm, ⟨5, _⟩ => ⟨S_, .f32⟩
  | .hbm, ⟨6, _⟩ => ⟨S3x3072, .f32⟩
  | .hbm, ⟨7, _⟩ => ⟨S4099x3072, .f32⟩
  | .hbm, ⟨8, _⟩ => ⟨S_, .f32⟩
  | .hbm, ⟨9, _⟩ => ⟨S3x3072, .f32⟩
  | .hbm, ⟨10, _⟩ => ⟨S1x3072, .f32⟩
  | .hbm, ⟨11, _⟩ => ⟨S3072, .f32⟩
  | .hbm, ⟨12, _⟩ => ⟨S4096x3072, .f32⟩
  | .hbm, ⟨13, _⟩ => ⟨S1x3072, .f32⟩
  | .hbm, ⟨14, _⟩ => ⟨S4096x3072, .f32⟩
  | .hbm, ⟨15, _⟩ => ⟨S4096x3072, .f32⟩
  | .hbm, ⟨16, _⟩ => ⟨S_, .f32⟩
  | .hbm, ⟨17, _⟩ => ⟨S4096x3072, .f32⟩
  | .hbm, ⟨18, _⟩ => ⟨S4096x3072, .f32⟩
  | .hbm, ⟨19, _⟩ => ⟨S1x3072, .f32⟩
  | .hbm, ⟨20, _⟩ => ⟨S3072, .f32⟩
  | .hbm, ⟨21, _⟩ => ⟨S4096x3072, .f32⟩
  | .hbm, ⟨22, _⟩ => ⟨S1x3072, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S1x3072, .f32⟩
  | .hbm, ⟨27, _⟩ => ⟨S3072, .f32⟩
  | .hbm, ⟨28, _⟩ => ⟨S4096x3072, .f32⟩
  | .hbm, ⟨29, _⟩ => ⟨S1x3072, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S1x3072, .f32⟩
  | .hbm, ⟨34, _⟩ => ⟨S3072, .f32⟩
  | .hbm, ⟨35, _⟩ => ⟨S4096x3072, .f32⟩
  | .hbm, ⟨36, _⟩ => ⟨S1x3072, .f32⟩
  | .hbm, ⟨37, _⟩ => ⟨S4096x3072, .f32⟩
  | .hbm, ⟨38, _⟩ => ⟨S4096x3072, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S4096x3072, .f32⟩
  | .hbm, ⟨44, _⟩ => ⟨S_, .f32⟩
  | .hbm, ⟨45, _⟩ => ⟨S4096x3072, .f32⟩
  | .hbm, ⟨46, _⟩ => ⟨S4096x3072, .f32⟩
  | .hbm, ⟨47, _⟩ => ⟨S_, .f32⟩
  | .hbm, ⟨48, _⟩ => ⟨S4096x3072, .f32⟩
  | .hbm, ⟨49, _⟩ => ⟨S4096x3072, .f32⟩
  | .hbm, ⟨50, _⟩ => ⟨S_, .f32⟩
  | .hbm, ⟨51, _⟩ => ⟨S4096x3072, .f32⟩
  | .hbm, ⟨52, _⟩ => ⟨S4096x3072, .f32⟩
  | .hbm, ⟨53, _⟩ => ⟨S4096x3072, .f32⟩
  | .hbm, ⟨54, _⟩ => ⟨S4096x3072, .f32⟩
  | .hbm, ⟨55, _⟩ => ⟨S4096x3072, .f32⟩
  | .hbm, ⟨56, _⟩ => ⟨S4096x3072, .f32⟩
  | .hbm, ⟨57, _⟩ => ⟨S4096x3072, .f32⟩
  | .hbm, ⟨58, _⟩ => ⟨S4096x3072, .f32⟩
  | .hbm, ⟨59, _⟩ => ⟨S_, .f32⟩
  | .hbm, ⟨60, _⟩ => ⟨S3072, .f32⟩
  | .hbm, ⟨61, _⟩ => ⟨S1x3072, .f32⟩
  | .hbm, ⟨62, _⟩ => ⟨S4096x3072, .f32⟩
  | .hbm, ⟨63, _⟩ => ⟨S4096x3072, .f32⟩
  | .hbm, ⟨64, _⟩ => ⟨S4096x3072, .f32⟩
  | .hbm, ⟨65, _⟩ => ⟨S_, .f32⟩
  | .hbm, ⟨66, _⟩ => ⟨S3072, .f32⟩
  | .hbm, ⟨67, _⟩ => ⟨S1x3072, .f32⟩
  | .hbm, ⟨68, _⟩ => ⟨S_, .f32⟩
  | .hbm, ⟨69, _⟩ => ⟨S3072, .f32⟩
  | .hbm, ⟨70, _⟩ => ⟨S_, .f32⟩
  | .hbm, ⟨71, _⟩ => ⟨S4099x3072, .f32⟩
  | .hbm, ⟨72, _⟩ => ⟨S1x3072, .f32⟩
  | .hbm, ⟨73, _⟩ => ⟨S_, .f32⟩
  | .hbm, ⟨74, _⟩ => ⟨S4x3072, .f32⟩
  | .hbm, ⟨75, _⟩ => ⟨S4096x3072, .f32⟩
  | .hbm, ⟨76, _⟩ => ⟨S4096x3072, .f32⟩
  | .hbm, ⟨77, _⟩ => ⟨S4096x3072, .f32⟩
  | .hbm, ⟨78, _⟩ => ⟨S_, .f32⟩
  | .hbm, ⟨79, _⟩ => ⟨S3072, .f32⟩
  | .hbm, ⟨80, _⟩ => ⟨S1x3072, .f32⟩
  | .hbm, ⟨81, _⟩ => ⟨S_, .f32⟩
  | .hbm, ⟨82, _⟩ => ⟨S3072, .f32⟩
  | .hbm, ⟨83, _⟩ => ⟨S_, .f32⟩
  | .hbm, ⟨84, _⟩ => ⟨S4099x3072, .f32⟩
  | .hbm, ⟨85, _⟩ => ⟨S4099x3072, .f32⟩
  | .hbm, ⟨86, _⟩ => ⟨S1x3072, .f32⟩
  | .hbm, ⟨87, _⟩ => ⟨S_, .f32⟩
  | .hbm, ⟨88, _⟩ => ⟨S4x3072, .f32⟩
  | .hbm, ⟨89, _⟩ => ⟨S4x3072, .f32⟩
  | .hbm, ⟨90, _⟩ => ⟨S4096x3072, .f32⟩
  | .hbm, ⟨91, _⟩ => ⟨S4096x3072, .f32⟩
  | .hbm, ⟨92, _⟩ => ⟨S4096x3072, .f32⟩
  | .hbm, ⟨93, _⟩ => ⟨S_, .f32⟩
  | .hbm, ⟨94, _⟩ => ⟨S3072, .f32⟩
  | .hbm, ⟨95, _⟩ => ⟨S1x3072, .f32⟩
  | .hbm, ⟨96, _⟩ => ⟨S_, .f32⟩
  | .hbm, ⟨97, _⟩ => ⟨S3072, .f32⟩
  | .hbm, ⟨98, _⟩ => ⟨S_, .f32⟩
  | .hbm, ⟨99, _⟩ => ⟨S4099x3072, .f32⟩
  | .hbm, ⟨100, _⟩ => ⟨S4099x3072, .f32⟩
  | .hbm, ⟨101, _⟩ => ⟨S1x3072, .f32⟩
  | .hbm, ⟨102, _⟩ => ⟨S_, .f32⟩
  | .hbm, ⟨103, _⟩ => ⟨S4x3072, .f32⟩
  | .hbm, ⟨104, _⟩ => ⟨S4x3072, .f32⟩
  | .hbm, ⟨105, _⟩ => ⟨S4096x3072, .f32⟩
  | .hbm, ⟨106, _⟩ => ⟨S4096x3072, .f32⟩
  | .hbm, ⟨107, _⟩ => ⟨S4096x3072, .f32⟩
  | .hbm, ⟨108, _⟩ => ⟨S_, .f32⟩
  | .hbm, ⟨109, _⟩ => ⟨S3072, .f32⟩
  | .hbm, ⟨110, _⟩ => ⟨S1x3072, .f32⟩
  | .hbm, ⟨111, _⟩ => ⟨S_, .f32⟩
  | .hbm, ⟨112, _⟩ => ⟨S3072, .f32⟩
  | .hbm, ⟨113, _⟩ => ⟨S_, .f32⟩
  | .hbm, ⟨114, _⟩ => ⟨S4099x3072, .f32⟩
  | .hbm, ⟨115, _⟩ => ⟨S4099x3072, .f32⟩
  | .hbm, ⟨116, _⟩ => ⟨S1x3072, .f32⟩
  | .hbm, ⟨117, _⟩ => ⟨S_, .f32⟩
  | .hbm, ⟨118, _⟩ => ⟨S4x3072, .f32⟩
  | .hbm, ⟨119, _⟩ => ⟨S4x3072, .f32⟩
  | .hbm, ⟨120, _⟩ => ⟨S3x3072, .f32⟩
  | .hbm, ⟨121, _⟩ => ⟨S4096x3072, .f32⟩
  | .hbm, ⟨122, _⟩ => ⟨S4096x3072, .bf16⟩
  | .hbm, ⟨123, _⟩ => ⟨S_, .i32⟩
  | .hbm, ⟨124, _⟩ => ⟨S_, .f32⟩
  | .hbm, ⟨125, _⟩ => ⟨S8x3072, .f32⟩
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v35_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v35_1 : Ref sig .tc := ⟨.hbm, 53, rfl⟩
abbrev main_v35_0 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v36 : Ref sig .tc := ⟨.hbm, 58, rfl⟩
abbrev main_cst_2 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_cst_17 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_18 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c : Ref sig .tc := ⟨.hbm, 123, rfl⟩
abbrev main_call2_v0 : Ref sig .tc := ⟨.hbm, 124, rfl⟩
abbrev main_v84 : Ref sig .tc := ⟨.hbm, 125, rfl⟩

abbrev nD : Nat := 1
abbrev τ : Topo := Topo.v7x

variable {F : FTy → Type} [FloatOps F]
-- ==== Proof.SoftmaxGrad.lean ====
/-
  The algebra of a softmax's gradient over the extended reals, free of any program.

  A row of scores is turned into weights `e j = exp (x j - max x)`, with sum `N`.  Two formulas for the gradient of a
  score are compared: the one a fused backward pass uses, which normalises the weights first and then subtracts the
  weighted mean, and the one that differentiating `e / N` as a quotient gives, with `1 / (N · N)` in it.  The cotangents
  `G j` may be any extended reals: only the weights have to be real and positive, because multiplication by a
  nonnegative real distributes over every extended sum.
-/
module

public import Idealize.ShloMosaic.PureOps.Ideal
public import Idealize.ShloMosaic.Lib.Pointwise
public import Mathlib.Data.EReal.Inv

@[expose] public section

noncomputable section

namespace Cert.SoftmaxGrad

open Idealize.ShloMosaic

/-- An extended real that is neither infinity is a real number. -/
theorem exists_real {x : EReal} (hb : x ≠ ⊥) (ht : x ≠ ⊤) : ∃ r : ℝ, x = (r : EReal) :=
  ⟨x.toReal, (EReal.coe_toReal ht hb).symm⟩

/-- A nonnegative real factor distributes over an extended sum of two. -/
theorem coe_mul_add {a : ℝ} (ha : 0 ≤ a) (y z : EReal) : (a : EReal) * (y + z) = (a : EReal) * y + (a : EReal) * z :=
  EReal.left_distrib_of_nonneg_of_ne_top (EReal.coe_nonneg.mpr ha) (EReal.coe_ne_top a) y z

/-- A nonnegative real factor goes into a finite sum of extended reals. -/
theorem mul_sum_coe {ι : Type} (s : Finset ι) {a : ℝ} (ha : 0 ≤ a) (f : ι → EReal) :
    (a : EReal) * ∑ k ∈ s, f k = ∑ k ∈ s, (a : EReal) * f k := by
  classical
  induction s using Finset.induction_on with
  | empty => simp
  | insert k s hk ih => rw [Finset.sum_insert hk, Finset.sum_insert hk, coe_mul_add ha, ih]

/-- The quotient by a nonzero real is the product with its reciprocal. -/
theorem div_coe (x : EReal) {N : ℝ} (hN : N ≠ 0) : Ideal.div x (N : EReal) = x * ((N⁻¹ : ℝ) : EReal) := by
  unfold Ideal.div
  rw [if_neg (by simpa using hN), EReal.coe_inv]

/-- The two gradients of a score agree, for real positive weights and any cotangents. -/
theorem grad_eq {ι : Type} [Fintype ι] (e : ι → ℝ) {N : ℝ} (hN : 0 < N) (G : ι → EReal) (j : ι) (he : 0 ≤ e j) :
    Ideal.div (e j : EReal) (N : EReal) * (G j - ∑ k, G k * Ideal.div (e k : EReal) (N : EReal))
      = (Ideal.div (G j) (N : EReal) + -(∑ k, G k * Ideal.div 1 ((N : EReal) * (N : EReal)) * (e k : EReal))) * (e j : EReal) := by
  have hN0 : N ≠ 0 := hN.ne'
  have hr : (0 : ℝ) ≤ N⁻¹ := (inv_pos.mpr hN).le
  have hsum : (∑ k, G k * Ideal.div 1 ((N : EReal) * (N : EReal)) * (e k : EReal))
      = ((N⁻¹ : ℝ) : EReal) * ∑ k, G k * Ideal.div (e k : EReal) (N : EReal) := by
    rw [mul_sum_coe _ hr]
    refine Finset.sum_congr rfl fun k _ => ?_
    rw [← EReal.coe_mul, div_coe _ (mul_ne_zero hN0 hN0), div_coe _ hN0, one_mul, mul_inv, EReal.coe_mul]
    ac_rfl
  rw [hsum, div_coe (e j : EReal) hN0, div_coe (G j) hN0, sub_eq_add_neg, ← mul_neg, mul_comm (G j), ← coe_mul_add hr]
  ac_rfl

/-- The exponential of a real is a real. -/
theorem exp_coe (r : ℝ) : Ideal.exp (r : EReal) = (Real.exp r : EReal) := rfl

/-- The running maximum of finitely many reals, started at −∞ and taken over at least one of them, is real. -/
theorem fold_max_real {ι : Type} [Fintype ι] [Nonempty ι] (x : ι → ℝ) :
    ∃ M : ℝ, Finset.univ.fold max (⊥ : EReal) (fun k => (x k : EReal)) = (M : EReal) := by
  obtain ⟨i⟩ := ‹Nonempty ι›
  refine exists_real ?_ ?_
  · have h : ((x i : ℝ) : EReal) ≤ Finset.univ.fold max (⊥ : EReal) (fun k => (x k : EReal)) :=
      Finset.le_fold_max (x i : EReal) |>.mpr (Or.inr ⟨i, Finset.mem_univ _, le_rfl⟩)
    intro hb
    rw [hb] at h
    exact (EReal.coe_ne_bot _) (le_bot_iff.mp h)
  · exact ((Finset.fold_max_lt (⊤ : EReal)).mpr ⟨bot_lt_top, fun k _ => EReal.coe_lt_top _⟩).ne

/-- The softmax weights of a row of reals: real, positive, and so is their sum. -/
theorem weights_real {ι : Type} [Fintype ι] [Nonempty ι] (x : ι → EReal) (hx : ∀ k, ∃ r : ℝ, x k = (r : EReal)) :
    ∃ e : ι → ℝ, (∀ k, 0 < e k)
      ∧ (fun k => Ideal.exp (x k - Finset.univ.fold max (⊥ : EReal) x)) = (fun k => (e k : EReal))
      ∧ 0 < ∑ k, e k ∧ (∑ k, Ideal.exp (x k - Finset.univ.fold max (⊥ : EReal) x)) = ((∑ k, e k : ℝ) : EReal) := by
  choose r hr using hx
  obtain rfl : x = fun k => (r k : EReal) := funext hr
  obtain ⟨M, hM⟩ := fold_max_real r
  have h : ∀ k, Ideal.exp ((r k : EReal) - Finset.univ.fold max (⊥ : EReal) (fun k => (r k : EReal))) = (Real.exp (r k - M) : EReal) := by
    intro k
    rw [hM, ← EReal.coe_sub, exp_coe]
  refine ⟨fun k => Real.exp (r k - M), fun k => Real.exp_pos _, funext h, ?_, ?_⟩
  · exact Finset.sum_pos (fun k _ => Real.exp_pos _) Finset.univ_nonempty
  · rw [Finset.sum_congr rfl fun k _ => h k]
    exact (map_sum (⟨⟨Real.toEReal, rfl⟩, EReal.coe_add⟩ : ℝ →+ EReal) _ _).symm

/-! ## One query row against its keys -/

/-- The number 1/16 that scales a score, as the programs write it. -/
abbrev scale : EReal := Ideal.ofBits .f32 0x3D800000#32

/-- The place from which a running maximum starts, as the programs write it. -/
abbrev lowest : EReal := Ideal.ofBits .f32 0xFF800000#32

theorem lowest_eq : lowest = ⊥ := by simp [lowest, Ideal.ofBits, Ideal.ieee]

theorem lowest_max (x : EReal) : max lowest x = x := by
  rw [lowest_eq]
  exact max_eq_right bot_le

theorem scale_real : ∃ r : ℝ, scale = (r : EReal) := by
  refine ⟨1 / 16, ?_⟩
  simp [scale, Ideal.ofBits, Ideal.ieee, -EReal.coe_mul]
  norm_num

variable {D K : Type} [Fintype D] [Fintype K]

/-- The scaled score of query `q` against key `j`. -/
def score (q : D → EReal) (k : K → D → EReal) (j : K) : EReal := (∑ d, q d * k j d) * scale

/-- The unnormalised softmax weight of key `j`: the exponential of its score less the row's largest score. -/
def weight (q : D → EReal) (k : K → D → EReal) (j : K) : EReal :=
  Ideal.exp (score q k j - Finset.univ.fold max lowest (score q k))

/-- The probability of key `j`. -/
def prob (q : D → EReal) (k : K → D → EReal) (j : K) : EReal := Ideal.div (weight q k j) (∑ i, weight q k i)

/-- The cotangent of the probability of key `j`: the output's cotangent against the value. -/
def dprob (g : D → EReal) (v : K → D → EReal) (j : K) : EReal := ∑ d, g d * v j d

/-- The gradient of the unscaled score of key `j`, the probabilities normalised first. -/
def dscore (q : D → EReal) (k v : K → D → EReal) (g : D → EReal) (j : K) : EReal :=
  prob q k j * (dprob g v j - ∑ i, dprob g v i * prob q k i) * scale

/-- The same gradient as differentiating the quotient of the weight by the sum gives it. -/
def dscoreQuot (q : D → EReal) (k v : K → D → EReal) (g : D → EReal) (j : K) : EReal :=
  (Ideal.div (dprob g v j) (∑ i, weight q k i)
    + -(∑ i, dprob g v i * Ideal.div 1 ((∑ i, weight q k i) * (∑ i, weight q k i)) * weight q k i)) * weight q k j * scale

/-- A sum of products of reals is real. -/
theorem sum_mul_real (a b : D → EReal) (ha : ∀ d, ∃ r : ℝ, a d = r) (hb : ∀ d, ∃ r : ℝ, b d = r) : ∃ r : ℝ, ∑ d, a d * b d = (r : EReal) := by
  choose f hf using ha
  choose g hg using hb
  refine ⟨∑ d, f d * g d, ?_⟩
  rw [show ((∑ d, f d * g d : ℝ) : EReal) = ∑ d, ((f d * g d : ℝ) : EReal) from
    map_sum (⟨⟨Real.toEReal, rfl⟩, EReal.coe_add⟩ : ℝ →+ EReal) _ _]
  exact Finset.sum_congr rfl fun d _ => by rw [hf, hg, EReal.coe_mul]

/-- The scores of a real query against real keys are real. -/
theorem score_real (q : D → EReal) (k : K → D → EReal) (hq : ∀ d, ∃ r : ℝ, q d = r) (hk : ∀ j d, ∃ r : ℝ, k j d = r) (j : K) :
    ∃ r : ℝ, score q k j = (r : EReal) := by
  obtain ⟨a, ha⟩ := sum_mul_real q (k j) hq (hk j)
  obtain ⟨b, hb⟩ := scale_real
  exact ⟨a * b, by rw [score, ha, hb, EReal.coe_mul]⟩

/-- The two gradients of a score agree where the query and the keys are real; the values and the cotangents may be anything. -/
theorem dscore_eq [Nonempty K] (q : D → EReal) (k v : K → D → EReal) (g : D → EReal)
    (hq : ∀ d, ∃ r : ℝ, q d = r) (hk : ∀ j d, ∃ r : ℝ, k j d = r) (j : K) : dscore q k v g j = dscoreQuot q k v g j := by
  obtain ⟨e, he, hw, hN, hS⟩ := weights_real (score q k) (score_real q k hq hk)
  have hwe : ∀ i, weight q k i = (e i : EReal) := fun i => by
    rw [weight, lowest_eq]; exact congrFun hw i
  have hsum : ∑ i, weight q k i = ((∑ i, e i : ℝ) : EReal) := by
    rw [← hS]; exact Finset.sum_congr rfl fun i _ => by rw [weight, lowest_eq]
  unfold dscore dscoreQuot prob
  simp only [hsum]
  simp only [hwe]
  rw [grad_eq e hN (dprob g v) j (he j).le]

end Cert.SoftmaxGrad

end
-- ==== Proof.MemBlock.lean ====
/-
  What one grid point of the memory-attention backward call computes, read at an index.

  The body repeats the same text for each of the four heads, and the printer numbers the pieces of each repetition
  separately.  Here the first head's pieces are the vocabulary, every other head's are shown to be the same functions,
  and each is read down to the scalar formulas of SoftmaxGrad.lean.
-/
module

public import proofs.«01_k».proof.Proof.Gen.KernelIdeal.Value
public import proofs.«01_k».proof.Proof.SoftmaxGrad
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.MemBlock

open Cert.KernelIdeal Cert.KernelIdeal.Gen Cert.SoftmaxGrad Idealize.ShloMosaic Idealize.ShloMosaic.TcCoe Idealize.SL.Sem

/-! ## One head's pieces as functions of its blocks -/

variable (q g : Vec Ideal S512x256 .f32) (k v p : Vec Ideal S256x256 .f32)

/-- Row `r` of a head's query or cotangent block. -/
abbrev row (a : Vec Ideal S512x256 .f32) (r : Fin 512) : Fin 256 → EReal := fun d => a (ix2 r d)

/-- A head's keys or values: row `j` belongs to memory slot `j`. -/
abbrev mat (a : Vec Ideal S256x256 .f32) : Fin 256 → Fin 256 → EReal := fun j d => a (ix2 j d)

theorem prob_apply (r : Fin 512) (j : Fin 256) : k0_pay6 q k (ix2 r j) = prob (row q r) (mat k) j := by
  pointwise [k0_pay6, k0_pay3, k0_pay4]
  rfl

theorem dscore_apply (r : Fin 512) (j : Fin 256) : k0_pay7 q k v g (ix2 r j) = dscore (row q r) (mat k) (mat v) (row g r) j := by
  have h := prob_apply q k r
  unfold k0_pay7
  generalize k0_pay6 q k = P at h ⊢
  pointwise [k0_pay5]
  simp only [h]
  rfl

/-- The query gradient that one head stores. -/
theorem dq_apply (r : Fin 512) (d : Fin 256) :
    k0_pay8 q k v g (ix2 r d) = ∑ j, dscore (row q r) (mat k) (mat v) (row g r) j * k (ix2 j d) := by
  have h := dscore_apply q g k v r
  unfold k0_pay8
  generalize k0_pay7 q k v g = P at h ⊢
  pointwise [k0_pay4]
  simp only [h]

/-- The key gradient that one head stores over what the buffer held, `p`. -/
theorem dk_apply (j d : Fin 256) :
    k0_pay9 (k0_pay3 q) (k0_pay7 q k v g) p (ix2 j d)
      = p (ix2 j d) + ∑ r, dscore (row q r) (mat k) (mat v) (row g r) j * q (ix2 r d) := by
  have h := dscore_apply q g k v
  generalize k0_pay7 q k v g = P at h ⊢
  pointwise [k0_pay9, k0_pay3]
  simp only [h]

/-- The value gradient that one head stores over what the buffer held, `p`. -/
theorem dv_apply (j d : Fin 256) :
    k0_pay10 (k0_pay5 g) (k0_pay6 q k) p (ix2 j d) = p (ix2 j d) + ∑ r, prob (row q r) (mat k) j * g (ix2 r d) := by
  have h := prob_apply q k
  generalize k0_pay6 q k = P at h ⊢
  pointwise [k0_pay10, k0_pay5]
  simp only [h]

/-! ## The other heads' pieces are the same functions -/

theorem dq1 : k0_pay18 (k0_pay12 k) (k0_pay14 q k) (k0_pay15 v g) (k0_pay16 q k v g) = k0_pay8 q k v g := rfl
theorem dk1 : k0_pay19 (k0_pay11 q) (k0_pay14 q k) (k0_pay15 v g) (k0_pay16 q k v g) p = k0_pay9 (k0_pay3 q) (k0_pay7 q k v g) p := rfl
theorem dv1 : k0_pay20 (k0_pay13 g) (k0_pay14 q k) p = k0_pay10 (k0_pay5 g) (k0_pay6 q k) p := rfl
theorem dq2 : k0_pay29 (k0_pay22 k) (k0_pay23 v) (k0_pay24 g) (k0_pay25 q k) (k0_pay26 q k) = k0_pay8 q k v g := rfl
theorem dk2 : k0_pay30 (k0_pay21 q) (k0_pay23 v) (k0_pay24 g) (k0_pay25 q k) (k0_pay26 q k) p = k0_pay9 (k0_pay3 q) (k0_pay7 q k v g) p := rfl
theorem dv2 : k0_pay31 (k0_pay24 g) (k0_pay25 q k) (k0_pay26 q k) p = k0_pay10 (k0_pay5 g) (k0_pay6 q k) p := rfl
theorem dq3 : k0_pay37 (k0_pay32 q) (k0_pay33 k) v g = k0_pay8 q k v g := rfl
theorem dk3 : k0_pay38 (k0_pay32 q) (k0_pay33 k) v g p = k0_pay9 (k0_pay3 q) (k0_pay7 q k v g) p := rfl
theorem dv3 : k0_pay1 (k0_pay34 g) (k0_pay39 p) (k0_pay40 (k0_pay32 q) (k0_pay33 k)) = k0_pay10 (k0_pay5 g) (k0_pay6 q k) p := rfl

/-! ## One grid point: the four heads side by side -/

/-- Lanes `256 h … 256 h + 255` of row `r`: head `h`'s part of a query or cotangent block. -/
abbrev headRow (x : Vec Ideal S512x1024 .f32) (h : Fin 4) (r : Fin 512) : Fin 256 → EReal :=
  fun d => x (ix2 r ⟨256 * h.val + d.val, by omega⟩)

/-- Head `h`'s keys: lanes `256 h …` of the joint key and value array. -/
abbrev headKeys (x : Vec Ideal S256x2048 .f32) (h : Fin 4) : Fin 256 → Fin 256 → EReal :=
  fun j d => x (ix2 j ⟨256 * h.val + d.val, by omega⟩)

/-- Head `h`'s values: lanes `1024 + 256 h …` of the joint key and value array. -/
abbrev headValues (x : Vec Ideal S256x2048 .f32) (h : Fin 4) : Fin 256 → Fin 256 → EReal :=
  fun j d => x (ix2 j ⟨1024 + 256 * h.val + d.val, by omega⟩)

variable (x0 x2 : Vec Ideal S512x1024 .f32) (x1 z : Vec Ideal S256x2048 .f32)

/-- What a point's rows add to the key gradient of head `h`. -/
def termK (h : Fin 4) (j d : Fin 256) : EReal :=
  ∑ r, dscore (headRow x0 h r) (headKeys x1 h) (headValues x1 h) (headRow x2 h r) j * headRow x0 h r d

/-- What a point's rows add to the value gradient of head `h`. -/
def termV (h : Fin 4) (j d : Fin 256) : EReal :=
  ∑ r, prob (headRow x0 h r) (headKeys x1 h) j * headRow x2 h r d

/-- The query gradient of head `h` at row `r` of the point. -/
def termQ (h : Fin 4) (r : Fin 512) (d : Fin 256) : EReal :=
  ∑ j, dscore (headRow x0 h r) (headKeys x1 h) (headValues x1 h) (headRow x2 h r) j * headKeys x1 h j d

/-- The point's contribution to the joint key and value gradient, by lane. -/
def termKV (i : S256x2048.Idx) : EReal :=
  if (i 1).val < 1024 then termK x0 x2 x1 ⟨(i 1).val / 256 % 4, Nat.mod_lt _ (by decide)⟩ (i 0) ⟨(i 1).val % 256, Nat.mod_lt _ (by decide)⟩
  else termV x0 x2 x1 ⟨(i 1).val / 256 % 4, Nat.mod_lt _ (by decide)⟩ (i 0) ⟨(i 1).val % 256, Nat.mod_lt _ (by decide)⟩

/-- The point's query gradient, by lane. -/
def termQs (i : S512x1024.Idx) : EReal :=
  termQ x0 x2 x1 ⟨(i 1).val / 256 % 4, Nat.mod_lt _ (by decide)⟩ (i 0) ⟨(i 1).val % 256, Nat.mod_lt _ (by decide)⟩

theorem termKV_key (h : Fin 4) (j d : Fin 256) (n : Fin 2048) (hn : n.val = 256 * h.val + d.val) :
    termKV x0 x2 x1 (ix2 j n) = termK x0 x2 x1 h j d := by
  have e1 : (⟨n.val / 256 % 4, Nat.mod_lt _ (by decide)⟩ : Fin 4) = h := Fin.ext (by show n.val / 256 % 4 = h.val; omega)
  have e2 : (⟨n.val % 256, Nat.mod_lt _ (by decide)⟩ : Fin 256) = d := Fin.ext (by show n.val % 256 = d.val; omega)
  have e3 : n.val < 1024 := by omega
  show (if n.val < 1024 then termK x0 x2 x1 ⟨n.val / 256 % 4, _⟩ j ⟨n.val % 256, _⟩ else _) = _
  rw [if_pos e3, e1, e2]

theorem termKV_value (h : Fin 4) (j d : Fin 256) (n : Fin 2048) (hn : n.val = 1024 + 256 * h.val + d.val) :
    termKV x0 x2 x1 (ix2 j n) = termV x0 x2 x1 h j d := by
  have e1 : (⟨n.val / 256 % 4, Nat.mod_lt _ (by decide)⟩ : Fin 4) = h := Fin.ext (by show n.val / 256 % 4 = h.val; omega)
  have e2 : (⟨n.val % 256, Nat.mod_lt _ (by decide)⟩ : Fin 256) = d := Fin.ext (by show n.val % 256 = d.val; omega)
  have e3 : ¬ n.val < 1024 := by omega
  show (if n.val < 1024 then _ else termV x0 x2 x1 ⟨n.val / 256 % 4, _⟩ j ⟨n.val % 256, _⟩) = _
  rw [if_neg e3, e1, e2]

theorem termQs_lane (h : Fin 4) (r : Fin 512) (d : Fin 256) (n : Fin 1024) (hn : n.val = 256 * h.val + d.val) :
    termQs x0 x2 x1 (ix2 r n) = termQ x0 x2 x1 h r d := by
  have e1 : (⟨n.val / 256 % 4, Nat.mod_lt _ (by decide)⟩ : Fin 4) = h := Fin.ext (by show n.val / 256 % 4 = h.val; omega)
  have e2 : (⟨n.val % 256, Nat.mod_lt _ (by decide)⟩ : Fin 256) = d := Fin.ext (by show n.val % 256 = d.val; omega)
  show termQ x0 x2 x1 ⟨n.val / 256 % 4, _⟩ r ⟨n.val % 256, _⟩ = _
  rw [e1, e2]

/-- A load of a block of lanes, at an index. -/
theorem ld_lanes {A B C : ℕ} (X : Vec Ideal (⟨2, ![A, B]⟩ : Shape) .f32) (off : ℕ)
    (inb : ∀ a, (![0, off] : Fin 2 → ℕ) a + (![A, C] : Fin 2 → ℕ) a ≤ (⟨2, ![A, B]⟩ : Shape).size a) (r : Fin A) (d : Fin C) (n : Fin B)
    (hn : n.val = off + d.val) : View.ld X (Rect.unit ![0, off] ![A, C] inb) (ix2 r d) = X (ix2 r n) := by
  refine congrArg X (funext fun a => Fin.ext ?_)
  match a with
  | ⟨0, _⟩ => show 0 + 1 * r.val = r.val; omega
  | ⟨1, _⟩ => show off + 1 * d.val = n.val; omega

/-- The place of an element of a block of lanes. -/
theorem emb_lanes {A B C : ℕ} (off : ℕ)
    (inb : ∀ a, (![0, off] : Fin 2 → ℕ) a + (![A, C] : Fin 2 → ℕ) a ≤ (⟨2, ![A, B]⟩ : Shape).size a) (r : Fin A) (d : Fin C) (n : Fin B)
    (hn : n.val = off + d.val) :
    (Rect.unit (s := (⟨2, ![A, B]⟩ : Shape)) ![0, off] ![A, C] inb).emb (ix2 r d) = ix2 r n := by
  refine funext fun a => Fin.ext ?_
  match a with
  | ⟨0, _⟩ => show 0 + 1 * r.val = r.val; omega
  | ⟨1, _⟩ => show off + 1 * d.val = n.val; omega

section Pieces

variable (h : Fin 4) (off offv : ℕ) (hoff : off = 256 * h.val) (hoffv : offv = 1024 + 256 * h.val)
  (inb : ∀ a, (![0, off] : Fin 2 → ℕ) a + (![512, 256] : Fin 2 → ℕ) a ≤ S512x1024.size a)
  (inbk : ∀ a, (![0, off] : Fin 2 → ℕ) a + (![256, 256] : Fin 2 → ℕ) a ≤ S256x2048.size a)
  (inbv : ∀ a, (![0, offv] : Fin 2 → ℕ) a + (![256, 256] : Fin 2 → ℕ) a ≤ S256x2048.size a)

include hoff hoffv

/-- A stored key-gradient piece, at any head: its rectangle of the running sum plus the point's contribution. -/
theorem piece_dk (x : (Rect.unit (s := S256x2048) ![0, off] ![256, 256] inbk).shape.Idx) :
    k0_pay9 (F := Ideal) (k0_pay3 (View.ld x0 (Rect.unit ![0, off] ![512, 256] inb)))
        (k0_pay7 (View.ld x0 (Rect.unit ![0, off] ![512, 256] inb)) (View.ld x1 (Rect.unit ![0, off] ![256, 256] inbk))
          (View.ld x1 (Rect.unit ![0, offv] ![256, 256] inbv)) (View.ld x2 (Rect.unit ![0, off] ![512, 256] inb)))
        (View.ld z (Rect.unit ![0, off] ![256, 256] inbk)) x
      = z ((Rect.unit (s := S256x2048) ![0, off] ![256, 256] inbk).emb x) + termKV x0 x2 x1 ((Rect.unit (s := S256x2048) ![0, off] ![256, 256] inbk).emb x) := by
  obtain ⟨j, d, rfl⟩ : ∃ (j : Fin 256) (d : Fin 256), x = ix2 j d := ⟨x 0, x 1, eq_ix2 x⟩
  rw [emb_lanes off inbk j d ⟨256 * h.val + d.val, by omega⟩ (by show 256 * h.val + d.val = off + d.val; omega), termKV_key x0 x2 x1 h j d _ rfl]
  refine (dk_apply _ _ _ _ _ j d).trans (congrArg₂ (· + ·) (ld_lanes z off inbk j d _ (by show 256 * h.val + d.val = off + d.val; omega)) (Finset.sum_congr rfl fun r _ => ?_))
  have eq : ∀ d : Fin 256, View.ld x0 (Rect.unit ![0, off] ![512, 256] inb) (ix2 r d) = headRow x0 h r d := fun d => ld_lanes x0 off inb r d _ (by show 256 * h.val + d.val = off + d.val; omega)
  have eg : ∀ d : Fin 256, View.ld x2 (Rect.unit ![0, off] ![512, 256] inb) (ix2 r d) = headRow x2 h r d := fun d => ld_lanes x2 off inb r d _ (by show 256 * h.val + d.val = off + d.val; omega)
  have ek : ∀ j d : Fin 256, View.ld x1 (Rect.unit ![0, off] ![256, 256] inbk) (ix2 j d) = headKeys x1 h j d := fun j d => ld_lanes x1 off inbk j d _ (by show 256 * h.val + d.val = off + d.val; omega)
  have ev : ∀ j d : Fin 256, View.ld x1 (Rect.unit ![0, offv] ![256, 256] inbv) (ix2 j d) = headValues x1 h j d := fun j d => ld_lanes x1 offv inbv j d _ (by show 1024 + 256 * h.val + d.val = offv + d.val; omega)
  unfold row mat
  simp only [eq, eg, ek, ev]

/-- A stored value-gradient piece, at any head. -/
theorem piece_dv (x : (Rect.unit (s := S256x2048) ![0, offv] ![256, 256] inbv).shape.Idx) :
    k0_pay10 (F := Ideal) (k0_pay5 (View.ld x2 (Rect.unit ![0, off] ![512, 256] inb)))
        (k0_pay6 (View.ld x0 (Rect.unit ![0, off] ![512, 256] inb)) (View.ld x1 (Rect.unit ![0, off] ![256, 256] inbk)))
        (View.ld z (Rect.unit ![0, offv] ![256, 256] inbv)) x
      = z ((Rect.unit (s := S256x2048) ![0, offv] ![256, 256] inbv).emb x) + termKV x0 x2 x1 ((Rect.unit (s := S256x2048) ![0, offv] ![256, 256] inbv).emb x) := by
  obtain ⟨j, d, rfl⟩ : ∃ (j : Fin 256) (d : Fin 256), x = ix2 j d := ⟨x 0, x 1, eq_ix2 x⟩
  rw [emb_lanes offv inbv j d ⟨1024 + 256 * h.val + d.val, by omega⟩ (by show 1024 + 256 * h.val + d.val = offv + d.val; omega), termKV_value x0 x2 x1 h j d _ rfl]
  refine (dv_apply _ _ _ _ j d).trans (congrArg₂ (· + ·) (ld_lanes z offv inbv j d _ (by show 1024 + 256 * h.val + d.val = offv + d.val; omega)) (Finset.sum_congr rfl fun r _ => ?_))
  have eq : ∀ d : Fin 256, View.ld x0 (Rect.unit ![0, off] ![512, 256] inb) (ix2 r d) = headRow x0 h r d := fun d => ld_lanes x0 off inb r d _ (by show 256 * h.val + d.val = off + d.val; omega)
  have eg : ∀ d : Fin 256, View.ld x2 (Rect.unit ![0, off] ![512, 256] inb) (ix2 r d) = headRow x2 h r d := fun d => ld_lanes x2 off inb r d _ (by show 256 * h.val + d.val = off + d.val; omega)
  have ek : ∀ j d : Fin 256, View.ld x1 (Rect.unit ![0, off] ![256, 256] inbk) (ix2 j d) = headKeys x1 h j d := fun j d => ld_lanes x1 off inbk j d _ (by show 256 * h.val + d.val = off + d.val; omega)
  unfold row mat
  simp only [eq, eg, ek]

/-- A stored query-gradient piece, at any head. -/
theorem piece_dq (x : (Rect.unit (s := S512x1024) ![0, off] ![512, 256] inb).shape.Idx) :
    k0_pay8 (F := Ideal) (View.ld x0 (Rect.unit ![0, off] ![512, 256] inb)) (View.ld x1 (Rect.unit ![0, off] ![256, 256] inbk))
          (View.ld x1 (Rect.unit ![0, offv] ![256, 256] inbv)) (View.ld x2 (Rect.unit ![0, off] ![512, 256] inb)) x
      = termQs x0 x2 x1 ((Rect.unit (s := S512x1024) ![0, off] ![512, 256] inb).emb x) := by
  obtain ⟨r, d, rfl⟩ : ∃ (r : Fin 512) (d : Fin 256), x = ix2 r d := ⟨x 0, x 1, eq_ix2 x⟩
  rw [emb_lanes off inb r d ⟨256 * h.val + d.val, by omega⟩ (by show 256 * h.val + d.val = off + d.val; omega), termQs_lane x0 x2 x1 h r d _ rfl]
  refine (dq_apply _ _ _ _ r d).trans (Finset.sum_congr rfl fun j _ => ?_)
  have eq : ∀ d : Fin 256, View.ld x0 (Rect.unit ![0, off] ![512, 256] inb) (ix2 r d) = headRow x0 h r d := fun d => ld_lanes x0 off inb r d _ (by show 256 * h.val + d.val = off + d.val; omega)
  have eg : ∀ d : Fin 256, View.ld x2 (Rect.unit ![0, off] ![512, 256] inb) (ix2 r d) = headRow x2 h r d := fun d => ld_lanes x2 off inb r d _ (by show 256 * h.val + d.val = off + d.val; omega)
  have ek : ∀ j d : Fin 256, View.ld x1 (Rect.unit ![0, off] ![256, 256] inbk) (ix2 j d) = headKeys x1 h j d := fun j d => ld_lanes x1 off inbk j d _ (by show 256 * h.val + d.val = off + d.val; omega)
  have ev : ∀ j d : Fin 256, View.ld x1 (Rect.unit ![0, offv] ![256, 256] inbv) (ix2 j d) = headValues x1 h j d := fun j d => ld_lanes x1 offv inbv j d _ (by show 1024 + 256 * h.val + d.val = offv + d.val; omega)
  unfold row mat
  simp only [eq, eg, ek, ev]

end Pieces

/-! ## What a point leaves in its two output blocks -/

variable (m : (ℓ : Loc nD τ sig) → Buf (Elt Ideal) ℓ)

/-- The query-gradient block after point `t`. -/
theorem after_dq (c : Dev nD) (t : Fin cfg0.N) (y : S512x1024.Idx) :
    (outsAt0 m c t.val t.isLt).1 y = termQs (iblk m c 0 t) (iblk m c 2 t) (iblk m c 1 t) y := by
  by_cases h0 : t.val % 8 = 0
  · rw [outsAt0_A m c t h0]
    frame_open
    simp (disch := decide) only [↓ View.readCov_skip, ↓ View.readCov_cons_toLoadRect, ↓ View.readCov_fill]
    frame_out
    simp only [dq1, dq2, dq3]
    refine View.canon_append_of_piecesOf (Val := Elt Ideal) (e := .bf16) (s := S512x1024) (termQs (iblk m c 0 t) (iblk m c 2 t) (iblk m c 1 t)) [] [_, _, _, _]
      ⟨?_, ?_, ?_, ?_, trivial⟩ y (View.cover_of_tiledL (s := S512x1024) _ S512x256.size (by sl_kernel_rfl) y)
    · exact piece_dq _ _ _ 3 768 1792 rfl rfl _ _ _
    · exact piece_dq _ _ _ 2 512 1536 rfl rfl _ _ _
    · exact piece_dq _ _ _ 1 256 1280 rfl rfl _ _ _
    · exact piece_dq _ _ _ 0 0 1024 rfl rfl _ _ _
  · rw [outsAt0_B m c t h0]
    frame_open
    simp (disch := decide) only [↓ View.readCov_skip, ↓ View.readCov_cons_toLoadRect, ↓ View.readCov_fill]
    frame_out
    simp only [dq1, dq2, dq3]
    refine View.canon_append_of_piecesOf (Val := Elt Ideal) (e := .bf16) (s := S512x1024) (termQs (iblk m c 0 t) (iblk m c 2 t) (iblk m c 1 t)) [] [_, _, _, _]
      ⟨?_, ?_, ?_, ?_, trivial⟩ y (View.cover_of_tiledL (s := S512x1024) _ S512x256.size (by sl_kernel_rfl) y)
    · exact piece_dq _ _ _ 3 768 1792 rfl rfl _ _ _
    · exact piece_dq _ _ _ 2 512 1536 rfl rfl _ _ _
    · exact piece_dq _ _ _ 1 256 1280 rfl rfl _ _ _
    · exact piece_dq _ _ _ 0 0 1024 rfl rfl _ _ _

/-- The key and value gradient after the first point. -/
theorem after_first (c : Dev nD) (t : Fin cfg0.N) (h0 : t.val % 8 = 0) (y : S256x2048.Idx) :
    (outsAt0 m c t.val t.isLt).2 y = k0_pay2 (F := Ideal) y + termKV (iblk m c 0 t) (iblk m c 2 t) (iblk m c 1 t) y := by
  · rw [outsAt0_A m c t h0]
    frame_open
    simp (disch := decide) only [↓ View.readCov_skip, ↓ View.readCov_cons_toLoadRect, ↓ View.readCov_fill]
    frame_out
    simp only [dk1, dv1, dk2, dv2, dk3, dv3]
    refine View.canon_append_of_piecesOf (Val := Elt Ideal) (e := .f32) (s := S256x2048) (fun y => k0_pay2 (F := Ideal) y + termKV (iblk m c 0 t) (iblk m c 2 t) (iblk m c 1 t) y) [_]
      [_, _, _, _, _, _, _, _] ⟨?_, ?_, ?_, ?_, ?_, ?_, ?_, ?_, trivial⟩ y (View.cover_of_tiledL (s := S256x2048) _ S256x256.size (by sl_kernel_rfl) y)
    · exact piece_dv _ _ _ _ 3 768 1792 rfl rfl _ _ _
    · exact piece_dk _ _ _ _ 3 768 1792 rfl rfl _ _ _
    · exact piece_dv _ _ _ _ 2 512 1536 rfl rfl _ _ _
    · exact piece_dk _ _ _ _ 2 512 1536 rfl rfl _ _ _
    · exact piece_dv _ _ _ _ 1 256 1280 rfl rfl _ _ _
    · exact piece_dk _ _ _ _ 1 256 1280 rfl rfl _ _ _
    · exact piece_dv _ _ _ _ 0 0 1024 rfl rfl _ _ _
    · exact piece_dk _ _ _ _ 0 0 1024 rfl rfl _ _ _

/-- The key and value gradient after a later point. -/
theorem after_next (c : Dev nD) (t : Fin cfg0.N) (h0 : ¬ t.val % 8 = 0) (y : S256x2048.Idx) :
    (outsAt0 m c t.val t.isLt).2 y
      = (outsAt0 m c (t.val - 1) (by have := t.isLt; omega)).2 y + termKV (iblk m c 0 t) (iblk m c 2 t) (iblk m c 1 t) y := by
  · rw [outsAt0_B m c t h0]
    frame_open
    simp (disch := decide) only [↓ View.readCov_skip, ↓ View.readCov_cons_toLoadRect, ↓ View.readCov_fill]
    frame_out
    simp only [dk1, dv1, dk2, dv2, dk3, dv3]
    refine View.canon_append_of_piecesOf (Val := Elt Ideal) (e := .f32) (s := S256x2048) (fun y => (outsAt0 m c (t.val - 1) (by have := t.isLt; omega)).2 y + termKV (iblk m c 0 t) (iblk m c 2 t) (iblk m c 1 t) y) []
      [_, _, _, _, _, _, _, _] ⟨?_, ?_, ?_, ?_, ?_, ?_, ?_, ?_, trivial⟩ y (View.cover_of_tiledL (s := S256x2048) _ S256x256.size (by sl_kernel_rfl) y)
    · exact piece_dv _ _ _ _ 3 768 1792 rfl rfl _ _ _
    · exact piece_dk _ _ _ _ 3 768 1792 rfl rfl _ _ _
    · exact piece_dv _ _ _ _ 2 512 1536 rfl rfl _ _ _
    · exact piece_dk _ _ _ _ 2 512 1536 rfl rfl _ _ _
    · exact piece_dv _ _ _ _ 1 256 1280 rfl rfl _ _ _
    · exact piece_dk _ _ _ _ 1 256 1280 rfl rfl _ _ _
    · exact piece_dv _ _ _ _ 0 0 1024 rfl rfl _ _ _
    · exact piece_dk _ _ _ _ 0 0 1024 rfl rfl _ _ _

end Cert.KernelIdeal.MemBlock

end
-- ==== Proof.MemRef.lean ====
module
public import proofs.«01_k».proof.Proof.Gen.ReferenceIdeal.Run
public import proofs.«01_k».proof.Proof.SoftmaxGrad
public import Idealize.ShloMosaic.Lib.Pointwise

/-!
  The reference's two results at an index: the host's softmax gradient, head by head, read as `SoftmaxGrad`'s quotient-rule form.
-/

@[expose] public section
set_option maxRecDepth 16384
noncomputable section
namespace Cert.ReferenceIdeal.MemRef
open Cert.ReferenceIdeal Cert.ReferenceIdeal.Gen Cert.ReferenceIdeal.Value Idealize.ShloMosaic Idealize.ShloMosaic.TcCoe Idealize.SL.Sem
open Cert.SoftmaxGrad Facts

variable (A0 : FVec Ideal S4096x12288 .f32) (A1 : FVec Ideal S256x2048 .f32) (A2 : FVec Ideal S4096x1024 .f32)

/-! ## The host's arrays, named -/

/-- The queries, head by head. -/
def queries : FVec Ideal S4096x4x256 .f32 :=
  shapeCast S4096x4x256 (extractStridedSlice S4096x1024 ![0, 9216] A0 slices_S4096x12288_S4096x1024_0_9216) shapeCasts_S4096x1024_S4096x4x256
/-- The keys, head by head. -/
def keys : FVec Ideal S256x4x256 .f32 :=
  shapeCast S256x4x256 (extractStridedSlice S256x1024 ![0, 0] A1 slices_S256x2048_S256x1024_0_0) shapeCasts_S256x1024_S256x4x256
/-- The values, head by head. -/
def values : FVec Ideal S256x4x256 .f32 :=
  shapeCast S256x4x256 (extractStridedSlice S256x1024 ![0, 1024] A1 slices_S256x2048_S256x1024_0_1024) shapeCasts_S256x1024_S256x4x256
/-- The cotangent, head by head, rows last. -/
def cotangent : FVec Ideal S4x256x4096 .f32 :=
  transpose S4x256x4096 [1, 2, 0] (shapeCast S4096x4x256 A2 shapeCasts_S4096x1024_S4096x4x256) transposes_S4096x4x256_S4x256x4096_1_2_0
/-- The scaled scores. -/
def scores : FVec Ideal S4x4096x256 .f32 :=
  mulf (Host.dotGeneral dot_S4096x4x256_S256x4x256_S4x4096x256_2_2_0_0_1_1 none (queries A0) (keys A1))
    (broadcastInDim S4x4096x256 ![] bcast_S_S4x4096x256 (constant S_ .f32 0x3D800000#32))
/-- The largest score of a row. -/
def rowMax : FVec Ideal S4x4096 .f32 :=
  Host.reduce FloatOps.maximumf (scores A0 A1) (constant S_ .f32 0xFF800000#32) reducesTo_S4x4096x256_S4x4096_d2 h_S_
/-- The largest score of a row or −∞, whichever is larger: what the scores are taken below. -/
def shift : FVec Ideal S4x4096 .f32 := maximumf (broadcastInDim S4x4096 ![] bcast_S_S4x4096 (constant S_ .f32 0xFF800000#32)) (rowMax A0 A1)
/-- The exponentials of the scores below their row maximum. -/
def weights : FVec Ideal S4x4096x256 .f32 :=
  Host.exp (subf (scores A0 A1) (broadcastInDim S4x4096x256 ![0, 1, 2] bcast_S4x4096x1_S4x4096x256_0_1_2
    (broadcastInDim S4x4096x1 ![0, 1] bcast_S4x4096_S4x4096x1_0_1 (shift A0 A1))))
/-- Their row sums. -/
def total : FVec Ideal S4x4096x1 .f32 :=
  broadcastInDim S4x4096x1 ![0, 1] bcast_S4x4096_S4x4096x1_0_1
    (Host.reduceAdd (weights A0 A1) (constant S_ .f32 0x00000000#32) reducesTo_S4x4096x256_S4x4096_d2 h_S_)
/-- The probabilities. -/
def probs : FVec Ideal S4x4096x256 .f32 :=
  Host.divf (weights A0 A1) (broadcastInDim S4x4096x256 ![0, 1, 2] bcast_S4x4096x1_S4x4096x256_0_1_2 (total A0 A1))
/-- The gradient of the probabilities. -/
def dprobs : FVec Ideal S4x4096x256 .f32 :=
  Host.dotGeneral dot_S4x256x4096_S256x4x256_S4x4096x256_1_2_2_0_0_1 none (cotangent A2) (values A1)
/-- The gradient of the unscaled scores, by the quotient rule. -/
def dscores : FVec Ideal S4x4096x256 .f32 :=
  mulf (mulf (addf (Host.divf (dprobs A1 A2) (broadcastInDim S4x4096x256 ![0, 1, 2] bcast_S4x4096x1_S4x4096x256_0_1_2 (total A0 A1)))
      (broadcastInDim S4x4096x256 ![0, 1] bcast_S4x4096_S4x4096x256_0_1
        (Host.reduceAdd (Host.negf (shapeCast S4x4096x1 (Host.reduceAdd (mulf (mulf (dprobs A1 A2)
            (broadcastInDim S4x4096x256 ![0, 1, 2] bcast_S4x4096x1_S4x4096x256_0_1_2
              (Host.divf (broadcastInDim S4x4096x1 ![] bcast_S_S4x4096x1 (constant S_ .f32 0x3F800000#32)) (mulf (total A0 A1) (total A0 A1)))))
            (weights A0 A1)) (constant S_ .f32 0x00000000#32) reducesTo_S4x4096x256_S4x4096_d2 h_S_) shapeCasts_S4x4096_S4x4096x1))
          (constant S_ .f32 0x00000000#32) reducesTo_S4x4096x1_S4x4096_d2 h_S_)))
      (weights A0 A1))
    (broadcastInDim S4x4096x256 ![] bcast_S_S4x4096x256 (constant S_ .f32 0x3D800000#32))
/-- The query gradient. -/
def dquery : FVec Ideal S4096x1024 .bf16 :=
  truncf .bf16 (shapeCast S4096x1024 (transpose S4096x4x256 [1, 0, 2]
    (Host.dotGeneral dot_S4x4096x256_S256x4x256_S4x4096x256_2_0_1_2_0_1 none (dscores A0 A1 A2) (keys A1))
    transposes_S4x4096x256_S4096x4x256_1_0_2) shapeCasts_S4096x4x256_S4096x1024) bitsLt_bf16_f32
/-- The key gradient. -/
def dkey : FVec Ideal S256x1024 .f32 :=
  shapeCast S256x1024 (transpose S256x4x256 [1, 0, 2]
    (Host.dotGeneral dot_S4x4096x256_S4096x4x256_S4x256x256_1_0_2_2_0_1 none (dscores A0 A1 A2) (queries A0))
    transposes_S4x256x256_S256x4x256_1_0_2) shapeCasts_S256x4x256_S256x1024
/-- The value gradient. -/
def dvalue : FVec Ideal S256x1024 .f32 :=
  shapeCast S256x1024 (transpose S256x4x256 [2, 0, 1]
    (Host.dotGeneral dot_S4x256x4096_S4x4096x256_S4x256x256_2_1_1_2_0_0 none (cotangent A2) (probs A0 A1))
    transposes_S4x256x256_S256x4x256_2_0_1) shapeCasts_S256x4x256_S256x1024

variable (m : (ℓ : Loc nD τ sig) → Buf (Elt Ideal) ℓ) (c : Dev nD)

theorem out0_eq : res_main_v67 m c = dquery (m ((c.tc : Thread nD τ).loc main_arg0)) (m ((c.tc : Thread nD τ).loc main_arg1)) (m ((c.tc : Thread nD τ).loc main_arg2)) := by
  unfold res_main_v67
  rfl

theorem out1_eq : res_main_v66 m c
    = concatenate S256x2048 1 [⟨S256x1024, dkey (m ((c.tc : Thread nD τ).loc main_arg0)) (m ((c.tc : Thread nD τ).loc main_arg1)) (m ((c.tc : Thread nD τ).loc main_arg2))⟩,
        ⟨S256x1024, dvalue (m ((c.tc : Thread nD τ).loc main_arg0)) (m ((c.tc : Thread nD τ).loc main_arg1)) (m ((c.tc : Thread nD τ).loc main_arg2))⟩]
        concatenates_S256x1024_S256x1024_S256x2048_d1 := by
  unfold res_main_v66
  rfl

/-! ## Each at an index -/

/-- Row `s` of head `h`'s queries. -/
abbrev qrow (h : Fin 4) (s : Fin 4096) : Fin 256 → EReal := fun d => A0 (ix2 s ⟨9216 + (256 * h.val + d.val), by omega⟩)
/-- Row `s` of head `h`'s cotangent. -/
abbrev grow (h : Fin 4) (s : Fin 4096) : Fin 256 → EReal := fun d => A2 (ix2 s ⟨256 * h.val + d.val, by omega⟩)
/-- Head `h`'s keys. -/
abbrev khead (h : Fin 4) : Fin 256 → Fin 256 → EReal := fun j d => A1 (ix2 j ⟨256 * h.val + d.val, by omega⟩)
/-- Head `h`'s values. -/
abbrev vhead (h : Fin 4) : Fin 256 → Fin 256 → EReal := fun j d => A1 (ix2 j ⟨1024 + 256 * h.val + d.val, by omega⟩)

theorem scores_apply (h : Fin 4) (s : Fin 4096) (j : Fin 256) :
    scores A0 A1 (ix3 h s j) = score (qrow A0 h s) (khead A1 h) j := by
  pointwise [scores, queries, keys, score]
  simp only [qrow, khead, Nat.mul_comm h.val 256]

theorem rowMax_apply (h : Fin 4) (s : Fin 4096) :
    rowMax A0 A1 (ix2 h s) = Finset.univ.fold max lowest (score (qrow A0 h s) (khead A1 h)) := by
  have e := scores_apply A0 A1
  unfold rowMax
  generalize scores A0 A1 = X at e ⊢
  pointwise
  simp only [e]

theorem max_apply (Y : FVec Ideal S4x4096 .f32) (h : Fin 4) (s : Fin 4096) :
    maximumf (broadcastInDim S4x4096 ![] bcast_S_S4x4096 (constant S_ .f32 0xFF800000#32)) Y (ix2 h s) = max lowest (Y (ix2 h s)) := by
  unfold lowest
  pointwise

theorem shift_apply (h : Fin 4) (s : Fin 4096) :
    shift A0 A1 (ix2 h s) = Finset.univ.fold max lowest (score (qrow A0 h s) (khead A1 h)) := by
  have e := rowMax_apply A0 A1 h s
  unfold shift
  rw [max_apply, lowest_max, e]

theorem weights_apply (h : Fin 4) (s : Fin 4096) (j : Fin 256) :
    weights A0 A1 (ix3 h s j) = weight (qrow A0 h s) (khead A1 h) j := by
  rw [weight, ← scores_apply, ← shift_apply]
  unfold weights
  generalize scores A0 A1 = X
  generalize shift A0 A1 = Y
  pointwise

theorem total_apply (h : Fin 4) (s : Fin 4096) (u : Fin 1) :
    total A0 A1 (ix3 h s u) = ∑ i, weight (qrow A0 h s) (khead A1 h) i := by
  have e := weights_apply A0 A1
  unfold total
  generalize weights A0 A1 = X at e ⊢
  pointwise
  simp only [e]

theorem probs_apply (h : Fin 4) (s : Fin 4096) (j : Fin 256) :
    probs A0 A1 (ix3 h s j) = prob (qrow A0 h s) (khead A1 h) j := by
  have e := weights_apply A0 A1
  have e' := total_apply A0 A1
  unfold probs
  generalize weights A0 A1 = X at e ⊢
  generalize total A0 A1 = Y at e' ⊢
  pointwise
  rw [e, e', prob]

theorem dprobs_apply (h : Fin 4) (s : Fin 4096) (j : Fin 256) :
    dprobs A1 A2 (ix3 h s j) = dprob (grow A2 h s) (vhead A1 h) j := by
  pointwise [dprobs, cotangent, values, dprob]
  simp only [grow, vhead, Nat.mul_comm h.val 256, Nat.add_assoc]

theorem dscores_apply (h : Fin 4) (s : Fin 4096) (j : Fin 256) :
    dscores A0 A1 A2 (ix3 h s j) = dscoreQuot (qrow A0 h s) (khead A1 h) (vhead A1 h) (grow A2 h s) j := by
  have e := weights_apply A0 A1
  have e' := total_apply A0 A1
  have e'' := dprobs_apply A1 A2
  unfold dscores
  generalize weights A0 A1 = X at e ⊢
  generalize total A0 A1 = Y at e' ⊢
  generalize dprobs A1 A2 = Z at e'' ⊢
  pointwise
  simp only [e, e', e'', dscoreQuot, Finset.univ_unique, Finset.sum_singleton]

theorem dquery_apply (h : Fin 4) (s : Fin 4096) (d : Fin 256) (n : Fin 1024) (hn : n.val = 256 * h.val + d.val) :
    dquery A0 A1 A2 (ix2 s n) = ∑ j, dscoreQuot (qrow A0 h s) (khead A1 h) (vhead A1 h) (grow A2 h s) j * khead A1 h j d := by
  have e := dscores_apply A0 A1 A2
  unfold dquery
  generalize dscores A0 A1 A2 = X at e ⊢
  pointwise [keys]
  obtain rfl : n = ⟨256 * h.val + d.val, by clear hn; omega⟩ := Fin.ext hn
  simp only [show (⟨(256 * h.val + d.val) / 256, by omega⟩ : Fin 4) = h from Fin.ext (by show (256 * h.val + d.val) / 256 = h.val; omega), e]

theorem dkey_apply (h : Fin 4) (j d : Fin 256) (n : Fin 1024) (hn : n.val = 256 * h.val + d.val) :
    dkey A0 A1 A2 (ix2 j n) = ∑ s, dscoreQuot (qrow A0 h s) (khead A1 h) (vhead A1 h) (grow A2 h s) j * qrow A0 h s d := by
  have e := dscores_apply A0 A1 A2
  unfold dkey
  generalize dscores A0 A1 A2 = X at e ⊢
  pointwise [queries]
  obtain rfl : n = ⟨256 * h.val + d.val, by clear hn; omega⟩ := Fin.ext hn
  simp only [show (⟨(256 * h.val + d.val) / 256, by omega⟩ : Fin 4) = h from Fin.ext (by show (256 * h.val + d.val) / 256 = h.val; omega), e]

theorem dvalue_apply (h : Fin 4) (j d : Fin 256) (n : Fin 1024) (hn : n.val = 256 * h.val + d.val) :
    dvalue A0 A1 A2 (ix2 j n) = ∑ s, prob (qrow A0 h s) (khead A1 h) j * grow A2 h s d := by
  have e := probs_apply A0 A1
  unfold dvalue
  generalize probs A0 A1 = X at e ⊢
  pointwise [cotangent]
  obtain rfl : n = ⟨256 * h.val + d.val, by clear hn; omega⟩ := Fin.ext hn
  simp only [show (⟨(256 * h.val + d.val) / 256, by omega⟩ : Fin 4) = h from Fin.ext (by show (256 * h.val + d.val) / 256 = h.val; omega), e]
  exact Finset.sum_congr rfl fun s _ => mul_comm _ _

/-- The second result, key half and value half side by side, at an index. -/
theorem joint_apply (X Y : FVec Ideal S256x1024 .f32) (j : Fin 256) (n : Fin 2048) :
    concatenate S256x2048 1 [⟨S256x1024, X⟩, ⟨S256x1024, Y⟩] concatenates_S256x1024_S256x1024_S256x2048_d1 (ix2 j n)
      = if h : n.val < 1024 then X (ix2 j ⟨n.val, h⟩) else Y (ix2 j ⟨n.val - 1024, by omega⟩) := by
  pointwise

end Cert.ReferenceIdeal.MemRef
end
-- ==== Proof.MemRun.lean ====
module
public import proofs.«01_k».proof.Proof.MemBlock
public import proofs.«01_k».proof.Proof.MemRef
public import Idealize.ShloMosaic.Lib.Pipeline.ValueKit
public import Idealize.ShloMosaic.Lib.Pipeline.ReadBack
public import Idealize.ShloMosaic.Lib.Pointwise

/-!
  The kernel's two result arrays after the whole grid, at an index, over the rows of the argument arrays.
-/

@[expose] public section
set_option maxRecDepth 16384
noncomputable section
namespace Cert.KernelIdeal.MemRun
open Cert.KernelIdeal Cert.KernelIdeal.Gen Idealize.ShloMosaic Idealize.ShloMosaic.TcCoe Idealize.SL.Sem
open Cert.KernelIdeal.MemBlock Cert.SoftmaxGrad
open Cert.ReferenceIdeal.MemRef (qrow grow khead vhead)
variable (m : (ℓ : Loc nD τ sig) → Buf (Elt Ideal) ℓ) (c : Dev nD)

/-- The projected activations: the memory queries stand in lanes 9216 to 10239. -/
abbrev A0 : FVec Ideal S4096x12288 .f32 := m ((c.tc : Thread nD τ).loc main_arg0)
/-- The keys and the values of the memory. -/
abbrev A1 : FVec Ideal S256x2048 .f32 := m ((c.tc : Thread nD τ).loc main_arg1)
/-- The cotangent. -/
abbrev A2 : FVec Ideal S4096x1024 .f32 := m ((c.tc : Thread nD τ).loc main_arg2)

/-- Which block each window visits at point `t`. -/
theorem idx : ∀ t : Fin cfg0.N, win0_0.index t = ![t.val, 9] ∧ win0_1.index t = ![0, 0] ∧ win0_2.index t = ![t.val, 0] ∧ win0_3.index t = ![t.val, 0] :=
  (by decide +kernel : ∀ t : Fin grid0.N, _)

theorem lt8 (t : Fin cfg0.N) : t.val < 8 := t.isLt

/-- Row `r` of point `t`'s block, in the whole array. -/
abbrev rowOf (t : Fin cfg0.N) (r : Fin 512) : Fin 4096 := ⟨t.val * 512 + r.val, by have := lt8 t; omega⟩

theorem blk0 (t : Fin cfg0.N) (h : Fin 4) (r : Fin 512) : headRow (iblk m c 0 t) h r = qrow (A0 m c) h (rowOf t r) := by
  funext d
  show (iblk m c 0 t) (ix2 r ⟨256 * h.val + d.val, _⟩) = m ((c.tc : Thread nD τ).loc main_arg0) (ix2 ⟨t.val * 512 + r.val, _⟩ ⟨9216 + (256 * h.val + d.val), _⟩)
  blk_ext [iblk, V, idx t]

theorem blk1 (t : Fin cfg0.N) : iblk m c 1 t = A1 m c := by
  blk_ext! [iblk, V, idx t]

theorem blk2 (t : Fin cfg0.N) (h : Fin 4) (r : Fin 512) : headRow (iblk m c 2 t) h r = grow (A2 m c) h (rowOf t r) := by
  funext d
  show (iblk m c 2 t) (ix2 r ⟨256 * h.val + d.val, _⟩) = m ((c.tc : Thread nD τ).loc main_arg2) (ix2 ⟨t.val * 512 + r.val, _⟩ ⟨256 * h.val + d.val, _⟩)
  blk_ext [iblk, V, idx t]

/-- The whole query gradient. -/
def dqAll : FVec Ideal S4096x1024 .bf16 := fun i =>
  ∑ j, dscore (qrow (A0 m c) ⟨(i 1).val / 256 % 4, Nat.mod_lt _ (by decide)⟩ (i 0)) (khead (A1 m c) ⟨(i 1).val / 256 % 4, Nat.mod_lt _ (by decide)⟩)
    (vhead (A1 m c) ⟨(i 1).val / 256 % 4, Nat.mod_lt _ (by decide)⟩) (grow (A2 m c) ⟨(i 1).val / 256 % 4, Nat.mod_lt _ (by decide)⟩ (i 0)) j
      * khead (A1 m c) ⟨(i 1).val / 256 % 4, Nat.mod_lt _ (by decide)⟩ j ⟨(i 1).val % 256, Nat.mod_lt _ (by decide)⟩

theorem dqAll_apply (h : Fin 4) (s : Fin 4096) (d : Fin 256) (n : Fin 1024) (hn : n.val = 256 * h.val + d.val) :
    dqAll m c (ix2 s n) = ∑ j, dscore (qrow (A0 m c) h s) (khead (A1 m c) h) (vhead (A1 m c) h) (grow (A2 m c) h s) j * khead (A1 m c) h j d := by
  have e1 : (⟨n.val / 256 % 4, Nat.mod_lt _ (by decide)⟩ : Fin 4) = h := Fin.ext (by show n.val / 256 % 4 = h.val; omega)
  have e2 : (⟨n.val % 256, Nat.mod_lt _ (by decide)⟩ : Fin 256) = d := Fin.ext (by show n.val % 256 = d.val; omega)
  show ∑ j, dscore (qrow (A0 m c) ⟨n.val / 256 % 4, _⟩ s) (khead (A1 m c) ⟨n.val / 256 % 4, _⟩) (vhead (A1 m c) ⟨n.val / 256 % 4, _⟩)
    (grow (A2 m c) ⟨n.val / 256 % 4, _⟩ s) j * khead (A1 m c) ⟨n.val / 256 % 4, _⟩ j ⟨n.val % 256, _⟩ = _
  rw [e1, e2]

/-- Every block of the query gradient is the whole query gradient's block. -/
theorem arr_dq : (dats m 0 c).arrAt 3 cfg0.N = dqAll m c := by
  refine (dats m 0 c).arrAt_eq_of_covers 3 _ (by decide +kernel) fun t hf y => ?_
  blk_simp
  rw [after0_3, after_dq]
  obtain ⟨r, n, rfl⟩ : ∃ (r : Fin 512) (n : Fin 1024), y = ix2 r n := ⟨y 0, y 1, eq_ix2 y⟩
  obtain ⟨h, d, hn⟩ : ∃ (h : Fin 4) (d : Fin 256), n.val = 256 * h.val + d.val :=
    ⟨⟨n.val / 256, by omega⟩, ⟨n.val % 256, Nat.mod_lt _ (by decide)⟩, by show n.val = 256 * (n.val / 256) + n.val % 256; omega⟩
  have place : (win0_3.blk t).view.emb (ix2 r n) = (ix2 (rowOf t r) n : S4096x1024.Idx) := by blk_ext [idx t]
  rw [termQs_lane _ _ _ h r d n hn]
  refine Eq.trans ?_ ((congrArg (dqAll m c) place).trans (dqAll_apply m c h (rowOf t r) d n hn)).symm
  rw [termQ, blk0, blk1, blk2]

/-- The key gradient and the value gradient of head `h`: every point's rows summed. -/
theorem arr_dkv (h : Fin 4) (j d : Fin 256) :
    (∀ n : Fin 2048, n.val = 256 * h.val + d.val → ((dats m 0 c).arrAt 4 cfg0.N : FVec Ideal S256x2048 .f32) (ix2 j n)
      = ∑ s, dscore (qrow (A0 m c) h s) (khead (A1 m c) h) (vhead (A1 m c) h) (grow (A2 m c) h s) j * qrow (A0 m c) h s d)
    ∧ (∀ n : Fin 2048, n.val = 1024 + 256 * h.val + d.val → ((dats m 0 c).arrAt 4 cfg0.N : FVec Ideal S256x2048 .f32) (ix2 j n)
      = ∑ s, prob (qrow (A0 m c) h s) (khead (A1 m c) h) j * grow (A2 m c) h s d) := by
  have key : (dats m 0 c).arrAt 4 cfg0.N = fun i => ∑ p : Fin cfg0.N, termKV (iblk m c 0 p) (iblk m c 2 p) (iblk m c 1 p) i := by
    refine (dats m 0 c).arrAt_eq_of_after_last 4 t0_7 (by decide +kernel) _ fun y => ?_
    blk_simp
    rw [after0_4, Pipeline.eq_sum_fin_of_reset_step_apply_last (fun n h => (outsAt0 m c n h).2) 8 (k0_pay2 (F := Ideal))
      (fun p => termKV (iblk m c 0 p) (iblk m c 2 p) (iblk m c 1 p)) (after_first m c) (after_next m c) (by decide) t0_7 (by decide)]
    rw [show k0_pay2 (F := Ideal) y = 0 from Ideal.ofBits_zero .f32, zero_add]
  have split : ∀ f : Fin 4096 → EReal, ∑ p : Fin cfg0.N, ∑ r : Fin 512, f (rowOf p r) = ∑ s, f s := fun f =>
    Fin.sum_mul_add_fin (S := 8) (n := 512) (L := 4096) f
  constructor
  · intro n hn
    rw [key]
    refine (Finset.sum_congr rfl fun p _ => (termKV_key _ _ _ h j d n hn).trans (Finset.sum_congr rfl fun r _ => ?_)).trans (split _)
    rw [blk0, blk1, blk2]
  · intro n hn
    rw [key]
    refine (Finset.sum_congr rfl fun p _ => (termKV_value _ _ _ h j d n hn).trans (Finset.sum_congr rfl fun r _ => ?_)).trans (split _)
    rw [blk0, blk1, blk2]
end Cert.KernelIdeal.MemRun
end
-- ==== Proof.Finite.lean ====
module
public import proofs.«01_k».proof.Pre_scores_finite
public import proofs.«01_k».proof.Proof.SoftmaxGrad
public import Idealize.ShloMosaic.Lib.ReduceAll
public import Idealize.ShloMosaic.Lib.Pointwise

/-!
  The precondition read back: every query and every key is a real number.
-/

@[expose] public section
set_option maxRecDepth 16384
noncomputable section
namespace Cert.Finite
open Cert.Pre_scores_finite Idealize.ShloMosaic

/-- The side conditions of the precondition's operations. -/
theorem facts : Cert.Pre_scores_finite.Facts where
  slices_S4096x12288_S4096x1024_0_9216 := by decide
  slices_S256x2048_S256x1024_0_0 := by decide
  bcast_S_S4096x1024 := by decide
  reducesTo_S4096x1024_S_d0_1 := by decide
  h_S_ := by decide
  bcast_S_S256x1024 := by decide
  reducesTo_S256x1024_S_d0_1 := by decide

/-- An extended real whose absolute value compares below +∞ is real. -/
theorem real_of_abs_lt {x : EReal}
    (h : BitVec.ofBool (decide (FloatOps.absf (F := Ideal) (φ := .f32) x < Ideal.ofBits .f32 0x7F800000#32)) = 1#1) : ∃ r : ℝ, x = r := by
  have top : Ideal.ofBits .f32 0x7F800000#32 = (⊤ : EReal) := by simp [Ideal.ofBits, Ideal.ieee]
  have lt : max x (-x) < (⊤ : EReal) := by
    rw [top] at h
    by_contra hn
    rw [show decide (FloatOps.absf (F := Ideal) (φ := .f32) x < (⊤ : EReal)) = false from decide_eq_false hn] at h
    exact absurd h (by decide)
  refine Cert.SoftmaxGrad.exists_real (fun hb => ?_) (fun ht => ?_)
  · rw [hb] at lt; exact absurd lt (by simp)
  · rw [ht] at lt; exact absurd lt (by simp)

variable [Facts]
open Facts
/-- The precondition says that every query and every key is real. -/
theorem of_pre (A0 : FVec Ideal S4096x12288 .f32) (A1 : FVec Ideal S256x2048 .f32) (A2 : FVec Ideal S4096x1024 .f32)
    (h : fn (F := Ideal) A0 A1 A2 = fun _ => 1#1) :
    (∀ (s : Fin 4096) (n : Fin 1024), ∃ r : ℝ, A0 (ix2 s ⟨9216 + n.val, by omega⟩) = r) ∧ (∀ (j : Fin 256) (n : Fin 1024), ∃ r : ℝ, A1 (ix2 j ⟨n.val, by omega⟩) = r) := by
  have h' := congrFun h (fun a => a.elim0)
  unfold fn at h'
  have hh := IntOp.andi_eq_one.mp h'
  constructor
  · intro s n
    have e := Host.reduce_andi_all _ _ _ _ _ hh.1 (ix2 s n)
    pointwise at e
    exact real_of_abs_lt e
  · intro j n
    have e := Host.reduce_andi_all _ _ _ _ _ hh.2 (ix2 j n)
    pointwise at e
    exact real_of_abs_lt e
end Cert.Finite
end
-- ==== Proof.MemClaim.lean ====
module
public import proofs.«01_k».proof.Defs
public import proofs.«01_k».proof.Proof.Gen.KernelIdeal
public import proofs.«01_k».proof.Proof.Gen.ReferenceIdeal
public import proofs.«01_k».proof.Proof.MemRun
public import proofs.«01_k».proof.Proof.Finite

/-!
  The kernel's gradients are the reference's, wherever the queries and the keys are real numbers.
-/

@[expose] public section
set_option maxRecDepth 16384
noncomputable section
namespace Cert.MemClaim
open Idealize.ShloMosaic Idealize.ShloMosaic.TcCoe Idealize.SL.Sem Cert.SoftmaxGrad Cert.ReferenceIdeal.MemRef Cert.KernelIdeal.MemRun

variable (m : (ℓ : Loc Cert.KernelIdeal.nD Cert.KernelIdeal.τ Cert.KernelIdeal.sig) → Buf (Elt Ideal) ℓ) (c : Dev Cert.KernelIdeal.nD)

/-- A lane of four heads of 256: its head and its place in the head. -/
theorem lane (n : Fin 1024) : ∃ (h : Fin 4) (d : Fin 256), n.val = 256 * h.val + d.val :=
  ⟨⟨n.val / 256, by omega⟩, ⟨n.val % 256, Nat.mod_lt _ (by decide)⟩, by show n.val = 256 * (n.val / 256) + n.val % 256; omega⟩

section Equation

variable (hq : ∀ (s : Fin 4096) (n : Fin 1024), ∃ r : ℝ, A0 m c (ix2 s ⟨9216 + n.val, by omega⟩) = r)
  (hk : ∀ (j : Fin 256) (n : Fin 1024), ∃ r : ℝ, A1 m c (ix2 j ⟨n.val, by omega⟩) = r)

include hq in
theorem qrow_real (h : Fin 4) (s : Fin 4096) (d : Fin 256) : ∃ r : ℝ, qrow (A0 m c) h s d = r :=
  hq s ⟨256 * h.val + d.val, by omega⟩

include hk in
theorem khead_real (h : Fin 4) (j d : Fin 256) : ∃ r : ℝ, khead (A1 m c) h j d = r :=
  hk j ⟨256 * h.val + d.val, by omega⟩

include hq hk

/-- A score's gradient by the kernel's rule is the one by the quotient rule. -/
theorem ds_eq (h : Fin 4) (s : Fin 4096) (j : Fin 256) :
    dscore (qrow (A0 m c) h s) (khead (A1 m c) h) (vhead (A1 m c) h) (grow (A2 m c) h s) j
      = dscoreQuot (qrow (A0 m c) h s) (khead (A1 m c) h) (vhead (A1 m c) h) (grow (A2 m c) h s) j := by
  have h1 := qrow_real m c hq h s
  have h2 := khead_real m c hk h
  generalize qrow (A0 m c) h s = q at h1 ⊢
  generalize khead (A1 m c) h = k at h2 ⊢
  exact dscore_eq q k _ _ h1 h2 j

/-- The kernel's query gradient is the reference's. -/
theorem dq_eq : dqAll m c = dquery (A0 m c) (A1 m c) (A2 m c) := by
  funext i
  obtain ⟨s, n, rfl⟩ : ∃ (s : Fin 4096) (n : Fin 1024), i = ix2 s n := ⟨i 0, i 1, eq_ix2 i⟩
  obtain ⟨h, d, hn⟩ := lane n
  rw [dqAll_apply m c h s d n hn, dquery_apply (A0 m c) (A1 m c) (A2 m c) h s d n hn]
  exact Finset.sum_congr rfl fun j _ => congrArg (· * _) (ds_eq m c hq hk h s j)

/-- The kernel's key and value gradient is the reference's. -/
theorem dkv_eq : (Cert.KernelIdeal.Gen.dats m 0 c).arrAt 4 Cert.KernelIdeal.cfg0.N
    = concatenate Cert.ReferenceIdeal.S256x2048 1 [⟨Cert.ReferenceIdeal.S256x1024, dkey (A0 m c) (A1 m c) (A2 m c)⟩,
        ⟨Cert.ReferenceIdeal.S256x1024, dvalue (A0 m c) (A1 m c) (A2 m c)⟩] Cert.ReferenceIdeal.Gen.facts.concatenates_S256x1024_S256x1024_S256x2048_d1 := by
  funext i
  obtain ⟨j, n, rfl⟩ : ∃ (j : Fin 256) (n : Fin 2048), i = ix2 j n := ⟨i 0, i 1, eq_ix2 i⟩
  refine Eq.trans ?_ (joint_apply _ _ j n).symm
  by_cases hlt : n.val < 1024
  · obtain ⟨h, d, hn⟩ := lane ⟨n.val, hlt⟩
    rw [dif_pos hlt, dkey_apply (A0 m c) (A1 m c) (A2 m c) h j d _ hn]
    have e := (arr_dkv m c h j d).1 n hn
    simp only [ds_eq m c hq hk] at e
    exact e
  · obtain ⟨h, d, hn⟩ := lane ⟨n.val - 1024, by omega⟩
    rw [dif_neg hlt, dvalue_apply (A0 m c) (A1 m c) (A2 m c) h j d _ hn]
    exact (arr_dkv m c h j d).2 n (by have : n.val - 1024 = 256 * h.val + d.val := hn; omega)

end Equation

/-- Both programs run, and their results agree. -/
theorem algebraic : Cert.algebraic_KernelIdeal_ReferenceIdeal_pre_scores_finite (hKernelIdeal := Cert.KernelIdeal.Gen.facts)
    (hReferenceIdeal := Cert.ReferenceIdeal.Gen.facts) (hPre_scores_finite := Cert.Finite.facts) := by
  intro m ρ m' ρ' hpre hargs
  refine ⟨fun c => dqAll m c, fun c => (Cert.KernelIdeal.Gen.dats m 0 c).arrAt 4 Cert.KernelIdeal.cfg0.N, ?_, ?_⟩
  · exact (θ_run Cert.KernelIdeal.defs _ _).mono (fun r h c => ⟨(h c).1.trans (arr_dq m c), (h c).2⟩) (Cert.KernelIdeal.Value.run_blocks m ρ)
  · refine (θ_run Cert.ReferenceIdeal.defs _ _).mono (fun r h c => ?_) (Cert.ReferenceIdeal.Value.run m' ρ')
    haveI := Cert.Finite.facts
    obtain ⟨hq, hk⟩ := Cert.Finite.of_pre _ _ _ (hpre c)
    obtain ⟨e0, e1, e2⟩ := hargs c
    refine ⟨(h c).1.trans ?_, (h c).2.1.trans ?_, (h c).2.2⟩
    · rw [out0_eq, e0, e1, e2]
      exact (dq_eq m c hq hk).symm
    · rw [out1_eq, e0, e1, e2]
      exact (dkv_eq m c hq hk).symm

end Cert.MemClaim
end
-- ==== Proof.Product.lean ====
/- Products of matrices over the extended reals, in the three ways in which the training step forms them. -/
module

public import Idealize.ShloMosaic.Lib.Pointwise

@[expose] public section
noncomputable section
namespace Cert.Product
open Idealize.ShloMosaic

/-- A matrix of extended reals with `a` rows and `b` columns. -/
abbrev Mat (a b : ℕ) := (⟨2, ![a, b]⟩ : Shape).Idx → EReal

variable {M K N : ℕ}

/-- Rows of `A` against columns of `B`: the forward product. -/
def nn (A : Mat M K) (B : Mat K N) : Mat M N := fun i => ∑ k : Fin K, A (ix2 (i 0) k) * B (ix2 k (i 1))
/-- Rows of `A` against rows of `B`: the gradient of a product's left factor. -/
def nt (A : Mat M K) (B : Mat N K) : Mat M N := fun i => ∑ k : Fin K, A (ix2 (i 0) k) * B (ix2 (i 1) k)
/-- Columns of `A` against columns of `B`: the gradient of a product's right factor. -/
def tn (A : Mat K M) (B : Mat K N) : Mat M N := fun i => ∑ k : Fin K, A (ix2 k (i 0)) * B (ix2 k (i 1))

theorem nn_apply (A : Mat M K) (B : Mat K N) (r : Fin M) (n : Fin N) : nn A B (ix2 r n) = ∑ k : Fin K, A (ix2 r k) * B (ix2 k n) := rfl
theorem nt_apply (A : Mat M K) (B : Mat N K) (r : Fin M) (n : Fin N) : nt A B (ix2 r n) = ∑ k : Fin K, A (ix2 r k) * B (ix2 n k) := rfl
theorem tn_apply (A : Mat K M) (B : Mat K N) (r : Fin M) (n : Fin N) : tn A B (ix2 r n) = ∑ k : Fin K, A (ix2 k r) * B (ix2 k n) := rfl

/-- An entry of a tile of the product is the product's entry at its place, where the tile's factors are rows of `A` and columns of `B`. -/
theorem nn_tile {bm bn : ℕ} {A : Mat M K} {B : Mat K N} {X : Mat bm K} {Y : Mat K bn} {r : Fin bm} {n : Fin bn} (R : Fin M) (C : Fin N)
    (hX : ∀ k, X (ix2 r k) = A (ix2 R k)) (hY : ∀ k, Y (ix2 k n) = B (ix2 k C)) : ∑ k : Fin K, X (ix2 r k) * Y (ix2 k n) = nn A B (ix2 R C) :=
  Finset.sum_congr rfl fun k _ => congrArg₂ (· * ·) (hX k) (hY k)
/-- The same of rows against rows. -/
theorem nt_tile {bm bn : ℕ} {A : Mat M K} {B : Mat N K} {X : Mat bm K} {Y : Mat bn K} {r : Fin bm} {n : Fin bn} (R : Fin M) (C : Fin N)
    (hX : ∀ k, X (ix2 r k) = A (ix2 R k)) (hY : ∀ k, Y (ix2 n k) = B (ix2 C k)) : ∑ k : Fin K, X (ix2 r k) * Y (ix2 n k) = nt A B (ix2 R C) :=
  Finset.sum_congr rfl fun k _ => congrArg₂ (· * ·) (hX k) (hY k)
/-- The same of columns against columns. -/
theorem tn_tile {bm bn : ℕ} {A : Mat K M} {B : Mat K N} {X : Mat K bm} {Y : Mat K bn} {r : Fin bm} {n : Fin bn} (R : Fin M) (C : Fin N)
    (hX : ∀ k, X (ix2 k r) = A (ix2 k R)) (hY : ∀ k, Y (ix2 k n) = B (ix2 k C)) : ∑ k : Fin K, X (ix2 k r) * Y (ix2 k n) = tn A B (ix2 R C) :=
  Finset.sum_congr rfl fun k _ => congrArg₂ (· * ·) (hX k) (hY k)

/-- Every index of a matrix is a row and a column. -/
theorem exists_ix2 (y : (⟨2, ![M, N]⟩ : Shape).Idx) : ∃ (r : Fin M) (n : Fin N), y = ix2 r n := ⟨y 0, y 1, eq_ix2 y⟩

/-- Rows of `A` against the columns of `B` from `off` on. -/
def ntFrom (off : ℕ) {L : ℕ} (h : off + K ≤ L) (A : Mat M K) (B : Mat N L) : Mat M N := fun i => ∑ k : Fin K, A (ix2 (i 0) k) * B (ix2 (i 1) ⟨off + k.val, by omega⟩)
theorem ntFrom_apply {off L : ℕ} (h : off + K ≤ L) (A : Mat M K) (B : Mat N L) (r : Fin M) (n : Fin N) :
    ntFrom off h A B (ix2 r n) = ∑ k : Fin K, A (ix2 r k) * B (ix2 n ⟨off + k.val, by omega⟩) := rfl

/-- The transposed matrix. -/
def flip (A : Mat M N) : Mat N M := fun i => A (ix2 (i 1) (i 0))
theorem flip_apply (A : Mat M N) (n : Fin N) (r : Fin M) : flip A (ix2 n r) = A (ix2 r n) := rfl
/-- A product with the transposed matrix on the left goes by columns. -/
theorem nn_flip (A : Mat K M) (B : Mat K N) : nn (flip A) B = tn A B := rfl
/-- The columns of one product, against those of the other product transposed. -/
theorem tn_comm (A : Mat K M) (B : Mat K N) (r : Fin M) (n : Fin N) : tn B A (ix2 n r) = tn A B (ix2 r n) :=
  Finset.sum_congr rfl fun _ _ => mul_comm _ _

/-- A load of a block of columns, at an index. -/
theorem ld_columns {A B C : ℕ} {e : EltTy} (X : Vec Ideal (⟨2, ![A, B]⟩ : Shape) e) (off : ℕ)
    (inb : ∀ a, (![0, off] : Fin 2 → ℕ) a + (![A, C] : Fin 2 → ℕ) a ≤ (⟨2, ![A, B]⟩ : Shape).size a) (r : Fin A) (d : Fin C) (n : Fin B)
    (hn : n.val = off + d.val) : View.ld X (Rect.unit ![0, off] ![A, C] inb) (ix2 r d) = X (ix2 r n) := by
  refine congrArg X (funext fun a => Fin.ext ?_)
  match a with
  | ⟨0, _⟩ => show 0 + 1 * r.val = r.val; omega
  | ⟨1, _⟩ => show off + 1 * d.val = n.val; omega

/-- The origin of a rectangle, as the programs print it. -/
theorem origin : (![0, 0] : Fin 2 → Nat) = fun _ => 0 := funext fun a => by fin_cases a <;> rfl

end Cert.Product
end
-- ==== Proof.MlpRun.lean ====
/- What the six calls of the squared-ReLU channel mixer, forward and backward, leave in their arrays. -/
module

public import proofs.«01_k».proof.Proof.Gen.MlpKernelIdeal
public import proofs.«01_k».proof.Proof.Gen.MlpKernelIdeal.Skeleton
public import proofs.«01_k».proof.Proof.Gen.MlpKernelIdeal.Launch
public import proofs.«01_k».proof.Proof.Gen.MlpKernelIdeal.Points
public import proofs.«01_k».proof.Proof.Gen.MlpKernelIdeal.Frame
public import proofs.«01_k».proof.Proof.Gen.MlpReferenceIdeal
public import proofs.«01_k».proof.Proof.Gen.MlpReferenceIdeal.Run
public import proofs.«01_k».proof.Proof.Product
public import Idealize.ShloMosaic.Lib.Pipeline.ValueKit
public import Idealize.ShloMosaic.Lib.Pipeline.ReadBack
public import Idealize.ShloMosaic.Lib.Pointwise

@[expose] public section
set_option maxRecDepth 16384
noncomputable section
namespace Cert.MlpKernelIdeal.MlpRun
open Cert.MlpKernelIdeal Cert.MlpKernelIdeal.Gen Cert.Product Idealize.ShloMosaic Idealize.ShloMosaic.TcCoe Idealize.SL.Sem
variable (V : (c : Dev nD) → (b : Ref sig .tc) → Buf (Elt Ideal) ((c : Thread nD τ).loc b)) (c : Dev nD)

/-- Twice, as both programs print it. -/
abbrev two : EReal := Ideal.ofBits .f32 0x40000000#32
/-- The squared ReLU. -/
def reluSq {a b : ℕ} (x : Mat a b) : Mat a b := fun i => max (x i) 0 * max (x i) 0
/-- The cotangent `g` through the squared ReLU at `x`. -/
def reluSqGrad {a b : ℕ} (g x : Mat a b) : Mat a b := fun i => g i * (two * max (x i) 0)

section Blocks
/-! Which blocks each call's windows visit at a point of its grid. -/
theorem idx0 : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, _)
theorem idx1 : ∀ t : Fin cfg1.N, win1_0.index t = ![t.val, 0] ∧ win1_1.index t = ![0, 0] ∧ win1_2.index t = ![t.val, 0] :=
  (by decide +kernel : ∀ t : Fin grid1.N, _)
theorem idx2 : ∀ t : Fin cfg2.N, win2_0.index t = ![t.val / 4, 0] ∧ win2_1.index t = ![t.val % 4, 0] ∧ win2_2.index t = ![t.val / 4, t.val % 4] ∧ win2_3.index t = ![t.val / 4, t.val % 4] :=
  (by decide +kernel : ∀ t : Fin grid2.N, _)
theorem idx3 : ∀ t : Fin cfg3.N, win3_0.index t = ![0, t.val] ∧ win3_1.index t = ![0, 0] ∧ win3_2.index t = ![t.val, 0] :=
  (by decide +kernel : ∀ t : Fin grid3.N, _)
theorem idx4 : ∀ t : Fin cfg4.N, win4_0.index t = ![t.val, 0] ∧ win4_1.index t = ![0, 0] ∧ win4_2.index t = ![t.val, 0] :=
  (by decide +kernel : ∀ t : Fin grid4.N, _)
theorem idx5 : ∀ t : Fin cfg5.N, win5_0.index t = ![0, 0] ∧ win5_1.index t = ![0, t.val] ∧ win5_2.index t = ![0, t.val] :=
  (by decide +kernel : ∀ t : Fin grid5.N, _)

/-! What one point computes of its blocks. -/
theorem pay0 (x y : Vec Ideal S1024x1024 .bf16) (r n : Fin 1024) : k0_pay1 x y (ix2 r n) = ∑ k : Fin 1024, x (ix2 r k) * y (ix2 k n) := by
  pointwise [k0_pay1]
theorem pay0' (x y : Vec Ideal S1024x1024 .bf16) (r n : Fin 1024) :
    k0_pay2 x y (ix2 r n) = max (∑ k : Fin 1024, x (ix2 r k) * y (ix2 k n)) 0 * max (∑ k : Fin 1024, x (ix2 r k) * y (ix2 k n)) 0 := by
  pointwise [k0_pay2, k0_pay1]
theorem pay1 (x : Vec Ideal S1024x4096 .bf16) (y : Vec Ideal S4096x1024 .bf16) (r n : Fin 1024) : k1_pay1 x y (ix2 r n) = ∑ k : Fin 4096, x (ix2 r k) * y (ix2 k n) := by
  pointwise [k1_pay1]
theorem pay2 (x y : Vec Ideal S1024x1024 .bf16) (a : Vec Ideal S1024x1024 .f32) (r n : Fin 1024) :
    k2_pay1 x y a (ix2 r n) = (∑ k : Fin 1024, x (ix2 r k) * y (ix2 n k)) * (two * max (a (ix2 r n)) 0) := by
  pointwise [k2_pay1]
theorem pay3 (x y : Vec Ideal S4096x1024 .bf16) (r n : Fin 1024) : k3_pay1 x y (ix2 r n) = ∑ k : Fin 4096, x (ix2 k r) * y (ix2 k n) := by
  pointwise [k3_pay1]
theorem pay4 (x y : Vec Ideal S1024x4096 .bf16) (r n : Fin 1024) : k4_pay1 x y (ix2 r n) = ∑ k : Fin 4096, x (ix2 r k) * y (ix2 n k) := by
  pointwise [k4_pay1]
theorem pay5 (x y : Vec Ideal S4096x1024 .bf16) (r n : Fin 1024) : k5_pay1 x y (ix2 r n) = ∑ k : Fin 4096, x (ix2 k r) * y (ix2 k n) := by
  pointwise [k5_pay1]
end Blocks

/-- The first product: the pre-activations. -/
theorem arr0_2 : (dat0 V c).arrAt 2 cfg0.N = nn (M := 4096) (K := 1024) (N := 4096) (V c main_arg0) (V c main_arg1) := by
  refine (dat0 V c).arrAt_eq_of_covers 2 _ (by decide +kernel) fun t hf y => ?_
  blk_simp
  rw [after0_2, out0_2, View.canon_unit_zero origin, View.ld_unit_zero origin, View.ld_unit_zero origin]
  obtain ⟨r, n, rfl⟩ := exists_ix2 (M := 1024) (N := 1024) y
  have lt : t.val < 16 := t.isLt
  have place : (win0_2.blk t).view.emb (ix2 r n) = (ix2 ⟨t.val / 4 * 1024 + r.val, by omega⟩ ⟨t.val % 4 * 1024 + n.val, by omega⟩ : S4096x4096.Idx) := by blk_ext [idx0 t]
  exact (pay0 _ _ r n).trans ((nn_tile _ _ (fun k => by blk_ext [iblk0, idx0 t]) (fun k => by blk_ext [iblk0, idx0 t])).trans (congrArg (nn _ _) place).symm)

/-- The second result of the same call: the squared ReLU of the pre-activations. -/
theorem arr0_3 : (dat0 V c).arrAt 3 cfg0.N = reluSq (nn (M := 4096) (K := 1024) (N := 4096) (V c main_arg0) (V c main_arg1)) := by
  refine (dat0 V c).arrAt_eq_of_covers 3 _ (by decide +kernel) fun t hf y => ?_
  blk_simp
  rw [after0_3, out0_3, View.canon_unit_zero origin, View.ld_unit_zero origin, View.ld_unit_zero origin]
  obtain ⟨r, n, rfl⟩ := exists_ix2 (M := 1024) (N := 1024) y
  have lt : t.val < 16 := t.isLt
  have place : (win0_3.blk t).view.emb (ix2 r n) = (ix2 ⟨t.val / 4 * 1024 + r.val, by omega⟩ ⟨t.val % 4 * 1024 + n.val, by omega⟩ : S4096x4096.Idx) := by blk_ext [idx0 t]
  refine (pay0' _ _ r n).trans (Eq.trans ?_ (congrArg (reluSq (nn _ _)) place).symm)
  exact congrArg (fun s : EReal => max s 0 * max s 0) (nn_tile _ _ (fun k => by blk_ext [iblk0, idx0 t]) (fun k => by blk_ext [iblk0, idx0 t]))

/-- The second product: the channel mixer's output. -/
theorem arr1 : (dat1 V c).arrAt 2 cfg1.N = nn (M := 4096) (K := 4096) (N := 1024) (V c main_v0_1) (V c main_arg2) := by
  refine (dat1 V c).arrAt_eq_of_covers 2 _ (by decide +kernel) fun t hf y => ?_
  blk_simp
  rw [after1_2, out1_2, View.canon_unit_zero origin, View.ld_unit_zero origin, View.ld_unit_zero origin]
  obtain ⟨r, n, rfl⟩ := exists_ix2 (M := 1024) (N := 1024) y
  have lt : t.val < 4 := t.isLt
  have place : (win1_2.blk t).view.emb (ix2 r n) = (ix2 ⟨t.val * 1024 + r.val, by omega⟩ n : S4096x1024.Idx) := by blk_ext [idx1 t]
  exact (pay1 _ _ r n).trans ((nn_tile _ _ (fun k => by blk_ext [iblk1, idx1 t]) (fun k => by blk_ext [iblk1, idx1 t])).trans (congrArg (nn _ _) place).symm)

/-- The cotangent of the pre-activations. -/
theorem arr2 : (dat2 V c).arrAt 3 cfg2.N = reluSqGrad (nt (M := 4096) (K := 1024) (N := 4096) (V c main_arg3) (V c main_arg2)) (V c main_v0_0) := by
  refine (dat2 V c).arrAt_eq_of_covers 3 _ (by decide +kernel) fun t hf y => ?_
  blk_simp
  rw [after2_3, out2_3, View.canon_unit_zero origin, View.ld_unit_zero origin, View.ld_unit_zero origin, View.ld_unit_zero origin]
  obtain ⟨r, n, rfl⟩ := exists_ix2 (M := 1024) (N := 1024) y
  have lt : t.val < 16 := t.isLt
  have place : (win2_3.blk t).view.emb (ix2 r n) = (ix2 ⟨t.val / 4 * 1024 + r.val, by omega⟩ ⟨t.val % 4 * 1024 + n.val, by omega⟩ : S4096x4096.Idx) := by blk_ext [idx2 t]
  refine (pay2 _ _ _ r n).trans (Eq.trans ?_ (congrArg (reluSqGrad (nt _ _) _) place).symm)
  have a : iblk2 V c 2 t (ix2 r n) = V c main_v0_0 (ix2 (⟨t.val / 4 * 1024 + r.val, by omega⟩ : Fin 4096) (⟨t.val % 4 * 1024 + n.val, by omega⟩ : Fin 4096)) := by
    blk_ext [iblk2, idx2 t]
  exact congrArg₂ (fun s x : EReal => s * (two * max x 0)) (nt_tile _ _ (fun k => by blk_ext [iblk2, idx2 t]) (fun k => by blk_ext [iblk2, idx2 t])) a

/-- The gradient of `w_down`. -/
theorem arr3 : (dat3 V c).arrAt 2 cfg3.N = tn (M := 4096) (K := 4096) (N := 1024) (V c main_v0_1) (V c main_arg3) := by
  refine (dat3 V c).arrAt_eq_of_covers 2 _ (by decide +kernel) fun t hf y => ?_
  blk_simp
  rw [after3_2, out3_2, View.canon_unit_zero origin, View.ld_unit_zero origin, View.ld_unit_zero origin]
  obtain ⟨r, n, rfl⟩ := exists_ix2 (M := 1024) (N := 1024) y
  have lt : t.val < 4 := t.isLt
  have place : (win3_2.blk t).view.emb (ix2 r n) = (ix2 ⟨t.val * 1024 + r.val, by omega⟩ n : S4096x1024.Idx) := by blk_ext [idx3 t]
  exact (pay3 _ _ r n).trans ((tn_tile _ _ (fun k => by blk_ext [iblk3, idx3 t]) (fun k => by blk_ext [iblk3, idx3 t])).trans (congrArg (tn _ _) place).symm)

/-- The gradient of the channel mixer's input. -/
theorem arr4 : (dat4 V c).arrAt 2 cfg4.N = nt (M := 4096) (K := 4096) (N := 1024) (V c main_v2) (V c main_arg1) := by
  refine (dat4 V c).arrAt_eq_of_covers 2 _ (by decide +kernel) fun t hf y => ?_
  blk_simp
  rw [after4_2, out4_2, View.canon_unit_zero origin, View.ld_unit_zero origin, View.ld_unit_zero origin]
  obtain ⟨r, n, rfl⟩ := exists_ix2 (M := 1024) (N := 1024) y
  have lt : t.val < 4 := t.isLt
  have place : (win4_2.blk t).view.emb (ix2 r n) = (ix2 ⟨t.val * 1024 + r.val, by omega⟩ n : S4096x1024.Idx) := by blk_ext [idx4 t]
  exact (pay4 _ _ r n).trans ((nt_tile _ _ (fun k => by blk_ext [iblk4, idx4 t]) (fun k => by blk_ext [iblk4, idx4 t])).trans (congrArg (nt _ _) place).symm)

/-- The gradient of `w_up`. -/
theorem arr5 : (dat5 V c).arrAt 2 cfg5.N = tn (M := 1024) (K := 4096) (N := 4096) (V c main_arg0) (V c main_v2) := by
  refine (dat5 V c).arrAt_eq_of_covers 2 _ (by decide +kernel) fun t hf y => ?_
  blk_simp
  rw [after5_2, out5_2, View.canon_unit_zero origin, View.ld_unit_zero origin, View.ld_unit_zero origin]
  obtain ⟨r, n, rfl⟩ := exists_ix2 (M := 1024) (N := 1024) y
  have lt : t.val < 4 := t.isLt
  have place : (win5_2.blk t).view.emb (ix2 r n) = (ix2 r ⟨t.val * 1024 + n.val, by omega⟩ : S1024x4096.Idx) := by blk_ext [idx5 t]
  exact (pay5 _ _ r n).trans ((tn_tile _ _ (fun k => by blk_ext [iblk5, idx5 t]) (fun k => by blk_ext [iblk5, idx5 t])).trans (congrArg (tn _ _) place).symm)

end Cert.MlpKernelIdeal.MlpRun
end
-- ==== Proof.MlpClaim.lean ====
/- The channel mixer's results: what the six calls leave at the end, and that the reference computes the same. -/
module

public import proofs.«01_k».proof.Defs
public import proofs.«01_k».proof.Proof.Gen.MlpReferenceIdeal
public import proofs.«01_k».proof.Proof.Gen.MlpReferenceIdeal.Run
public import proofs.«01_k».proof.Proof.MlpRun
public import Idealize.ShloMosaic.Lib.Pointwise

@[expose] public section
set_option maxRecDepth 16384
noncomputable section

namespace Cert.MlpKernelIdeal.MlpRun
open Cert.MlpKernelIdeal Cert.MlpKernelIdeal.Gen Cert.Product Idealize.ShloMosaic Idealize.ShloMosaic.TcCoe
open Idealize.ShloMosaic.Rounds Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg) (c : Dev nD)

local notation "𝕄" => MT nD τ sig Unit (Elt Ideal) ℕ (UR sig nD τ) ℕ

set_option backward.isDefEq.respectTransparency.types false in
/-- The six calls run to their end, and every array ends with what the last boundary holds. -/
theorem run_final : θ_run defs (onTc (τ := τ) (main (F := Ideal))) ⟨m, fun _ => 0, ρ⟩ (fun r => ∀ c : Dev nD, ∀ b ∈ Pipeline.ucRefs τ sig,
    r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

/-- The input, the two weights and the output's cotangent. -/
abbrev X : Mat 4096 1024 := m ((c : Thread nD τ).loc main_arg0)
abbrev Up : Mat 1024 4096 := m ((c : Thread nD τ).loc main_arg1)
abbrev Down : Mat 4096 1024 := m ((c : Thread nD τ).loc main_arg2)
abbrev G : Mat 4096 1024 := m ((c : Thread nD τ).loc main_arg3)

/-- The pre-activations and their squared ReLU, until they are last read. -/
theorem act_end : W1 m ρ c main_v0_0 = nn (X m c) (Up m c) := (W1_arr m ρ c 2).trans (arr0_2 (V0 m ρ) c)
theorem sq_end : W1 m ρ c main_v0_1 = reluSq (nn (X m c) (Up m c)) := (W1_arr m ρ c 3).trans (arr0_3 (V0 m ρ) c)
theorem act_kept : W2 m ρ c main_v0_0 = nn (X m c) (Up m c) := (W2_of m ρ c main_v0_0 (by decide +kernel)).trans (act_end m ρ c)
theorem sq_kept : W3 m ρ c main_v0_1 = reluSq (nn (X m c) (Up m c)) :=
  (W3_of m ρ c main_v0_1 (by decide +kernel)).trans ((W2_of m ρ c main_v0_1 (by decide +kernel)).trans (sq_end m ρ c))

/-- The output. -/
def out : Mat 4096 1024 := nn (reluSq (nn (X m c) (Up m c))) (Down m c)
/-- The cotangent of the pre-activations. -/
def dact : Mat 4096 4096 := reluSqGrad (nt (G m c) (Down m c)) (nn (X m c) (Up m c))

theorem out_end : W2 m ρ c main_v1 = out m c :=
  (W2_arr m ρ c 2).trans ((arr1 (V1 m ρ) c).trans (congrArg₂ nn (sq_end m ρ c) (W1_args m ρ c main_arg2 (by decide))))
theorem dact_end : W3 m ρ c main_v2 = dact m c :=
  (W3_arr m ρ c 3).trans ((arr2 (V2 m ρ) c).trans (congrArg₂ reluSqGrad
    (congrArg₂ nt (W2_args m ρ c main_arg3 (by decide)) (W2_args m ρ c main_arg2 (by decide))) (act_kept m ρ c)))
theorem dact_kept : W4 m ρ c main_v2 = dact m c := (W4_of m ρ c main_v2 (by decide +kernel)).trans (dact_end m ρ c)
theorem dact_kept' : W5 m ρ c main_v2 = dact m c := (W5_of m ρ c main_v2 (by decide +kernel)).trans (dact_kept m ρ c)
theorem ddown_end : W4 m ρ c main_v3 = tn (reluSq (nn (X m c) (Up m c))) (G m c) :=
  (W4_arr m ρ c 2).trans ((arr3 (V3 m ρ) c).trans (congrArg₂ tn (sq_kept m ρ c) (W3_args m ρ c main_arg3 (by decide))))
theorem dx_end : W5 m ρ c main_v4 = nt (dact m c) (Up m c) :=
  (W5_arr m ρ c 2).trans ((arr4 (V4 m ρ) c).trans (congrArg₂ nt (dact_kept m ρ c) (W4_args m ρ c main_arg1 (by decide))))
theorem dup_end : W6 m ρ c main_v5 = tn (X m c) (dact m c) :=
  (W6_arr m ρ c 2).trans ((arr5 (V5 m ρ) c).trans (congrArg₂ tn (W5_args m ρ c main_arg0 (by decide)) (dact_kept' m ρ c)))

/-- The four results at the end of the run. -/
theorem out_last : W6 m ρ c main_v1 = out m c :=
  (W6_of m ρ c main_v1 (by decide +kernel)).trans ((W5_of m ρ c main_v1 (by decide +kernel)).trans
    ((W4_of m ρ c main_v1 (by decide +kernel)).trans ((W3_of m ρ c main_v1 (by decide +kernel)).trans (out_end m ρ c))))
theorem dx_last : W6 m ρ c main_v4 = nt (dact m c) (Up m c) := (W6_of m ρ c main_v4 (by decide +kernel)).trans (dx_end m ρ c)
theorem ddown_last : W6 m ρ c main_v3 = tn (reluSq (nn (X m c) (Up m c))) (G m c) :=
  (W6_of m ρ c main_v3 (by decide +kernel)).trans ((W5_of m ρ c main_v3 (by decide +kernel)).trans (ddown_end m ρ c))

end Cert.MlpKernelIdeal.MlpRun

namespace Cert.MlpReferenceIdeal.MlpRef
open Cert.MlpReferenceIdeal Cert.MlpReferenceIdeal.Gen Cert.Product Idealize.ShloMosaic Cert.MlpKernelIdeal.MlpRun

/-! The reference's products, entry by entry. -/
theorem up_eq (x : FVec Ideal S4096x1024 .f32) (w : FVec Ideal S1024x4096 .f32) :
    Host.dotGeneral dot_S4096x1024_S1024x4096_S4096x4096_1_0_0_1_n_n none x w = nn (M := 4096) (K := 1024) (N := 4096) x w := by
  funext i; obtain ⟨r, n, rfl⟩ := exists_ix2 (M := 4096) (N := 4096) i; rw [nn_apply]; pointwise
theorem down_eq (x : FVec Ideal S4096x4096 .f32) (w : FVec Ideal S4096x1024 .f32) :
    Host.dotGeneral dot_S4096x4096_S4096x1024_S4096x1024_1_0_0_1_n_n none x w = nn (M := 4096) (K := 4096) (N := 1024) x w := by
  funext i; obtain ⟨r, n, rfl⟩ := exists_ix2 (M := 4096) (N := 1024) i; rw [nn_apply]; pointwise
theorem downT_eq (x w : FVec Ideal S4096x1024 .f32) :
    Host.dotGeneral dot_S4096x1024_S4096x1024_S4096x4096_1_1_0_0_n_n none x w = nt (M := 4096) (K := 1024) (N := 4096) x w := by
  funext i; obtain ⟨r, n, rfl⟩ := exists_ix2 (M := 4096) (N := 4096) i; rw [nt_apply]; pointwise
theorem upT_eq (x : FVec Ideal S4096x4096 .f32) (w : FVec Ideal S1024x4096 .f32) :
    Host.dotGeneral dot_S4096x4096_S1024x4096_S4096x1024_1_1_0_0_n_n none x w = nt (M := 4096) (K := 4096) (N := 1024) x w := by
  funext i; obtain ⟨r, n, rfl⟩ := exists_ix2 (M := 4096) (N := 1024) i; rw [nt_apply]; pointwise

/-- The reference multiplies the factors of a weight's gradient the other way round and transposes. -/
theorem dup_eq (g : FVec Ideal S4096x4096 .f32) (x : FVec Ideal S4096x1024 .f32) :
    transpose S1024x4096 [1, 0] (Host.dotGeneral dot_S4096x4096_S4096x1024_S4096x1024_0_0_1_1_n_n none g x) transposes_S4096x1024_S1024x4096_1_0
      = tn (M := 1024) (K := 4096) (N := 4096) x g := by
  funext i; obtain ⟨r, n, rfl⟩ := exists_ix2 (M := 1024) (N := 4096) i; rw [tn_apply]; pointwise
  exact Finset.sum_congr rfl fun k _ => mul_comm _ _
theorem ddown_eq (g : FVec Ideal S4096x1024 .f32) (h : FVec Ideal S4096x4096 .f32) :
    transpose S4096x1024 [1, 0] (Host.dotGeneral dot_S4096x1024_S4096x4096_S1024x4096_0_0_1_1_n_n none g h) transposes_S1024x4096_S4096x1024_1_0
      = tn (M := 4096) (K := 4096) (N := 1024) h g := by
  funext i; obtain ⟨r, n, rfl⟩ := exists_ix2 (M := 4096) (N := 1024) i; rw [tn_apply]; pointwise
  exact Finset.sum_congr rfl fun k _ => mul_comm _ _

/-- The ReLU's step is spared: where it is zero, so is the ReLU it multiplies. -/
theorem step (g z t : EReal) : (if 0 < z then g * (t * max z 0) else 0) = g * (t * max z 0) := by
  split
  · rfl
  · rw [max_eq_right (not_lt.mp ‹_›), mul_zero, mul_zero]

theorem sq_eq (z : FVec Ideal S4096x4096 .f32) :
    mulf (maximumf z (broadcastInDim S4096x4096 ![] bcast_S_S4096x4096 (constant S_ .f32 0x00000000#32)))
      (maximumf z (broadcastInDim S4096x4096 ![] bcast_S_S4096x4096 (constant S_ .f32 0x00000000#32))) = reluSq (a := 4096) (b := 4096) z := by
  funext i; obtain ⟨r, n, rfl⟩ := exists_ix2 (M := 4096) (N := 4096) i; unfold reluSq; pointwise
theorem dsq_eq (z g : FVec Ideal S4096x4096 .f32) :
    select (cmpf .ogt z (broadcastInDim S4096x4096 ![] bcast_S_S4096x4096 (constant S_ .f32 0x00000000#32)))
      (mulf g (mulf (broadcastInDim S4096x4096 ![] bcast_S_S4096x4096 (constant S_ .f32 0x40000000#32))
        (maximumf z (broadcastInDim S4096x4096 ![] bcast_S_S4096x4096 (constant S_ .f32 0x00000000#32)))))
      (broadcastInDim S4096x4096 ![] bcast_S_S4096x4096 (constant S_ .f32 0x00000000#32)) = reluSqGrad (a := 4096) (b := 4096) g z := by
  funext i; obtain ⟨r, n, rfl⟩ := exists_ix2 (M := 4096) (N := 4096) i; unfold reluSqGrad; pointwise
  exact step _ _ _

theorem ext_eq {s : Shape} (x : FVec Ideal s .bf16) : extf .f32 x bitsLt_bf16_f32 = x := rfl

end Cert.MlpReferenceIdeal.MlpRef

namespace Cert.MlpClaim
open Idealize.ShloMosaic Idealize.ShloMosaic.TcCoe Idealize.SL.Sem Cert.Product Cert.MlpReferenceIdeal.MlpRef Cert.MlpKernelIdeal.MlpRun

/-- The reference runs to its end, keeps its arguments and has no semaphore. -/
theorem frame_reference : Cert.quiescent_MlpReferenceIdeal (hMlpReferenceIdeal := Cert.MlpReferenceIdeal.Gen.facts) := by
  intro m ρ _
  exact (θ_run Cert.MlpReferenceIdeal.defs _ _).mono (fun r h => ⟨fun c => (h c).2.2.2.2, sem_eq_zero_of_no_sems (by decide) r.2⟩) (Cert.MlpReferenceIdeal.Value.run m ρ)

/-- Both programs run, and their results agree. -/
theorem algebraic : Cert.algebraic_MlpKernelIdeal_MlpReferenceIdeal (hMlpKernelIdeal := Cert.MlpKernelIdeal.Gen.facts)
    (hMlpReferenceIdeal := Cert.MlpReferenceIdeal.Gen.facts) := by
  intro m ρ m' ρ' _ hargs
  refine ⟨fun c => out m c, fun c => nt (dact m c) (Up m c), fun c => tn (X m c) (dact m c), fun c => tn (reluSq (nn (X m c) (Up m c))) (G m c), ?_, ?_⟩
  · refine (θ_run Cert.MlpKernelIdeal.defs _ _).mono (fun r h c => ?_) (run_final m ρ)
    have at_ : ∀ b : Ref Cert.MlpKernelIdeal.sig .tc, ¬ b.isScoped → r.2.mem ((c.tc : Thread Cert.MlpKernelIdeal.nD Cert.MlpKernelIdeal.τ).loc b)
      = Cert.MlpKernelIdeal.Gen.W6 m ρ c b := fun b hb => h c _ (Cert.MlpKernelIdeal.Gen.mem_uc b hb)
    exact ⟨(at_ _ (by decide)).trans (out_last m ρ c), (at_ _ (by decide)).trans (dx_last m ρ c), (at_ _ (by decide)).trans (dup_end m ρ c),
      (at_ _ (by decide)).trans (ddown_last m ρ c), (at_ _ (by decide)).trans (Cert.MlpKernelIdeal.Gen.W6_main_arg0 m ρ c),
      (at_ _ (by decide)).trans (Cert.MlpKernelIdeal.Gen.W6_main_arg1 m ρ c), (at_ _ (by decide)).trans (Cert.MlpKernelIdeal.Gen.W6_main_arg2 m ρ c),
      (at_ _ (by decide)).trans (Cert.MlpKernelIdeal.Gen.W6_main_arg3 m ρ c)⟩
  · refine (θ_run Cert.MlpReferenceIdeal.defs _ _).mono (fun r h c => ?_) (Cert.MlpReferenceIdeal.Value.run m' ρ')
    obtain ⟨e0, e1, e2, e3⟩ := hargs c
    obtain ⟨h0, h1, h2, h3, rest⟩ := h c
    rw [sq_eq, down_eq, up_eq, ext_eq, ext_eq, ext_eq, e0, e1, e2] at h0
    rw [dsq_eq, upT_eq, up_eq, downT_eq, ext_eq, ext_eq, ext_eq, ext_eq, e0, e1, e2, e3] at h1
    rw [dsq_eq, dup_eq, up_eq, downT_eq, ext_eq, ext_eq, ext_eq, ext_eq, e0, e1, e2, e3] at h2
    rw [sq_eq, ddown_eq, up_eq, ext_eq, ext_eq, ext_eq, e0, e1, e3] at h3
    exact ⟨h0, h1, h2, h3, rest⟩

end Cert.MlpClaim
end
-- ==== Proof.InRun.lean ====
/- What the calls of the input projection, forward and backward, leave in their arrays. -/
module

public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Product
public import Idealize.ShloMosaic.Lib.Pipeline.ValueKit
public import Idealize.ShloMosaic.Lib.Pipeline.ReadBack
public import Idealize.ShloMosaic.Lib.Pointwise

@[expose] public section
set_option maxRecDepth 16384
noncomputable section
namespace Cert.InKernelIdeal.InRun
open Cert.InKernelIdeal Cert.InKernelIdeal.Gen Cert.Product Idealize.ShloMosaic Idealize.ShloMosaic.TcCoe Idealize.SL.Sem
variable (V : (c : Dev nD) → (b : Ref sig .tc) → Buf (Elt Ideal) ((c : Thread nD τ).loc b)) (c : Dev nD)

/-! What one point computes of its blocks. -/
theorem pay0 (x y : Vec Ideal S1024x1024 .bf16) (r n : Fin 1024) : k0_pay1 x y (ix2 r n) = ∑ k : Fin 1024, x (ix2 r k) * y (ix2 k n) := by
  pointwise [k0_pay1]
theorem pay1 (x : Vec Ideal S1024x1024 .bf16) (y : Vec Ideal S1024x128 .bf16) (r : Fin 1024) (n : Fin 128) :
    k1_pay1 x y (ix2 r n) = ∑ k : Fin 1024, x (ix2 r k) * y (ix2 k n) := by
  pointwise [k1_pay1]
/-- The seven weight gradients have the same body. -/
theorem pay2 (x : Vec Ideal S512x4096 .bf16) (y : Vec Ideal S4096x1024 .bf16) (r : Fin 512) (n : Fin 1024) :
    k2_pay1 x y (ix2 r n) = ∑ k : Fin 4096, x (ix2 r k) * y (ix2 k n) := by
  pointwise [k2_pay1]
theorem pay9 (x : Vec Ideal S512x4096 .bf16) (y : Vec Ideal S4096x128 .bf16) (r : Fin 512) (n : Fin 128) :
    k9_pay1 x y (ix2 r n) = ∑ k : Fin 4096, x (ix2 r k) * y (ix2 k n) := by
  pointwise [k9_pay1]
theorem pay10 (x y : Vec Ideal S1024x128 .bf16) (r n : Fin 1024) : k10_pay1 x y (ix2 r n) = ∑ k : Fin 128, x (ix2 r k) * y (ix2 n k) := by
  pointwise [k10_pay1]

/-- The projection. -/
theorem arr0 : (dat0 V c).arrAt 2 cfg0.N = nn (M := 4096) (K := 1024) (N := 12288) (V c main_arg0) (V c main_arg1) := by
  have idx : ∀ t : Fin cfg0.N, win0_0.index t = ![t.val / 12, 0] ∧ win0_1.index t = ![0, t.val % 12] ∧ win0_2.index t = ![t.val / 12, t.val % 12] := (by decide +kernel : ∀ t : Fin grid0.N, _)
  refine (dat0 V c).arrAt_eq_of_covers 2 _ (by decide +kernel) fun t hf y => ?_
  blk_simp
  rw [after0_2, out0_2, View.canon_unit_zero origin, View.ld_unit_zero origin, View.ld_unit_zero origin]
  obtain ⟨r, n, rfl⟩ := exists_ix2 (M := 1024) (N := 1024) y
  have lt : t.val < 48 := t.isLt
  have place : (win0_2.blk t).view.emb (ix2 r n) = (ix2 ⟨t.val / 12 * 1024 + r.val, by omega⟩ ⟨t.val % 12 * 1024 + n.val, by omega⟩ : S4096x12288.Idx) := by blk_ext [idx t]
  exact (pay0 _ _ r n).trans ((nn_tile _ _ (fun k => by blk_ext [iblk0, idx t]) (fun k => by blk_ext [iblk0, idx t])).trans (congrArg (nn _ _) place).symm)

/-- The steps' projection. -/
theorem arr1 : (dat1 V c).arrAt 2 cfg1.N = nn (M := 4096) (K := 1024) (N := 128) (V c main_arg0) (V c main_arg2) := by
  have idx : ∀ t : Fin cfg1.N, win1_0.index t = ![t.val, 0] ∧ win1_1.index t = ![0, 0] ∧ win1_2.index t = ![t.val, 0] := (by decide +kernel : ∀ t : Fin grid1.N, _)
  refine (dat1 V c).arrAt_eq_of_covers 2 _ (by decide +kernel) fun t hf y => ?_
  blk_simp
  rw [after1_2, out1_2, View.canon_unit_zero origin, View.ld_unit_zero origin, View.ld_unit_zero origin]
  obtain ⟨r, n, rfl⟩ := exists_ix2 (M := 1024) (N := 128) y
  have lt : t.val < 4 := t.isLt
  have place : (win1_2.blk t).view.emb (ix2 r n) = (ix2 ⟨t.val * 1024 + r.val, by omega⟩ n : S4096x128.Idx) := by blk_ext [idx t]
  exact (pay1 _ _ r n).trans ((nn_tile _ _ (fun k => by blk_ext [iblk1, idx t]) (fun k => by blk_ext [iblk1, idx t])).trans (congrArg (nn _ _) place).symm)

/-- The gradient of the columns of the queries. -/
theorem arr2 : (dat2 V c).arrAt 2 cfg2.N = nn (M := 1024) (K := 4096) (N := 1024) (V c main_v2) (V c main_arg3) := by
  have idx : ∀ t : Fin cfg2.N, win2_0.index t = ![t.val, 0] ∧ win2_1.index t = ![0, 0] ∧ win2_2.index t = ![t.val, 0] := (by decide +kernel : ∀ t : Fin grid2.N, _)
  refine (dat2 V c).arrAt_eq_of_covers 2 _ (by decide +kernel) fun t hf y => ?_
  blk_simp
  rw [after2_2, out2_2, View.canon_unit_zero origin, View.ld_unit_zero origin, View.ld_unit_zero origin]
  obtain ⟨r, n, rfl⟩ := exists_ix2 (M := 512) (N := 1024) y
  have lt : t.val < 2 := t.isLt
  have place : (win2_2.blk t).view.emb (ix2 r n) = (ix2 ⟨t.val * 512 + r.val, by omega⟩ n : S1024x1024.Idx) := by blk_ext [idx t]
  exact (pay2 _ _ r n).trans ((nn_tile _ _ (fun k => by blk_ext [iblk2, idx t]) (fun k => by blk_ext [iblk2, idx t])).trans (congrArg (nn _ _) place).symm)

/-- The gradient of the columns of the keys. -/
theorem arr3 : (dat3 V c).arrAt 2 cfg3.N = nn (M := 1024) (K := 4096) (N := 1024) (V c main_v2) (V c main_arg4) := by
  have idx : ∀ t : Fin cfg3.N, win3_0.index t = ![t.val, 0] ∧ win3_1.index t = ![0, 0] ∧ win3_2.index t = ![t.val, 0] := (by decide +kernel : ∀ t : Fin grid3.N, _)
  refine (dat3 V c).arrAt_eq_of_covers 2 _ (by decide +kernel) fun t hf y => ?_
  blk_simp
  rw [after3_2, out3_2, View.canon_unit_zero origin, View.ld_unit_zero origin, View.ld_unit_zero origin]
  obtain ⟨r, n, rfl⟩ := exists_ix2 (M := 512) (N := 1024) y
  have lt : t.val < 2 := t.isLt
  have place : (win3_2.blk t).view.emb (ix2 r n) = (ix2 ⟨t.val * 512 + r.val, by omega⟩ n : S1024x1024.Idx) := by blk_ext [idx t]
  exact (pay2 _ _ r n).trans ((nn_tile _ _ (fun k => by blk_ext [iblk3, idx t]) (fun k => by blk_ext [iblk3, idx t])).trans (congrArg (nn _ _) place).symm)

/-- The gradient of the columns of the values. -/
theorem arr4 : (dat4 V c).arrAt 2 cfg4.N = nn (M := 1024) (K := 4096) (N := 1024) (V c main_v2) (V c main_arg5) := by
  have idx : ∀ t : Fin cfg4.N, win4_0.index t = ![t.val, 0] ∧ win4_1.index t = ![0, 0] ∧ win4_2.index t = ![t.val, 0] := (by decide +kernel : ∀ t : Fin grid4.N, _)
  refine (dat4 V c).arrAt_eq_of_covers 2 _ (by decide +kernel) fun t hf y => ?_
  blk_simp
  rw [after4_2, out4_2, View.canon_unit_zero origin, View.ld_unit_zero origin, View.ld_unit_zero origin]
  obtain ⟨r, n, rfl⟩ := exists_ix2 (M := 512) (N := 1024) y
  have lt : t.val < 2 := t.isLt
  have place : (win4_2.blk t).view.emb (ix2 r n) = (ix2 ⟨t.val * 512 + r.val, by omega⟩ n : S1024x1024.Idx) := by blk_ext [idx t]
  exact (pay2 _ _ r n).trans ((nn_tile _ _ (fun k => by blk_ext [iblk4, idx t]) (fun k => by blk_ext [iblk4, idx t])).trans (congrArg (nn _ _) place).symm)

/-- The gradient of the columns of the convolution's input. -/
theorem arr5 : (dat5 V c).arrAt 2 cfg5.N = nn (M := 1024) (K := 4096) (N := 3072) (V c main_v2) (V c main_arg6) := by
  have idx : ∀ t : Fin cfg5.N, win5_0.index t = ![t.val / 3, 0] ∧ win5_1.index t = ![0, t.val % 3] ∧ win5_2.index t = ![t.val / 3, t.val % 3] := (by decide +kernel : ∀ t : Fin grid5.N, _)
  refine (dat5 V c).arrAt_eq_of_covers 2 _ (by decide +kernel) fun t hf y => ?_
  blk_simp
  rw [after5_2, out5_2, View.canon_unit_zero origin, View.ld_unit_zero origin, View.ld_unit_zero origin]
  obtain ⟨r, n, rfl⟩ := exists_ix2 (M := 512) (N := 1024) y
  have lt : t.val < 6 := t.isLt
  have place : (win5_2.blk t).view.emb (ix2 r n) = (ix2 ⟨t.val / 3 * 512 + r.val, by omega⟩ ⟨t.val % 3 * 1024 + n.val, by omega⟩ : S1024x3072.Idx) := by blk_ext [idx t]
  exact (pay2 _ _ r n).trans ((nn_tile _ _ (fun k => by blk_ext [iblk5, idx t]) (fun k => by blk_ext [iblk5, idx t])).trans (congrArg (nn _ _) place).symm)

/-- The gradient of the columns of the gates. -/
theorem arr6 : (dat6 V c).arrAt 2 cfg6.N = nn (M := 1024) (K := 4096) (N := 3072) (V c main_v2) (V c main_arg7) := by
  have idx : ∀ t : Fin cfg6.N, win6_0.index t = ![t.val / 3, 0] ∧ win6_1.index t = ![0, t.val % 3] ∧ win6_2.index t = ![t.val / 3, t.val % 3] := (by decide +kernel : ∀ t : Fin grid6.N, _)
  refine (dat6 V c).arrAt_eq_of_covers 2 _ (by decide +kernel) fun t hf y => ?_
  blk_simp
  rw [after6_2, out6_2, View.canon_unit_zero origin, View.ld_unit_zero origin, View.ld_unit_zero origin]
  obtain ⟨r, n, rfl⟩ := exists_ix2 (M := 512) (N := 1024) y
  have lt : t.val < 6 := t.isLt
  have place : (win6_2.blk t).view.emb (ix2 r n) = (ix2 ⟨t.val / 3 * 512 + r.val, by omega⟩ ⟨t.val % 3 * 1024 + n.val, by omega⟩ : S1024x3072.Idx) := by blk_ext [idx t]
  exact (pay2 _ _ r n).trans ((nn_tile _ _ (fun k => by blk_ext [iblk6, idx t]) (fun k => by blk_ext [iblk6, idx t])).trans (congrArg (nn _ _) place).symm)

/-- The gradient of the columns of the memory's queries. -/
theorem arr7 : (dat7 V c).arrAt 2 cfg7.N = nn (M := 1024) (K := 4096) (N := 1024) (V c main_v2) (V c main_arg8) := by
  have idx : ∀ t : Fin cfg7.N, win7_0.index t = ![t.val, 0] ∧ win7_1.index t = ![0, 0] ∧ win7_2.index t = ![t.val, 0] := (by decide +kernel : ∀ t : Fin grid7.N, _)
  refine (dat7 V c).arrAt_eq_of_covers 2 _ (by decide +kernel) fun t hf y => ?_
  blk_simp
  rw [after7_2, out7_2, View.canon_unit_zero origin, View.ld_unit_zero origin, View.ld_unit_zero origin]
  obtain ⟨r, n, rfl⟩ := exists_ix2 (M := 512) (N := 1024) y
  have lt : t.val < 2 := t.isLt
  have place : (win7_2.blk t).view.emb (ix2 r n) = (ix2 ⟨t.val * 512 + r.val, by omega⟩ n : S1024x1024.Idx) := by blk_ext [idx t]
  exact (pay2 _ _ r n).trans ((nn_tile _ _ (fun k => by blk_ext [iblk7, idx t]) (fun k => by blk_ext [iblk7, idx t])).trans (congrArg (nn _ _) place).symm)

/-- The gradient of the columns of the scan's gate. -/
theorem arr8 : (dat8 V c).arrAt 2 cfg8.N = nn (M := 1024) (K := 4096) (N := 2048) (V c main_v2) (V c main_arg9) := by
  have idx : ∀ t : Fin cfg8.N, win8_0.index t = ![t.val / 2, 0] ∧ win8_1.index t = ![0, t.val % 2] ∧ win8_2.index t = ![t.val / 2, t.val % 2] := (by decide +kernel : ∀ t : Fin grid8.N, _)
  refine (dat8 V c).arrAt_eq_of_covers 2 _ (by decide +kernel) fun t hf y => ?_
  blk_simp
  rw [after8_2, out8_2, View.canon_unit_zero origin, View.ld_unit_zero origin, View.ld_unit_zero origin]
  obtain ⟨r, n, rfl⟩ := exists_ix2 (M := 512) (N := 1024) y
  have lt : t.val < 4 := t.isLt
  have place : (win8_2.blk t).view.emb (ix2 r n) = (ix2 ⟨t.val / 2 * 512 + r.val, by omega⟩ ⟨t.val % 2 * 1024 + n.val, by omega⟩ : S1024x2048.Idx) := by blk_ext [idx t]
  exact (pay2 _ _ r n).trans ((nn_tile _ _ (fun k => by blk_ext [iblk8, idx t]) (fun k => by blk_ext [iblk8, idx t])).trans (congrArg (nn _ _) place).symm)

/-- The gradient of the steps' columns. -/
theorem arr9 : (dat9 V c).arrAt 2 cfg9.N = nn (M := 1024) (K := 4096) (N := 128) (V c main_v2) (V c main_arg10) := by
  have idx : ∀ t : Fin cfg9.N, win9_0.index t = ![t.val, 0] ∧ win9_1.index t = ![0, 0] ∧ win9_2.index t = ![t.val, 0] := (by decide +kernel : ∀ t : Fin grid9.N, _)
  refine (dat9 V c).arrAt_eq_of_covers 2 _ (by decide +kernel) fun t hf y => ?_
  blk_simp
  rw [after9_2, out9_2, View.canon_unit_zero origin, View.ld_unit_zero origin, View.ld_unit_zero origin]
  obtain ⟨r, n, rfl⟩ := exists_ix2 (M := 512) (N := 128) y
  have lt : t.val < 2 := t.isLt
  have place : (win9_2.blk t).view.emb (ix2 r n) = (ix2 ⟨t.val * 512 + r.val, by omega⟩ n : S1024x128.Idx) := by blk_ext [idx t]
  exact (pay9 _ _ r n).trans ((nn_tile _ _ (fun k => by blk_ext [iblk9, idx t]) (fun k => by blk_ext [iblk9, idx t])).trans (congrArg (nn _ _) place).symm)

/-- The steps' part of the input's gradient. -/
theorem arr10 : (dat10 V c).arrAt 2 cfg10.N = nt (M := 4096) (K := 128) (N := 1024) (V c main_arg10) (V c main_arg2) := by
  have idx : ∀ t : Fin cfg10.N, win10_0.index t = ![t.val, 0] ∧ win10_1.index t = ![0, 0] ∧ win10_2.index t = ![t.val, 0] := (by decide +kernel : ∀ t : Fin grid10.N, _)
  refine (dat10 V c).arrAt_eq_of_covers 2 _ (by decide +kernel) fun t hf y => ?_
  blk_simp
  rw [after10_2, out10_2, View.canon_unit_zero origin, View.ld_unit_zero origin, View.ld_unit_zero origin]
  obtain ⟨r, n, rfl⟩ := exists_ix2 (M := 1024) (N := 1024) y
  have lt : t.val < 4 := t.isLt
  have place : (win10_2.blk t).view.emb (ix2 r n) = (ix2 ⟨t.val * 1024 + r.val, by omega⟩ n : S4096x1024.Idx) := by blk_ext [idx t]
  exact (pay10 _ _ r n).trans ((nt_tile _ _ (fun k => by blk_ext [iblk10, idx t]) (fun k => by blk_ext [iblk10, idx t])).trans (congrArg (nt _ _) place).symm)

end Cert.InKernelIdeal.InRun
end
-- ==== Proof.InDx.lean ====
/- What the last call of the input projection's backward leaves: the gradient of the projected input, over all columns. -/
module

public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Product
public import Idealize.ShloMosaic.Lib.Pipeline.ValueKit
public import Idealize.ShloMosaic.Lib.Pipeline.ReadBack
public import Idealize.ShloMosaic.Lib.Pointwise

@[expose] public section
set_option maxRecDepth 16384
noncomputable section
namespace Cert.InKernelIdeal.InDx
open Cert.InKernelIdeal Cert.InKernelIdeal.Gen Cert.Product Idealize.ShloMosaic Idealize.ShloMosaic.TcCoe Idealize.SL.Sem
variable (V : (c : Dev nD) → (b : Ref sig .tc) → Buf (Elt Ideal) ((c : Thread nD τ).loc b)) (c : Dev nD)

/-- One tile of the gradient: the part of the steps and the products with the seven groups of columns. -/
theorem pay11 (a : Vec Ideal S512x256 .f32) (p0 p1 p2 p5 : Vec Ideal S512x1024 .bf16) (p3 p4 : Vec Ideal S512x3072 .bf16) (p6 : Vec Ideal S512x2048 .bf16)
    (w0 w1 w2 w5 : Vec Ideal S256x1024 .bf16) (w3 w4 : Vec Ideal S256x3072 .bf16) (w6 : Vec Ideal S256x2048 .bf16) (r : Fin 512) (n : Fin 256) :
    k11_pay1 (k11_pay2 a p0 w0 p1 w1 p2 w2 p3 w3 p4 w4 p5 w5) p6 w6 (ix2 r n)
      = a (ix2 r n) + (∑ k : Fin 1024, p0 (ix2 r k) * w0 (ix2 n k)) + (∑ k : Fin 1024, p1 (ix2 r k) * w1 (ix2 n k))
        + (∑ k : Fin 1024, p2 (ix2 r k) * w2 (ix2 n k)) + (∑ k : Fin 3072, p3 (ix2 r k) * w3 (ix2 n k)) + (∑ k : Fin 3072, p4 (ix2 r k) * w4 (ix2 n k))
        + (∑ k : Fin 1024, p5 (ix2 r k) * w5 (ix2 n k)) + (∑ k : Fin 2048, p6 (ix2 r k) * w6 (ix2 n k)) := by
  pointwise [k11_pay1, k11_pay2]

/-- The input's gradient from its parts: what the steps give, and the products with the seven groups of columns. -/
def gather {M N : ℕ} (a : Mat M N) (p0 p1 p2 : Mat M 1024) (p3 p4 : Mat M 3072) (p5 : Mat M 1024) (p6 : Mat M 2048) (w : Mat N 12288) : Mat M N := fun i =>
  a i + ntFrom 0 (by decide) p0 w i + ntFrom 1024 (by decide) p1 w i + ntFrom 2048 (by decide) p2 w i + ntFrom 3072 (by decide) p3 w i
    + ntFrom 6144 (by decide) p4 w i + ntFrom 9216 (by decide) p5 w i + ntFrom 10240 (by decide) p6 w i

/-- The body on whole blocks of the parts and a block of rows of the weights. -/
theorem tile11 (a : Vec Ideal S512x256 .f32) (p0 p1 p2 : Vec Ideal S512x1024 .bf16) (p3 p4 : Vec Ideal S512x3072 .bf16) (p5 : Vec Ideal S512x1024 .bf16)
    (p6 : Vec Ideal S512x2048 .bf16) (w : Vec Ideal S256x12288 .bf16) (r : Fin 512) (n : Fin 256) :
    k11_pay1 (k11_pay2 a p0 (View.ld w r11_2) p1 (View.ld w r11_3) p2 (View.ld w r11_4) p3 (View.ld w r11_6) p4 (View.ld w r11_7) p5 (View.ld w r11_8)) p6
      (View.ld w r11_10) (ix2 r n) = gather (M := 512) (N := 256) a p0 p1 p2 p3 p4 p5 p6 w (ix2 r n) := by
  refine (pay11 _ _ _ _ _ _ _ _ _ _ _ _ _ _ _ r n).trans ?_
  have e : ∀ {K : ℕ} (off : ℕ) (h : off + K ≤ 12288) (inb : ∀ a, (![0, off] : Fin 2 → ℕ) a + (![256, K] : Fin 2 → ℕ) a ≤ S256x12288.size a) (p : Mat 512 K),
      (∑ k : Fin K, p (ix2 r k) * View.ld w (Rect.unit ![0, off] ![256, K] inb) (ix2 n k)) = ntFrom (M := 512) (N := 256) off h p w (ix2 r n) := fun off h inb p =>
    Finset.sum_congr rfl fun k _ => congrArg (p (ix2 r k) * ·) (ld_columns w off inb n k _ rfl)
  refine congrArg₂ (· + ·) (congrArg₂ (· + ·) (congrArg₂ (· + ·) (congrArg₂ (· + ·) (congrArg₂ (· + ·) (congrArg₂ (· + ·) (congrArg (a (ix2 r n) + ·) ?_) ?_) ?_) ?_) ?_) ?_) ?_
  · exact e 0 _ _ p0
  · exact e 1024 _ _ p1
  · exact e 2048 _ _ p2
  · exact e 3072 _ _ p3
  · exact e 6144 _ _ p4
  · exact e 9216 _ _ p5
  · exact e 10240 _ _ p6

/-- The gradient of a tile is a tile of the gradient. -/
theorem gather_tile {M N m n : ℕ} {a : Mat m n} {p0 p1 p2 : Mat m 1024} {p3 p4 : Mat m 3072} {p5 : Mat m 1024} {p6 : Mat m 2048} {w : Mat n 12288}
    {A : Mat M N} {P0 P1 P2 : Mat M 1024} {P3 P4 : Mat M 3072} {P5 : Mat M 1024} {P6 : Mat M 2048} {W : Mat N 12288} {r : Fin m} {q : Fin n} {R : Fin M} {C : Fin N}
    (ha : a (ix2 r q) = A (ix2 R C)) (h0 : ∀ k, p0 (ix2 r k) = P0 (ix2 R k)) (h1 : ∀ k, p1 (ix2 r k) = P1 (ix2 R k)) (h2 : ∀ k, p2 (ix2 r k) = P2 (ix2 R k))
    (h3 : ∀ k, p3 (ix2 r k) = P3 (ix2 R k)) (h4 : ∀ k, p4 (ix2 r k) = P4 (ix2 R k)) (h5 : ∀ k, p5 (ix2 r k) = P5 (ix2 R k)) (h6 : ∀ k, p6 (ix2 r k) = P6 (ix2 R k))
    (hw : ∀ k, w (ix2 q k) = W (ix2 C k)) : gather a p0 p1 p2 p3 p4 p5 p6 w (ix2 r q) = gather A P0 P1 P2 P3 P4 P5 P6 W (ix2 R C) := by
  unfold gather
  simp only [ntFrom_apply, ha, h0, h1, h2, h3, h4, h5, h6, hw]

/-- The blocks a point works on. -/
theorem idx11 : ∀ t : Fin cfg11.N, win11_0.index t = ![t.val / 4, 0] ∧ win11_1.index t = ![t.val / 4, 0] ∧ win11_2.index t = ![t.val / 4, 0] ∧ win11_3.index t = ![t.val / 4, 0]
      ∧ win11_4.index t = ![t.val / 4, 0] ∧ win11_5.index t = ![t.val / 4, 0] ∧ win11_6.index t = ![t.val / 4, 0] ∧ win11_7.index t = ![t.val % 4, 0]
      ∧ win11_8.index t = ![t.val / 4, t.val % 4] ∧ win11_9.index t = ![t.val / 4, t.val % 4] := (by decide +kernel : ∀ t : Fin grid11.N, _)

set_option maxHeartbeats 2000000 in
/-- The input's gradient. -/
theorem arr11 : (dat11 V c).arrAt 9 cfg11.N = gather (M := 4096) (N := 1024) (V c main_v11) (V c main_arg3) (V c main_arg4) (V c main_arg5) (V c main_arg6)
    (V c main_arg7) (V c main_arg8) (V c main_arg9) (V c main_arg1) := by
  refine (dat11 V c).arrAt_eq_of_covers 9 _ (by decide +kernel) fun t hf y => ?_
  blk_simp
  rw [after11_9, out11_9, View.canon_unit_zero origin, View.ld_unit_zero origin, View.ld_unit_zero origin, View.ld_unit_zero origin, View.ld_unit_zero origin,
    View.ld_unit_zero origin, View.ld_unit_zero origin, View.ld_unit_zero origin, View.ld_unit_zero origin]
  obtain ⟨r, n, rfl⟩ := exists_ix2 (M := 512) (N := 256) y
  have lt : t.val < 32 := t.isLt
  obtain ⟨i0, i1, i2, i3, i4, i5, i6, i7, i8, i9⟩ := idx11 t
  have place : (win11_9.blk t).view.emb (ix2 r n) = (ix2 ⟨t.val / 4 * 512 + r.val, by omega⟩ ⟨t.val % 4 * 256 + n.val, by omega⟩ : S4096x1024.Idx) := by
    blk_ext [i9]
  refine (tile11 _ _ _ _ _ _ _ _ _ r n).trans (Eq.trans ?_ (congrArg (gather (M := 4096) (N := 1024) _ _ _ _ _ _ _ _ _) place).symm)
  exact gather_tile (by blk_ext [iblk11, i8]) (fun k => by blk_ext [iblk11, i0]) (fun k => by blk_ext [iblk11, i1]) (fun k => by blk_ext [iblk11, i2])
    (fun k => by blk_ext [iblk11, i3]) (fun k => by blk_ext [iblk11, i4]) (fun k => by blk_ext [iblk11, i5]) (fun k => by blk_ext [iblk11, i6])
    (fun k => by blk_ext [iblk11, i7])

end Cert.InKernelIdeal.InDx
end
-- ==== Proof.InClaim.lean ====
/- The input projection's results: what the twelve calls leave at the end, and that the reference computes the same. -/
module

public import proofs.«01_k».proof.Defs
public import proofs.«01_k».proof.Proof.Gen.InReferenceIdeal
public import proofs.«01_k».proof.Proof.Gen.InReferenceIdeal.Run
public import proofs.«01_k».proof.Proof.InRun
public import proofs.«01_k».proof.Proof.InDx
public import Idealize.ShloMosaic.Lib.Pointwise
public import Idealize.ShloMosaic.Lib.ValueLayout

@[expose] public section
set_option maxRecDepth 16384
noncomputable section

namespace Cert.InKernelIdeal.InRun
open Cert.InKernelIdeal Cert.InKernelIdeal.Gen Cert.InKernelIdeal.InDx Cert.Product Idealize.ShloMosaic Idealize.ShloMosaic.TcCoe
open Idealize.ShloMosaic.Rounds Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg) (c : Dev nD)

local notation "𝕄" => MT nD τ sig Unit (Elt Ideal) ℕ (UR sig nD τ) ℕ

set_option backward.isDefEq.respectTransparency.types false in
/-- The twelve calls run to their end, and every array ends with what the last boundary holds. -/
theorem run_final : θ_run defs (onTc (τ := τ) (main (F := Ideal))) ⟨m, fun _ => 0, ρ⟩ (fun r => ∀ c : Dev nD, ∀ b ∈ Pipeline.ucRefs τ sig,
    r.2.mem (((c : Thread nD τ)).1, b) = W13 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => h)

/-- The input, the weights of the projection and of the steps, and the cotangents of the seven groups of columns and of the steps. -/
abbrev U : Mat 4096 1024 := m ((c : Thread nD τ).loc main_arg0)
abbrev Wm : Mat 1024 12288 := m ((c : Thread nD τ).loc main_arg1)
abbrev Wd : Mat 1024 128 := m ((c : Thread nD τ).loc main_arg2)
abbrev G0 : Mat 4096 1024 := m ((c : Thread nD τ).loc main_arg3)
abbrev G1 : Mat 4096 1024 := m ((c : Thread nD τ).loc main_arg4)
abbrev G2 : Mat 4096 1024 := m ((c : Thread nD τ).loc main_arg5)
abbrev G3 : Mat 4096 3072 := m ((c : Thread nD τ).loc main_arg6)
abbrev G4 : Mat 4096 3072 := m ((c : Thread nD τ).loc main_arg7)
abbrev G5 : Mat 4096 1024 := m ((c : Thread nD τ).loc main_arg8)
abbrev G6 : Mat 4096 2048 := m ((c : Thread nD τ).loc main_arg9)
abbrev G7 : Mat 4096 128 := m ((c : Thread nD τ).loc main_arg10)

/-- The input transposed, until it is last read. -/
theorem ut3 : W3 m ρ c main_v2 = flip (U m c) :=
  Eq.trans (by after_results_simp) ((congrArg (transpose S1024x4096 [1, 0] · transposes_S4096x1024_S1024x4096_1_0) (W2_args m ρ c main_arg0 (by decide))).trans
    (by funext i; obtain ⟨n, r, rfl⟩ := exists_ix2 (M := 1024) (N := 4096) i; rw [flip_apply]; pointwise))
theorem ut4 : W4 m ρ c main_v2 = flip (U m c) := (W4_of m ρ c main_v2 (by decide +kernel)).trans (ut3 m ρ c)
theorem ut5 : W5 m ρ c main_v2 = flip (U m c) := (W5_of m ρ c main_v2 (by decide +kernel)).trans (ut4 m ρ c)
theorem ut6 : W6 m ρ c main_v2 = flip (U m c) := (W6_of m ρ c main_v2 (by decide +kernel)).trans (ut5 m ρ c)
theorem ut7 : W7 m ρ c main_v2 = flip (U m c) := (W7_of m ρ c main_v2 (by decide +kernel)).trans (ut6 m ρ c)
theorem ut8 : W8 m ρ c main_v2 = flip (U m c) := (W8_of m ρ c main_v2 (by decide +kernel)).trans (ut7 m ρ c)
theorem ut9 : W9 m ρ c main_v2 = flip (U m c) := (W9_of m ρ c main_v2 (by decide +kernel)).trans (ut8 m ρ c)
theorem ut10 : W10 m ρ c main_v2 = flip (U m c) := (W10_of m ρ c main_v2 (by decide +kernel)).trans (ut9 m ρ c)
theorem ut11 : W11 m ρ c main_v2 = flip (U m c) := (W11_of m ρ c main_v2 (by decide +kernel)).trans (ut10 m ρ c)

/-- The results, as their calls leave them and at the end. -/
theorem proj_end : W1 m ρ c main_v0 = nn (U m c) (Wm m c) :=
  (W1_arr m ρ c 2).trans (arr0 (V0 m ρ) c)
theorem proj_last : W13 m ρ c main_v0 = nn (U m c) (Wm m c) :=
  (W13_of m ρ c main_v0 (by decide +kernel)).trans ((W12_of m ρ c main_v0 (by decide +kernel)).trans ((W11_of m ρ c main_v0 (by decide +kernel)).trans ((W10_of m ρ c main_v0 (by decide +kernel)).trans ((W9_of m ρ c main_v0 (by decide +kernel)).trans ((W8_of m ρ c main_v0 (by decide +kernel)).trans ((W7_of m ρ c main_v0 (by decide +kernel)).trans ((W6_of m ρ c main_v0 (by decide +kernel)).trans ((W5_of m ρ c main_v0 (by decide +kernel)).trans ((W4_of m ρ c main_v0 (by decide +kernel)).trans ((W3_of m ρ c main_v0 (by decide +kernel)).trans ((W2_of m ρ c main_v0 (by decide +kernel)).trans (proj_end m ρ c))))))))))))
theorem steps_end : W2 m ρ c main_v1 = nn (U m c) (Wd m c) :=
  (W2_arr m ρ c 2).trans ((arr1 (V1 m ρ) c).trans (congrArg₂ nn (W1_args m ρ c main_arg0 (by decide)) (W1_args m ρ c main_arg2 (by decide))))
theorem steps_last : W13 m ρ c main_v1 = nn (U m c) (Wd m c) :=
  (W13_of m ρ c main_v1 (by decide +kernel)).trans ((W12_of m ρ c main_v1 (by decide +kernel)).trans ((W11_of m ρ c main_v1 (by decide +kernel)).trans ((W10_of m ρ c main_v1 (by decide +kernel)).trans ((W9_of m ρ c main_v1 (by decide +kernel)).trans ((W8_of m ρ c main_v1 (by decide +kernel)).trans ((W7_of m ρ c main_v1 (by decide +kernel)).trans ((W6_of m ρ c main_v1 (by decide +kernel)).trans ((W5_of m ρ c main_v1 (by decide +kernel)).trans ((W4_of m ρ c main_v1 (by decide +kernel)).trans ((W3_of m ρ c main_v1 (by decide +kernel)).trans (steps_end m ρ c)))))))))))
theorem dw0_end : W4 m ρ c main_v3 = tn (U m c) (G0 m c) :=
  (W4_arr m ρ c 2).trans ((arr2 (V3 m ρ) c).trans (congrArg₂ nn (ut3 m ρ c) (W3_args m ρ c main_arg3 (by decide))))
theorem dw0_last : W13 m ρ c main_v3 = tn (U m c) (G0 m c) :=
  (W13_of m ρ c main_v3 (by decide +kernel)).trans ((W12_of m ρ c main_v3 (by decide +kernel)).trans ((W11_of m ρ c main_v3 (by decide +kernel)).trans ((W10_of m ρ c main_v3 (by decide +kernel)).trans ((W9_of m ρ c main_v3 (by decide +kernel)).trans ((W8_of m ρ c main_v3 (by decide +kernel)).trans ((W7_of m ρ c main_v3 (by decide +kernel)).trans ((W6_of m ρ c main_v3 (by decide +kernel)).trans ((W5_of m ρ c main_v3 (by decide +kernel)).trans (dw0_end m ρ c)))))))))
theorem dw1_end : W5 m ρ c main_v4 = tn (U m c) (G1 m c) :=
  (W5_arr m ρ c 2).trans ((arr3 (V4 m ρ) c).trans (congrArg₂ nn (ut4 m ρ c) (W4_args m ρ c main_arg4 (by decide))))
theorem dw1_last : W13 m ρ c main_v4 = tn (U m c) (G1 m c) :=
  (W13_of m ρ c main_v4 (by decide +kernel)).trans ((W12_of m ρ c main_v4 (by decide +kernel)).trans ((W11_of m ρ c main_v4 (by decide +kernel)).trans ((W10_of m ρ c main_v4 (by decide +kernel)).trans ((W9_of m ρ c main_v4 (by decide +kernel)).trans ((W8_of m ρ c main_v4 (by decide +kernel)).trans ((W7_of m ρ c main_v4 (by decide +kernel)).trans ((W6_of m ρ c main_v4 (by decide +kernel)).trans (dw1_end m ρ c))))))))
theorem dw2_end : W6 m ρ c main_v5 = tn (U m c) (G2 m c) :=
  (W6_arr m ρ c 2).trans ((arr4 (V5 m ρ) c).trans (congrArg₂ nn (ut5 m ρ c) (W5_args m ρ c main_arg5 (by decide))))
theorem dw2_last : W13 m ρ c main_v5 = tn (U m c) (G2 m c) :=
  (W13_of m ρ c main_v5 (by decide +kernel)).trans ((W12_of m ρ c main_v5 (by decide +kernel)).trans ((W11_of m ρ c main_v5 (by decide +kernel)).trans ((W10_of m ρ c main_v5 (by decide +kernel)).trans ((W9_of m ρ c main_v5 (by decide +kernel)).trans ((W8_of m ρ c main_v5 (by decide +kernel)).trans ((W7_of m ρ c main_v5 (by decide +kernel)).trans (dw2_end m ρ c)))))))
theorem dw3_end : W7 m ρ c main_v6 = tn (U m c) (G3 m c) :=
  (W7_arr m ρ c 2).trans ((arr5 (V6 m ρ) c).trans (congrArg₂ nn (ut6 m ρ c) (W6_args m ρ c main_arg6 (by decide))))
theorem dw3_last : W13 m ρ c main_v6 = tn (U m c) (G3 m c) :=
  (W13_of m ρ c main_v6 (by decide +kernel)).trans ((W12_of m ρ c main_v6 (by decide +kernel)).trans ((W11_of m ρ c main_v6 (by decide +kernel)).trans ((W10_of m ρ c main_v6 (by decide +kernel)).trans ((W9_of m ρ c main_v6 (by decide +kernel)).trans ((W8_of m ρ c main_v6 (by decide +kernel)).trans (dw3_end m ρ c))))))
theorem dw4_end : W8 m ρ c main_v7 = tn (U m c) (G4 m c) :=
  (W8_arr m ρ c 2).trans ((arr6 (V7 m ρ) c).trans (congrArg₂ nn (ut7 m ρ c) (W7_args m ρ c main_arg7 (by decide))))
theorem dw4_last : W13 m ρ c main_v7 = tn (U m c) (G4 m c) :=
  (W13_of m ρ c main_v7 (by decide +kernel)).trans ((W12_of m ρ c main_v7 (by decide +kernel)).trans ((W11_of m ρ c main_v7 (by decide +kernel)).trans ((W10_of m ρ c main_v7 (by decide +kernel)).trans ((W9_of m ρ c main_v7 (by decide +kernel)).trans (dw4_end m ρ c)))))
theorem dw5_end : W9 m ρ c main_v8 = tn (U m c) (G5 m c) :=
  (W9_arr m ρ c 2).trans ((arr7 (V8 m ρ) c).trans (congrArg₂ nn (ut8 m ρ c) (W8_args m ρ c main_arg8 (by decide))))
theorem dw5_last : W13 m ρ c main_v8 = tn (U m c) (G5 m c) :=
  (W13_of m ρ c main_v8 (by decide +kernel)).trans ((W12_of m ρ c main_v8 (by decide +kernel)).trans ((W11_of m ρ c main_v8 (by decide +kernel)).trans ((W10_of m ρ c main_v8 (by decide +kernel)).trans (dw5_end m ρ c))))
theorem dw6_end : W10 m ρ c main_v9 = tn (U m c) (G6 m c) :=
  (W10_arr m ρ c 2).trans ((arr8 (V9 m ρ) c).trans (congrArg₂ nn (ut9 m ρ c) (W9_args m ρ c main_arg9 (by decide))))
theorem dw6_last : W13 m ρ c main_v9 = tn (U m c) (G6 m c) :=
  (W13_of m ρ c main_v9 (by decide +kernel)).trans ((W12_of m ρ c main_v9 (by decide +kernel)).trans ((W11_of m ρ c main_v9 (by decide +kernel)).trans (dw6_end m ρ c)))
theorem dsteps_end : W11 m ρ c main_v10 = tn (U m c) (G7 m c) :=
  (W11_arr m ρ c 2).trans ((arr9 (V10 m ρ) c).trans (congrArg₂ nn (ut10 m ρ c) (W10_args m ρ c main_arg10 (by decide))))
theorem dsteps_last : W13 m ρ c main_v10 = tn (U m c) (G7 m c) :=
  (W13_of m ρ c main_v10 (by decide +kernel)).trans ((W12_of m ρ c main_v10 (by decide +kernel)).trans (dsteps_end m ρ c))
theorem part_end : W12 m ρ c main_v11 = nt (G7 m c) (Wd m c) :=
  (W12_arr m ρ c 2).trans ((arr10 (V11 m ρ) c).trans (congrArg₂ nt (W11_args m ρ c main_arg10 (by decide)) (W11_args m ρ c main_arg2 (by decide))))
/-- The gradient of the projected input. -/
def dinput : Mat 4096 1024 := gather (nt (G7 m c) (Wd m c)) (G0 m c) (G1 m c) (G2 m c) (G3 m c) (G4 m c) (G5 m c) (G6 m c) (Wm m c)
theorem dinput_end : W13 m ρ c main_v12 = dinput m c := by
  refine (W13_arr m ρ c 9).trans ((arr11 (V12 m ρ) c).trans ?_)
  unfold dinput V12
  rw [part_end m ρ c, W12_args m ρ c main_arg1 (by decide), W12_args m ρ c main_arg3 (by decide), W12_args m ρ c main_arg4 (by decide), W12_args m ρ c main_arg5 (by decide), W12_args m ρ c main_arg6 (by decide), W12_args m ρ c main_arg7 (by decide), W12_args m ρ c main_arg8 (by decide), W12_args m ρ c main_arg9 (by decide)]

end Cert.InKernelIdeal.InRun

namespace Cert.InReferenceIdeal.InRef
open Cert.InReferenceIdeal Cert.InReferenceIdeal.Gen Cert.Product Idealize.ShloMosaic Cert.InKernelIdeal.InRun Cert.InKernelIdeal.InDx

/-! The reference's products, entry by entry. -/
theorem proj_eq (x : FVec Ideal S4096x1024 .f32) (w : FVec Ideal S1024x12288 .f32) :
    Host.dotGeneral dot_S4096x1024_S1024x12288_S4096x12288_1_0_0_1_n_n none x w = nn (M := 4096) (K := 1024) (N := 12288) x w := by
  funext i; obtain ⟨r, n, rfl⟩ := exists_ix2 (M := 4096) (N := 12288) i; rw [nn_apply]; pointwise
theorem steps_eq (x : FVec Ideal S4096x1024 .f32) (w : FVec Ideal S1024x128 .f32) :
    Host.dotGeneral dot_S4096x1024_S1024x128_S4096x128_1_0_0_1_n_n none x w = nn (M := 4096) (K := 1024) (N := 128) x w := by
  funext i; obtain ⟨r, n, rfl⟩ := exists_ix2 (M := 4096) (N := 128) i; rw [nn_apply]; pointwise
theorem stepsT_eq (x : FVec Ideal S4096x128 .f32) (w : FVec Ideal S1024x128 .f32) :
    Host.dotGeneral dot_S4096x128_S1024x128_S4096x1024_1_1_0_0_n_n none x w = nt (M := 4096) (K := 128) (N := 1024) x w := by
  funext i; obtain ⟨r, n, rfl⟩ := exists_ix2 (M := 4096) (N := 1024) i; rw [nt_apply]; pointwise

/-- A slice of columns lies within them. -/
theorem within {off a b d : ℕ} (h : (⟨2, ![a, b]⟩ : Shape).Slices ![0, off] ⟨2, ![a, d]⟩) : off + d ≤ b := h.2 1

/-! A product with a slice of the columns. -/
theorem columns1024 (off : ℕ) (h : S1024x12288.Slices ![0, off] S1024x1024) (x : FVec Ideal S4096x1024 .f32) (w : FVec Ideal S1024x12288 .f32) :
    Host.dotGeneral dot_S4096x1024_S1024x1024_S4096x1024_1_1_0_0_n_n none x (extractStridedSlice S1024x1024 ![0, off] w h)
      = ntFrom (M := 4096) (K := 1024) (N := 1024) (L := 12288) off (within h) x w := by
  funext i; obtain ⟨r, n, rfl⟩ := exists_ix2 (M := 4096) (N := 1024) i; rw [ntFrom_apply]
  generalize e : extractStridedSlice S1024x1024 ![0, off] w h = y
  pointwise
  exact Finset.sum_congr rfl fun k _ => congrArg (x (ix2 r k) * ·) (by rw [← e]; exact ValueIdx.slice2_axis1_eq off w h n k)
theorem columns3072 (off : ℕ) (h : S1024x12288.Slices ![0, off] S1024x3072) (x : FVec Ideal S4096x3072 .f32) (w : FVec Ideal S1024x12288 .f32) :
    Host.dotGeneral dot_S4096x3072_S1024x3072_S4096x1024_1_1_0_0_n_n none x (extractStridedSlice S1024x3072 ![0, off] w h)
      = ntFrom (M := 4096) (K := 3072) (N := 1024) (L := 12288) off (within h) x w := by
  funext i; obtain ⟨r, n, rfl⟩ := exists_ix2 (M := 4096) (N := 1024) i; rw [ntFrom_apply]
  generalize e : extractStridedSlice S1024x3072 ![0, off] w h = y
  pointwise
  exact Finset.sum_congr rfl fun k _ => congrArg (x (ix2 r k) * ·) (by rw [← e]; exact ValueIdx.slice2_axis1_eq off w h n k)
theorem columns2048 (off : ℕ) (h : S1024x12288.Slices ![0, off] S1024x2048) (x : FVec Ideal S4096x2048 .f32) (w : FVec Ideal S1024x12288 .f32) :
    Host.dotGeneral dot_S4096x2048_S1024x2048_S4096x1024_1_1_0_0_n_n none x (extractStridedSlice S1024x2048 ![0, off] w h)
      = ntFrom (M := 4096) (K := 2048) (N := 1024) (L := 12288) off (within h) x w := by
  funext i; obtain ⟨r, n, rfl⟩ := exists_ix2 (M := 4096) (N := 1024) i; rw [ntFrom_apply]
  generalize e : extractStridedSlice S1024x2048 ![0, off] w h = y
  pointwise
  exact Finset.sum_congr rfl fun k _ => congrArg (x (ix2 r k) * ·) (by rw [← e]; exact ValueIdx.slice2_axis1_eq off w h n k)

/-! The reference multiplies the factors of a weight's gradient the other way round and transposes. -/
theorem weights1024 (g : FVec Ideal S4096x1024 .f32) (x : FVec Ideal S4096x1024 .f32) :
    transpose S1024x1024 [1, 0] (Host.dotGeneral dot_S4096x1024_S4096x1024_S1024x1024_0_0_1_1_n_n none g x) transposes_S1024x1024_S1024x1024_1_0
      = tn (M := 1024) (K := 4096) (N := 1024) x g := by
  funext i; obtain ⟨r, n, rfl⟩ := exists_ix2 (M := 1024) (N := 1024) i; rw [← tn_comm, tn_apply]; pointwise
theorem weights3072 (g : FVec Ideal S4096x3072 .f32) (x : FVec Ideal S4096x1024 .f32) :
    transpose S1024x3072 [1, 0] (Host.dotGeneral dot_S4096x3072_S4096x1024_S3072x1024_0_0_1_1_n_n none g x) transposes_S3072x1024_S1024x3072_1_0
      = tn (M := 1024) (K := 4096) (N := 3072) x g := by
  funext i; obtain ⟨r, n, rfl⟩ := exists_ix2 (M := 1024) (N := 3072) i; rw [← tn_comm, tn_apply]; pointwise
theorem weights2048 (g : FVec Ideal S4096x2048 .f32) (x : FVec Ideal S4096x1024 .f32) :
    transpose S1024x2048 [1, 0] (Host.dotGeneral dot_S4096x2048_S4096x1024_S2048x1024_0_0_1_1_n_n none g x) transposes_S2048x1024_S1024x2048_1_0
      = tn (M := 1024) (K := 4096) (N := 2048) x g := by
  funext i; obtain ⟨r, n, rfl⟩ := exists_ix2 (M := 1024) (N := 2048) i; rw [← tn_comm, tn_apply]; pointwise
theorem weights128 (g : FVec Ideal S4096x128 .f32) (x : FVec Ideal S4096x1024 .f32) :
    transpose S1024x128 [1, 0] (Host.dotGeneral dot_S4096x128_S4096x1024_S128x1024_0_0_1_1_n_n none g x) transposes_S128x1024_S1024x128_1_0
      = tn (M := 1024) (K := 4096) (N := 128) x g := by
  funext i; obtain ⟨r, n, rfl⟩ := exists_ix2 (M := 1024) (N := 128) i; rw [← tn_comm, tn_apply]; pointwise

/-- The reference adds the parts in the opposite order. -/
theorem parts (a q k v x g e z : FVec Ideal S4096x1024 .f32) :
    addf (addf (addf (addf (addf (addf (addf a z) e) g) x) v) k) q = fun i => a i + q i + k i + v i + x i + g i + e i + z i := by
  funext i
  have e : ∀ a q k v x g e z : EReal, a + z + e + g + x + v + k + q = a + q + k + v + x + g + e + z := fun a q k v x g e z => by abel
  exact e _ _ _ _ _ _ _ _

theorem ext_eq {s : Shape} (x : FVec Ideal s .bf16) : extf .f32 x bitsLt_bf16_f32 = x := rfl

end Cert.InReferenceIdeal.InRef

namespace Cert.InClaim
open Idealize.ShloMosaic Idealize.ShloMosaic.TcCoe Idealize.SL.Sem Cert.Product Cert.InReferenceIdeal.InRef Cert.InKernelIdeal.InRun Cert.InKernelIdeal.InDx

/-- The reference runs to its end, keeps its arguments and has no semaphore. -/
theorem frame_reference : Cert.quiescent_InReferenceIdeal (hInReferenceIdeal := Cert.InReferenceIdeal.Gen.facts) := by
  intro m ρ _
  exact (θ_run Cert.InReferenceIdeal.defs _ _).mono (fun r h => ⟨fun c => (h c).2.2.2.2.2.2.2.2.2.2.2, sem_eq_zero_of_no_sems (by decide) r.2⟩) (Cert.InReferenceIdeal.Value.run m ρ)

/-- Both programs run, and their results agree. -/
theorem algebraic : Cert.algebraic_InKernelIdeal_InReferenceIdeal (hInKernelIdeal := Cert.InKernelIdeal.Gen.facts)
    (hInReferenceIdeal := Cert.InReferenceIdeal.Gen.facts) := by
  intro m ρ m' ρ' _ hargs
  refine ⟨fun c => nn (U m c) (Wm m c), fun c => nn (U m c) (Wd m c), fun c => dinput m c, fun c => tn (U m c) (G0 m c), fun c => tn (U m c) (G1 m c), fun c => tn (U m c) (G2 m c), fun c => tn (U m c) (G3 m c), fun c => tn (U m c) (G4 m c), fun c => tn (U m c) (G5 m c), fun c => tn (U m c) (G6 m c), fun c => tn (U m c) (G7 m c), ?_, ?_⟩
  · refine (θ_run Cert.InKernelIdeal.defs _ _).mono (fun r h c => ?_) (run_final m ρ)
    have at_ : ∀ b : Ref Cert.InKernelIdeal.sig .tc, ¬ b.isScoped → r.2.mem ((c.tc : Thread Cert.InKernelIdeal.nD Cert.InKernelIdeal.τ).loc b)
      = Cert.InKernelIdeal.Gen.W13 m ρ c b := fun b hb => h c _ (Cert.InKernelIdeal.Gen.mem_uc b hb)
    exact ⟨(at_ _ (by decide)).trans (proj_last m ρ c),
      (at_ _ (by decide)).trans (steps_last m ρ c),
      (at_ _ (by decide)).trans (dinput_end m ρ c),
      (at_ _ (by decide)).trans (dw0_last m ρ c),
      (at_ _ (by decide)).trans (dw1_last m ρ c),
      (at_ _ (by decide)).trans (dw2_last m ρ c),
      (at_ _ (by decide)).trans (dw3_last m ρ c),
      (at_ _ (by decide)).trans (dw4_last m ρ c),
      (at_ _ (by decide)).trans (dw5_last m ρ c),
      (at_ _ (by decide)).trans (dw6_last m ρ c),
      (at_ _ (by decide)).trans (dsteps_last m ρ c),
      (at_ _ (by decide)).trans (Cert.InKernelIdeal.Gen.W13_main_arg0 m ρ c),
      (at_ _ (by decide)).trans (Cert.InKernelIdeal.Gen.W13_main_arg1 m ρ c),
      (at_ _ (by decide)).trans (Cert.InKernelIdeal.Gen.W13_main_arg2 m ρ c),
      (at_ _ (by decide)).trans (Cert.InKernelIdeal.Gen.W13_main_arg3 m ρ c),
      (at_ _ (by decide)).trans (Cert.InKernelIdeal.Gen.W13_main_arg4 m ρ c),
      (at_ _ (by decide)).trans (Cert.InKernelIdeal.Gen.W13_main_arg5 m ρ c),
      (at_ _ (by decide)).trans (Cert.InKernelIdeal.Gen.W13_main_arg6 m ρ c),
      (at_ _ (by decide)).trans (Cert.InKernelIdeal.Gen.W13_main_arg7 m ρ c),
      (at_ _ (by decide)).trans (Cert.InKernelIdeal.Gen.W13_main_arg8 m ρ c),
      (at_ _ (by decide)).trans (Cert.InKernelIdeal.Gen.W13_main_arg9 m ρ c),
      (at_ _ (by decide)).trans (Cert.InKernelIdeal.Gen.W13_main_arg10 m ρ c)⟩
  · refine (θ_run Cert.InReferenceIdeal.defs _ _).mono (fun r h c => ?_) (Cert.InReferenceIdeal.Value.run m' ρ')
    obtain ⟨e0, e1, e2, e3, e4, e5, e6, e7, e8, e9, e10⟩ := hargs c
    obtain ⟨h0, h1, h2, h3, h4, h5, h6, h7, h8, h9, h10, rest⟩ := h c
    simp only [ext_eq] at h0 h1 h2 h3 h4 h5 h6 h7 h8 h9 h10
    rw [proj_eq, e0, e1] at h0
    rw [steps_eq, e0, e2] at h1
    rw [columns1024, columns1024, columns1024, columns1024, columns3072, columns3072, columns2048, stepsT_eq, parts, e1, e2, e3, e4, e5, e6, e7, e8, e9, e10] at h2
    rw [weights1024, e0, e3] at h3
    rw [weights1024, e0, e4] at h4
    rw [weights1024, e0, e5] at h5
    rw [weights3072, e0, e6] at h6
    rw [weights3072, e0, e7] at h7
    rw [weights1024, e0, e8] at h8
    rw [weights2048, e0, e9] at h9
    rw [weights128, e0, e10] at h10
    exact ⟨h0, h1, h2, h3, h4, h5, h6, h7, h8, h9, h10, rest⟩

end Cert.InClaim
end
-- ==== Proof.MixRun.lean ====
/- What the twelve products of the token mixer's output, forward and backward, leave in their arrays. -/
module

public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Product
public import Idealize.ShloMosaic.Lib.Pipeline.ValueKit
public import Idealize.ShloMosaic.Lib.Pipeline.ReadBack
public import Idealize.ShloMosaic.Lib.Pointwise

@[expose] public section
set_option maxRecDepth 16384
noncomputable section
namespace Cert.MixKernelIdeal.MixRun
open Cert.MixKernelIdeal Cert.MixKernelIdeal.Gen Cert.Product Idealize.ShloMosaic Idealize.ShloMosaic.TcCoe Idealize.SL.Sem
variable (V : (c : Dev nD) → (b : Ref sig .tc) → Buf (Elt Ideal) ((c : Thread nD τ).loc b)) (c : Dev nD)

/-! What one point computes of its blocks: rows by columns, rows by rows, columns by columns. -/
theorem pay0 (x y : Vec Ideal S1024x1024 .bf16) (r n : Fin 1024) : k0_pay1 x y (ix2 r n) = ∑ k : Fin 1024, x (ix2 r k) * y (ix2 k n) := by
  pointwise [k0_pay1]
theorem pay1 (x : Vec Ideal S1024x2048 .bf16) (y : Vec Ideal S2048x1024 .bf16) (r n : Fin 1024) :
    k1_pay1 x y (ix2 r n) = ∑ k : Fin 2048, x (ix2 r k) * y (ix2 k n) := by
  pointwise [k1_pay1]
theorem pay4 (x y : Vec Ideal S1024x1024 .bf16) (r n : Fin 1024) : k4_pay1 x y (ix2 r n) = ∑ k : Fin 1024, x (ix2 r k) * y (ix2 k n) := by
  pointwise [k4_pay1]
theorem pay5 (x y : Vec Ideal S1024x1024 .bf16) (r n : Fin 1024) : k5_pay1 x y (ix2 r n) = ∑ k : Fin 1024, x (ix2 r k) * y (ix2 n k) := by
  pointwise [k5_pay1]
theorem pay6 (x y : Vec Ideal S4096x1024 .bf16) (r n : Fin 1024) : k6_pay1 x y (ix2 r n) = ∑ k : Fin 4096, x (ix2 k r) * y (ix2 k n) := by
  pointwise [k6_pay1]
theorem pay8 (x y : Vec Ideal S1024x1024 .bf16) (r n : Fin 1024) : k8_pay1 x y (ix2 r n) = ∑ k : Fin 1024, x (ix2 r k) * y (ix2 n k) := by
  pointwise [k8_pay1]
theorem pay9 (x y : Vec Ideal S4096x1024 .bf16) (r n : Fin 1024) : k9_pay1 x y (ix2 r n) = ∑ k : Fin 4096, x (ix2 k r) * y (ix2 k n) := by
  pointwise [k9_pay1]

/-- The attention's part before its gate. -/
theorem arr0 : (dat0 V c).arrAt 2 cfg0.N = nn (M := 4096) (K := 1024) (N := 1024) (V c main_arg1) (V c main_arg4) := by
  have idx : ∀ t : Fin cfg0.N, win0_0.index t = ![t.val, 0] ∧ win0_1.index t = ![0, 0] ∧ win0_2.index t = ![t.val, 0] := (by decide +kernel : ∀ t : Fin grid0.N, _)
  refine (dat0 V c).arrAt_eq_of_covers 2 _ (by decide +kernel) fun t hf y => ?_
  blk_simp
  rw [after0_2, out0_2, View.canon_unit_zero origin, View.ld_unit_zero origin, View.ld_unit_zero origin]
  obtain ⟨r, n, rfl⟩ := exists_ix2 (M := 1024) (N := 1024) y
  have lt : t.val < 4 := t.isLt
  have place : (win0_2.blk t).view.emb (ix2 r n) = (ix2 ⟨t.val * 1024 + r.val, by omega⟩ n : S4096x1024.Idx) := by blk_ext [idx t]
  exact (pay0 _ _ r n).trans ((nn_tile _ _ (fun k => by blk_ext [iblk0, idx t]) (fun k => by blk_ext [iblk0, idx t])).trans (congrArg (nn _ _) place).symm)

/-- The scan's part. -/
theorem arr1 : (dat1 V c).arrAt 2 cfg1.N = nn (M := 4096) (K := 2048) (N := 1024) (V c main_arg2) (V c main_arg5) := by
  have idx : ∀ t : Fin cfg1.N, win1_0.index t = ![t.val, 0] ∧ win1_1.index t = ![0, 0] ∧ win1_2.index t = ![t.val, 0] := (by decide +kernel : ∀ t : Fin grid1.N, _)
  refine (dat1 V c).arrAt_eq_of_covers 2 _ (by decide +kernel) fun t hf y => ?_
  blk_simp
  rw [after1_2, out1_2, View.canon_unit_zero origin, View.ld_unit_zero origin, View.ld_unit_zero origin]
  obtain ⟨r, n, rfl⟩ := exists_ix2 (M := 1024) (N := 1024) y
  have lt : t.val < 4 := t.isLt
  have place : (win1_2.blk t).view.emb (ix2 r n) = (ix2 ⟨t.val * 1024 + r.val, by omega⟩ n : S4096x1024.Idx) := by blk_ext [idx t]
  exact (pay1 _ _ r n).trans ((nn_tile _ _ (fun k => by blk_ext [iblk1, idx t]) (fun k => by blk_ext [iblk1, idx t])).trans (congrArg (nn _ _) place).symm)

/-- The memory's part. -/
theorem arr2 : (dat2 V c).arrAt 2 cfg2.N = nn (M := 4096) (K := 1024) (N := 1024) (V c main_arg3) (V c main_arg6) := by
  have idx : ∀ t : Fin cfg2.N, win2_0.index t = ![t.val, 0] ∧ win2_1.index t = ![0, 0] ∧ win2_2.index t = ![t.val, 0] := (by decide +kernel : ∀ t : Fin grid2.N, _)
  refine (dat2 V c).arrAt_eq_of_covers 2 _ (by decide +kernel) fun t hf y => ?_
  blk_simp
  rw [after2_2, out2_2, View.canon_unit_zero origin, View.ld_unit_zero origin, View.ld_unit_zero origin]
  obtain ⟨r, n, rfl⟩ := exists_ix2 (M := 1024) (N := 1024) y
  have lt : t.val < 4 := t.isLt
  have place : (win2_2.blk t).view.emb (ix2 r n) = (ix2 ⟨t.val * 1024 + r.val, by omega⟩ n : S4096x1024.Idx) := by blk_ext [idx t]
  exact (pay0 _ _ r n).trans ((nn_tile _ _ (fun k => by blk_ext [iblk2, idx t]) (fun k => by blk_ext [iblk2, idx t])).trans (congrArg (nn _ _) place).symm)

/-- The mixer's output. -/
theorem arr4 : (dat4 V c).arrAt 2 cfg4.N = nn (M := 4096) (K := 1024) (N := 1024) (V c main_v3) (V c main_arg7) := by
  have idx : ∀ t : Fin cfg4.N, win4_0.index t = ![t.val, 0] ∧ win4_1.index t = ![0, 0] ∧ win4_2.index t = ![t.val, 0] := (by decide +kernel : ∀ t : Fin grid4.N, _)
  refine (dat4 V c).arrAt_eq_of_covers 2 _ (by decide +kernel) fun t hf y => ?_
  blk_simp
  rw [after4_2, out4_2, View.canon_unit_zero origin, View.ld_unit_zero origin, View.ld_unit_zero origin]
  obtain ⟨r, n, rfl⟩ := exists_ix2 (M := 1024) (N := 1024) y
  have lt : t.val < 4 := t.isLt
  have place : (win4_2.blk t).view.emb (ix2 r n) = (ix2 ⟨t.val * 1024 + r.val, by omega⟩ n : S4096x1024.Idx) := by blk_ext [idx t]
  exact (pay4 _ _ r n).trans ((nn_tile _ _ (fun k => by blk_ext [iblk4, idx t]) (fun k => by blk_ext [iblk4, idx t])).trans (congrArg (nn _ _) place).symm)

/-- The cotangent of the merged parts. -/
theorem arr5 : (dat5 V c).arrAt 2 cfg5.N = nt (M := 4096) (K := 1024) (N := 1024) (V c main_arg8) (V c main_arg7) := by
  have idx : ∀ t : Fin cfg5.N, win5_0.index t = ![t.val, 0] ∧ win5_1.index t = ![0, 0] ∧ win5_2.index t = ![t.val, 0] := (by decide +kernel : ∀ t : Fin grid5.N, _)
  refine (dat5 V c).arrAt_eq_of_covers 2 _ (by decide +kernel) fun t hf y => ?_
  blk_simp
  rw [after5_2, out5_2, View.canon_unit_zero origin, View.ld_unit_zero origin, View.ld_unit_zero origin]
  obtain ⟨r, n, rfl⟩ := exists_ix2 (M := 1024) (N := 1024) y
  have lt : t.val < 4 := t.isLt
  have place : (win5_2.blk t).view.emb (ix2 r n) = (ix2 ⟨t.val * 1024 + r.val, by omega⟩ n : S4096x1024.Idx) := by blk_ext [idx t]
  exact (pay5 _ _ r n).trans ((nt_tile _ _ (fun k => by blk_ext [iblk5, idx t]) (fun k => by blk_ext [iblk5, idx t])).trans (congrArg (nt _ _) place).symm)

/-- The gradient of the output's weights. -/
theorem arr6 : (dat6 V c).arrAt 2 cfg6.N = tn (M := 1024) (K := 4096) (N := 1024) (V c main_v3) (V c main_arg8) := by
  have idx : ∀ t : Fin cfg6.N, win6_0.index t = ![0, 0] ∧ win6_1.index t = ![0, 0] ∧ win6_2.index t = ![0, 0] := (by decide +kernel : ∀ t : Fin grid6.N, _)
  refine (dat6 V c).arrAt_eq_of_covers 2 _ (by decide +kernel) fun t hf y => ?_
  blk_simp
  rw [after6_2, out6_2, View.canon_unit_zero origin, View.ld_unit_zero origin, View.ld_unit_zero origin]
  obtain ⟨r, n, rfl⟩ := exists_ix2 (M := 1024) (N := 1024) y
  have lt : t.val < 1 := t.isLt
  have place : (win6_2.blk t).view.emb (ix2 r n) = (ix2 r n : S1024x1024.Idx) := by blk_ext [idx t]
  exact (pay6 _ _ r n).trans ((tn_tile _ _ (fun k => by blk_ext [iblk6, idx t]) (fun k => by blk_ext [iblk6, idx t])).trans (congrArg (tn _ _) place).symm)

/-- The attention's cotangent. -/
theorem arr8 : (dat8 V c).arrAt 2 cfg8.N = nt (M := 4096) (K := 1024) (N := 1024) (V c main_v7_0) (V c main_arg4) := by
  have idx : ∀ t : Fin cfg8.N, win8_0.index t = ![t.val, 0] ∧ win8_1.index t = ![0, 0] ∧ win8_2.index t = ![t.val, 0] := (by decide +kernel : ∀ t : Fin grid8.N, _)
  refine (dat8 V c).arrAt_eq_of_covers 2 _ (by decide +kernel) fun t hf y => ?_
  blk_simp
  rw [after8_2, out8_2, View.canon_unit_zero origin, View.ld_unit_zero origin, View.ld_unit_zero origin]
  obtain ⟨r, n, rfl⟩ := exists_ix2 (M := 1024) (N := 1024) y
  have lt : t.val < 4 := t.isLt
  have place : (win8_2.blk t).view.emb (ix2 r n) = (ix2 ⟨t.val * 1024 + r.val, by omega⟩ n : S4096x1024.Idx) := by blk_ext [idx t]
  exact (pay8 _ _ r n).trans ((nt_tile _ _ (fun k => by blk_ext [iblk8, idx t]) (fun k => by blk_ext [iblk8, idx t])).trans (congrArg (nt _ _) place).symm)

/-- The gradient of the attention's weights. -/
theorem arr9 : (dat9 V c).arrAt 2 cfg9.N = tn (M := 1024) (K := 4096) (N := 1024) (V c main_arg1) (V c main_v7_0) := by
  have idx : ∀ t : Fin cfg9.N, win9_0.index t = ![0, 0] ∧ win9_1.index t = ![0, 0] ∧ win9_2.index t = ![0, 0] := (by decide +kernel : ∀ t : Fin grid9.N, _)
  refine (dat9 V c).arrAt_eq_of_covers 2 _ (by decide +kernel) fun t hf y => ?_
  blk_simp
  rw [after9_2, out9_2, View.canon_unit_zero origin, View.ld_unit_zero origin, View.ld_unit_zero origin]
  obtain ⟨r, n, rfl⟩ := exists_ix2 (M := 1024) (N := 1024) y
  have lt : t.val < 1 := t.isLt
  have place : (win9_2.blk t).view.emb (ix2 r n) = (ix2 r n : S1024x1024.Idx) := by blk_ext [idx t]
  exact (pay9 _ _ r n).trans ((tn_tile _ _ (fun k => by blk_ext [iblk9, idx t]) (fun k => by blk_ext [iblk9, idx t])).trans (congrArg (tn _ _) place).symm)

/-- The scan's cotangent. -/
theorem arr10 : (dat10 V c).arrAt 2 cfg10.N = nt (M := 4096) (K := 1024) (N := 2048) (V c main_v7_1) (V c main_arg5) := by
  have idx : ∀ t : Fin cfg10.N, win10_0.index t = ![t.val / 2, 0] ∧ win10_1.index t = ![t.val % 2, 0] ∧ win10_2.index t = ![t.val / 2, t.val % 2] := (by decide +kernel : ∀ t : Fin grid10.N, _)
  refine (dat10 V c).arrAt_eq_of_covers 2 _ (by decide +kernel) fun t hf y => ?_
  blk_simp
  rw [after10_2, out10_2, View.canon_unit_zero origin, View.ld_unit_zero origin, View.ld_unit_zero origin]
  obtain ⟨r, n, rfl⟩ := exists_ix2 (M := 1024) (N := 1024) y
  have lt : t.val < 8 := t.isLt
  have place : (win10_2.blk t).view.emb (ix2 r n) = (ix2 ⟨t.val / 2 * 1024 + r.val, by omega⟩ ⟨t.val % 2 * 1024 + n.val, by omega⟩ : S4096x2048.Idx) := by blk_ext [idx t]
  exact (pay8 _ _ r n).trans ((nt_tile _ _ (fun k => by blk_ext [iblk10, idx t]) (fun k => by blk_ext [iblk10, idx t])).trans (congrArg (nt _ _) place).symm)

/-- The gradient of the scan's weights. -/
theorem arr11 : (dat11 V c).arrAt 2 cfg11.N = tn (M := 2048) (K := 4096) (N := 1024) (V c main_arg2) (V c main_v7_1) := by
  have idx : ∀ t : Fin cfg11.N, win11_0.index t = ![0, t.val] ∧ win11_1.index t = ![0, 0] ∧ win11_2.index t = ![t.val, 0] := (by decide +kernel : ∀ t : Fin grid11.N, _)
  refine (dat11 V c).arrAt_eq_of_covers 2 _ (by decide +kernel) fun t hf y => ?_
  blk_simp
  rw [after11_2, out11_2, View.canon_unit_zero origin, View.ld_unit_zero origin, View.ld_unit_zero origin]
  obtain ⟨r, n, rfl⟩ := exists_ix2 (M := 1024) (N := 1024) y
  have lt : t.val < 2 := t.isLt
  have place : (win11_2.blk t).view.emb (ix2 r n) = (ix2 ⟨t.val * 1024 + r.val, by omega⟩ n : S2048x1024.Idx) := by blk_ext [idx t]
  exact (pay9 _ _ r n).trans ((tn_tile _ _ (fun k => by blk_ext [iblk11, idx t]) (fun k => by blk_ext [iblk11, idx t])).trans (congrArg (tn _ _) place).symm)

/-- The memory's cotangent. -/
theorem arr12 : (dat12 V c).arrAt 2 cfg12.N = nt (M := 4096) (K := 1024) (N := 1024) (V c main_v7_2) (V c main_arg6) := by
  have idx : ∀ t : Fin cfg12.N, win12_0.index t = ![t.val, 0] ∧ win12_1.index t = ![0, 0] ∧ win12_2.index t = ![t.val, 0] := (by decide +kernel : ∀ t : Fin grid12.N, _)
  refine (dat12 V c).arrAt_eq_of_covers 2 _ (by decide +kernel) fun t hf y => ?_
  blk_simp
  rw [after12_2, out12_2, View.canon_unit_zero origin, View.ld_unit_zero origin, View.ld_unit_zero origin]
  obtain ⟨r, n, rfl⟩ := exists_ix2 (M := 1024) (N := 1024) y
  have lt : t.val < 4 := t.isLt
  have place : (win12_2.blk t).view.emb (ix2 r n) = (ix2 ⟨t.val * 1024 + r.val, by omega⟩ n : S4096x1024.Idx) := by blk_ext [idx t]
  exact (pay8 _ _ r n).trans ((nt_tile _ _ (fun k => by blk_ext [iblk12, idx t]) (fun k => by blk_ext [iblk12, idx t])).trans (congrArg (nt _ _) place).symm)

/-- The gradient of the memory's weights. -/
theorem arr13 : (dat13 V c).arrAt 2 cfg13.N = tn (M := 1024) (K := 4096) (N := 1024) (V c main_arg3) (V c main_v7_2) := by
  have idx : ∀ t : Fin cfg13.N, win13_0.index t = ![0, 0] ∧ win13_1.index t = ![0, 0] ∧ win13_2.index t = ![0, 0] := (by decide +kernel : ∀ t : Fin grid13.N, _)
  refine (dat13 V c).arrAt_eq_of_covers 2 _ (by decide +kernel) fun t hf y => ?_
  blk_simp
  rw [after13_2, out13_2, View.canon_unit_zero origin, View.ld_unit_zero origin, View.ld_unit_zero origin]
  obtain ⟨r, n, rfl⟩ := exists_ix2 (M := 1024) (N := 1024) y
  have lt : t.val < 1 := t.isLt
  have place : (win13_2.blk t).view.emb (ix2 r n) = (ix2 r n : S1024x1024.Idx) := by blk_ext [idx t]
  exact (pay9 _ _ r n).trans ((tn_tile _ _ (fun k => by blk_ext [iblk13, idx t]) (fun k => by blk_ext [iblk13, idx t])).trans (congrArg (tn _ _) place).symm)

end Cert.MixKernelIdeal.MixRun
end
-- ==== Proof.MixGate.lean ====
/- What the gates make of the three parts and of their cotangents. -/
module

public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Product
public import proofs.«01_k».proof.Proof.MemBlock
public import Idealize.ShloMosaic.Lib.Pipeline.ValueKit
public import Idealize.ShloMosaic.Lib.Pipeline.ReadBack
public import Idealize.ShloMosaic.Lib.Pointwise

@[expose] public section
set_option maxRecDepth 16384
noncomputable section
namespace Cert.MixKernelIdeal.MixGate
open Cert.MixKernelIdeal Cert.MixKernelIdeal.Gen Cert.Product Idealize.ShloMosaic Idealize.ShloMosaic.TcCoe Idealize.SL.Sem
open Cert.KernelIdeal.MemBlock (emb_lanes)
/-- The gate of a logit. -/
def gate (z : EReal) : EReal := Ideal.div 1 (1 + Ideal.exp (0 - z))
/-- What a gate's logit gets of the cotangent `g` of its part `t`. -/
def slope (g t z : EReal) : EReal := g * t * gate z * (1 - gate z)

/-- Column `n` of a group that stands from column `off` on. -/
def col {K L : ℕ} (off : ℕ) (h : off + K ≤ L) (n : Fin K) : Fin L := ⟨off + n.val, by omega⟩

/-- The parts gated and added; the three groups of logits stand from column `off` on. -/
def merge {M L : ℕ} (off : ℕ) (h : off + 3072 ≤ L) (z : Mat M L) (t0 t1 t2 : Mat M 1024) : Mat M 1024 := fun i =>
  gate (z (ix2 (i 0) (col (K := 1024) off (by omega) (i 1)))) * t0 i + gate (z (ix2 (i 0) (col (K := 1024) (off + 1024) (by omega) (i 1)))) * t1 i
    + gate (z (ix2 (i 0) (col (K := 1024) (off + 2048) (by omega) (i 1)))) * t2 i
/-- The cotangent of the part whose logits stand from column `off` on. -/
def gated {M L : ℕ} (off : ℕ) (h : off + 1024 ≤ L) (z : Mat M L) (g : Mat M 1024) : Mat M 1024 := fun i =>
  g i * gate (z (ix2 (i 0) (col (K := 1024) off h (i 1))))
/-- The cotangent of the logits, part beside part. -/
def logits {M L : ℕ} (off : ℕ) (h : off + 3072 ≤ L) (z : Mat M L) (t0 t1 t2 g : Mat M 1024) : Mat M 3072 := fun i =>
  if lt : (i 1).val < 1024 then
    slope (g (ix2 (i 0) ⟨(i 1).val, lt⟩)) (t0 (ix2 (i 0) ⟨(i 1).val, lt⟩)) (z (ix2 (i 0) (col (K := 3072) off h (i 1))))
  else if lt' : (i 1).val - 1024 < 1024 then
    slope (g (ix2 (i 0) ⟨(i 1).val - 1024, lt'⟩)) (t1 (ix2 (i 0) ⟨(i 1).val - 1024, lt'⟩)) (z (ix2 (i 0) (col (K := 3072) off h (i 1))))
  else
    have lt'' : (i 1).val - 2048 < 1024 := by have : (i 1).val < 3072 := (i 1).isLt; omega
    slope (g (ix2 (i 0) ⟨(i 1).val - 2048, lt''⟩)) (t2 (ix2 (i 0) ⟨(i 1).val - 2048, lt''⟩)) (z (ix2 (i 0) (col (K := 3072) off h (i 1))))

section Tiles
variable {M L m l : ℕ} {o O : ℕ} {z : Mat m l} {Z : Mat M L} {t0 t1 t2 g : Mat m 1024} {T0 T1 T2 G : Mat M 1024} {r : Fin m} {R : Fin M}

/-- A tile of the merged parts is the merge of the tiles. -/
theorem merge_tile (h : o + 3072 ≤ l) (H : O + 3072 ≤ L) {n : Fin 1024}
    (z0 : z (ix2 r (col o (by omega) n)) = Z (ix2 R (col O (by omega) n))) (z1 : z (ix2 r (col (o + 1024) (by omega) n)) = Z (ix2 R (col (O + 1024) (by omega) n)))
    (z2 : z (ix2 r (col (o + 2048) (by omega) n)) = Z (ix2 R (col (O + 2048) (by omega) n)))
    (h0 : t0 (ix2 r n) = T0 (ix2 R n)) (h1 : t1 (ix2 r n) = T1 (ix2 R n)) (h2 : t2 (ix2 r n) = T2 (ix2 R n)) :
    merge o h z t0 t1 t2 (ix2 r n) = merge O H Z T0 T1 T2 (ix2 R n) := by
  refine congrArg₂ (· + ·) (congrArg₂ (· + ·) (congrArg₂ (· * ·) (congrArg gate z0) h0) (congrArg₂ (· * ·) (congrArg gate z1) h1))
    (congrArg₂ (· * ·) (congrArg gate z2) h2)

/-- A tile of a part's cotangent is the cotangent of the tile. -/
theorem gated_tile (h : o + 1024 ≤ l) (H : O + 1024 ≤ L) {n : Fin 1024} (hz : z (ix2 r (col o h n)) = Z (ix2 R (col O H n))) (hg : g (ix2 r n) = G (ix2 R n)) :
    gated o h z g (ix2 r n) = gated O H Z G (ix2 R n) := congrArg₂ (· * ·) hg (congrArg gate hz)

/-- The cotangent of the logits at an index. -/
theorem logits_apply (h : o + 3072 ≤ l) (r : Fin m) (n : Fin 3072) : logits o h z t0 t1 t2 g (ix2 r n) =
    if lt : n.val < 1024 then slope (g (ix2 r ⟨n.val, lt⟩)) (t0 (ix2 r ⟨n.val, lt⟩)) (z (ix2 r (col o h n)))
    else if lt' : n.val - 1024 < 1024 then slope (g (ix2 r ⟨n.val - 1024, lt'⟩)) (t1 (ix2 r ⟨n.val - 1024, lt'⟩)) (z (ix2 r (col o h n)))
    else slope (g (ix2 r ⟨n.val - 2048, by omega⟩)) (t2 (ix2 r ⟨n.val - 2048, by omega⟩)) (z (ix2 r (col o h n))) := rfl

/-- A tile of the logits' cotangent is the cotangent of the tiles. -/
theorem logits_tile (h : o + 3072 ≤ l) (H : O + 3072 ≤ L) {n : Fin 3072} (hz : z (ix2 r (col o h n)) = Z (ix2 R (col O H n)))
    (h0 : ∀ k, t0 (ix2 r k) = T0 (ix2 R k)) (h1 : ∀ k, t1 (ix2 r k) = T1 (ix2 R k)) (h2 : ∀ k, t2 (ix2 r k) = T2 (ix2 R k)) (hg : ∀ k, g (ix2 r k) = G (ix2 R k)) :
    logits o h z t0 t1 t2 g (ix2 r n) = logits O H Z T0 T1 T2 G (ix2 R n) := by
  simp only [logits_apply, hz, h0, h1, h2, hg]

end Tiles

variable (V : (c : Dev nD) → (b : Ref sig .tc) → Buf (Elt Ideal) ((c : Thread nD τ).loc b)) (c : Dev nD)

/-! What one point computes of its blocks. -/
theorem pay3 (z0 t0 z1 t1 z2 t2 : Vec Ideal S512x1024 .f32) (r : Fin 512) (n : Fin 1024) :
    k3_pay1 (k3_pay2 z0 t0 z1 t1 z2 t2) (ix2 r n) = gate (z0 (ix2 r n)) * t0 (ix2 r n) + gate (z1 (ix2 r n)) * t1 (ix2 r n) + gate (z2 (ix2 r n)) * t2 (ix2 r n) := by
  pointwise [k3_pay1, k3_pay2, gate]
theorem part0 (g z : Vec Ideal S512x1024 .f32) (r : Fin 512) (n : Fin 1024) : k7_pay7 g z (ix2 r n) = g (ix2 r n) * gate (z (ix2 r n)) := by
  pointwise [k7_pay7, k7_pay5, k7_pay6, gate]
theorem part1 (g z : Vec Ideal S512x1024 .f32) (r : Fin 512) (n : Fin 1024) : k7_pay10 g z (ix2 r n) = g (ix2 r n) * gate (z (ix2 r n)) := by
  pointwise [k7_pay10, k7_pay5, k7_pay9, gate]
theorem part2 (g z : Vec Ideal S512x1024 .f32) (r : Fin 512) (n : Fin 1024) : k7_pay3 (k7_pay5 g) z (ix2 r n) = g (ix2 r n) * gate (z (ix2 r n)) := by
  pointwise [k7_pay3, k7_pay5, k7_pay2, gate]
theorem slope0 (g z t : Vec Ideal S512x1024 .f32) (r : Fin 512) (n : Fin 1024) : k7_pay8 g z t (ix2 r n) = slope (g (ix2 r n)) (t (ix2 r n)) (z (ix2 r n)) := by
  pointwise [k7_pay8, k7_pay5, k7_pay6, slope, gate]
theorem slope1 (g z t : Vec Ideal S512x1024 .f32) (r : Fin 512) (n : Fin 1024) :
    k7_pay1 (k7_pay5 g) (k7_pay9 z) t (ix2 r n) = slope (g (ix2 r n)) (t (ix2 r n)) (z (ix2 r n)) := by
  pointwise [k7_pay1, k7_pay5, k7_pay9, slope, gate]
theorem slope2 (g z t : Vec Ideal S512x1024 .f32) (r : Fin 512) (n : Fin 1024) :
    k7_pay4 (k7_pay5 g) z t (ix2 r n) = slope (g (ix2 r n)) (t (ix2 r n)) (z (ix2 r n)) := by
  pointwise [k7_pay4, k7_pay5, k7_pay2, slope, gate]

/-- The merging body on whole blocks. -/
theorem tile3 (z : Vec Ideal S512x3072 .f32) (t0 t1 t2 : Vec Ideal S512x1024 .f32) (r : Fin 512) (n : Fin 1024) :
    k3_pay1 (k3_pay2 (View.ld z r3_0) t0 (View.ld z r3_2) t1 (View.ld z r3_3) t2) (ix2 r n) = merge (M := 512) 0 (by decide) z t0 t1 t2 (ix2 r n) :=
  (pay3 _ _ _ _ _ _ r n).trans (congrArg₂ (· + ·) (congrArg₂ (· + ·) (congrArg (gate · * t0 (ix2 r n)) (ld_columns z 0 _ r n _ rfl))
    (congrArg (gate · * t1 (ix2 r n)) (ld_columns z 1024 _ r n _ rfl))) (congrArg (gate · * t2 (ix2 r n)) (ld_columns z 2048 _ r n _ rfl)))

/-- The three stored pieces of the logits' cotangent. -/
theorem pieces (z : Vec Ideal S512x3072 .f32) (t0 t1 t2 g : Vec Ideal S512x1024 .f32) (y : S512x3072.Idx) :
    View.canon (Val := Elt Ideal) (e := .bf16) [⟨r7_3, k7_pay4 (k7_pay5 g) (View.ld z r7_3) t2⟩, ⟨r7_2, k7_pay1 (k7_pay5 g) (k7_pay9 (View.ld z r7_2)) t1⟩,
      ⟨r7_1, k7_pay8 g (View.ld z r7_1) t0⟩] y = logits (M := 512) 0 (by decide) z t0 t1 t2 g y := by
  refine View.canon_append_of_piecesOf (Val := Elt Ideal) (e := .bf16) (s := S512x3072) (logits (M := 512) 0 (by decide) z t0 t1 t2 g) [] [_, _, _]
    ⟨fun x => ?_, fun x => ?_, fun x => ?_, trivial⟩ y (View.cover_of_tiledL (s := S512x3072) _ S512x1024.size (by sl_kernel_rfl) y)
  · obtain ⟨r, d, rfl⟩ := exists_ix2 (M := 512) (N := 1024) x
    refine (slope2 _ _ _ r d).trans (Eq.trans ?_ (congrArg (logits (M := 512) 0 _ z t0 t1 t2 g) (emb_lanes 2048 inb_S512x3072_S512x1024_0_2048 r d ⟨2048 + d.val, by omega⟩ rfl)).symm)
    rw [logits_apply, dif_neg (by show ¬ 2048 + d.val < 1024; omega), dif_neg (by show ¬ 2048 + d.val - 1024 < 1024; omega)]
    rw [ld_columns z 2048 _ r d (col (K := 3072) 0 (by decide) ⟨2048 + d.val, by omega⟩) (by show 0 + (2048 + d.val) = 2048 + d.val; omega)]
    simp only [Nat.add_sub_cancel_left]
  · obtain ⟨r, d, rfl⟩ := exists_ix2 (M := 512) (N := 1024) x
    refine (slope1 _ _ _ r d).trans (Eq.trans ?_ (congrArg (logits (M := 512) 0 _ z t0 t1 t2 g) (emb_lanes 1024 inb_S512x3072_S512x1024_0_1024 r d ⟨1024 + d.val, by omega⟩ rfl)).symm)
    rw [logits_apply, dif_neg (by show ¬ 1024 + d.val < 1024; omega), dif_pos (by show 1024 + d.val - 1024 < 1024; omega)]
    rw [ld_columns z 1024 _ r d (col (K := 3072) 0 (by decide) ⟨1024 + d.val, by omega⟩) (by show 0 + (1024 + d.val) = 1024 + d.val; omega)]
    simp only [Nat.add_sub_cancel_left]
  · obtain ⟨r, d, rfl⟩ := exists_ix2 (M := 512) (N := 1024) x
    refine (slope0 _ _ _ r d).trans (Eq.trans ?_ (congrArg (logits (M := 512) 0 _ z t0 t1 t2 g) (emb_lanes 0 inb_S512x3072_S512x1024_0_0 r d ⟨d.val, by omega⟩ (by show d.val = 0 + d.val; omega))).symm)
    rw [logits_apply, dif_pos d.isLt]
    rw [ld_columns z 0 _ r d (col (K := 3072) 0 (by decide) ⟨d.val, by omega⟩) rfl]

/-- The parts gated and added. -/
theorem arr3 : (dat3 V c).arrAt 4 cfg3.N = merge (M := 4096) 6144 (by decide) (V c main_arg0) (V c main_v0) (V c main_v1) (V c main_v2) := by
  have idx : ∀ t : Fin cfg3.N, win3_0.index t = ![t.val, 2] ∧ win3_1.index t = ![t.val, 0] ∧ win3_2.index t = ![t.val, 0] ∧ win3_3.index t = ![t.val, 0]
      ∧ win3_4.index t = ![t.val, 0] := (by decide +kernel : ∀ t : Fin grid3.N, _)
  refine (dat3 V c).arrAt_eq_of_covers 4 _ (by decide +kernel) fun t hf y => ?_
  blk_simp
  rw [after3_4, out3_4, View.canon_unit_zero origin, View.ld_unit_zero origin, View.ld_unit_zero origin, View.ld_unit_zero origin]
  obtain ⟨r, n, rfl⟩ := exists_ix2 (M := 512) (N := 1024) y
  have lt : t.val < 8 := t.isLt
  obtain ⟨i0, i1, i2, i3, i4⟩ := idx t
  have place : (win3_4.blk t).view.emb (ix2 r n) = (ix2 ⟨t.val * 512 + r.val, by omega⟩ n : S4096x1024.Idx) := by blk_ext [i4]
  refine (tile3 _ _ _ _ r n).trans (Eq.trans ?_ (congrArg (merge (M := 4096) 6144 _ _ _ _ _) place).symm)
  exact merge_tile _ _ (by blk_ext [iblk3, i0, col]) (by blk_ext [iblk3, i0, col]) (by blk_ext [iblk3, i0, col]) (by blk_ext [iblk3, i1])
    (by blk_ext [iblk3, i2]) (by blk_ext [iblk3, i3])

/-- The blocks a point of the backward pass works on. -/
theorem idx7 : ∀ t : Fin cfg7.N, win7_0.index t = ![t.val, 2] ∧ win7_1.index t = ![t.val, 0] ∧ win7_2.index t = ![t.val, 0] ∧ win7_3.index t = ![t.val, 0]
      ∧ win7_4.index t = ![t.val, 0] ∧ win7_5.index t = ![t.val, 0] ∧ win7_6.index t = ![t.val, 0] ∧ win7_7.index t = ![t.val, 0]
      ∧ win7_8.index t = ![t.val, 0] := (by decide +kernel : ∀ t : Fin grid7.N, _)

/-- The attention's gated cotangent. -/
theorem arr7_5 : (dat7 V c).arrAt 5 cfg7.N = gated (M := 4096) 6144 (by decide) (V c main_arg0) (V c main_v5) := by
  refine (dat7 V c).arrAt_eq_of_covers 5 _ (by decide +kernel) fun t hf y => ?_
  blk_simp
  rw [after7_5, out7_5, View.canon_unit_zero origin, View.ld_unit_zero origin]
  obtain ⟨r, n, rfl⟩ := exists_ix2 (M := 512) (N := 1024) y
  have lt : t.val < 8 := t.isLt
  obtain ⟨i0, i1, i2, i3, i4, i5, i6, i7, i8⟩ := idx7 t
  have place : (win7_5.blk t).view.emb (ix2 r n) = (ix2 ⟨t.val * 512 + r.val, by omega⟩ n : S4096x1024.Idx) := by blk_ext [i5]
  refine (part0 _ _ r n).trans (Eq.trans ?_ (congrArg (gated (M := 4096) 6144 _ _ _) place).symm)
  refine (congrArg (_ * gate ·) (ld_columns (iblk7 V c 0 t) 0 _ r n (col 0 (by decide) n) rfl)).trans ?_
  exact gated_tile (by decide) (by decide) (by blk_ext [iblk7, i0, col]) (by blk_ext [iblk7, i4])

/-- The scan's gated cotangent. -/
theorem arr7_6 : (dat7 V c).arrAt 6 cfg7.N = gated (M := 4096) 7168 (by decide) (V c main_arg0) (V c main_v5) := by
  refine (dat7 V c).arrAt_eq_of_covers 6 _ (by decide +kernel) fun t hf y => ?_
  blk_simp
  rw [after7_6, out7_6, View.canon_unit_zero origin, View.ld_unit_zero origin]
  obtain ⟨r, n, rfl⟩ := exists_ix2 (M := 512) (N := 1024) y
  have lt : t.val < 8 := t.isLt
  obtain ⟨i0, i1, i2, i3, i4, i5, i6, i7, i8⟩ := idx7 t
  have place : (win7_6.blk t).view.emb (ix2 r n) = (ix2 ⟨t.val * 512 + r.val, by omega⟩ n : S4096x1024.Idx) := by blk_ext [i6]
  refine (part1 _ _ r n).trans (Eq.trans ?_ (congrArg (gated (M := 4096) 7168 _ _ _) place).symm)
  refine (congrArg (_ * gate ·) (ld_columns (iblk7 V c 0 t) 1024 _ r n (col 1024 (by decide) n) rfl)).trans ?_
  exact gated_tile (by decide) (by decide) (by blk_ext [iblk7, i0, col]) (by blk_ext [iblk7, i4])

/-- The memory's gated cotangent. -/
theorem arr7_7 : (dat7 V c).arrAt 7 cfg7.N = gated (M := 4096) 8192 (by decide) (V c main_arg0) (V c main_v5) := by
  refine (dat7 V c).arrAt_eq_of_covers 7 _ (by decide +kernel) fun t hf y => ?_
  blk_simp
  rw [after7_7, out7_7, k7_pay11, View.canon_unit_zero origin, View.ld_unit_zero origin]
  obtain ⟨r, n, rfl⟩ := exists_ix2 (M := 512) (N := 1024) y
  have lt : t.val < 8 := t.isLt
  obtain ⟨i0, i1, i2, i3, i4, i5, i6, i7, i8⟩ := idx7 t
  have place : (win7_7.blk t).view.emb (ix2 r n) = (ix2 ⟨t.val * 512 + r.val, by omega⟩ n : S4096x1024.Idx) := by blk_ext [i7]
  refine (part2 _ _ r n).trans (Eq.trans ?_ (congrArg (gated (M := 4096) 8192 _ _ _) place).symm)
  refine (congrArg (_ * gate ·) (ld_columns (iblk7 V c 0 t) 2048 _ r n (col 2048 (by decide) n) rfl)).trans ?_
  exact gated_tile (by decide) (by decide) (by blk_ext [iblk7, i0, col]) (by blk_ext [iblk7, i4])

/-- The cotangent of the logits. -/
theorem arr7_8 : (dat7 V c).arrAt 8 cfg7.N = logits (M := 4096) 6144 (by decide) (V c main_arg0) (V c main_v0) (V c main_v1) (V c main_v2) (V c main_v5) := by
  refine (dat7 V c).arrAt_eq_of_covers 8 _ (by decide +kernel) fun t hf y => ?_
  blk_simp
  rw [after7_8, out7_8, k7_pay11, View.ld_unit_zero origin, View.ld_unit_zero origin, View.ld_unit_zero origin, View.ld_unit_zero origin]
  obtain ⟨r, n, rfl⟩ := exists_ix2 (M := 512) (N := 3072) y
  have lt : t.val < 8 := t.isLt
  obtain ⟨i0, i1, i2, i3, i4, i5, i6, i7, i8⟩ := idx7 t
  have place : (win7_8.blk t).view.emb (ix2 r n) = (ix2 ⟨t.val * 512 + r.val, by omega⟩ n : S4096x3072.Idx) := by blk_ext [i8]
  refine (pieces _ _ _ _ _ (ix2 r n)).trans (Eq.trans ?_ (congrArg (logits (M := 4096) 6144 _ _ _ _ _ _) place).symm)
  exact logits_tile _ _ (by blk_ext [iblk7, i0, col]) (fun k => by blk_ext [iblk7, i1]) (fun k => by blk_ext [iblk7, i2]) (fun k => by blk_ext [iblk7, i3])
    (fun k => by blk_ext [iblk7, i4])

end Cert.MixKernelIdeal.MixGate
end
-- ==== Proof.MixClaim.lean ====
/- The token mixer's output: what the fourteen calls leave at the end, and that the reference computes the same. -/
module

public import proofs.«01_k».proof.Defs
public import proofs.«01_k».proof.Proof.Gen.MixReferenceIdeal
public import proofs.«01_k».proof.Proof.Gen.MixReferenceIdeal.Run
public import proofs.«01_k».proof.Proof.MixRun
public import proofs.«01_k».proof.Proof.MixGate
public import Idealize.ShloMosaic.Lib.Pointwise
public import Idealize.ShloMosaic.Lib.ValueLayout

@[expose] public section
set_option maxRecDepth 16384
noncomputable section

namespace Cert.MixKernelIdeal.MixRun
open Cert.MixKernelIdeal Cert.MixKernelIdeal.Gen Cert.MixKernelIdeal.MixGate Cert.Product Idealize.ShloMosaic Idealize.ShloMosaic.TcCoe
open Idealize.ShloMosaic.Rounds Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg) (c : Dev nD)

local notation "𝕄" => MT nD τ sig Unit (Elt Ideal) ℕ (UR sig nD τ) ℕ

set_option backward.isDefEq.respectTransparency.types false in
/-- The fourteen calls run to their end, and every array ends with what the last boundary holds. -/
theorem run_final : θ_run defs (onTc (τ := τ) (main (F := Ideal))) ⟨m, fun _ => 0, ρ⟩ (fun r => ∀ c : Dev nD, ∀ b ∈ Pipeline.ucRefs τ sig,
    r.2.mem (((c : Thread nD τ)).1, b) = W14 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => h)

/-- The projection, the attention's, the scan's and the memory's outputs, their weights, the output's weights and the cotangent. -/
abbrev P : Mat 4096 12288 := m ((c : Thread nD τ).loc main_arg0)
abbrev Y0 : Mat 4096 1024 := m ((c : Thread nD τ).loc main_arg1)
abbrev Y1 : Mat 4096 2048 := m ((c : Thread nD τ).loc main_arg2)
abbrev Y2 : Mat 4096 1024 := m ((c : Thread nD τ).loc main_arg3)
abbrev K0 : Mat 1024 1024 := m ((c : Thread nD τ).loc main_arg4)
abbrev K1 : Mat 2048 1024 := m ((c : Thread nD τ).loc main_arg5)
abbrev K2 : Mat 1024 1024 := m ((c : Thread nD τ).loc main_arg6)
abbrev O : Mat 1024 1024 := m ((c : Thread nD τ).loc main_arg7)
abbrev D : Mat 4096 1024 := m ((c : Thread nD τ).loc main_arg8)

/-! The three parts, their merge, and the cotangents of the merge and of the parts. -/
def T0 : Mat 4096 1024 := nn (Y0 m c) (K0 m c)
def T1 : Mat 4096 1024 := nn (Y1 m c) (K1 m c)
def T2 : Mat 4096 1024 := nn (Y2 m c) (K2 m c)
def merged : Mat 4096 1024 := merge 6144 (by decide) (P m c) (T0 m c) (T1 m c) (T2 m c)
def G : Mat 4096 1024 := nt (D m c) (O m c)
def D0 : Mat 4096 1024 := gated 6144 (by decide) (P m c) (G m c)
def D1 : Mat 4096 1024 := gated 7168 (by decide) (P m c) (G m c)
def D2 : Mat 4096 1024 := gated 8192 (by decide) (P m c) (G m c)
def dlogits : Mat 4096 3072 := logits 6144 (by decide) (P m c) (T0 m c) (T1 m c) (T2 m c) (G m c)

/-! What the calls leave, and where it is still there. -/
theorem part0_end : W1 m ρ c main_v0 = T0 m c :=
  (W1_arr m ρ c 2).trans ((arr0 (V0 m ρ) c).trans (congrArg₂ nn rfl rfl))
theorem part1_end : W2 m ρ c main_v1 = T1 m c :=
  (W2_arr m ρ c 2).trans ((arr1 (V1 m ρ) c).trans (congrArg₂ nn (W1_args m ρ c main_arg2 (by decide)) (W1_args m ρ c main_arg5 (by decide))))
theorem part2_end : W3 m ρ c main_v2 = T2 m c :=
  (W3_arr m ρ c 2).trans ((arr2 (V2 m ρ) c).trans (congrArg₂ nn (W2_args m ρ c main_arg3 (by decide)) (W2_args m ρ c main_arg6 (by decide))))
theorem part0_at3 : W3 m ρ c main_v0 = T0 m c := (W3_of m ρ c main_v0 (by decide +kernel)).trans ((W2_of m ρ c main_v0 (by decide +kernel)).trans (part0_end m ρ c))
theorem part1_at3 : W3 m ρ c main_v1 = T1 m c := (W3_of m ρ c main_v1 (by decide +kernel)).trans (part1_end m ρ c)
theorem merge_end : W4 m ρ c main_v3 = merged m c := by
  refine (W4_arr m ρ c 4).trans ((arr3 (V3 m ρ) c).trans ?_)
  unfold merged V3
  rw [W3_args m ρ c main_arg0 (by decide), part0_at3 m ρ c, part1_at3 m ρ c, part2_end m ρ c]
theorem mix_end : W5 m ρ c main_v4 = nn (merged m c) (O m c) :=
  (W5_arr m ρ c 2).trans ((arr4 (V4 m ρ) c).trans (congrArg₂ nn (merge_end m ρ c) (W4_args m ρ c main_arg7 (by decide))))
theorem back_end : W6 m ρ c main_v5 = G m c :=
  (W6_arr m ρ c 2).trans ((arr5 (V5 m ρ) c).trans (congrArg₂ nt (W5_args m ρ c main_arg8 (by decide)) (W5_args m ρ c main_arg7 (by decide))))
theorem merge_at6 : W6 m ρ c main_v3 = merged m c := (W6_of m ρ c main_v3 (by decide +kernel)).trans ((W5_of m ρ c main_v3 (by decide +kernel)).trans (merge_end m ρ c))
theorem dO_end : W7 m ρ c main_v6 = tn (merged m c) (D m c) :=
  (W7_arr m ρ c 2).trans ((arr6 (V6 m ρ) c).trans (congrArg₂ tn (merge_at6 m ρ c) (W6_args m ρ c main_arg8 (by decide))))
theorem back_at7 : W7 m ρ c main_v5 = G m c := (W7_of m ρ c main_v5 (by decide +kernel)).trans (back_end m ρ c)
theorem dpart0_end : W8 m ρ c main_v7_0 = D0 m c := by
  refine (W8_arr m ρ c 5).trans ((arr7_5 (V7 m ρ) c).trans ?_)
  unfold D0 V7
  rw [W7_args m ρ c main_arg0 (by decide), back_at7 m ρ c]
theorem dpart1_end : W8 m ρ c main_v7_1 = D1 m c := by
  refine (W8_arr m ρ c 6).trans ((arr7_6 (V7 m ρ) c).trans ?_)
  unfold D1 V7
  rw [W7_args m ρ c main_arg0 (by decide), back_at7 m ρ c]
theorem dpart2_end : W8 m ρ c main_v7_2 = D2 m c := by
  refine (W8_arr m ρ c 7).trans ((arr7_7 (V7 m ρ) c).trans ?_)
  unfold D2 V7
  rw [W7_args m ρ c main_arg0 (by decide), back_at7 m ρ c]
theorem part0_at7 : W7 m ρ c main_v0 = T0 m c := (W7_of m ρ c main_v0 (by decide +kernel)).trans ((W6_of m ρ c main_v0 (by decide +kernel)).trans ((W5_of m ρ c main_v0 (by decide +kernel)).trans ((W4_of m ρ c main_v0 (by decide +kernel)).trans ((W3_of m ρ c main_v0 (by decide +kernel)).trans ((W2_of m ρ c main_v0 (by decide +kernel)).trans (part0_end m ρ c))))))
theorem part1_at7 : W7 m ρ c main_v1 = T1 m c := (W7_of m ρ c main_v1 (by decide +kernel)).trans ((W6_of m ρ c main_v1 (by decide +kernel)).trans ((W5_of m ρ c main_v1 (by decide +kernel)).trans ((W4_of m ρ c main_v1 (by decide +kernel)).trans ((W3_of m ρ c main_v1 (by decide +kernel)).trans (part1_end m ρ c)))))
theorem part2_at7 : W7 m ρ c main_v2 = T2 m c := (W7_of m ρ c main_v2 (by decide +kernel)).trans ((W6_of m ρ c main_v2 (by decide +kernel)).trans ((W5_of m ρ c main_v2 (by decide +kernel)).trans ((W4_of m ρ c main_v2 (by decide +kernel)).trans (part2_end m ρ c))))
theorem dlogit_end : W8 m ρ c main_v7_3 = dlogits m c := by
  refine (W8_arr m ρ c 8).trans ((arr7_8 (V7 m ρ) c).trans ?_)
  unfold dlogits V7
  rw [W7_args m ρ c main_arg0 (by decide), part0_at7 m ρ c, part1_at7 m ρ c, part2_at7 m ρ c, back_at7 m ρ c]
theorem dY0_end : W9 m ρ c main_v8 = nt (D0 m c) (K0 m c) :=
  (W9_arr m ρ c 2).trans ((arr8 (V8 m ρ) c).trans (congrArg₂ nt (dpart0_end m ρ c) (W8_args m ρ c main_arg4 (by decide))))
theorem dpart0_at9 : W9 m ρ c main_v7_0 = D0 m c := (W9_of m ρ c main_v7_0 (by decide +kernel)).trans (dpart0_end m ρ c)
theorem dK0_end : W10 m ρ c main_v9 = tn (Y0 m c) (D0 m c) :=
  (W10_arr m ρ c 2).trans ((arr9 (V9 m ρ) c).trans (congrArg₂ tn (W9_args m ρ c main_arg1 (by decide)) (dpart0_at9 m ρ c)))
theorem dpart1_at10 : W10 m ρ c main_v7_1 = D1 m c := (W10_of m ρ c main_v7_1 (by decide +kernel)).trans ((W9_of m ρ c main_v7_1 (by decide +kernel)).trans (dpart1_end m ρ c))
theorem dY1_end : W11 m ρ c main_v10 = nt (D1 m c) (K1 m c) :=
  (W11_arr m ρ c 2).trans ((arr10 (V10 m ρ) c).trans (congrArg₂ nt (dpart1_at10 m ρ c) (W10_args m ρ c main_arg5 (by decide))))
theorem dpart1_at11 : W11 m ρ c main_v7_1 = D1 m c := (W11_of m ρ c main_v7_1 (by decide +kernel)).trans ((W10_of m ρ c main_v7_1 (by decide +kernel)).trans ((W9_of m ρ c main_v7_1 (by decide +kernel)).trans (dpart1_end m ρ c)))
theorem dK1_end : W12 m ρ c main_v11 = tn (Y1 m c) (D1 m c) :=
  (W12_arr m ρ c 2).trans ((arr11 (V11 m ρ) c).trans (congrArg₂ tn (W11_args m ρ c main_arg2 (by decide)) (dpart1_at11 m ρ c)))
theorem dpart2_at12 : W12 m ρ c main_v7_2 = D2 m c := (W12_of m ρ c main_v7_2 (by decide +kernel)).trans ((W11_of m ρ c main_v7_2 (by decide +kernel)).trans ((W10_of m ρ c main_v7_2 (by decide +kernel)).trans ((W9_of m ρ c main_v7_2 (by decide +kernel)).trans (dpart2_end m ρ c))))
theorem dY2_end : W13 m ρ c main_v12 = nt (D2 m c) (K2 m c) :=
  (W13_arr m ρ c 2).trans ((arr12 (V12 m ρ) c).trans (congrArg₂ nt (dpart2_at12 m ρ c) (W12_args m ρ c main_arg6 (by decide))))
theorem dpart2_at13 : W13 m ρ c main_v7_2 = D2 m c := (W13_of m ρ c main_v7_2 (by decide +kernel)).trans ((W12_of m ρ c main_v7_2 (by decide +kernel)).trans ((W11_of m ρ c main_v7_2 (by decide +kernel)).trans ((W10_of m ρ c main_v7_2 (by decide +kernel)).trans ((W9_of m ρ c main_v7_2 (by decide +kernel)).trans (dpart2_end m ρ c)))))
theorem dK2_end : W14 m ρ c main_v13 = tn (Y2 m c) (D2 m c) :=
  (W14_arr m ρ c 2).trans ((arr13 (V13 m ρ) c).trans (congrArg₂ tn (W13_args m ρ c main_arg3 (by decide)) (dpart2_at13 m ρ c)))
theorem mix_last : W14 m ρ c main_v4 = nn (merged m c) (O m c) := (W14_of m ρ c main_v4 (by decide +kernel)).trans ((W13_of m ρ c main_v4 (by decide +kernel)).trans ((W12_of m ρ c main_v4 (by decide +kernel)).trans ((W11_of m ρ c main_v4 (by decide +kernel)).trans ((W10_of m ρ c main_v4 (by decide +kernel)).trans ((W9_of m ρ c main_v4 (by decide +kernel)).trans ((W8_of m ρ c main_v4 (by decide +kernel)).trans ((W7_of m ρ c main_v4 (by decide +kernel)).trans ((W6_of m ρ c main_v4 (by decide +kernel)).trans (mix_end m ρ c)))))))))
theorem dlogit_last : W14 m ρ c main_v7_3 = dlogits m c := (W14_of m ρ c main_v7_3 (by decide +kernel)).trans ((W13_of m ρ c main_v7_3 (by decide +kernel)).trans ((W12_of m ρ c main_v7_3 (by decide +kernel)).trans ((W11_of m ρ c main_v7_3 (by decide +kernel)).trans ((W10_of m ρ c main_v7_3 (by decide +kernel)).trans ((W9_of m ρ c main_v7_3 (by decide +kernel)).trans (dlogit_end m ρ c))))))
theorem dY0_last : W14 m ρ c main_v8 = nt (D0 m c) (K0 m c) := (W14_of m ρ c main_v8 (by decide +kernel)).trans ((W13_of m ρ c main_v8 (by decide +kernel)).trans ((W12_of m ρ c main_v8 (by decide +kernel)).trans ((W11_of m ρ c main_v8 (by decide +kernel)).trans ((W10_of m ρ c main_v8 (by decide +kernel)).trans (dY0_end m ρ c)))))
theorem dY1_last : W14 m ρ c main_v10 = nt (D1 m c) (K1 m c) := (W14_of m ρ c main_v10 (by decide +kernel)).trans ((W13_of m ρ c main_v10 (by decide +kernel)).trans ((W12_of m ρ c main_v10 (by decide +kernel)).trans (dY1_end m ρ c)))
theorem dY2_last : W14 m ρ c main_v12 = nt (D2 m c) (K2 m c) := (W14_of m ρ c main_v12 (by decide +kernel)).trans (dY2_end m ρ c)
theorem dK0_last : W14 m ρ c main_v9 = tn (Y0 m c) (D0 m c) := (W14_of m ρ c main_v9 (by decide +kernel)).trans ((W13_of m ρ c main_v9 (by decide +kernel)).trans ((W12_of m ρ c main_v9 (by decide +kernel)).trans ((W11_of m ρ c main_v9 (by decide +kernel)).trans (dK0_end m ρ c))))
theorem dK1_last : W14 m ρ c main_v11 = tn (Y1 m c) (D1 m c) := (W14_of m ρ c main_v11 (by decide +kernel)).trans ((W13_of m ρ c main_v11 (by decide +kernel)).trans (dK1_end m ρ c))
theorem dK2_last : W14 m ρ c main_v13 = tn (Y2 m c) (D2 m c) := dK2_end m ρ c
theorem dO_last : W14 m ρ c main_v6 = tn (merged m c) (D m c) := (W14_of m ρ c main_v6 (by decide +kernel)).trans ((W13_of m ρ c main_v6 (by decide +kernel)).trans ((W12_of m ρ c main_v6 (by decide +kernel)).trans ((W11_of m ρ c main_v6 (by decide +kernel)).trans ((W10_of m ρ c main_v6 (by decide +kernel)).trans ((W9_of m ρ c main_v6 (by decide +kernel)).trans ((W8_of m ρ c main_v6 (by decide +kernel)).trans (dO_end m ρ c)))))))

end Cert.MixKernelIdeal.MixRun

namespace Cert.MixReferenceIdeal.MixRef
open Cert.MixReferenceIdeal Cert.MixReferenceIdeal.Gen Cert.Product Idealize.ShloMosaic Cert.MixKernelIdeal.MixGate

/-! The reference's products, entry by entry. -/
theorem nn_eq (x : FVec Ideal S4096x1024 .f32) (w : FVec Ideal S1024x1024 .f32) :
    Host.dotGeneral dot_S4096x1024_S1024x1024_S4096x1024_1_0_0_1_n_n none x w = nn (M := 4096) (K := 1024) (N := 1024) x w := by
  funext i; obtain ⟨r, n, rfl⟩ := exists_ix2 (M := 4096) (N := 1024) i; rw [nn_apply]; pointwise
theorem nn2_eq (x : FVec Ideal S4096x2048 .f32) (w : FVec Ideal S2048x1024 .f32) :
    Host.dotGeneral dot_S4096x2048_S2048x1024_S4096x1024_1_0_0_1_n_n none x w = nn (M := 4096) (K := 2048) (N := 1024) x w := by
  funext i; obtain ⟨r, n, rfl⟩ := exists_ix2 (M := 4096) (N := 1024) i; rw [nn_apply]; pointwise
theorem nt_eq (x : FVec Ideal S4096x1024 .f32) (w : FVec Ideal S1024x1024 .f32) :
    Host.dotGeneral dot_S4096x1024_S1024x1024_S4096x1024_1_1_0_0_n_n none x w = nt (M := 4096) (K := 1024) (N := 1024) x w := by
  funext i; obtain ⟨r, n, rfl⟩ := exists_ix2 (M := 4096) (N := 1024) i; rw [nt_apply]; pointwise
theorem nt2_eq (x : FVec Ideal S4096x1024 .f32) (w : FVec Ideal S2048x1024 .f32) :
    Host.dotGeneral dot_S4096x1024_S2048x1024_S4096x2048_1_1_0_0_n_n none x w = nt (M := 4096) (K := 1024) (N := 2048) x w := by
  funext i; obtain ⟨r, n, rfl⟩ := exists_ix2 (M := 4096) (N := 2048) i; rw [nt_apply]; pointwise
/-! A weight's gradient has its factors the other way round and is transposed. -/
theorem tn_eq (g : FVec Ideal S4096x1024 .f32) (x : FVec Ideal S4096x1024 .f32) :
    transpose S1024x1024 [1, 0] (Host.dotGeneral dot_S4096x1024_S4096x1024_S1024x1024_0_0_1_1_n_n none g x) transposes_S1024x1024_S1024x1024_1_0
      = tn (M := 1024) (K := 4096) (N := 1024) x g := by
  funext i; obtain ⟨r, n, rfl⟩ := exists_ix2 (M := 1024) (N := 1024) i; rw [← tn_comm, tn_apply]; pointwise
theorem tn2_eq (g : FVec Ideal S4096x1024 .f32) (x : FVec Ideal S4096x2048 .f32) :
    transpose S2048x1024 [1, 0] (Host.dotGeneral dot_S4096x1024_S4096x2048_S1024x2048_0_0_1_1_n_n none g x) transposes_S1024x2048_S2048x1024_1_0
      = tn (M := 2048) (K := 4096) (N := 1024) x g := by
  funext i; obtain ⟨r, n, rfl⟩ := exists_ix2 (M := 2048) (N := 1024) i; rw [← tn_comm, tn_apply]; pointwise

/-- The matrix of ones. -/
abbrev ones : FVec Ideal S4096x1024 .f32 := broadcastInDim S4096x1024 ![] bcast_S_S4096x1024 (constant S_ .f32 0x3F800000#32)
/-- The gates of the logits from column `off` on, as the reference writes them. -/
abbrev gates (off : ℕ) (h : S4096x3072.Slices ![0, off] S4096x1024) (p : FVec Ideal S4096x12288 .f32) : FVec Ideal S4096x1024 .f32 :=
  Host.divf ones (addf ones (Host.exp (Host.negf (extractStridedSlice S4096x1024 ![0, off] (extractStridedSlice S4096x3072 ![0, 6144] p slices_S4096x12288_S4096x3072_0_6144) h))))

/-- A slice of columns lies within them. -/
theorem within {off : ℕ} (h : S4096x3072.Slices ![0, off] S4096x1024) : 6144 + off + 1024 ≤ 12288 := by
  have : off + 1024 ≤ 3072 := h.2 1
  omega

theorem gates_apply (off : ℕ) (h : S4096x3072.Slices ![0, off] S4096x1024) (p : FVec Ideal S4096x12288 .f32) (r : Fin 4096) (n : Fin 1024) :
    gates off h p (ix2 r n) = gate (p (ix2 r (col (6144 + off) (within h) n))) := by
  have e : extractStridedSlice S4096x1024 ![0, off] (extractStridedSlice S4096x3072 ![0, 6144] p slices_S4096x12288_S4096x3072_0_6144) h (ix2 r n)
      = p (ix2 r (col (6144 + off) (within h) n)) := by
    refine (ValueIdx.slice2_axis1_eq off _ h r n).trans ((ValueIdx.slice2_axis1_eq 6144 p slices_S4096x12288_S4096x3072_0_6144 r _).trans ?_)
    exact congrArg (fun k => p (ix2 r k)) (Fin.ext (by show 6144 + (off + n.val) = 6144 + off + n.val; omega))
  rw [← e]
  unfold gates
  generalize extractStridedSlice S4096x1024 ![0, off] (extractStridedSlice S4096x3072 ![0, 6144] p slices_S4096x12288_S4096x3072_0_6144) h = y
  pointwise [gate]
  rw [zero_sub]

/-- The merge. -/
theorem merged_eq (p : FVec Ideal S4096x12288 .f32) (t0 t1 t2 : FVec Ideal S4096x1024 .f32) :
    addf (addf (mulf (gates 0 slices_S4096x3072_S4096x1024_0_0 p) t0) (mulf (gates 1024 slices_S4096x3072_S4096x1024_0_1024 p) t1))
      (mulf (gates 2048 slices_S4096x3072_S4096x1024_0_2048 p) t2) = merge (M := 4096) 6144 (by decide) p t0 t1 t2 := by
  funext i; obtain ⟨r, n, rfl⟩ := exists_ix2 (M := 4096) (N := 1024) i
  exact congrArg₂ (· + ·) (congrArg₂ (· + ·) (congrArg (· * t0 (ix2 r n)) (gates_apply 0 _ p r n)) (congrArg (· * t1 (ix2 r n)) (gates_apply 1024 _ p r n)))
    (congrArg (· * t2 (ix2 r n)) (gates_apply 2048 _ p r n))

/-- The cotangent of a part. -/
theorem gated_eq (off : ℕ) (h : S4096x3072.Slices ![0, off] S4096x1024) (p : FVec Ideal S4096x12288 .f32) (g : FVec Ideal S4096x1024 .f32) :
    mulf (gates off h p) g = gated (M := 4096) (6144 + off) (within h) p g := by
  funext i; obtain ⟨r, n, rfl⟩ := exists_ix2 (M := 4096) (N := 1024) i
  exact (congrArg (· * g (ix2 r n)) (gates_apply off h p r n)).trans (mul_comm _ _)

/-- The cotangent of a part's logits. -/
theorem slope_eq (off : ℕ) (h : S4096x3072.Slices ![0, off] S4096x1024) (p : FVec Ideal S4096x12288 .f32) (g t : FVec Ideal S4096x1024 .f32) (r : Fin 4096)
    (n : Fin 1024) : mulf (mulf g t) (mulf (gates off h p) (subf ones (gates off h p))) (ix2 r n)
      = slope (g (ix2 r n)) (t (ix2 r n)) (p (ix2 r (col (6144 + off) (within h) n))) := by
  unfold Cert.MixKernelIdeal.MixGate.slope
  rw [← gates_apply off h p r n]
  generalize gates off h p = s
  pointwise
  exact (mul_assoc _ _ _).symm

/-- The three side by side, at an index. -/
theorem joint_apply (X Y Z : FVec Ideal S4096x1024 .f32) (r : Fin 4096) (n : Fin 3072) :
    concatenate S4096x3072 1 [⟨S4096x1024, X⟩, ⟨S4096x1024, Y⟩, ⟨S4096x1024, Z⟩] concatenates_S4096x1024_S4096x1024_S4096x1024_S4096x3072_d1 (ix2 r n)
      = if h : n.val < 1024 then X (ix2 r ⟨n.val, h⟩) else if h' : n.val - 1024 < 1024 then Y (ix2 r ⟨n.val - 1024, h'⟩) else Z (ix2 r ⟨n.val - 2048, by omega⟩) := by
  pointwise
  simp only [Nat.sub_sub]

theorem logits_eq (p : FVec Ideal S4096x12288 .f32) (g t0 t1 t2 : FVec Ideal S4096x1024 .f32) :
    truncf .bf16 (concatenate S4096x3072 1
      [⟨S4096x1024, mulf (mulf g t0) (mulf (gates 0 slices_S4096x3072_S4096x1024_0_0 p) (subf ones (gates 0 slices_S4096x3072_S4096x1024_0_0 p)))⟩,
       ⟨S4096x1024, mulf (mulf g t1) (mulf (gates 1024 slices_S4096x3072_S4096x1024_0_1024 p) (subf ones (gates 1024 slices_S4096x3072_S4096x1024_0_1024 p)))⟩,
       ⟨S4096x1024, mulf (mulf g t2) (mulf (gates 2048 slices_S4096x3072_S4096x1024_0_2048 p) (subf ones (gates 2048 slices_S4096x3072_S4096x1024_0_2048 p)))⟩]
      concatenates_S4096x1024_S4096x1024_S4096x1024_S4096x3072_d1) bitsLt_bf16_f32 = logits (M := 4096) 6144 (by decide) p t0 t1 t2 g := by
  funext i; obtain ⟨r, n, rfl⟩ := exists_ix2 (M := 4096) (N := 3072) i
  rw [logits_apply]
  refine (joint_apply _ _ _ r n).trans ?_
  refine dite_congr rfl (fun h => ?_) fun h => dite_congr rfl (fun h' => ?_) fun h' => ?_
  · exact (slope_eq 0 _ p g t0 r _).trans (congrArg (fun k => slope _ _ (p (ix2 r k))) (Fin.ext rfl))
  · exact (slope_eq 1024 _ p g t1 r _).trans (congrArg (fun k => slope _ _ (p (ix2 r k)))
      (Fin.ext (by show 6144 + 1024 + (n.val - 1024) = 6144 + n.val; omega)))
  · exact (slope_eq 2048 _ p g t2 r _).trans (congrArg (fun k => slope _ _ (p (ix2 r k)))
      (Fin.ext (by show 6144 + 2048 + (n.val - 2048) = 6144 + n.val; omega)))

theorem ext_eq {s : Shape} (x : FVec Ideal s .bf16) : extf .f32 x bitsLt_bf16_f32 = x := rfl

end Cert.MixReferenceIdeal.MixRef

namespace Cert.MixClaim
open Idealize.ShloMosaic Idealize.ShloMosaic.TcCoe Idealize.SL.Sem Cert.Product Cert.MixReferenceIdeal.MixRef Cert.MixKernelIdeal.MixRun Cert.MixKernelIdeal.MixGate

/-- The reference runs to its end, keeps its arguments and has no semaphore. -/
theorem frame_reference : Cert.quiescent_MixReferenceIdeal (hMixReferenceIdeal := Cert.MixReferenceIdeal.Gen.facts) := by
  intro m ρ _
  exact (θ_run Cert.MixReferenceIdeal.defs _ _).mono (fun r h => ⟨fun c => (h c).2.2.2.2.2.2.2.2.2, sem_eq_zero_of_no_sems (by decide) r.2⟩) (Cert.MixReferenceIdeal.Value.run m ρ)

/-- Both programs run, and their results agree. -/
theorem algebraic : Cert.algebraic_MixKernelIdeal_MixReferenceIdeal (hMixKernelIdeal := Cert.MixKernelIdeal.Gen.facts)
    (hMixReferenceIdeal := Cert.MixReferenceIdeal.Gen.facts) := by
  intro m ρ m' ρ' _ hargs
  refine ⟨fun c => nn (merged m c) (O m c), fun c => dlogits m c, fun c => nt (D0 m c) (K0 m c), fun c => nt (D1 m c) (K1 m c), fun c => nt (D2 m c) (K2 m c), fun c => tn (Y0 m c) (D0 m c), fun c => tn (Y1 m c) (D1 m c), fun c => tn (Y2 m c) (D2 m c), fun c => tn (merged m c) (D m c), ?_, ?_⟩
  · refine (θ_run Cert.MixKernelIdeal.defs _ _).mono (fun r h c => ?_) (run_final m ρ)
    have at_ : ∀ b : Ref Cert.MixKernelIdeal.sig .tc, ¬ b.isScoped → r.2.mem ((c.tc : Thread Cert.MixKernelIdeal.nD Cert.MixKernelIdeal.τ).loc b)
      = Cert.MixKernelIdeal.Gen.W14 m ρ c b := fun b hb => h c _ (Cert.MixKernelIdeal.Gen.mem_uc b hb)
    exact ⟨(at_ _ (by decide)).trans (mix_last m ρ c),
      (at_ _ (by decide)).trans (dlogit_last m ρ c),
      (at_ _ (by decide)).trans (dY0_last m ρ c),
      (at_ _ (by decide)).trans (dY1_last m ρ c),
      (at_ _ (by decide)).trans (dY2_last m ρ c),
      (at_ _ (by decide)).trans (dK0_last m ρ c),
      (at_ _ (by decide)).trans (dK1_last m ρ c),
      (at_ _ (by decide)).trans (dK2_last m ρ c),
      (at_ _ (by decide)).trans (dO_last m ρ c),
      (at_ _ (by decide)).trans (Cert.MixKernelIdeal.Gen.W14_main_arg0 m ρ c),
      (at_ _ (by decide)).trans (Cert.MixKernelIdeal.Gen.W14_main_arg1 m ρ c),
      (at_ _ (by decide)).trans (Cert.MixKernelIdeal.Gen.W14_main_arg2 m ρ c),
      (at_ _ (by decide)).trans (Cert.MixKernelIdeal.Gen.W14_main_arg3 m ρ c),
      (at_ _ (by decide)).trans (Cert.MixKernelIdeal.Gen.W14_main_arg4 m ρ c),
      (at_ _ (by decide)).trans (Cert.MixKernelIdeal.Gen.W14_main_arg5 m ρ c),
      (at_ _ (by decide)).trans (Cert.MixKernelIdeal.Gen.W14_main_arg6 m ρ c),
      (at_ _ (by decide)).trans (Cert.MixKernelIdeal.Gen.W14_main_arg7 m ρ c),
      (at_ _ (by decide)).trans (Cert.MixKernelIdeal.Gen.W14_main_arg8 m ρ c)⟩
  · refine (θ_run Cert.MixReferenceIdeal.defs _ _).mono (fun r h c => ?_) (Cert.MixReferenceIdeal.Value.run m' ρ')
    obtain ⟨e0, e1, e2, e3, e4, e5, e6, e7, e8⟩ := hargs c
    obtain ⟨h0, h1, h2, h3, h4, h5, h6, h7, h8, rest⟩ := h c
    simp only [ext_eq] at h0 h2 h3 h4 h5 h6 h7 h8
    rw [merged_eq, nn_eq, nn_eq, nn_eq, nn2_eq, e0, e1, e2, e3, e4, e5, e6, e7] at h0
    rw [Cert.MixReferenceIdeal.Value.res_main_v70] at h1
    simp only [ext_eq] at h1
    rw [logits_eq, nn_eq, nn_eq, nn2_eq, nt_eq, e0, e1, e2, e3, e4, e5, e6, e7, e8] at h1
    rw [gated_eq, nt_eq, nt_eq, e0, e4, e7, e8] at h2
    rw [gated_eq, nt2_eq, nt_eq, e0, e5, e7, e8] at h3
    rw [gated_eq, nt_eq, nt_eq, e0, e6, e7, e8] at h4
    rw [tn_eq, gated_eq, nt_eq, e0, e1, e7, e8] at h5
    rw [tn2_eq, gated_eq, nt_eq, e0, e2, e7, e8] at h6
    rw [tn_eq, gated_eq, nt_eq, e0, e3, e7, e8] at h7
    rw [merged_eq, tn_eq, nn_eq, nn_eq, nn2_eq, e0, e1, e2, e3, e4, e5, e6, e8] at h8
    exact ⟨h0, h1, h2, h3, h4, h5, h6, h7, h8, rest⟩

end Cert.MixClaim
end
-- ==== Proof.AdamRun.lean ====
/- What the optimiser's six calls leave in their arrays. -/
module

public import proofs.«01_k».proof.Proof.Gen.AdamKernelIdeal
public import proofs.«01_k».proof.Proof.Gen.AdamKernelIdeal.Skeleton
public import proofs.«01_k».proof.Proof.Gen.AdamKernelIdeal.Launch
public import proofs.«01_k».proof.Proof.Gen.AdamKernelIdeal.Points
public import proofs.«01_k».proof.Proof.Gen.AdamKernelIdeal.Frame
public import proofs.«01_k».proof.Proof.Product
public import Idealize.ShloMosaic.Lib.Pipeline.ValueKit
public import Idealize.ShloMosaic.Lib.Pipeline.ReadBack

@[expose] public section
set_option maxRecDepth 16384
noncomputable section

namespace Cert.AdamStep
open Idealize.ShloMosaic

/-! One step for one number: the two moments and the weight's change. -/
/-- The first moment: 0.9 of the old one and 0.1 of the gradient. -/
def first1 (m g : Ideal .f32) : Ideal .f32 :=
  FloatOps.addf (FloatOps.mulf (Scalar.ofBits .f32 0x3F666666#32) m) (FloatOps.mulf (Scalar.ofBits .f32 0x3DCCCCCD#32) g)
/-- The second moment: 0.999 of the old one and 0.001 of the gradient's square. -/
def second1 (v g : Ideal .f32) : Ideal .f32 :=
  FloatOps.addf (FloatOps.mulf (Scalar.ofBits .f32 0x3F7FBE77#32) v) (FloatOps.mulf (Scalar.ofBits .f32 0x3A83126F#32) (FloatOps.mulf g g))
/-- The change: the corrected first moment over the root of the corrected second, and the weight's decay, times the rate. -/
def change1 (w m v : Ideal .f32) : Ideal .f32 :=
  FloatOps.mulf (Scalar.ofBits .f32 0xBA83126F#32) (FloatOps.addf
    (FloatOps.divf (FloatOps.divf m (Scalar.ofBits .f32 0x3F26BD02#32))
      (FloatOps.addf (FloatOps.sqrt (FloatOps.divf v (Scalar.ofBits .f32 0x3C231ACC#32))) (Scalar.ofBits .f32 0x322BCC77#32)))
    (FloatOps.mulf (Scalar.ofBits .f32 0x3C23D70A#32) w))

variable {s : Shape}
/-! The same for every entry of an array. -/
def total (p q : FVec Ideal s .f32) : FVec Ideal s .f32 := fun i => FloatOps.addf (p i) (q i)
def first (m g : FVec Ideal s .f32) : FVec Ideal s .f32 := fun i => first1 (m i) (g i)
def second (v g : FVec Ideal s .f32) : FVec Ideal s .f32 := fun i => second1 (v i) (g i)
def change (w m v g : FVec Ideal s .f32) : FVec Ideal s .f32 := fun i => change1 (w i) (first1 (m i) (g i)) (second1 (v i) (g i))

/-- The change depends on the four entries alone. -/
theorem change_congr {w w' m m' v v' g g' : Ideal .f32} (hw : w = w') (hm : m = m') (hv : v = v') (hg : g = g') :
    change1 w (first1 m g) (second1 v g) = change1 w' (first1 m' g') (second1 v' g') := by rw [hw, hm, hv, hg]

end Cert.AdamStep

namespace Cert.AdamKernelIdeal.AdamRun
open Cert.AdamKernelIdeal Cert.AdamKernelIdeal.Gen Cert.Product Cert.AdamStep Idealize.ShloMosaic Idealize.ShloMosaic.TcCoe Idealize.SL.Sem
variable (V : (c : Dev nD) → (b : Ref sig .tc) → Buf (Elt Ideal) ((c : Thread nD τ).loc b)) (c : Dev nD)

/-! The step of the input projection. -/
theorem in0_0 (t : Fin cfg0.N) (y : S64x3080.Idx) : iblk0 V c 0 t y = V c main_arg0 ((win0_4.blk t).view.emb y) := rfl
theorem in0_1 (t : Fin cfg0.N) (y : S64x3080.Idx) : iblk0 V c 1 t y = V c main_arg1 ((win0_4.blk t).view.emb y) := rfl
theorem in0_2 (t : Fin cfg0.N) (y : S64x3080.Idx) : iblk0 V c 2 t y = V c main_arg2 ((win0_4.blk t).view.emb y) := rfl
theorem in0_3 (t : Fin cfg0.N) (y : S64x3080.Idx) : iblk0 V c 3 t y = V c main_arg3 ((win0_4.blk t).view.emb y) := rfl
theorem arr0_4 : (dat0 V c).arrAt 4 cfg0.N = V c main_arg3 := by
  refine (dat0 V c).arrAt_eq_of_covers 4 _ (by decide +kernel) fun t hf y => ?_
  blk_simp
  rw [after0_4, out0_4, View.canon_unit_zero origin, View.ld_unit_zero origin]
  exact in0_3 V c t y
theorem arr0_5 : (dat0 V c).arrAt 5 cfg0.N = change (V c main_arg0) (V c main_arg1) (V c main_arg2) (V c main_arg3) := by
  refine (dat0 V c).arrAt_eq_of_covers 5 _ (by decide +kernel) fun t hf y => ?_
  blk_simp
  rw [after0_5, out0_5, View.canon_unit_zero origin, View.ld_unit_zero origin, View.ld_unit_zero origin, View.ld_unit_zero origin, View.ld_unit_zero origin]
  exact change_congr (in0_0 V c t y) (in0_1 V c t y) (in0_2 V c t y) (in0_3 V c t y)
theorem arr0_6 : (dat0 V c).arrAt 6 cfg0.N = first (V c main_arg1) (V c main_arg3) := by
  refine (dat0 V c).arrAt_eq_of_covers 6 _ (by decide +kernel) fun t hf y => ?_
  blk_simp
  rw [after0_6, out0_6, View.canon_unit_zero origin, View.ld_unit_zero origin, View.ld_unit_zero origin]
  exact congrArg₂ first1 (in0_1 V c t y) (in0_3 V c t y)
theorem arr0_7 : (dat0 V c).arrAt 7 cfg0.N = second (V c main_arg2) (V c main_arg3) := by
  refine (dat0 V c).arrAt_eq_of_covers 7 _ (by decide +kernel) fun t hf y => ?_
  blk_simp
  rw [after0_7, out0_7, View.canon_unit_zero origin, View.ld_unit_zero origin, View.ld_unit_zero origin]
  exact congrArg₂ second1 (in0_2 V c t y) (in0_3 V c t y)

/-! The step of the memory's keys and values. -/
theorem in1_0 (t : Fin cfg1.N) (y : S512x512.Idx) : iblk1 V c 0 t y = V c main_arg4 ((win1_5.blk t).view.emb y) := rfl
theorem in1_1 (t : Fin cfg1.N) (y : S512x512.Idx) : iblk1 V c 1 t y = V c main_arg5 ((win1_5.blk t).view.emb y) := rfl
theorem in1_2 (t : Fin cfg1.N) (y : S512x512.Idx) : iblk1 V c 2 t y = V c main_arg6 ((win1_5.blk t).view.emb y) := rfl
theorem in1_3 (t : Fin cfg1.N) (y : S512x512.Idx) : iblk1 V c 3 t y = V c main_arg7 ((win1_5.blk t).view.emb y) := rfl
theorem in1_4 (t : Fin cfg1.N) (y : S512x512.Idx) : iblk1 V c 4 t y = V c main_arg8 ((win1_5.blk t).view.emb y) := rfl
theorem arr1_5 : (dat1 V c).arrAt 5 cfg1.N = total (V c main_arg7) (V c main_arg8) := by
  refine (dat1 V c).arrAt_eq_of_covers 5 _ (by decide +kernel) fun t hf y => ?_
  blk_simp
  rw [after1_5, out1_5, View.canon_unit_zero origin, View.ld_unit_zero origin, View.ld_unit_zero origin]
  exact congrArg₂ FloatOps.addf (in1_3 V c t y) (in1_4 V c t y)
theorem arr1_6 : (dat1 V c).arrAt 6 cfg1.N = change (V c main_arg4) (V c main_arg5) (V c main_arg6) (total (V c main_arg7) (V c main_arg8)) := by
  refine (dat1 V c).arrAt_eq_of_covers 6 _ (by decide +kernel) fun t hf y => ?_
  blk_simp
  rw [after1_6, out1_6, View.canon_unit_zero origin, View.ld_unit_zero origin, View.ld_unit_zero origin, View.ld_unit_zero origin, View.ld_unit_zero origin, View.ld_unit_zero origin]
  exact change_congr (in1_0 V c t y) (in1_1 V c t y) (in1_2 V c t y) (congrArg₂ FloatOps.addf (in1_3 V c t y) (in1_4 V c t y))
theorem arr1_7 : (dat1 V c).arrAt 7 cfg1.N = first (V c main_arg5) (total (V c main_arg7) (V c main_arg8)) := by
  refine (dat1 V c).arrAt_eq_of_covers 7 _ (by decide +kernel) fun t hf y => ?_
  blk_simp
  rw [after1_7, out1_7, View.canon_unit_zero origin, View.ld_unit_zero origin, View.ld_unit_zero origin, View.ld_unit_zero origin]
  exact congrArg₂ first1 (in1_1 V c t y) (congrArg₂ FloatOps.addf (in1_3 V c t y) (in1_4 V c t y))
theorem arr1_8 : (dat1 V c).arrAt 8 cfg1.N = second (V c main_arg6) (total (V c main_arg7) (V c main_arg8)) := by
  refine (dat1 V c).arrAt_eq_of_covers 8 _ (by decide +kernel) fun t hf y => ?_
  blk_simp
  rw [after1_8, out1_8, View.canon_unit_zero origin, View.ld_unit_zero origin, View.ld_unit_zero origin, View.ld_unit_zero origin]
  exact congrArg₂ second1 (in1_2 V c t y) (congrArg₂ FloatOps.addf (in1_3 V c t y) (in1_4 V c t y))

/-! The step of the attention's output. -/
theorem in2_0 (t : Fin cfg2.N) (y : S256x1024.Idx) : iblk2 V c 0 t y = V c main_arg9 ((win2_5.blk t).view.emb y) := rfl
theorem in2_1 (t : Fin cfg2.N) (y : S256x1024.Idx) : iblk2 V c 1 t y = V c main_arg10 ((win2_5.blk t).view.emb y) := rfl
theorem in2_2 (t : Fin cfg2.N) (y : S256x1024.Idx) : iblk2 V c 2 t y = V c main_arg11 ((win2_5.blk t).view.emb y) := rfl
theorem in2_3 (t : Fin cfg2.N) (y : S256x1024.Idx) : iblk2 V c 3 t y = V c main_arg12 ((win2_5.blk t).view.emb y) := rfl
theorem in2_4 (t : Fin cfg2.N) (y : S256x1024.Idx) : iblk2 V c 4 t y = V c main_arg13 ((win2_5.blk t).view.emb y) := rfl
theorem arr2_5 : (dat2 V c).arrAt 5 cfg2.N = total (V c main_arg12) (V c main_arg13) := by
  refine (dat2 V c).arrAt_eq_of_covers 5 _ (by decide +kernel) fun t hf y => ?_
  blk_simp
  rw [after2_5, out2_5, View.canon_unit_zero origin, View.ld_unit_zero origin, View.ld_unit_zero origin]
  exact congrArg₂ FloatOps.addf (in2_3 V c t y) (in2_4 V c t y)
theorem arr2_6 : (dat2 V c).arrAt 6 cfg2.N = change (V c main_arg9) (V c main_arg10) (V c main_arg11) (total (V c main_arg12) (V c main_arg13)) := by
  refine (dat2 V c).arrAt_eq_of_covers 6 _ (by decide +kernel) fun t hf y => ?_
  blk_simp
  rw [after2_6, out2_6, View.canon_unit_zero origin, View.ld_unit_zero origin, View.ld_unit_zero origin, View.ld_unit_zero origin, View.ld_unit_zero origin, View.ld_unit_zero origin]
  exact change_congr (in2_0 V c t y) (in2_1 V c t y) (in2_2 V c t y) (congrArg₂ FloatOps.addf (in2_3 V c t y) (in2_4 V c t y))
theorem arr2_7 : (dat2 V c).arrAt 7 cfg2.N = first (V c main_arg10) (total (V c main_arg12) (V c main_arg13)) := by
  refine (dat2 V c).arrAt_eq_of_covers 7 _ (by decide +kernel) fun t hf y => ?_
  blk_simp
  rw [after2_7, out2_7, View.canon_unit_zero origin, View.ld_unit_zero origin, View.ld_unit_zero origin, View.ld_unit_zero origin]
  exact congrArg₂ first1 (in2_1 V c t y) (congrArg₂ FloatOps.addf (in2_3 V c t y) (in2_4 V c t y))
theorem arr2_8 : (dat2 V c).arrAt 8 cfg2.N = second (V c main_arg11) (total (V c main_arg12) (V c main_arg13)) := by
  refine (dat2 V c).arrAt_eq_of_covers 8 _ (by decide +kernel) fun t hf y => ?_
  blk_simp
  rw [after2_8, out2_8, View.canon_unit_zero origin, View.ld_unit_zero origin, View.ld_unit_zero origin, View.ld_unit_zero origin]
  exact congrArg₂ second1 (in2_2 V c t y) (congrArg₂ FloatOps.addf (in2_3 V c t y) (in2_4 V c t y))

/-! The step of the scan's output. -/
theorem in3_0 (t : Fin cfg3.N) (y : S256x1024.Idx) : iblk3 V c 0 t y = V c main_arg14 ((win3_5.blk t).view.emb y) := rfl
theorem in3_1 (t : Fin cfg3.N) (y : S256x1024.Idx) : iblk3 V c 1 t y = V c main_arg15 ((win3_5.blk t).view.emb y) := rfl
theorem in3_2 (t : Fin cfg3.N) (y : S256x1024.Idx) : iblk3 V c 2 t y = V c main_arg16 ((win3_5.blk t).view.emb y) := rfl
theorem in3_3 (t : Fin cfg3.N) (y : S256x1024.Idx) : iblk3 V c 3 t y = V c main_arg17 ((win3_5.blk t).view.emb y) := rfl
theorem in3_4 (t : Fin cfg3.N) (y : S256x1024.Idx) : iblk3 V c 4 t y = V c main_arg18 ((win3_5.blk t).view.emb y) := rfl
theorem arr3_5 : (dat3 V c).arrAt 5 cfg3.N = total (V c main_arg17) (V c main_arg18) := by
  refine (dat3 V c).arrAt_eq_of_covers 5 _ (by decide +kernel) fun t hf y => ?_
  blk_simp
  rw [after3_5, out3_5, View.canon_unit_zero origin, View.ld_unit_zero origin, View.ld_unit_zero origin]
  exact congrArg₂ FloatOps.addf (in3_3 V c t y) (in3_4 V c t y)
theorem arr3_6 : (dat3 V c).arrAt 6 cfg3.N = change (V c main_arg14) (V c main_arg15) (V c main_arg16) (total (V c main_arg17) (V c main_arg18)) := by
  refine (dat3 V c).arrAt_eq_of_covers 6 _ (by decide +kernel) fun t hf y => ?_
  blk_simp
  rw [after3_6, out3_6, View.canon_unit_zero origin, View.ld_unit_zero origin, View.ld_unit_zero origin, View.ld_unit_zero origin, View.ld_unit_zero origin, View.ld_unit_zero origin]
  exact change_congr (in3_0 V c t y) (in3_1 V c t y) (in3_2 V c t y) (congrArg₂ FloatOps.addf (in3_3 V c t y) (in3_4 V c t y))
theorem arr3_7 : (dat3 V c).arrAt 7 cfg3.N = first (V c main_arg15) (total (V c main_arg17) (V c main_arg18)) := by
  refine (dat3 V c).arrAt_eq_of_covers 7 _ (by decide +kernel) fun t hf y => ?_
  blk_simp
  rw [after3_7, out3_7, View.canon_unit_zero origin, View.ld_unit_zero origin, View.ld_unit_zero origin, View.ld_unit_zero origin]
  exact congrArg₂ first1 (in3_1 V c t y) (congrArg₂ FloatOps.addf (in3_3 V c t y) (in3_4 V c t y))
theorem arr3_8 : (dat3 V c).arrAt 8 cfg3.N = second (V c main_arg16) (total (V c main_arg17) (V c main_arg18)) := by
  refine (dat3 V c).arrAt_eq_of_covers 8 _ (by decide +kernel) fun t hf y => ?_
  blk_simp
  rw [after3_8, out3_8, View.canon_unit_zero origin, View.ld_unit_zero origin, View.ld_unit_zero origin, View.ld_unit_zero origin]
  exact congrArg₂ second1 (in3_2 V c t y) (congrArg₂ FloatOps.addf (in3_3 V c t y) (in3_4 V c t y))

/-! The step of the channel mixer. -/
theorem in4_0 (t : Fin cfg4.N) (y : S256x1024.Idx) : iblk4 V c 0 t y = V c main_arg19 ((win4_5.blk t).view.emb y) := rfl
theorem in4_1 (t : Fin cfg4.N) (y : S256x1024.Idx) : iblk4 V c 1 t y = V c main_arg20 ((win4_5.blk t).view.emb y) := rfl
theorem in4_2 (t : Fin cfg4.N) (y : S256x1024.Idx) : iblk4 V c 2 t y = V c main_arg21 ((win4_5.blk t).view.emb y) := rfl
theorem in4_3 (t : Fin cfg4.N) (y : S256x1024.Idx) : iblk4 V c 3 t y = V c main_arg22 ((win4_5.blk t).view.emb y) := rfl
theorem in4_4 (t : Fin cfg4.N) (y : S256x1024.Idx) : iblk4 V c 4 t y = V c main_arg23 ((win4_5.blk t).view.emb y) := rfl
theorem arr4_5 : (dat4 V c).arrAt 5 cfg4.N = total (V c main_arg22) (V c main_arg23) := by
  refine (dat4 V c).arrAt_eq_of_covers 5 _ (by decide +kernel) fun t hf y => ?_
  blk_simp
  rw [after4_5, out4_5, View.canon_unit_zero origin, View.ld_unit_zero origin, View.ld_unit_zero origin]
  exact congrArg₂ FloatOps.addf (in4_3 V c t y) (in4_4 V c t y)
theorem arr4_6 : (dat4 V c).arrAt 6 cfg4.N = change (V c main_arg19) (V c main_arg20) (V c main_arg21) (total (V c main_arg22) (V c main_arg23)) := by
  refine (dat4 V c).arrAt_eq_of_covers 6 _ (by decide +kernel) fun t hf y => ?_
  blk_simp
  rw [after4_6, out4_6, View.canon_unit_zero origin, View.ld_unit_zero origin, View.ld_unit_zero origin, View.ld_unit_zero origin, View.ld_unit_zero origin, View.ld_unit_zero origin]
  exact change_congr (in4_0 V c t y) (in4_1 V c t y) (in4_2 V c t y) (congrArg₂ FloatOps.addf (in4_3 V c t y) (in4_4 V c t y))
theorem arr4_7 : (dat4 V c).arrAt 7 cfg4.N = first (V c main_arg20) (total (V c main_arg22) (V c main_arg23)) := by
  refine (dat4 V c).arrAt_eq_of_covers 7 _ (by decide +kernel) fun t hf y => ?_
  blk_simp
  rw [after4_7, out4_7, View.canon_unit_zero origin, View.ld_unit_zero origin, View.ld_unit_zero origin, View.ld_unit_zero origin]
  exact congrArg₂ first1 (in4_1 V c t y) (congrArg₂ FloatOps.addf (in4_3 V c t y) (in4_4 V c t y))
theorem arr4_8 : (dat4 V c).arrAt 8 cfg4.N = second (V c main_arg21) (total (V c main_arg22) (V c main_arg23)) := by
  refine (dat4 V c).arrAt_eq_of_covers 8 _ (by decide +kernel) fun t hf y => ?_
  blk_simp
  rw [after4_8, out4_8, View.canon_unit_zero origin, View.ld_unit_zero origin, View.ld_unit_zero origin, View.ld_unit_zero origin]
  exact congrArg₂ second1 (in4_2 V c t y) (congrArg₂ FloatOps.addf (in4_3 V c t y) (in4_4 V c t y))

/-! The step of the packed small weights. -/
theorem in5_0 (t : Fin cfg5.N) (y : S184x128.Idx) : iblk5 V c 0 t y = V c main_arg24 ((win5_4.blk t).view.emb y) := rfl
theorem in5_1 (t : Fin cfg5.N) (y : S184x128.Idx) : iblk5 V c 1 t y = V c main_arg25 ((win5_4.blk t).view.emb y) := rfl
theorem in5_2 (t : Fin cfg5.N) (y : S184x128.Idx) : iblk5 V c 2 t y = V c main_arg26 ((win5_4.blk t).view.emb y) := rfl
theorem in5_3 (t : Fin cfg5.N) (y : S184x128.Idx) : iblk5 V c 3 t y = V c main_arg27 ((win5_4.blk t).view.emb y) := rfl
theorem arr5_4 : (dat5 V c).arrAt 4 cfg5.N = V c main_arg27 := by
  refine (dat5 V c).arrAt_eq_of_covers 4 _ (by decide +kernel) fun t hf y => ?_
  blk_simp
  rw [after5_4, out5_4, View.canon_unit_zero origin, View.ld_unit_zero origin]
  exact in5_3 V c t y
theorem arr5_5 : (dat5 V c).arrAt 5 cfg5.N = change (V c main_arg24) (V c main_arg25) (V c main_arg26) (V c main_arg27) := by
  refine (dat5 V c).arrAt_eq_of_covers 5 _ (by decide +kernel) fun t hf y => ?_
  blk_simp
  rw [after5_5, out5_5, View.canon_unit_zero origin, View.ld_unit_zero origin, View.ld_unit_zero origin, View.ld_unit_zero origin, View.ld_unit_zero origin]
  exact change_congr (in5_0 V c t y) (in5_1 V c t y) (in5_2 V c t y) (in5_3 V c t y)
theorem arr5_6 : (dat5 V c).arrAt 6 cfg5.N = first (V c main_arg25) (V c main_arg27) := by
  refine (dat5 V c).arrAt_eq_of_covers 6 _ (by decide +kernel) fun t hf y => ?_
  blk_simp
  rw [after5_6, out5_6, View.canon_unit_zero origin, View.ld_unit_zero origin, View.ld_unit_zero origin]
  exact congrArg₂ first1 (in5_1 V c t y) (in5_3 V c t y)
theorem arr5_7 : (dat5 V c).arrAt 7 cfg5.N = second (V c main_arg26) (V c main_arg27) := by
  refine (dat5 V c).arrAt_eq_of_covers 7 _ (by decide +kernel) fun t hf y => ?_
  blk_simp
  rw [after5_7, out5_7, View.canon_unit_zero origin, View.ld_unit_zero origin, View.ld_unit_zero origin]
  exact congrArg₂ second1 (in5_2 V c t y) (in5_3 V c t y)

end Cert.AdamKernelIdeal.AdamRun
end
-- ==== Proof.AdamClaim.lean ====
/- The optimiser's results: what the six calls leave at the end, and that the reference computes the same. -/
module

public import proofs.«01_k».proof.Defs
public import proofs.«01_k».proof.Proof.Gen.AdamReferenceIdeal
public import proofs.«01_k».proof.Proof.Gen.AdamReferenceIdeal.Run
public import proofs.«01_k».proof.Proof.AdamRun

@[expose] public section
set_option maxRecDepth 16384
noncomputable section

namespace Cert.AdamKernelIdeal.AdamRun
open Cert.AdamKernelIdeal Cert.AdamKernelIdeal.Gen Cert.AdamStep Idealize.ShloMosaic Idealize.ShloMosaic.TcCoe
open Idealize.ShloMosaic.Rounds Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg) (c : Dev nD)

local notation "𝕄" => MT nD τ sig Unit (Elt Ideal) ℕ (UR sig nD τ) ℕ

set_option backward.isDefEq.respectTransparency.types false in
/-- The six calls run to their end, and every array ends with what the last boundary holds. -/
theorem run_final : θ_run defs (onTc (τ := τ) (main (F := Ideal))) ⟨m, fun _ => 0, ρ⟩ (fun r => ∀ c : Dev nD, ∀ b ∈ Pipeline.ucRefs τ sig,
    r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

/-- The change of an array depends on its four arrays alone. -/
theorem change_eq {s : Shape} {w w' p p' v v' g g' : FVec Ideal s .f32} (hw : w = w') (hp : p = p') (hv : v = v') (hg : g = g') :
    change w p v g = change w' p' v' g' := by rw [hw, hp, hv, hg]

/-! An array that the later calls do not write is at the end what it was before them. -/
theorem kept5 (r : Ref sig .tc) (h5 : ∀ w : Fin cfg5.W, Pipeline.arrRef spec5 w = r → (cfg5.win w).isOut = false) : W6 m ρ c r = W5 m ρ c r :=
  W6_of m ρ c r h5
theorem kept4 (r : Ref sig .tc) (h4 : ∀ w : Fin cfg4.W, Pipeline.arrRef spec4 w = r → (cfg4.win w).isOut = false) (h5 : ∀ w : Fin cfg5.W, Pipeline.arrRef spec5 w = r → (cfg5.win w).isOut = false) : W6 m ρ c r = W4 m ρ c r :=
  (kept5 m ρ c r h5).trans (W5_of m ρ c r h4)
theorem kept3 (r : Ref sig .tc) (h3 : ∀ w : Fin cfg3.W, Pipeline.arrRef spec3 w = r → (cfg3.win w).isOut = false) (h4 : ∀ w : Fin cfg4.W, Pipeline.arrRef spec4 w = r → (cfg4.win w).isOut = false) (h5 : ∀ w : Fin cfg5.W, Pipeline.arrRef spec5 w = r → (cfg5.win w).isOut = false) : W6 m ρ c r = W3 m ρ c r :=
  (kept4 m ρ c r h4 h5).trans (W4_of m ρ c r h3)
theorem kept2 (r : Ref sig .tc) (h2 : ∀ w : Fin cfg2.W, Pipeline.arrRef spec2 w = r → (cfg2.win w).isOut = false) (h3 : ∀ w : Fin cfg3.W, Pipeline.arrRef spec3 w = r → (cfg3.win w).isOut = false) (h4 : ∀ w : Fin cfg4.W, Pipeline.arrRef spec4 w = r → (cfg4.win w).isOut = false) (h5 : ∀ w : Fin cfg5.W, Pipeline.arrRef spec5 w = r → (cfg5.win w).isOut = false) : W6 m ρ c r = W2 m ρ c r :=
  (kept3 m ρ c r h3 h4 h5).trans (W3_of m ρ c r h2)
theorem kept1 (r : Ref sig .tc) (h1 : ∀ w : Fin cfg1.W, Pipeline.arrRef spec1 w = r → (cfg1.win w).isOut = false) (h2 : ∀ w : Fin cfg2.W, Pipeline.arrRef spec2 w = r → (cfg2.win w).isOut = false) (h3 : ∀ w : Fin cfg3.W, Pipeline.arrRef spec3 w = r → (cfg3.win w).isOut = false) (h4 : ∀ w : Fin cfg4.W, Pipeline.arrRef spec4 w = r → (cfg4.win w).isOut = false) (h5 : ∀ w : Fin cfg5.W, Pipeline.arrRef spec5 w = r → (cfg5.win w).isOut = false) : W6 m ρ c r = W1 m ρ c r :=
  (kept2 m ρ c r h2 h3 h4 h5).trans (W2_of m ρ c r h1)

/-! The results of the input projection at the end of the run. -/
theorem last0_0 : W6 m ρ c main_v0_0 = m ((c : Thread nD τ).loc main_arg3) :=
  (kept1 m ρ c main_v0_0 (by decide +kernel) (by decide +kernel) (by decide +kernel) (by decide +kernel) (by decide +kernel)).trans ((W1_arr m ρ c 4).trans ((arr0_4 (V0 m ρ) c).trans (W0_args m ρ c main_arg3 (by decide))))
theorem last0_1 : W6 m ρ c main_v0_1 = change (s := S1024x3080) (m ((c : Thread nD τ).loc main_arg0)) (m ((c : Thread nD τ).loc main_arg1)) (m ((c : Thread nD τ).loc main_arg2)) (m ((c : Thread nD τ).loc main_arg3)) :=
  (kept1 m ρ c main_v0_1 (by decide +kernel) (by decide +kernel) (by decide +kernel) (by decide +kernel) (by decide +kernel)).trans ((W1_arr m ρ c 5).trans ((arr0_5 (V0 m ρ) c).trans (change_eq (W0_args m ρ c main_arg0 (by decide)) (W0_args m ρ c main_arg1 (by decide)) (W0_args m ρ c main_arg2 (by decide)) (W0_args m ρ c main_arg3 (by decide)))))
theorem last0_2 : W6 m ρ c main_v0_2 = first (s := S1024x3080) (m ((c : Thread nD τ).loc main_arg1)) (m ((c : Thread nD τ).loc main_arg3)) :=
  (kept1 m ρ c main_v0_2 (by decide +kernel) (by decide +kernel) (by decide +kernel) (by decide +kernel) (by decide +kernel)).trans ((W1_arr m ρ c 6).trans ((arr0_6 (V0 m ρ) c).trans (congrArg₂ first (W0_args m ρ c main_arg1 (by decide)) (W0_args m ρ c main_arg3 (by decide)))))
theorem last0_3 : W6 m ρ c main_v0_3 = second (s := S1024x3080) (m ((c : Thread nD τ).loc main_arg2)) (m ((c : Thread nD τ).loc main_arg3)) :=
  (kept1 m ρ c main_v0_3 (by decide +kernel) (by decide +kernel) (by decide +kernel) (by decide +kernel) (by decide +kernel)).trans ((W1_arr m ρ c 7).trans ((arr0_7 (V0 m ρ) c).trans (congrArg₂ second (W0_args m ρ c main_arg2 (by decide)) (W0_args m ρ c main_arg3 (by decide)))))
/-! The results of the memory's keys and values at the end of the run. -/
theorem last1_0 : W6 m ρ c main_v1_0 = total (s := S1024x512) (m ((c : Thread nD τ).loc main_arg7)) (m ((c : Thread nD τ).loc main_arg8)) :=
  (kept2 m ρ c main_v1_0 (by decide +kernel) (by decide +kernel) (by decide +kernel) (by decide +kernel)).trans ((W2_arr m ρ c 5).trans ((arr1_5 (V1 m ρ) c).trans (congrArg₂ total (W1_args m ρ c main_arg7 (by decide)) (W1_args m ρ c main_arg8 (by decide)))))
theorem last1_1 : W6 m ρ c main_v1_1 = change (s := S1024x512) (m ((c : Thread nD τ).loc main_arg4)) (m ((c : Thread nD τ).loc main_arg5)) (m ((c : Thread nD τ).loc main_arg6)) (total (m ((c : Thread nD τ).loc main_arg7)) (m ((c : Thread nD τ).loc main_arg8))) :=
  (kept2 m ρ c main_v1_1 (by decide +kernel) (by decide +kernel) (by decide +kernel) (by decide +kernel)).trans ((W2_arr m ρ c 6).trans ((arr1_6 (V1 m ρ) c).trans (change_eq (W1_args m ρ c main_arg4 (by decide)) (W1_args m ρ c main_arg5 (by decide)) (W1_args m ρ c main_arg6 (by decide)) (congrArg₂ total (W1_args m ρ c main_arg7 (by decide)) (W1_args m ρ c main_arg8 (by decide))))))
theorem last1_2 : W6 m ρ c main_v1_2 = first (s := S1024x512) (m ((c : Thread nD τ).loc main_arg5)) (total (m ((c : Thread nD τ).loc main_arg7)) (m ((c : Thread nD τ).loc main_arg8))) :=
  (kept2 m ρ c main_v1_2 (by decide +kernel) (by decide +kernel) (by decide +kernel) (by decide +kernel)).trans ((W2_arr m ρ c 7).trans ((arr1_7 (V1 m ρ) c).trans (congrArg₂ first (W1_args m ρ c main_arg5 (by decide)) (congrArg₂ total (W1_args m ρ c main_arg7 (by decide)) (W1_args m ρ c main_arg8 (by decide))))))
theorem last1_3 : W6 m ρ c main_v1_3 = second (s := S1024x512) (m ((c : Thread nD τ).loc main_arg6)) (total (m ((c : Thread nD τ).loc main_arg7)) (m ((c : Thread nD τ).loc main_arg8))) :=
  (kept2 m ρ c main_v1_3 (by decide +kernel) (by decide +kernel) (by decide +kernel) (by decide +kernel)).trans ((W2_arr m ρ c 8).trans ((arr1_8 (V1 m ρ) c).trans (congrArg₂ second (W1_args m ρ c main_arg6 (by decide)) (congrArg₂ total (W1_args m ρ c main_arg7 (by decide)) (W1_args m ρ c main_arg8 (by decide))))))
/-! The results of the attention's output at the end of the run. -/
theorem last2_0 : W6 m ρ c main_v2_0 = total (s := S256x1024) (m ((c : Thread nD τ).loc main_arg12)) (m ((c : Thread nD τ).loc main_arg13)) :=
  (kept3 m ρ c main_v2_0 (by decide +kernel) (by decide +kernel) (by decide +kernel)).trans ((W3_arr m ρ c 5).trans ((arr2_5 (V2 m ρ) c).trans (congrArg₂ total (W2_args m ρ c main_arg12 (by decide)) (W2_args m ρ c main_arg13 (by decide)))))
theorem last2_1 : W6 m ρ c main_v2_1 = change (s := S256x1024) (m ((c : Thread nD τ).loc main_arg9)) (m ((c : Thread nD τ).loc main_arg10)) (m ((c : Thread nD τ).loc main_arg11)) (total (m ((c : Thread nD τ).loc main_arg12)) (m ((c : Thread nD τ).loc main_arg13))) :=
  (kept3 m ρ c main_v2_1 (by decide +kernel) (by decide +kernel) (by decide +kernel)).trans ((W3_arr m ρ c 6).trans ((arr2_6 (V2 m ρ) c).trans (change_eq (W2_args m ρ c main_arg9 (by decide)) (W2_args m ρ c main_arg10 (by decide)) (W2_args m ρ c main_arg11 (by decide)) (congrArg₂ total (W2_args m ρ c main_arg12 (by decide)) (W2_args m ρ c main_arg13 (by decide))))))
theorem last2_2 : W6 m ρ c main_v2_2 = first (s := S256x1024) (m ((c : Thread nD τ).loc main_arg10)) (total (m ((c : Thread nD τ).loc main_arg12)) (m ((c : Thread nD τ).loc main_arg13))) :=
  (kept3 m ρ c main_v2_2 (by decide +kernel) (by decide +kernel) (by decide +kernel)).trans ((W3_arr m ρ c 7).trans ((arr2_7 (V2 m ρ) c).trans (congrArg₂ first (W2_args m ρ c main_arg10 (by decide)) (congrArg₂ total (W2_args m ρ c main_arg12 (by decide)) (W2_args m ρ c main_arg13 (by decide))))))
theorem last2_3 : W6 m ρ c main_v2_3 = second (s := S256x1024) (m ((c : Thread nD τ).loc main_arg11)) (total (m ((c : Thread nD τ).loc main_arg12)) (m ((c : Thread nD τ).loc main_arg13))) :=
  (kept3 m ρ c main_v2_3 (by decide +kernel) (by decide +kernel) (by decide +kernel)).trans ((W3_arr m ρ c 8).trans ((arr2_8 (V2 m ρ) c).trans (congrArg₂ second (W2_args m ρ c main_arg11 (by decide)) (congrArg₂ total (W2_args m ρ c main_arg12 (by decide)) (W2_args m ρ c main_arg13 (by decide))))))
/-! The results of the scan's output at the end of the run. -/
theorem last3_0 : W6 m ρ c main_v3_0 = total (s := S512x1024) (m ((c : Thread nD τ).loc main_arg17)) (m ((c : Thread nD τ).loc main_arg18)) :=
  (kept4 m ρ c main_v3_0 (by decide +kernel) (by decide +kernel)).trans ((W4_arr m ρ c 5).trans ((arr3_5 (V3 m ρ) c).trans (congrArg₂ total (W3_args m ρ c main_arg17 (by decide)) (W3_args m ρ c main_arg18 (by decide)))))
theorem last3_1 : W6 m ρ c main_v3_1 = change (s := S512x1024) (m ((c : Thread nD τ).loc main_arg14)) (m ((c : Thread nD τ).loc main_arg15)) (m ((c : Thread nD τ).loc main_arg16)) (total (m ((c : Thread nD τ).loc main_arg17)) (m ((c : Thread nD τ).loc main_arg18))) :=
  (kept4 m ρ c main_v3_1 (by decide +kernel) (by decide +kernel)).trans ((W4_arr m ρ c 6).trans ((arr3_6 (V3 m ρ) c).trans (change_eq (W3_args m ρ c main_arg14 (by decide)) (W3_args m ρ c main_arg15 (by decide)) (W3_args m ρ c main_arg16 (by decide)) (congrArg₂ total (W3_args m ρ c main_arg17 (by decide)) (W3_args m ρ c main_arg18 (by decide))))))
theorem last3_2 : W6 m ρ c main_v3_2 = first (s := S512x1024) (m ((c : Thread nD τ).loc main_arg15)) (total (m ((c : Thread nD τ).loc main_arg17)) (m ((c : Thread nD τ).loc main_arg18))) :=
  (kept4 m ρ c main_v3_2 (by decide +kernel) (by decide +kernel)).trans ((W4_arr m ρ c 7).trans ((arr3_7 (V3 m ρ) c).trans (congrArg₂ first (W3_args m ρ c main_arg15 (by decide)) (congrArg₂ total (W3_args m ρ c main_arg17 (by decide)) (W3_args m ρ c main_arg18 (by decide))))))
theorem last3_3 : W6 m ρ c main_v3_3 = second (s := S512x1024) (m ((c : Thread nD τ).loc main_arg16)) (total (m ((c : Thread nD τ).loc main_arg17)) (m ((c : Thread nD τ).loc main_arg18))) :=
  (kept4 m ρ c main_v3_3 (by decide +kernel) (by decide +kernel)).trans ((W4_arr m ρ c 8).trans ((arr3_8 (V3 m ρ) c).trans (congrArg₂ second (W3_args m ρ c main_arg16 (by decide)) (congrArg₂ total (W3_args m ρ c main_arg17 (by decide)) (W3_args m ρ c main_arg18 (by decide))))))
/-! The results of the channel mixer at the end of the run. -/
theorem last4_0 : W6 m ρ c main_v4_0 = total (s := S1024x1024) (m ((c : Thread nD τ).loc main_arg22)) (m ((c : Thread nD τ).loc main_arg23)) :=
  (kept5 m ρ c main_v4_0 (by decide +kernel)).trans ((W5_arr m ρ c 5).trans ((arr4_5 (V4 m ρ) c).trans (congrArg₂ total (W4_args m ρ c main_arg22 (by decide)) (W4_args m ρ c main_arg23 (by decide)))))
theorem last4_1 : W6 m ρ c main_v4_1 = change (s := S1024x1024) (m ((c : Thread nD τ).loc main_arg19)) (m ((c : Thread nD τ).loc main_arg20)) (m ((c : Thread nD τ).loc main_arg21)) (total (m ((c : Thread nD τ).loc main_arg22)) (m ((c : Thread nD τ).loc main_arg23))) :=
  (kept5 m ρ c main_v4_1 (by decide +kernel)).trans ((W5_arr m ρ c 6).trans ((arr4_6 (V4 m ρ) c).trans (change_eq (W4_args m ρ c main_arg19 (by decide)) (W4_args m ρ c main_arg20 (by decide)) (W4_args m ρ c main_arg21 (by decide)) (congrArg₂ total (W4_args m ρ c main_arg22 (by decide)) (W4_args m ρ c main_arg23 (by decide))))))
theorem last4_2 : W6 m ρ c main_v4_2 = first (s := S1024x1024) (m ((c : Thread nD τ).loc main_arg20)) (total (m ((c : Thread nD τ).loc main_arg22)) (m ((c : Thread nD τ).loc main_arg23))) :=
  (kept5 m ρ c main_v4_2 (by decide +kernel)).trans ((W5_arr m ρ c 7).trans ((arr4_7 (V4 m ρ) c).trans (congrArg₂ first (W4_args m ρ c main_arg20 (by decide)) (congrArg₂ total (W4_args m ρ c main_arg22 (by decide)) (W4_args m ρ c main_arg23 (by decide))))))
theorem last4_3 : W6 m ρ c main_v4_3 = second (s := S1024x1024) (m ((c : Thread nD τ).loc main_arg21)) (total (m ((c : Thread nD τ).loc main_arg22)) (m ((c : Thread nD τ).loc main_arg23))) :=
  (kept5 m ρ c main_v4_3 (by decide +kernel)).trans ((W5_arr m ρ c 8).trans ((arr4_8 (V4 m ρ) c).trans (congrArg₂ second (W4_args m ρ c main_arg21 (by decide)) (congrArg₂ total (W4_args m ρ c main_arg22 (by decide)) (W4_args m ρ c main_arg23 (by decide))))))
/-! The results of the packed small weights at the end of the run. -/
theorem last5_0 : W6 m ρ c main_v5_0 = m ((c : Thread nD τ).loc main_arg27) :=
  (W6_arr m ρ c 4).trans ((arr5_4 (V5 m ρ) c).trans (W5_args m ρ c main_arg27 (by decide)))
theorem last5_1 : W6 m ρ c main_v5_1 = change (s := S184x128) (m ((c : Thread nD τ).loc main_arg24)) (m ((c : Thread nD τ).loc main_arg25)) (m ((c : Thread nD τ).loc main_arg26)) (m ((c : Thread nD τ).loc main_arg27)) :=
  (W6_arr m ρ c 5).trans ((arr5_5 (V5 m ρ) c).trans (change_eq (W5_args m ρ c main_arg24 (by decide)) (W5_args m ρ c main_arg25 (by decide)) (W5_args m ρ c main_arg26 (by decide)) (W5_args m ρ c main_arg27 (by decide))))
theorem last5_2 : W6 m ρ c main_v5_2 = first (s := S184x128) (m ((c : Thread nD τ).loc main_arg25)) (m ((c : Thread nD τ).loc main_arg27)) :=
  (W6_arr m ρ c 6).trans ((arr5_6 (V5 m ρ) c).trans (congrArg₂ first (W5_args m ρ c main_arg25 (by decide)) (W5_args m ρ c main_arg27 (by decide))))
theorem last5_3 : W6 m ρ c main_v5_3 = second (s := S184x128) (m ((c : Thread nD τ).loc main_arg26)) (m ((c : Thread nD τ).loc main_arg27)) :=
  (W6_arr m ρ c 7).trans ((arr5_7 (V5 m ρ) c).trans (congrArg₂ second (W5_args m ρ c main_arg26 (by decide)) (W5_args m ρ c main_arg27 (by decide))))

end Cert.AdamKernelIdeal.AdamRun

namespace Cert.AdamClaim
open Idealize.ShloMosaic Idealize.ShloMosaic.TcCoe Idealize.SL.Sem Cert.AdamStep Cert.AdamKernelIdeal Cert.AdamKernelIdeal.AdamRun

/-- The reference runs to its end, keeps its arguments and has no semaphore. -/
theorem frame_reference : Cert.quiescent_AdamReferenceIdeal (hAdamReferenceIdeal := Cert.AdamReferenceIdeal.Gen.facts) := by
  intro m ρ _
  exact (θ_run Cert.AdamReferenceIdeal.defs _ _).mono (fun r h => ⟨fun c => (h c).2.2.2.2.2.2.2.2.2.2.2.2.2.2.2.2.2.2.2.2.2.2.2.2, sem_eq_zero_of_no_sems (by decide) r.2⟩) (Cert.AdamReferenceIdeal.Value.run m ρ)

set_option maxHeartbeats 2000000 in
/-- Both programs run, and their results agree. -/
theorem algebraic : Cert.algebraic_AdamKernelIdeal_AdamReferenceIdeal (hAdamKernelIdeal := Cert.AdamKernelIdeal.Gen.facts)
    (hAdamReferenceIdeal := Cert.AdamReferenceIdeal.Gen.facts) := by
  intro m ρ m' ρ' _ hargs
  refine ⟨fun c => m ((c : Thread nD τ).loc main_arg3),
    fun c => change (s := S1024x3080) (m ((c : Thread nD τ).loc main_arg0)) (m ((c : Thread nD τ).loc main_arg1)) (m ((c : Thread nD τ).loc main_arg2)) (m ((c : Thread nD τ).loc main_arg3)),
    fun c => first (s := S1024x3080) (m ((c : Thread nD τ).loc main_arg1)) (m ((c : Thread nD τ).loc main_arg3)),
    fun c => second (s := S1024x3080) (m ((c : Thread nD τ).loc main_arg2)) (m ((c : Thread nD τ).loc main_arg3)),
    fun c => total (s := S1024x512) (m ((c : Thread nD τ).loc main_arg7)) (m ((c : Thread nD τ).loc main_arg8)),
    fun c => change (s := S1024x512) (m ((c : Thread nD τ).loc main_arg4)) (m ((c : Thread nD τ).loc main_arg5)) (m ((c : Thread nD τ).loc main_arg6)) (total (m ((c : Thread nD τ).loc main_arg7)) (m ((c : Thread nD τ).loc main_arg8))),
    fun c => first (s := S1024x512) (m ((c : Thread nD τ).loc main_arg5)) (total (m ((c : Thread nD τ).loc main_arg7)) (m ((c : Thread nD τ).loc main_arg8))),
    fun c => second (s := S1024x512) (m ((c : Thread nD τ).loc main_arg6)) (total (m ((c : Thread nD τ).loc main_arg7)) (m ((c : Thread nD τ).loc main_arg8))),
    fun c => total (s := S256x1024) (m ((c : Thread nD τ).loc main_arg12)) (m ((c : Thread nD τ).loc main_arg13)),
    fun c => change (s := S256x1024) (m ((c : Thread nD τ).loc main_arg9)) (m ((c : Thread nD τ).loc main_arg10)) (m ((c : Thread nD τ).loc main_arg11)) (total (m ((c : Thread nD τ).loc main_arg12)) (m ((c : Thread nD τ).loc main_arg13))),
    fun c => first (s := S256x1024) (m ((c : Thread nD τ).loc main_arg10)) (total (m ((c : Thread nD τ).loc main_arg12)) (m ((c : Thread nD τ).loc main_arg13))),
    fun c => second (s := S256x1024) (m ((c : Thread nD τ).loc main_arg11)) (total (m ((c : Thread nD τ).loc main_arg12)) (m ((c : Thread nD τ).loc main_arg13))),
    fun c => total (s := S512x1024) (m ((c : Thread nD τ).loc main_arg17)) (m ((c : Thread nD τ).loc main_arg18)),
    fun c => change (s := S512x1024) (m ((c : Thread nD τ).loc main_arg14)) (m ((c : Thread nD τ).loc main_arg15)) (m ((c : Thread nD τ).loc main_arg16)) (total (m ((c : Thread nD τ).loc main_arg17)) (m ((c : Thread nD τ).loc main_arg18))),
    fun c => first (s := S512x1024) (m ((c : Thread nD τ).loc main_arg15)) (total (m ((c : Thread nD τ).loc main_arg17)) (m ((c : Thread nD τ).loc main_arg18))),
    fun c => second (s := S512x1024) (m ((c : Thread nD τ).loc main_arg16)) (total (m ((c : Thread nD τ).loc main_arg17)) (m ((c : Thread nD τ).loc main_arg18))),
    fun c => total (s := S1024x1024) (m ((c : Thread nD τ).loc main_arg22)) (m ((c : Thread nD τ).loc main_arg23)),
    fun c => change (s := S1024x1024) (m ((c : Thread nD τ).loc main_arg19)) (m ((c : Thread nD τ).loc main_arg20)) (m ((c : Thread nD τ).loc main_arg21)) (total (m ((c : Thread nD τ).loc main_arg22)) (m ((c : Thread nD τ).loc main_arg23))),
    fun c => first (s := S1024x1024) (m ((c : Thread nD τ).loc main_arg20)) (total (m ((c : Thread nD τ).loc main_arg22)) (m ((c : Thread nD τ).loc main_arg23))),
    fun c => second (s := S1024x1024) (m ((c : Thread nD τ).loc main_arg21)) (total (m ((c : Thread nD τ).loc main_arg22)) (m ((c : Thread nD τ).loc main_arg23))),
    fun c => m ((c : Thread nD τ).loc main_arg27),
    fun c => change (s := S184x128) (m ((c : Thread nD τ).loc main_arg24)) (m ((c : Thread nD τ).loc main_arg25)) (m ((c : Thread nD τ).loc main_arg26)) (m ((c : Thread nD τ).loc main_arg27)),
    fun c => first (s := S184x128) (m ((c : Thread nD τ).loc main_arg25)) (m ((c : Thread nD τ).loc main_arg27)),
    fun c => second (s := S184x128) (m ((c : Thread nD τ).loc main_arg26)) (m ((c : Thread nD τ).loc main_arg27)), ?_, ?_⟩
  · refine (θ_run Cert.AdamKernelIdeal.defs _ _).mono (fun r h c => ?_) (run_final m ρ)
    have at_ : ∀ b : Ref Cert.AdamKernelIdeal.sig .tc, ¬ b.isScoped → r.2.mem ((c.tc : Thread Cert.AdamKernelIdeal.nD Cert.AdamKernelIdeal.τ).loc b)
      = Cert.AdamKernelIdeal.Gen.W6 m ρ c b := fun b hb => h c _ (Cert.AdamKernelIdeal.Gen.mem_uc b hb)
    exact ⟨(at_ _ (by decide)).trans (last0_0 m ρ c),
      (at_ _ (by decide)).trans (last0_1 m ρ c),
      (at_ _ (by decide)).trans (last0_2 m ρ c),
      (at_ _ (by decide)).trans (last0_3 m ρ c),
      (at_ _ (by decide)).trans (last1_0 m ρ c),
      (at_ _ (by decide)).trans (last1_1 m ρ c),
      (at_ _ (by decide)).trans (last1_2 m ρ c),
      (at_ _ (by decide)).trans (last1_3 m ρ c),
      (at_ _ (by decide)).trans (last2_0 m ρ c),
      (at_ _ (by decide)).trans (last2_1 m ρ c),
      (at_ _ (by decide)).trans (last2_2 m ρ c),
      (at_ _ (by decide)).trans (last2_3 m ρ c),
      (at_ _ (by decide)).trans (last3_0 m ρ c),
      (at_ _ (by decide)).trans (last3_1 m ρ c),
      (at_ _ (by decide)).trans (last3_2 m ρ c),
      (at_ _ (by decide)).trans (last3_3 m ρ c),
      (at_ _ (by decide)).trans (last4_0 m ρ c),
      (at_ _ (by decide)).trans (last4_1 m ρ c),
      (at_ _ (by decide)).trans (last4_2 m ρ c),
      (at_ _ (by decide)).trans (last4_3 m ρ c),
      (at_ _ (by decide)).trans (last5_0 m ρ c),
      (at_ _ (by decide)).trans (last5_1 m ρ c),
      (at_ _ (by decide)).trans (last5_2 m ρ c),
      (at_ _ (by decide)).trans (last5_3 m ρ c),
      (at_ _ (by decide)).trans (Cert.AdamKernelIdeal.Gen.W6_main_arg0 m ρ c),
      (at_ _ (by decide)).trans (Cert.AdamKernelIdeal.Gen.W6_main_arg1 m ρ c),
      (at_ _ (by decide)).trans (Cert.AdamKernelIdeal.Gen.W6_main_arg2 m ρ c),
      (at_ _ (by decide)).trans (Cert.AdamKernelIdeal.Gen.W6_main_arg3 m ρ c),
      (at_ _ (by decide)).trans (Cert.AdamKernelIdeal.Gen.W6_main_arg4 m ρ c),
      (at_ _ (by decide)).trans (Cert.AdamKernelIdeal.Gen.W6_main_arg5 m ρ c),
      (at_ _ (by decide)).trans (Cert.AdamKernelIdeal.Gen.W6_main_arg6 m ρ c),
      (at_ _ (by decide)).trans (Cert.AdamKernelIdeal.Gen.W6_main_arg7 m ρ c),
      (at_ _ (by decide)).trans (Cert.AdamKernelIdeal.Gen.W6_main_arg8 m ρ c),
      (at_ _ (by decide)).trans (Cert.AdamKernelIdeal.Gen.W6_main_arg9 m ρ c),
      (at_ _ (by decide)).trans (Cert.AdamKernelIdeal.Gen.W6_main_arg10 m ρ c),
      (at_ _ (by decide)).trans (Cert.AdamKernelIdeal.Gen.W6_main_arg11 m ρ c),
      (at_ _ (by decide)).trans (Cert.AdamKernelIdeal.Gen.W6_main_arg12 m ρ c),
      (at_ _ (by decide)).trans (Cert.AdamKernelIdeal.Gen.W6_main_arg13 m ρ c),
      (at_ _ (by decide)).trans (Cert.AdamKernelIdeal.Gen.W6_main_arg14 m ρ c),
      (at_ _ (by decide)).trans (Cert.AdamKernelIdeal.Gen.W6_main_arg15 m ρ c),
      (at_ _ (by decide)).trans (Cert.AdamKernelIdeal.Gen.W6_main_arg16 m ρ c),
      (at_ _ (by decide)).trans (Cert.AdamKernelIdeal.Gen.W6_main_arg17 m ρ c),
      (at_ _ (by decide)).trans (Cert.AdamKernelIdeal.Gen.W6_main_arg18 m ρ c),
      (at_ _ (by decide)).trans (Cert.AdamKernelIdeal.Gen.W6_main_arg19 m ρ c),
      (at_ _ (by decide)).trans (Cert.AdamKernelIdeal.Gen.W6_main_arg20 m ρ c),
      (at_ _ (by decide)).trans (Cert.AdamKernelIdeal.Gen.W6_main_arg21 m ρ c),
      (at_ _ (by decide)).trans (Cert.AdamKernelIdeal.Gen.W6_main_arg22 m ρ c),
      (at_ _ (by decide)).trans (Cert.AdamKernelIdeal.Gen.W6_main_arg23 m ρ c),
      (at_ _ (by decide)).trans (Cert.AdamKernelIdeal.Gen.W6_main_arg24 m ρ c),
      (at_ _ (by decide)).trans (Cert.AdamKernelIdeal.Gen.W6_main_arg25 m ρ c),
      (at_ _ (by decide)).trans (Cert.AdamKernelIdeal.Gen.W6_main_arg26 m ρ c),
      (at_ _ (by decide)).trans (Cert.AdamKernelIdeal.Gen.W6_main_arg27 m ρ c)⟩
  · refine (θ_run Cert.AdamReferenceIdeal.defs _ _).mono (fun r h c => ?_) (Cert.AdamReferenceIdeal.Value.run m' ρ')
    obtain ⟨e0, e1, e2, e3, e4, e5, e6, e7, e8, e9, e10, e11, e12, e13, e14, e15, e16, e17, e18, e19, e20, e21, e22, e23, e24, e25, e26, e27⟩ := hargs c
    have t0 := h c
    have t1 := t0.2
    have t2 := t1.2
    have t3 := t2.2
    have t4 := t3.2
    have t5 := t4.2
    have t6 := t5.2
    have t7 := t6.2
    have t8 := t7.2
    have t9 := t8.2
    have t10 := t9.2
    have t11 := t10.2
    have t12 := t11.2
    have t13 := t12.2
    have t14 := t13.2
    have t15 := t14.2
    have t16 := t15.2
    have t17 := t16.2
    have t18 := t17.2
    have t19 := t18.2
    have t20 := t19.2
    have t21 := t20.2
    have t22 := t21.2
    have t23 := t22.2
    have t24 := t23.2
    exact ⟨t0.1.trans e3,
      t1.1.trans (change_eq e0 e1 e2 e3),
      t2.1.trans (congrArg₂ first e1 e3),
      t3.1.trans (congrArg₂ second e2 e3),
      t4.1.trans (congrArg₂ total e7 e8),
      t5.1.trans (change_eq e4 e5 e6 (congrArg₂ total e7 e8)),
      t6.1.trans (congrArg₂ first e5 (congrArg₂ total e7 e8)),
      t7.1.trans (congrArg₂ second e6 (congrArg₂ total e7 e8)),
      t8.1.trans (congrArg₂ total e12 e13),
      t9.1.trans (change_eq e9 e10 e11 (congrArg₂ total e12 e13)),
      t10.1.trans (congrArg₂ first e10 (congrArg₂ total e12 e13)),
      t11.1.trans (congrArg₂ second e11 (congrArg₂ total e12 e13)),
      t12.1.trans (congrArg₂ total e17 e18),
      t13.1.trans (change_eq e14 e15 e16 (congrArg₂ total e17 e18)),
      t14.1.trans (congrArg₂ first e15 (congrArg₂ total e17 e18)),
      t15.1.trans (congrArg₂ second e16 (congrArg₂ total e17 e18)),
      t16.1.trans (congrArg₂ total e22 e23),
      t17.1.trans (change_eq e19 e20 e21 (congrArg₂ total e22 e23)),
      t18.1.trans (congrArg₂ first e20 (congrArg₂ total e22 e23)),
      t19.1.trans (congrArg₂ second e21 (congrArg₂ total e22 e23)),
      t20.1.trans e27,
      t21.1.trans (change_eq e24 e25 e26 e27),
      t22.1.trans (congrArg₂ first e25 e27),
      t23.1.trans (congrArg₂ second e26 e27), t24⟩

end Cert.AdamClaim
end
-- ==== Proof.NormMath.lean ====
/- The root-mean-square norm of a row, its gradient in the kernel's form and in the reference's, and the squared-error loss. -/
module

public import proofs.«01_k».proof.Proof.Product
public import proofs.«01_k».proof.Proof.SoftmaxGrad
public import Idealize.ShloMosaic.Lib.Pipeline.ValueKit

@[expose] public section
noncomputable section
namespace Cert.NormMath
open Idealize.ShloMosaic Cert.Product

/-- The width of a row, 1024. -/
abbrev width : EReal := Ideal.ofBits .f32 0x44800000#32
/-- The constant added to the mean square. -/
abbrev small : EReal := Ideal.ofBits .f32 0x358637BD#32
/-- One half. -/
abbrev half : EReal := Ideal.ofBits .f32 0x3F000000#32

/-- A row's mean square, plus the small constant. -/
def ms (f : Fin 1024 → EReal) : EReal := Ideal.div (∑ k, f k * f k) width + small
/-- The factor which norms a row. -/
def inv (f : Fin 1024 → EReal) : EReal := Ideal.rsqrt (ms f)
/-- The gradient of a normed row `f` as the kernel forms it, where `e` is the gradient of the normed row times the gain. -/
def dx (f e : Fin 1024 → EReal) (j : Fin 1024) : EReal :=
  inv f * (e j - (f j * inv f) * Ideal.div (∑ k, e k * (f k * inv f)) width)
/-- What the derivative of the factor contributes to each entry, once. -/
def turn (f e : Fin 1024 → EReal) : EReal :=
  Ideal.div ((∑ k, f k * e k) * (Ideal.ofBits .f32 0xBF000000#32 * Ideal.div (inv f) (ms f))) width
/-- The same gradient as the reference forms it. -/
def dxRef (f e : Fin 1024 → EReal) (j : Fin 1024) : EReal := e j * inv f + f j * turn f e + turn f e * f j

theorem width_eq : width = ((1024 : ℝ) : EReal) := by simp [width, Ideal.ofBits, Ideal.ieee, -EReal.coe_mul]; norm_num
theorem half_eq : half = ((1/2 : ℝ) : EReal) := by simp [half, Ideal.ofBits, Ideal.ieee, -EReal.coe_mul]; norm_num
theorem neg_half_eq : Ideal.ofBits .f32 0xBF000000#32 = ((-(1/2) : ℝ) : EReal) := by simp [Ideal.ofBits, Ideal.ieee, -EReal.coe_mul]; norm_num
theorem small_pos : ∃ s : ℝ, 0 < s ∧ small = (s : EReal) := by
  refine ⟨8796093 * (2:ℝ) ^ (-43 : ℤ), by positivity, ?_⟩
  simp [small, Ideal.ofBits, Ideal.ieee, -EReal.coe_mul]
theorem one_eq : Ideal.ofBits .f32 0x3F800000#32 = ((1 : ℝ) : EReal) := by simp [Ideal.ofBits, Ideal.ieee, -EReal.coe_mul]; norm_num
theorem two_eq : Ideal.ofBits .f32 0x40000000#32 = ((2 : ℝ) : EReal) := by simp [Ideal.ofBits, Ideal.ieee, -EReal.coe_mul]; norm_num
theorem part_eq : Ideal.ofBits .f32 0x3A800000#32 = ((1/1024 : ℝ) : EReal) := by simp [Ideal.ofBits, Ideal.ieee, -EReal.coe_mul]; norm_num

/-- A square is not negative, also at the infinities. -/
theorem sq_nonneg (x : EReal) : 0 ≤ x * x := by
  induction x with
  | bot => simp
  | top => simp
  | coe r => rw [← EReal.coe_mul]; exact EReal.coe_nonneg.mpr (mul_self_nonneg r)

/-- The mean square with its constant is positive. -/
theorem ms_pos (f : Fin 1024 → EReal) : 0 < ms f := by
  obtain ⟨s, hs, e⟩ := small_pos
  have hn : 0 ≤ Ideal.div (∑ k, f k * f k) width := by
    rw [width_eq, SoftmaxGrad.div_coe _ (by norm_num)]
    exact mul_nonneg (Finset.sum_nonneg fun k _ => sq_nonneg (f k)) (EReal.coe_nonneg.mpr (by norm_num))
  unfold ms
  rw [e]
  exact lt_of_lt_of_le (EReal.coe_pos.mpr hs) (le_add_of_nonneg_left hn)

/-- The norming factor is a real number, not negative, and its quotient by the mean square is its cube. -/
theorem inv_real (f : Fin 1024 → EReal) : ∃ r : ℝ, 0 ≤ r ∧ inv f = (r : EReal) ∧ Ideal.div (inv f) (ms f) = ((r * r * r : ℝ) : EReal) := by
  have h := ms_pos f
  unfold inv
  generalize ms f = m at h
  induction m with
  | bot => simp at h
  | top => exact ⟨0, le_rfl, by simp [Ideal.rsqrt_top], by simp [Ideal.rsqrt_top, Ideal.div]⟩
  | coe s =>
    have hs : 0 < s := EReal.coe_pos.mp h
    have e : Ideal.rsqrt (s : EReal) = (((Real.sqrt s)⁻¹ : ℝ) : EReal) := by
      rw [Ideal.rsqrt_coe, if_neg (not_lt.mpr hs.le), if_neg hs.ne']
    refine ⟨(Real.sqrt s)⁻¹, by positivity, e, ?_⟩
    rw [e, SoftmaxGrad.div_coe _ hs.ne', ← EReal.coe_mul]
    congr 1
    rw [mul_assoc]
    congr 1
    rw [← mul_inv, Real.mul_self_sqrt hs.le]

/-- Twice the same value. -/
theorem add_same (a : EReal) : a + a = ((2 : ℝ) : EReal) * a := by
  rw [show ((2 : ℝ) : EReal) = 1 + 1 by rw [← EReal.coe_one, ← EReal.coe_add]; norm_num,
    EReal.right_distrib_of_nonneg zero_le_one zero_le_one, one_mul]

/-- The kernel's gradient of a normed row is the reference's. -/
theorem dx_eq (f e : Fin 1024 → EReal) (j : Fin 1024) : dx f e j = dxRef f e j := by
  obtain ⟨r, hr, hi, hq⟩ := inv_real f
  unfold dx dxRef turn
  rw [hq, hi, neg_half_eq, width_eq, SoftmaxGrad.div_coe _ (by norm_num), SoftmaxGrad.div_coe _ (by norm_num),
    show ∑ k, e k * (f k * (r : EReal)) = (r : EReal) * ∑ k, f k * e k by
      rw [SoftmaxGrad.mul_sum_coe _ hr]; exact Finset.sum_congr rfl fun k _ => by ac_rfl]
  generalize ∑ k, f k * e k = S
  rw [sub_eq_add_neg, SoftmaxGrad.coe_mul_add hr, add_assoc, mul_comm (e j), mul_comm (_ * _) (f j), add_same]
  congr 1
  rw [mul_neg, ← EReal.coe_mul]
  have a : (r : EReal) * (f j * (r : EReal) * ((r : EReal) * S * (((1024 : ℝ)⁻¹ : ℝ) : EReal))) = ((r * r * r * (1024 : ℝ)⁻¹ : ℝ) : EReal) * (f j * S) := by
    simp only [EReal.coe_mul]; ac_rfl
  have b : ((2 : ℝ) : EReal) * (f j * (S * ((-(1/2) * (r * r * r) : ℝ) : EReal) * (((1024 : ℝ)⁻¹ : ℝ) : EReal))) = ((2 * (-(1/2) * (r * r * r)) * (1024 : ℝ)⁻¹ : ℝ) : EReal) * (f j * S) := by
    rw [EReal.coe_mul (2 * (-(1/2) * (r * r * r))), EReal.coe_mul 2 (-(1/2) * (r * r * r))]; ac_rfl
  rw [a, b, show 2 * (-(1/2) * (r * r * r)) * (1024 : ℝ)⁻¹ = -(r * r * r * (1024 : ℝ)⁻¹) by ring, EReal.coe_neg, EReal.neg_mul]

/-- The error's share in the loss's gradient: the kernel scales once, the reference by two and by half of the width's inverse. -/
theorem scale_eq (x : EReal) : Ideal.div (half * Ideal.ofBits .f32 0x3F800000#32) width * (Ideal.ofBits .f32 0x40000000#32 * x) = x * Ideal.ofBits .f32 0x3A800000#32 := by
  rw [half_eq, one_eq, width_eq, two_eq, part_eq, SoftmaxGrad.div_coe _ (by norm_num), ← mul_assoc, ← EReal.coe_mul, ← EReal.coe_mul, ← EReal.coe_mul, mul_comm x]
  norm_num

variable {M : ℕ}

/-- A row of a matrix. -/
def rowOf (X : Mat M 1024) (i : Fin M) : Fin 1024 → EReal := fun k => X (ix2 i k)
/-- Every row normed and multiplied by the gain. -/
def normed (X : Mat M 1024) (g : Mat 1 1024) : Mat M 1024 := fun i => X (ix2 (i 0) (i 1)) * inv (rowOf X (i 0)) * g (ix2 0 (i 1))
/-- The gradient of the normed rows' input. -/
def back (X dy : Mat M 1024) (g : Mat 1 1024) : Mat M 1024 :=
  fun i => dx (rowOf X (i 0)) (fun k => dy (ix2 (i 0) k) * g (ix2 0 k)) (i 1)
/-- The gradient of the gain. -/
def gain (X dy : Mat M 1024) : Mat 1 1024 := fun i => ∑ s : Fin M, dy (ix2 s (i 1)) * (X (ix2 s (i 1)) * inv (rowOf X s))
/-- The sum of two matrices. -/
def plus (A B : Mat M 1024) : Mat M 1024 := fun i => A (ix2 (i 0) (i 1)) + B (ix2 (i 0) (i 1))
/-- The difference of two matrices. -/
def minus (A B : Mat M 1024) : Mat M 1024 := fun i => A (ix2 (i 0) (i 1)) - B (ix2 (i 0) (i 1))
/-- A matrix divided by the width of a row. -/
def share (A : Mat M 1024) : Mat M 1024 := fun i => A (ix2 (i 0) (i 1)) * Ideal.ofBits .f32 0x3A800000#32
/-- The mean square of a row of errors. -/
def meanSq (A : Mat M 1024) (s : Fin M) : EReal := Ideal.div (∑ k : Fin 1024, A (ix2 s k) * A (ix2 s k)) width
/-- Half the sum of the rows' mean square errors. -/
def loss (A : Mat M 1024) : Mat 1 128 := fun _ => half * ∑ s : Fin M, meanSq A s

theorem normed_apply (X : Mat M 1024) (g : Mat 1 1024) (r : Fin M) (n : Fin 1024) : normed X g (ix2 r n) = X (ix2 r n) * inv (rowOf X r) * g (ix2 0 n) := rfl
theorem back_apply (X dy : Mat M 1024) (g : Mat 1 1024) (r : Fin M) (n : Fin 1024) :
    back X dy g (ix2 r n) = dx (rowOf X r) (fun k => dy (ix2 r k) * g (ix2 0 k)) n := rfl
theorem gain_apply (X dy : Mat M 1024) (r : Fin 1) (n : Fin 1024) : gain X dy (ix2 r n) = ∑ s : Fin M, dy (ix2 s n) * (X (ix2 s n) * inv (rowOf X s)) := rfl
theorem plus_apply (A B : Mat M 1024) (r : Fin M) (n : Fin 1024) : plus A B (ix2 r n) = A (ix2 r n) + B (ix2 r n) := rfl
theorem minus_apply (A B : Mat M 1024) (r : Fin M) (n : Fin 1024) : minus A B (ix2 r n) = A (ix2 r n) - B (ix2 r n) := rfl
theorem share_apply (A : Mat M 1024) (r : Fin M) (n : Fin 1024) : share A (ix2 r n) = A (ix2 r n) * Ideal.ofBits .f32 0x3A800000#32 := rfl

/-- A block's row normed is the whole matrix's row normed. -/
theorem normed_block {L : ℕ} {x : Mat M 1024} {X : Mat L 1024} {g : Mat 1 1024} {r : Fin M} (R : Fin L) (n : Fin 1024)
    (h : ∀ k, x (ix2 r k) = X (ix2 R k)) : normed x g (ix2 r n) = normed X g (ix2 R n) := by
  rw [normed_apply, normed_apply, h n, show rowOf x r = rowOf X R from funext h]
/-- The same of the gradient. -/
theorem back_block {L : ℕ} {x dy : Mat M 1024} {X dY : Mat L 1024} {g : Mat 1 1024} {r : Fin M} (R : Fin L) (n : Fin 1024)
    (h : ∀ k, x (ix2 r k) = X (ix2 R k)) (hd : ∀ k, dy (ix2 r k) = dY (ix2 R k)) : back x dy g (ix2 r n) = back X dY g (ix2 R n) := by
  rw [back_apply, back_apply, show rowOf x r = rowOf X R from funext h, show (fun k => dy (ix2 r k) * g (ix2 0 k)) = fun k => dY (ix2 R k) * g (ix2 0 k) from funext fun k => by rw [hd k]]

theorem back_congr {X X' dy dy' : Mat M 1024} {g g' : Mat 1 1024} (h : X = X') (hd : dy = dy') (hg : g = g') : back X dy g = back X' dy' g' := by rw [h, hd, hg]

/-- The gain's gradients of the eight blocks of 512 rows, summed. -/
theorem gain_sum {X dY : Mat 4096 1024} {x dy : Fin 8 → Mat 512 1024} (h : ∀ p (r : Fin 512) k, x p (ix2 r k) = X (ix2 ⟨p.val * 512 + r.val, by omega⟩ k))
    (hd : ∀ p (r : Fin 512) k, dy p (ix2 r k) = dY (ix2 ⟨p.val * 512 + r.val, by omega⟩ k)) (i : Fin 1) (n : Fin 1024) :
    ∑ p, gain (x p) (dy p) (ix2 i n) = gain X dY (ix2 i n) := by
  rw [gain_apply]
  refine Eq.trans (Finset.sum_congr rfl fun p _ => (gain_apply _ _ i n).trans (Finset.sum_congr rfl fun r _ => ?_))
    (Fin.sum_mul_add_fin (S := 8) (n := 512) (L := 4096) fun s => dY (ix2 s n) * (X (ix2 s n) * inv (rowOf X s)))
  rw [h p r n, hd p r n, show rowOf (x p) r = rowOf X ⟨p.val * 512 + r.val, by omega⟩ from funext (h p r)]
/-- The losses of the eight blocks, summed. -/
theorem loss_sum {E : Mat 4096 1024} {e : Fin 8 → Mat 512 1024} (h : ∀ p (r : Fin 512) k, e p (ix2 r k) = E (ix2 ⟨p.val * 512 + r.val, by omega⟩ k)) :
    ∑ p, half * ∑ r, meanSq (e p) r = half * ∑ s, meanSq E s := by
  rw [half_eq, ← SoftmaxGrad.mul_sum_coe _ (by norm_num)]
  refine congrArg (fun x : EReal => _ * x) (Eq.trans (Finset.sum_congr rfl fun p _ => Finset.sum_congr rfl fun r _ => ?_)
    (Fin.sum_mul_add_fin (S := 8) (n := 512) (L := 4096) fun s => meanSq E s))
  unfold meanSq
  simp only [h p r]

end Cert.NormMath
-- ==== Proof.NormRef.lean ====
/- The norms' reference, whose terms are read as the functions of NormMath.lean. -/
module

public import proofs.«01_k».proof.Proof.Gen.NormReferenceIdeal
public import proofs.«01_k».proof.Proof.Gen.NormReferenceIdeal.Run
public import proofs.«01_k».proof.Proof.NormMath

@[expose] public section
set_option maxRecDepth 16384
noncomputable section

namespace Cert.NormReferenceIdeal.NormRef
open Cert.NormReferenceIdeal Cert.NormReferenceIdeal.Gen Cert.NormReferenceIdeal.Value Cert.Product Cert.NormMath Idealize.ShloMosaic Idealize.ShloMosaic.TcCoe Idealize.SL.Sem

section Terms
variable (x dy e : FVec Ideal S4096x1024 .f32) (a b : FVec Ideal S256x1024 .f32) (g : FVec Ideal S1x1024 .f32)

/-! The terms of one norm and of its derivative, as the reference prints them. -/
def msR : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def invR : FVec Ideal S4096x1 .f32 := Host.rsqrt (msR x)
def hatR : FVec Ideal S4096x1024 .f32 := mulf x (broadcastInDim S4096x1024 ![0, 1] bcast_S4096x1_S4096x1024_0_1 (invR x))
def rowsR : FVec Ideal S4096x1024 .f32 := broadcastInDim S4096x1024 ![0, 1] bcast_S1x1024_S4096x1024_0_1 g
def turnR : FVec Ideal S4096x1024 .f32 :=
  broadcastInDim S4096x1024 ![0] bcast_S4096_S4096x1024_0 (Host.reduceAdd (Host.divf (mulf (shapeCast _ (Host.reduceAdd (mulf x e) (constant S_ .f32 0x00000000#32) reducesTo_S4096x1024_S4096_d1 h_S_) shapeCasts_S4096_S4096x1) (mulf (broadcastInDim S4096x1 ![] bcast_S_S4096x1 (constant S_ .f32 0xBF000000#32)) (Host.divf (invR x) (msR x)))) (broadcastInDim S4096x1 ![] bcast_S_S4096x1 (constant S_ .f32 0x44800000#32))) (constant S_ .f32 0x00000000#32) reducesTo_S4096x1_S4096_d1 h_S_)
def backR : FVec Ideal S4096x1024 .f32 :=
  addf (addf (mulf e (broadcastInDim S4096x1024 ![0, 1] bcast_S4096x1_S4096x1024_0_1 (invR x))) (mulf x (turnR x e))) (mulf (turnR x e) x)
def gainR : FVec Ideal S1x1024 .f32 :=
  shapeCast _ (Host.reduceAdd (mulf (hatR x) dy) (constant S_ .f32 0x00000000#32) reducesTo_S4096x1024_S1024_d0 h_S_) shapeCasts_S1024_S1x1024

theorem ms_apply (s : Fin 4096) (z : Fin 1) : msR x (ix2 s z) = ms (rowOf x s) := by
  pointwise [msR]
  rfl
theorem inv_apply (s : Fin 4096) (z : Fin 1) : invR x (ix2 s z) = inv (rowOf x s) := by
  unfold NormMath.inv
  rw [← ms_apply x s z]
  rfl
theorem hat_apply (s : Fin 4096) (n : Fin 1024) : hatR x (ix2 s n) = x (ix2 s n) * inv (rowOf x s) := by
  have h := inv_apply x s
  unfold hatR
  generalize invR x = r at h
  pointwise
  rw [h]
theorem turn_apply (s : Fin 4096) (n : Fin 1024) : turnR x e (ix2 s n) = turn (rowOf x s) (rowOf e s) := by
  have h := inv_apply x s
  have h' := ms_apply x s
  unfold turnR turn
  generalize invR x = r at h
  generalize msR x = w at h'
  pointwise
  simp only [h, h']
  exact Fin.sum_univ_one _
/-- The derivative of a norm, by the kernel's form of it. -/
theorem back_eq : backR x (mulf dy (rowsR g)) = back (M := 4096) x dy g := by
  funext i; obtain ⟨s, n, rfl⟩ := exists_ix2 (M := 4096) (N := 1024) i
  rw [back_apply, dx_eq]
  have h := inv_apply x s
  have h' := turn_apply x (mulf dy (rowsR g)) s n
  have e : rowOf (M := 4096) (mulf dy (rowsR g)) s = fun k => dy (ix2 s k) * g (ix2 0 k) := by
    funext k
    show mulf dy (rowsR g) (ix2 s k) = _
    pointwise [rowsR]
  rw [e] at h'
  unfold backR dxRef
  generalize invR x = r at h
  generalize turnR x (mulf dy (rowsR g)) = w at h'
  pointwise [rowsR]
  rw [h, h']
  rfl
theorem gain_eq : gainR x dy = gain (M := 4096) x dy := by
  funext i; obtain ⟨z, n, rfl⟩ := exists_ix2 (M := 1) (N := 1024) i
  rw [gain_apply]
  have h := fun s => hat_apply x s n
  unfold gainR
  generalize hatR x = w at h
  pointwise
  exact Finset.sum_congr rfl fun s _ => (congrArg (fun a : EReal => a * dy (ix2 s n)) (h s)).trans (mul_comm _ _)
/-- A norm. -/
theorem normed_eq : mulf (hatR x) (rowsR g) = normed (M := 4096) x g := by
  funext i; obtain ⟨s, n, rfl⟩ := exists_ix2 (M := 4096) (N := 1024) i
  rw [normed_apply]
  have h := hat_apply x s n
  generalize hatR x = w at h
  pointwise [rowsR]
  rw [h]
theorem loss_eq : broadcastInDim S1x128 ![] bcast_S_S1x128 (mulf (constant S_ .f32 0x3F000000#32) (Host.reduceAdd (Host.divf (Host.reduceAdd (mulf x x) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) = loss (M := 4096) x := by
  funext i; obtain ⟨s, n, rfl⟩ := exists_ix2 (M := 1) (N := 128) i
  unfold loss meanSq
  pointwise
theorem share_eq : mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) x) = share (M := 4096) x := by
  funext i; obtain ⟨s, n, rfl⟩ := exists_ix2 (M := 4096) (N := 1024) i
  rw [share_apply, ← scale_eq]
  pointwise
theorem plus_eq : addf x dy = plus (M := 4096) x dy := by
  funext i; obtain ⟨s, n, rfl⟩ := exists_ix2 (M := 4096) (N := 1024) i
  rfl
theorem minus_eq : subf x dy = minus (M := 4096) x dy := by
  funext i; obtain ⟨s, n, rfl⟩ := exists_ix2 (M := 4096) (N := 1024) i
  rfl

/-! The memory's norm, of 256 rows. -/
def hatM : FVec Ideal S256x1024 .f32 :=
  mulf a (broadcastInDim S256x1024 ![0, 1] bcast_S256x1_S256x1024_0_1 (Host.rsqrt (addf (Host.divf (broadcastInDim S256x1 ![0] bcast_S256_S256x1_0 (Host.reduceAdd (mulf a a) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))
theorem hatM_apply (s : Fin 256) (n : Fin 1024) : hatM a (ix2 s n) = a (ix2 s n) * inv (rowOf a s) := by
  pointwise [hatM]
  rfl
theorem normedM_eq : mulf (hatM a) (broadcastInDim S256x1024 ![0, 1] bcast_S1x1024_S256x1024_0_1 g) = normed (M := 256) a g := by
  funext i; obtain ⟨s, n, rfl⟩ := exists_ix2 (M := 256) (N := 1024) i
  rw [normed_apply]
  have h := hatM_apply a s n
  generalize hatM a = w at h
  pointwise
  rw [h]
theorem gainM_eq : shapeCast _ (Host.reduceAdd (mulf (hatM a) b) (constant S_ .f32 0x00000000#32) reducesTo_S256x1024_S1024_d0 h_S_) shapeCasts_S1024_S1x1024 = gain (M := 256) a b := by
  funext i; obtain ⟨z, n, rfl⟩ := exists_ix2 (M := 1) (N := 1024) i
  rw [gain_apply]
  have h := fun s => hatM_apply a s n
  generalize hatM a = w at h
  pointwise
  exact Finset.sum_congr rfl fun s _ => (congrArg (fun t : EReal => t * b (ix2 s n)) (h s)).trans (mul_comm _ _)
end Terms

/-! The reference's shared values over the contents `V0` of its arguments. -/
variable (V0 : Valuation τ sig (Elt Ideal))

abbrev a0 : FVec Ideal S4096x1024 .f32 := V0 (Proc.devRef .tc main_arg0)
abbrev a1 : FVec Ideal S256x1024 .f32 := V0 (Proc.devRef .tc main_arg1)
abbrev a2 : FVec Ideal S4096x1024 .f32 := V0 (Proc.devRef .tc main_arg2)
abbrev a3 : FVec Ideal S4096x1024 .f32 := V0 (Proc.devRef .tc main_arg3)
abbrev a4 : FVec Ideal S4096x1024 .f32 := V0 (Proc.devRef .tc main_arg4)
abbrev a5 : FVec Ideal S1x1024 .f32 := V0 (Proc.devRef .tc main_arg5)
abbrev a6 : FVec Ideal S1x1024 .f32 := V0 (Proc.devRef .tc main_arg6)
abbrev a7 : FVec Ideal S1x1024 .f32 := V0 (Proc.devRef .tc main_arg7)
abbrev a8 : FVec Ideal S1x1024 .f32 := V0 (Proc.devRef .tc main_arg8)
abbrev a9 : FVec Ideal S1x1024 .f32 := V0 (Proc.devRef .tc main_arg9)
abbrev a10 : FVec Ideal S4096x1024 .f32 := V0 (Proc.devRef .tc main_arg10)
abbrev a11 : FVec Ideal S4096x1024 .f32 := V0 (Proc.devRef .tc main_arg11)
abbrev a12 : FVec Ideal S256x1024 .f32 := V0 (Proc.devRef .tc main_arg12)

theorem h1_eq : res_main_v15 V0 = plus (M := 4096) (a0 V0) (normed (a2 V0) (a7 V0)) := by
  rw [← normed_eq, ← plus_eq]; rfl
theorem err_eq : res_main_v32 V0 = minus (M := 4096) (plus (plus (a0 V0) (normed (a2 V0) (a7 V0))) (normed (a3 V0) (a9 V0))) (a4 V0) := by
  rw [← h1_eq, ← normed_eq (a3 V0), ← plus_eq, ← minus_eq]; rfl
theorem dh2_eq : res_main_v129 V0 = share (M := 4096) (res_main_v32 V0) := share_eq _
theorem dh1_eq : res_main_v130 V0 = plus (M := 4096) (back (res_main_v15 V0) (a11 V0) (a8 V0)) (res_main_v129 V0) := by
  rw [← back_eq, ← plus_eq]; rfl

/-! The twelve results. -/
theorem u_eq : truncf .bf16 (mulf (res_main_v53 V0) (broadcastInDim S4096x1024 ![0, 1] bcast_S1x1024_S4096x1024_0_1 (V0 (Proc.devRef .tc main_arg5)))) bitsLt_bf16_f32 = normed (M := 4096) (a0 V0) (a5 V0) := normed_eq (a0 V0) (a5 V0)
theorem mn_eq : truncf .bf16 (mulf (res_main_v65 V0) (broadcastInDim S256x1024 ![0, 1] bcast_S1x1024_S256x1024_0_1 (V0 (Proc.devRef .tc main_arg6)))) bitsLt_bf16_f32 = normed (M := 256) (a1 V0) (a6 V0) := normedM_eq (a1 V0) (a6 V0)
theorem u2_eq : truncf .bf16 (mulf (res_main_v80 V0) (broadcastInDim S4096x1024 ![0, 1] bcast_S1x1024_S4096x1024_0_1 (V0 (Proc.devRef .tc main_arg8)))) bitsLt_bf16_f32 = normed (M := 4096) (res_main_v15 V0) (a8 V0) := normed_eq (res_main_v15 V0) (a8 V0)
theorem dff_eq : truncf .bf16 (addf (addf (mulf (res_main_v135 V0) (broadcastInDim S4096x1024 ![0, 1] bcast_S4096x1_S4096x1024_0_1 (res_main_v23 V0))) (mulf (V0 (Proc.devRef .tc main_arg3)) (res_main_v145 V0))) (mulf (res_main_v145 V0) (V0 (Proc.devRef .tc main_arg3)))) bitsLt_bf16_f32
    = back (M := 4096) (a3 V0) (res_main_v129 V0) (a9 V0) := back_eq (a3 V0) (res_main_v129 V0) (a9 V0)
theorem dmix_eq : truncf .bf16 (addf (addf (mulf (res_main_v155 V0) (broadcastInDim S4096x1024 ![0, 1] bcast_S4096x1_S4096x1024_0_1 (res_main_v7 V0))) (mulf (V0 (Proc.devRef .tc main_arg2)) (res_main_v165 V0))) (mulf (res_main_v165 V0) (V0 (Proc.devRef .tc main_arg2)))) bitsLt_bf16_f32
    = back (M := 4096) (a2 V0) (res_main_v130 V0) (a7 V0) := back_eq (a2 V0) (res_main_v130 V0) (a7 V0)
theorem gradx_eq : addf (addf (addf (mulf (res_main_v109 V0) (broadcastInDim S4096x1024 ![0, 1] bcast_S4096x1_S4096x1024_0_1 (res_main_v48 V0))) (mulf (V0 (Proc.devRef .tc main_arg0)) (res_main_v119 V0))) (mulf (res_main_v119 V0) (V0 (Proc.devRef .tc main_arg0)))) (res_main_v130 V0)
    = plus (M := 4096) (back (a0 V0) (a10 V0) (a5 V0)) (res_main_v130 V0) := by
  rw [← back_eq, ← plus_eq]; rfl
theorem dpre_eq : shapeCast _ (Host.reduceAdd (mulf (res_main_v53 V0) (V0 (Proc.devRef .tc main_arg10))) (constant S_ .f32 0x00000000#32) reducesTo_S4096x1024_S1024_d0 h_S_) shapeCasts_S1024_S1x1024 = gain (M := 4096) (a0 V0) (a10 V0) := gain_eq (a0 V0) (a10 V0)
theorem dmem_eq : shapeCast _ (Host.reduceAdd (mulf (res_main_v65 V0) (V0 (Proc.devRef .tc main_arg12))) (constant S_ .f32 0x00000000#32) reducesTo_S256x1024_S1024_d0 h_S_) shapeCasts_S1024_S1x1024 = gain (M := 256) (a1 V0) (a12 V0) := gainM_eq (a1 V0) (a12 V0)
theorem dpost_eq : shapeCast _ (Host.reduceAdd (mulf (res_main_v12 V0) (res_main_v130 V0)) (constant S_ .f32 0x00000000#32) reducesTo_S4096x1024_S1024_d0 h_S_) shapeCasts_S1024_S1x1024 = gain (M := 4096) (a2 V0) (res_main_v130 V0) := gain_eq (a2 V0) (res_main_v130 V0)
theorem dmlp_eq : shapeCast _ (Host.reduceAdd (mulf (res_main_v80 V0) (V0 (Proc.devRef .tc main_arg11))) (constant S_ .f32 0x00000000#32) reducesTo_S4096x1024_S1024_d0 h_S_) shapeCasts_S1024_S1x1024 = gain (M := 4096) (res_main_v15 V0) (a11 V0) := gain_eq (res_main_v15 V0) (a11 V0)
theorem dffn_eq : shapeCast _ (Host.reduceAdd (mulf (res_main_v28 V0) (res_main_v129 V0)) (constant S_ .f32 0x00000000#32) reducesTo_S4096x1024_S1024_d0 h_S_) shapeCasts_S1024_S1x1024 = gain (M := 4096) (a3 V0) (res_main_v129 V0) := gain_eq (a3 V0) (res_main_v129 V0)

end Cert.NormReferenceIdeal.NormRef
end
-- ==== Proof.NormBlock.lean ====
/- What one grid point of each norm call computes, read at an index. -/
module

public import proofs.«01_k».proof.Proof.Gen.NormKernelIdeal
public import proofs.«01_k».proof.Proof.Gen.NormKernelIdeal.Skeleton
public import proofs.«01_k».proof.Proof.NormMath

@[expose] public section
set_option maxRecDepth 16384
noncomputable section

namespace Cert.NormKernelIdeal.NormBlock
open Cert.NormKernelIdeal Cert.NormKernelIdeal.Gen Cert.Product Cert.NormMath Idealize.ShloMosaic Idealize.ShloMosaic.TcCoe Idealize.SL.Sem

variable (x dy z w : Vec Ideal S512x1024 .f32) (a b : Vec Ideal S256x1024 .f32) (g p : Vec Ideal S1x1024 .f32) (l : Vec Ideal S1x128 .f32)

/-! The four forward norms. -/
theorem pre (r : Fin 512) (n : Fin 1024) : k0_pay1 x g (ix2 r n) = normed x g (ix2 r n) := by
  pointwise [k0_pay1]
  rfl
theorem mem (r : Fin 256) (n : Fin 1024) : k1_pay1 a g (ix2 r n) = normed a g (ix2 r n) := by
  pointwise [k1_pay1]
  rfl
theorem post (r : Fin 512) (n : Fin 1024) : k2_pay1 x g z (ix2 r n) = z (ix2 r n) + normed x g (ix2 r n) := by
  pointwise [k2_pay1]
  exact add_comm _ _
theorem mlp (r : Fin 512) (n : Fin 1024) : k3_pay1 x g (ix2 r n) = normed x g (ix2 r n) := by
  pointwise [k3_pay1]
  rfl

/-! The loss head. -/
theorem err (r : Fin 512) (n : Fin 1024) : k4_pay2 x z g w (ix2 r n) = (z (ix2 r n) + normed x g (ix2 r n)) - w (ix2 r n) := by
  pointwise [k4_pay2]
  rfl
theorem shared (r : Fin 512) (n : Fin 1024) : k4_pay3 x z g w (ix2 r n) = k4_pay2 x z g w (ix2 r n) * Ideal.ofBits .f32 0x3A800000#32 := by
  pointwise [k4_pay3]
theorem lossStep (r : Fin 1) (n : Fin 128) : k4_pay1 (k4_pay5 l) (k4_pay6 x z g w) (ix2 r n) = l (ix2 r n) + half * ∑ s, meanSq (k4_pay2 x z g w) s := by
  unfold k4_pay6
  generalize k4_pay2 x z g w = e
  pointwise [k4_pay1, k4_pay5]
  exact congrArg (fun s : EReal => l (ix2 r n) + half * s) (Finset.sum_congr rfl fun s _ => Fin.sum_univ_one _)

/-! The backward norms. -/
theorem back5 (r : Fin 512) (n : Fin 1024) : k5_pay4 x dy g (ix2 r n) = back x dy g (ix2 r n) := by
  pointwise [k5_pay4, k5_pay1, k5_pay2, k5_pay3]
  rfl
theorem gain5 (r : Fin 1) (n : Fin 1024) : k5_pay6 x dy p (ix2 r n) = p (ix2 r n) + gain x dy (ix2 r n) := by
  pointwise [k5_pay6, k5_pay1, k5_pay2, k5_pay3]
  rfl
theorem back6 (r : Fin 512) (n : Fin 1024) : k6_pay5 x dy g z (ix2 r n) = back x dy g (ix2 r n) + z (ix2 r n) := by
  pointwise [k6_pay5, k6_pay4, k6_pay2, k6_pay3]
  rfl
theorem gain6 (r : Fin 1) (n : Fin 1024) : k6_pay1 (k6_pay7 p) (k6_pay8 x dy) (ix2 r n) = p (ix2 r n) + gain x dy (ix2 r n) := by
  pointwise [k6_pay1, k6_pay7, k6_pay8, k6_pay4, k6_pay2, k6_pay3]
  rfl
theorem back7 (r : Fin 512) (n : Fin 1024) : k7_pay4 x dy g (ix2 r n) = back x dy g (ix2 r n) := by
  pointwise [k7_pay4, k7_pay1, k7_pay2, k7_pay3]
  rfl
theorem gain7 (r : Fin 1) (n : Fin 1024) : k7_pay6 x dy p (ix2 r n) = p (ix2 r n) + gain x dy (ix2 r n) := by
  pointwise [k7_pay6, k7_pay1, k7_pay2, k7_pay3]
  rfl
theorem gain8 (r : Fin 1) (n : Fin 1024) : k8_pay5 a b p (ix2 r n) = p (ix2 r n) + gain a b (ix2 r n) := by
  pointwise [k8_pay5, k8_pay1, k8_pay2]
  rfl
theorem back9 (r : Fin 512) (n : Fin 1024) : k9_pay4 x dy g z (ix2 r n) = back x dy g (ix2 r n) + z (ix2 r n) := by
  pointwise [k9_pay4, k9_pay3, k9_pay2]
  rfl
theorem gain9 (r : Fin 1) (n : Fin 1024) : k9_pay1 (k9_pay6 p) (k9_pay7 x dy) (ix2 r n) = p (ix2 r n) + gain x dy (ix2 r n) := by
  pointwise [k9_pay1, k9_pay6, k9_pay7, k9_pay3, k9_pay2]
  rfl

end Cert.NormKernelIdeal.NormBlock
end
-- ==== Proof.NormRun.lean ====
/- What the ten norm calls leave in their arrays. -/
module

public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.NormBlock
public import Idealize.ShloMosaic.Lib.Pipeline.ValueKit
public import Idealize.ShloMosaic.Lib.Pipeline.ReadBack

@[expose] public section
set_option maxRecDepth 16384
noncomputable section

namespace Cert.NormKernelIdeal.NormRun
open Cert.NormKernelIdeal Cert.NormKernelIdeal.Gen Cert.Product Cert.NormMath Cert.NormKernelIdeal.NormBlock Idealize.ShloMosaic Idealize.ShloMosaic.TcCoe Idealize.SL.Sem
variable (V : (c : Dev nD) → (b : Ref sig .tc) → Buf (Elt Ideal) ((c : Thread nD τ).loc b)) (c : Dev nD)

/-! The norm before the mixers. -/
theorem idx0 : ∀ t : Fin cfg0.N, win0_0.index t = ![t.val, 0] ∧ win0_1.index t = ![0, 0] ∧ win0_2.index t = ![t.val, 0] :=
  (by decide +kernel : ∀ t : Fin grid0.N, _)
theorem g0 (t : Fin cfg0.N) : iblk0 V c 1 t = V c main_arg5 := by
  blk_ext! [iblk0, idx0 t]
theorem x0 (t : Fin cfg0.N) (r : Fin 512) (n : Fin 1024) : iblk0 V c 0 t (ix2 r n) = V c main_arg0 (ix2 (⟨t.val * 512 + r.val, by have lt : t.val < 8 := t.isLt; omega⟩ : Fin 4096) n) := by
  have lt : t.val < 8 := t.isLt
  blk_ext [iblk0, idx0 t]
theorem arr0 : (dat0 V c).arrAt 2 cfg0.N = normed (M := 4096) (V c main_arg0) (V c main_arg5) := by
  refine (dat0 V c).arrAt_eq_of_covers 2 _ (by decide +kernel) fun t hf y => ?_
  blk_simp
  rw [after0_2, out0_2, View.canon_unit_zero origin, View.ld_unit_zero origin, View.ld_unit_zero origin, g0]
  obtain ⟨r, n, rfl⟩ := exists_ix2 (M := 512) (N := 1024) y
  have lt : t.val < 8 := t.isLt
  have place : (win0_2.blk t).view.emb (ix2 r n) = (ix2 ⟨t.val * 512 + r.val, by omega⟩ n : S4096x1024.Idx) := by blk_ext [idx0 t]
  exact (pre _ _ r n).trans ((normed_block _ n (x0 V c t r)).trans (congrArg (normed (M := 4096) _ _) place).symm)

/-! The memory's norm: one block. -/
theorem arr1 : (dat1 V c).arrAt 2 cfg1.N = normed (M := 256) (V c main_arg1) (V c main_arg6) := by
  refine (dat1 V c).arrAt_eq_of_covers 2 _ (by decide +kernel) fun t hf y => ?_
  blk_simp
  rw [after1_2, out1_2, View.canon_unit_zero origin, View.ld_unit_zero origin, View.ld_unit_zero origin]
  have idx1 : ∀ t : Fin cfg1.N, win1_0.index t = ![0, 0] ∧ win1_1.index t = ![0, 0] ∧ win1_2.index t = ![0, 0] := (by decide +kernel : ∀ t : Fin grid1.N, _)
  have x1 : iblk1 V c 0 t = V c main_arg1 := by blk_ext! [iblk1, idx1 t]
  have g1 : iblk1 V c 1 t = V c main_arg6 := by blk_ext! [iblk1, idx1 t]
  obtain ⟨r, n, rfl⟩ := exists_ix2 (M := 256) (N := 1024) y
  have place : (win1_2.blk t).view.emb (ix2 r n) = (ix2 r n : S256x1024.Idx) := by blk_ext [idx1 t]
  rw [x1, g1]
  exact (mem _ _ r n).trans (congrArg (normed (M := 256) _ _) place).symm

/-! The norm after the mixers, over the residual. -/
theorem idx2 : ∀ t : Fin cfg2.N, win2_0.index t = ![t.val, 0] ∧ win2_1.index t = ![0, 0] ∧ win2_2.index t = ![t.val, 0] ∧ win2_3.index t = ![t.val, 0] :=
  (by decide +kernel : ∀ t : Fin grid2.N, _)
theorem g2 (t : Fin cfg2.N) : iblk2 V c 1 t = V c main_arg7 := by
  blk_ext! [iblk2, idx2 t]
theorem x2 (t : Fin cfg2.N) (r : Fin 512) (n : Fin 1024) : iblk2 V c 0 t (ix2 r n) = V c main_arg2 (ix2 (⟨t.val * 512 + r.val, by have lt : t.val < 8 := t.isLt; omega⟩ : Fin 4096) n) := by
  have lt : t.val < 8 := t.isLt
  blk_ext [iblk2, idx2 t]
theorem z2 (t : Fin cfg2.N) (r : Fin 512) (n : Fin 1024) : iblk2 V c 2 t (ix2 r n) = V c main_arg0 (ix2 (⟨t.val * 512 + r.val, by have lt : t.val < 8 := t.isLt; omega⟩ : Fin 4096) n) := by
  have lt : t.val < 8 := t.isLt
  blk_ext [iblk2, idx2 t]
theorem arr2 : (dat2 V c).arrAt 3 cfg2.N = plus (M := 4096) (V c main_arg0) (normed (V c main_arg2) (V c main_arg7)) := by
  refine (dat2 V c).arrAt_eq_of_covers 3 _ (by decide +kernel) fun t hf y => ?_
  blk_simp
  rw [after2_3, out2_3, View.canon_unit_zero origin, View.ld_unit_zero origin, View.ld_unit_zero origin, View.ld_unit_zero origin, g2]
  obtain ⟨r, n, rfl⟩ := exists_ix2 (M := 512) (N := 1024) y
  have lt : t.val < 8 := t.isLt
  have place : (win2_3.blk t).view.emb (ix2 r n) = (ix2 ⟨t.val * 512 + r.val, by omega⟩ n : S4096x1024.Idx) := by blk_ext [idx2 t]
  refine (post _ _ _ r n).trans (Eq.trans ?_ (congrArg (plus (M := 4096) _ _) place).symm)
  exact congrArg₂ (fun a b : EReal => a + b) (z2 V c t r n) (normed_block _ n (x2 V c t r))

/-! The norm before the channel mixer. -/
theorem idx3 : ∀ t : Fin cfg3.N, win3_0.index t = ![t.val, 0] ∧ win3_1.index t = ![0, 0] ∧ win3_2.index t = ![t.val, 0] :=
  (by decide +kernel : ∀ t : Fin grid3.N, _)
theorem g3 (t : Fin cfg3.N) : iblk3 V c 1 t = V c main_arg8 := by
  blk_ext! [iblk3, idx3 t]
theorem x3 (t : Fin cfg3.N) (r : Fin 512) (n : Fin 1024) : iblk3 V c 0 t (ix2 r n) = V c main_v2 (ix2 (⟨t.val * 512 + r.val, by have lt : t.val < 8 := t.isLt; omega⟩ : Fin 4096) n) := by
  have lt : t.val < 8 := t.isLt
  blk_ext [iblk3, idx3 t]
theorem arr3 : (dat3 V c).arrAt 2 cfg3.N = normed (M := 4096) (V c main_v2) (V c main_arg8) := by
  refine (dat3 V c).arrAt_eq_of_covers 2 _ (by decide +kernel) fun t hf y => ?_
  blk_simp
  rw [after3_2, out3_2, View.canon_unit_zero origin, View.ld_unit_zero origin, View.ld_unit_zero origin, g3]
  obtain ⟨r, n, rfl⟩ := exists_ix2 (M := 512) (N := 1024) y
  have lt : t.val < 8 := t.isLt
  have place : (win3_2.blk t).view.emb (ix2 r n) = (ix2 ⟨t.val * 512 + r.val, by omega⟩ n : S4096x1024.Idx) := by blk_ext [idx3 t]
  exact (mlp _ _ r n).trans ((normed_block _ n (x3 V c t r)).trans (congrArg (normed (M := 4096) _ _) place).symm)

/-! The loss head. -/
theorem idx4 : ∀ t : Fin cfg4.N, win4_0.index t = ![t.val, 0] ∧ win4_1.index t = ![0, 0] ∧ win4_2.index t = ![t.val, 0] ∧ win4_3.index t = ![t.val, 0] ∧ win4_4.index t = ![t.val, 0] ∧ win4_5.index t = ![0, 0] :=
  (by decide +kernel : ∀ t : Fin grid4.N, _)
theorem g4 (t : Fin cfg4.N) : iblk4 V c 1 t = V c main_arg9 := by
  blk_ext! [iblk4, idx4 t]
theorem x4 (t : Fin cfg4.N) (r : Fin 512) (n : Fin 1024) : iblk4 V c 0 t (ix2 r n) = V c main_arg3 (ix2 (⟨t.val * 512 + r.val, by have lt : t.val < 8 := t.isLt; omega⟩ : Fin 4096) n) := by
  have lt : t.val < 8 := t.isLt
  blk_ext [iblk4, idx4 t]
theorem z4 (t : Fin cfg4.N) (r : Fin 512) (n : Fin 1024) : iblk4 V c 2 t (ix2 r n) = V c main_v2 (ix2 (⟨t.val * 512 + r.val, by have lt : t.val < 8 := t.isLt; omega⟩ : Fin 4096) n) := by
  have lt : t.val < 8 := t.isLt
  blk_ext [iblk4, idx4 t]
theorem w4 (t : Fin cfg4.N) (r : Fin 512) (n : Fin 1024) : iblk4 V c 3 t (ix2 r n) = V c main_arg4 (ix2 (⟨t.val * 512 + r.val, by have lt : t.val < 8 := t.isLt; omega⟩ : Fin 4096) n) := by
  have lt : t.val < 8 := t.isLt
  blk_ext [iblk4, idx4 t]
/-- The error: the step's output less the target. -/
def error : Mat 4096 1024 := minus (plus (V c main_v2) (normed (V c main_arg3) (V c main_arg9))) (V c main_arg4)
/-- A point's block of the error. -/
def errBlk (t : Fin cfg4.N) : Mat 512 1024 := k4_pay2 (iblk4 V c 0 t) (iblk4 V c 2 t) (iblk4 V c 1 t) (iblk4 V c 3 t)
theorem errBlk_apply (t : Fin cfg4.N) (r : Fin 512) (n : Fin 1024) : errBlk V c t (ix2 r n) = error V c (ix2 ⟨t.val * 512 + r.val, by have lt : t.val < 8 := t.isLt; omega⟩ n) := by
  unfold errBlk
  rw [g4]
  refine (err _ _ _ _ r n).trans ?_
  exact congrArg₂ (fun a b : EReal => a - b) (congrArg₂ (fun a b : EReal => a + b) (z4 V c t r n) (normed_block _ n (x4 V c t r))) (w4 V c t r n)
theorem first4 (t : Fin cfg4.N) (h0 : t.val % 8 = 0) (y : S1x128.Idx) :
    (outsAt4 V c t.val t.isLt).2 y = k4_pay4 (F := Ideal) y + half * ∑ s, meanSq (errBlk V c t) s := by
  rw [outsAt4_A V c t h0]
  frame_open
  simp (disch := decide) only [↓ View.readCov_skip, ↓ View.readCov_cons_toLoadRect, ↓ View.readCov_fill]
  frame_out
  obtain ⟨r, n, rfl⟩ := exists_ix2 (M := 1) (N := 128) y
  exact lossStep _ _ _ _ _ r n
theorem next4 (t : Fin cfg4.N) (h0 : ¬ t.val % 8 = 0) (y : S1x128.Idx) :
    (outsAt4 V c t.val t.isLt).2 y = (outsAt4 V c (t.val - 1) (by have := t.isLt; omega)).2 y + half * ∑ s, meanSq (errBlk V c t) s := by
  rw [outsAt4_B V c t h0]
  frame_open
  simp (disch := decide) only [↓ View.readCov_skip, ↓ View.readCov_cons_toLoadRect, ↓ View.readCov_fill]
  frame_out
  obtain ⟨r, n, rfl⟩ := exists_ix2 (M := 1) (N := 128) y
  exact lossStep _ _ _ _ _ r n
theorem dx4 (t : Fin cfg4.N) (y : S512x1024.Idx) :
    (outsAt4 V c t.val t.isLt).1 y = k4_pay3 (iblk4 V c 0 t) (iblk4 V c 2 t) (iblk4 V c 1 t) (iblk4 V c 3 t) y := by
  by_cases h0 : t.val % 8 = 0
  · rw [outsAt4_A V c t h0]
    frame_open
    simp (disch := decide) only [↓ View.readCov_skip, ↓ View.readCov_cons_toLoadRect, ↓ View.readCov_fill]
    frame_out
  · rw [outsAt4_B V c t h0]
    frame_open
    simp (disch := decide) only [↓ View.readCov_skip, ↓ View.readCov_cons_toLoadRect, ↓ View.readCov_fill]
    frame_out
theorem arr4 : (dat4 V c).arrAt 4 cfg4.N = share (error V c) := by
  refine (dat4 V c).arrAt_eq_of_covers 4 _ (by decide +kernel) fun t hf y => ?_
  blk_simp
  rw [after4_4, dx4]
  obtain ⟨r, n, rfl⟩ := exists_ix2 (M := 512) (N := 1024) y
  have lt : t.val < 8 := t.isLt
  have place : (win4_4.blk t).view.emb (ix2 r n) = (ix2 ⟨t.val * 512 + r.val, by omega⟩ n : S4096x1024.Idx) := by blk_ext [idx4 t]
  refine (shared _ _ _ _ r n).trans (Eq.trans ?_ (congrArg (share (M := 4096) _) place).symm)
  exact congrArg (fun a : EReal => a * Ideal.ofBits .f32 0x3A800000#32) (errBlk_apply V c t r n)
theorem arrLoss : (dat4 V c).arrAt 5 cfg4.N = loss (error V c) := by
  refine (dat4 V c).arrAt_eq_of_after_last 5 t4_7 (by decide +kernel) _ fun y => ?_
  blk_simp
  rw [after4_5, Pipeline.eq_sum_fin_of_reset_step_apply_last (fun n h => (outsAt4 V c n h).2) 8 (k4_pay4 (F := Ideal))
    (fun p _ => half * ∑ s, meanSq (errBlk V c p) s) (first4 V c) (next4 V c) (by decide) t4_7 (by decide)]
  rw [show k4_pay4 (F := Ideal) y = 0 from Ideal.ofBits_zero .f32, zero_add]
  exact loss_sum (E := error V c) (e := fun p => errBlk V c p) (fun p r k => errBlk_apply V c p r k)

/-! Backward through the norm after the channel mixer. -/
theorem idx5 : ∀ t : Fin cfg5.N, win5_0.index t = ![t.val, 0] ∧ win5_1.index t = ![t.val, 0] ∧ win5_2.index t = ![0, 0] ∧ win5_3.index t = ![t.val, 0] ∧ win5_4.index t = ![0, 0] :=
  (by decide +kernel : ∀ t : Fin grid5.N, _)
theorem g5 (t : Fin cfg5.N) : iblk5 V c 2 t = V c main_arg9 := by
  blk_ext! [iblk5, idx5 t]
theorem x5 (t : Fin cfg5.N) (r : Fin 512) (n : Fin 1024) : iblk5 V c 0 t (ix2 r n) = V c main_arg3 (ix2 (⟨t.val * 512 + r.val, by have lt : t.val < 8 := t.isLt; omega⟩ : Fin 4096) n) := by
  have lt : t.val < 8 := t.isLt
  blk_ext [iblk5, idx5 t]
theorem d5 (t : Fin cfg5.N) (r : Fin 512) (n : Fin 1024) : iblk5 V c 1 t (ix2 r n) = V c main_v4_0 (ix2 (⟨t.val * 512 + r.val, by have lt : t.val < 8 := t.isLt; omega⟩ : Fin 4096) n) := by
  have lt : t.val < 8 := t.isLt
  blk_ext [iblk5, idx5 t]
theorem first5 (t : Fin cfg5.N) (h0 : t.val % 8 = 0) (y : S1x1024.Idx) :
    (outsAt5 V c t.val t.isLt).2 y = k5_pay5 (F := Ideal) y + gain (M := 512) (iblk5 V c 0 t) (iblk5 V c 1 t) y := by
  rw [outsAt5_A V c t h0]
  frame_open
  simp (disch := decide) only [↓ View.readCov_skip, ↓ View.readCov_cons_toLoadRect, ↓ View.readCov_fill]
  frame_out
  obtain ⟨r, n, rfl⟩ := exists_ix2 (M := 1) (N := 1024) y
  exact gain5 _ _ _ r n
theorem next5 (t : Fin cfg5.N) (h0 : ¬ t.val % 8 = 0) (y : S1x1024.Idx) :
    (outsAt5 V c t.val t.isLt).2 y = (outsAt5 V c (t.val - 1) (by have := t.isLt; omega)).2 y + gain (M := 512) (iblk5 V c 0 t) (iblk5 V c 1 t) y := by
  rw [outsAt5_B V c t h0]
  frame_open
  simp (disch := decide) only [↓ View.readCov_skip, ↓ View.readCov_cons_toLoadRect, ↓ View.readCov_fill]
  frame_out
  obtain ⟨r, n, rfl⟩ := exists_ix2 (M := 1) (N := 1024) y
  exact gain5 _ _ _ r n
theorem dx5 (t : Fin cfg5.N) (y : S512x1024.Idx) :
    (outsAt5 V c t.val t.isLt).1 y = back (M := 512) (iblk5 V c 0 t) (iblk5 V c 1 t) (V c main_arg9) y := by
  rw [← g5 V c t]
  by_cases h0 : t.val % 8 = 0
  · rw [outsAt5_A V c t h0]
    frame_open
    simp (disch := decide) only [↓ View.readCov_skip, ↓ View.readCov_cons_toLoadRect, ↓ View.readCov_fill]
    frame_out
    obtain ⟨r, n, rfl⟩ := exists_ix2 (M := 512) (N := 1024) y
    exact back5 _ _ _ r n
  · rw [outsAt5_B V c t h0]
    frame_open
    simp (disch := decide) only [↓ View.readCov_skip, ↓ View.readCov_cons_toLoadRect, ↓ View.readCov_fill]
    frame_out
    obtain ⟨r, n, rfl⟩ := exists_ix2 (M := 512) (N := 1024) y
    exact back5 _ _ _ r n
theorem arr5 : (dat5 V c).arrAt 3 cfg5.N = back (M := 4096) (V c main_arg3) (V c main_v4_0) (V c main_arg9) := by
  refine (dat5 V c).arrAt_eq_of_covers 3 _ (by decide +kernel) fun t hf y => ?_
  blk_simp
  rw [after5_3, dx5]
  obtain ⟨r, n, rfl⟩ := exists_ix2 (M := 512) (N := 1024) y
  have lt : t.val < 8 := t.isLt
  have place : (win5_3.blk t).view.emb (ix2 r n) = (ix2 ⟨t.val * 512 + r.val, by omega⟩ n : S4096x1024.Idx) := by blk_ext [idx5 t]
  exact (back_block _ n (x5 V c t r) (d5 V c t r)).trans (congrArg (back (M := 4096) _ _ _) place).symm
theorem arrGain5 : (dat5 V c).arrAt 4 cfg5.N = gain (M := 4096) (V c main_arg3) (V c main_v4_0) := by
  refine (dat5 V c).arrAt_eq_of_after_last 4 t5_7 (by decide +kernel) _ fun y => ?_
  blk_simp
  rw [after5_4, Pipeline.eq_sum_fin_of_reset_step_apply_last (fun n h => (outsAt5 V c n h).2) 8 (k5_pay5 (F := Ideal))
    (fun p => gain (M := 512) (iblk5 V c 0 p) (iblk5 V c 1 p)) (first5 V c) (next5 V c) (by decide) t5_7 (by decide)]
  rw [show k5_pay5 (F := Ideal) y = 0 from Ideal.ofBits_zero .f32, zero_add]
  obtain ⟨i, n, rfl⟩ := exists_ix2 (M := 1) (N := 1024) y
  exact gain_sum (x := fun p => iblk5 V c 0 p) (dy := fun p => iblk5 V c 1 p) (x5 V c) (d5 V c) i n

/-! Backward through the norm before the channel mixer. -/
theorem idx6 : ∀ t : Fin cfg6.N, win6_0.index t = ![t.val, 0] ∧ win6_1.index t = ![t.val, 0] ∧ win6_2.index t = ![0, 0] ∧ win6_3.index t = ![t.val, 0] ∧ win6_4.index t = ![t.val, 0] ∧ win6_5.index t = ![0, 0] :=
  (by decide +kernel : ∀ t : Fin grid6.N, _)
theorem g6 (t : Fin cfg6.N) : iblk6 V c 2 t = V c main_arg8 := by
  blk_ext! [iblk6, idx6 t]
theorem x6 (t : Fin cfg6.N) (r : Fin 512) (n : Fin 1024) : iblk6 V c 0 t (ix2 r n) = V c main_v2 (ix2 (⟨t.val * 512 + r.val, by have lt : t.val < 8 := t.isLt; omega⟩ : Fin 4096) n) := by
  have lt : t.val < 8 := t.isLt
  blk_ext [iblk6, idx6 t]
theorem d6 (t : Fin cfg6.N) (r : Fin 512) (n : Fin 1024) : iblk6 V c 1 t (ix2 r n) = V c main_arg11 (ix2 (⟨t.val * 512 + r.val, by have lt : t.val < 8 := t.isLt; omega⟩ : Fin 4096) n) := by
  have lt : t.val < 8 := t.isLt
  blk_ext [iblk6, idx6 t]
theorem z6 (t : Fin cfg6.N) (r : Fin 512) (n : Fin 1024) : iblk6 V c 3 t (ix2 r n) = V c main_v4_0 (ix2 (⟨t.val * 512 + r.val, by have lt : t.val < 8 := t.isLt; omega⟩ : Fin 4096) n) := by
  have lt : t.val < 8 := t.isLt
  blk_ext [iblk6, idx6 t]
theorem first6 (t : Fin cfg6.N) (h0 : t.val % 8 = 0) (y : S1x1024.Idx) :
    (outsAt6 V c t.val t.isLt).2 y = k6_pay6 (F := Ideal) y + gain (M := 512) (iblk6 V c 0 t) (iblk6 V c 1 t) y := by
  rw [outsAt6_A V c t h0]
  frame_open
  simp (disch := decide) only [↓ View.readCov_skip, ↓ View.readCov_cons_toLoadRect, ↓ View.readCov_fill]
  frame_out
  obtain ⟨r, n, rfl⟩ := exists_ix2 (M := 1) (N := 1024) y
  exact gain6 _ _ _ r n
theorem next6 (t : Fin cfg6.N) (h0 : ¬ t.val % 8 = 0) (y : S1x1024.Idx) :
    (outsAt6 V c t.val t.isLt).2 y = (outsAt6 V c (t.val - 1) (by have := t.isLt; omega)).2 y + gain (M := 512) (iblk6 V c 0 t) (iblk6 V c 1 t) y := by
  rw [outsAt6_B V c t h0]
  frame_open
  simp (disch := decide) only [↓ View.readCov_skip, ↓ View.readCov_cons_toLoadRect, ↓ View.readCov_fill]
  frame_out
  obtain ⟨r, n, rfl⟩ := exists_ix2 (M := 1) (N := 1024) y
  exact gain6 _ _ _ r n
theorem dx6 (t : Fin cfg6.N) (y : S512x1024.Idx) :
    (outsAt6 V c t.val t.isLt).1 y = back (M := 512) (iblk6 V c 0 t) (iblk6 V c 1 t) (V c main_arg8) y + iblk6 V c 3 t y := by
  rw [← g6 V c t]
  by_cases h0 : t.val % 8 = 0
  · rw [outsAt6_A V c t h0]
    frame_open
    simp (disch := decide) only [↓ View.readCov_skip, ↓ View.readCov_cons_toLoadRect, ↓ View.readCov_fill]
    frame_out
    obtain ⟨r, n, rfl⟩ := exists_ix2 (M := 512) (N := 1024) y
    exact back6 _ _ _ _ r n
  · rw [outsAt6_B V c t h0]
    frame_open
    simp (disch := decide) only [↓ View.readCov_skip, ↓ View.readCov_cons_toLoadRect, ↓ View.readCov_fill]
    frame_out
    obtain ⟨r, n, rfl⟩ := exists_ix2 (M := 512) (N := 1024) y
    exact back6 _ _ _ _ r n
theorem arr6 : (dat6 V c).arrAt 4 cfg6.N = plus (M := 4096) (back (V c main_v2) (V c main_arg11) (V c main_arg8)) (V c main_v4_0) := by
  refine (dat6 V c).arrAt_eq_of_covers 4 _ (by decide +kernel) fun t hf y => ?_
  blk_simp
  rw [after6_4, dx6]
  obtain ⟨r, n, rfl⟩ := exists_ix2 (M := 512) (N := 1024) y
  have lt : t.val < 8 := t.isLt
  have place : (win6_4.blk t).view.emb (ix2 r n) = (ix2 ⟨t.val * 512 + r.val, by omega⟩ n : S4096x1024.Idx) := by blk_ext [idx6 t]
  refine Eq.trans ?_ (congrArg (plus (M := 4096) _ _) place).symm
  exact congrArg₂ (fun a b : EReal => a + b) (back_block _ n (x6 V c t r) (d6 V c t r)) (z6 V c t r n)
theorem arrGain6 : (dat6 V c).arrAt 5 cfg6.N = gain (M := 4096) (V c main_v2) (V c main_arg11) := by
  refine (dat6 V c).arrAt_eq_of_after_last 5 t6_7 (by decide +kernel) _ fun y => ?_
  blk_simp
  rw [after6_5, Pipeline.eq_sum_fin_of_reset_step_apply_last (fun n h => (outsAt6 V c n h).2) 8 (k6_pay6 (F := Ideal))
    (fun p => gain (M := 512) (iblk6 V c 0 p) (iblk6 V c 1 p)) (first6 V c) (next6 V c) (by decide) t6_7 (by decide)]
  rw [show k6_pay6 (F := Ideal) y = 0 from Ideal.ofBits_zero .f32, zero_add]
  obtain ⟨i, n, rfl⟩ := exists_ix2 (M := 1) (N := 1024) y
  exact gain_sum (x := fun p => iblk6 V c 0 p) (dy := fun p => iblk6 V c 1 p) (x6 V c) (d6 V c) i n

/-! Backward through the norm after the mixers. -/
theorem idx7 : ∀ t : Fin cfg7.N, win7_0.index t = ![t.val, 0] ∧ win7_1.index t = ![t.val, 0] ∧ win7_2.index t = ![0, 0] ∧ win7_3.index t = ![t.val, 0] ∧ win7_4.index t = ![0, 0] :=
  (by decide +kernel : ∀ t : Fin grid7.N, _)
theorem g7 (t : Fin cfg7.N) : iblk7 V c 2 t = V c main_arg7 := by
  blk_ext! [iblk7, idx7 t]
theorem x7 (t : Fin cfg7.N) (r : Fin 512) (n : Fin 1024) : iblk7 V c 0 t (ix2 r n) = V c main_arg2 (ix2 (⟨t.val * 512 + r.val, by have lt : t.val < 8 := t.isLt; omega⟩ : Fin 4096) n) := by
  have lt : t.val < 8 := t.isLt
  blk_ext [iblk7, idx7 t]
theorem d7 (t : Fin cfg7.N) (r : Fin 512) (n : Fin 1024) : iblk7 V c 1 t (ix2 r n) = V c main_v6_0 (ix2 (⟨t.val * 512 + r.val, by have lt : t.val < 8 := t.isLt; omega⟩ : Fin 4096) n) := by
  have lt : t.val < 8 := t.isLt
  blk_ext [iblk7, idx7 t]
theorem first7 (t : Fin cfg7.N) (h0 : t.val % 8 = 0) (y : S1x1024.Idx) :
    (outsAt7 V c t.val t.isLt).2 y = k7_pay5 (F := Ideal) y + gain (M := 512) (iblk7 V c 0 t) (iblk7 V c 1 t) y := by
  rw [outsAt7_A V c t h0]
  frame_open
  simp (disch := decide) only [↓ View.readCov_skip, ↓ View.readCov_cons_toLoadRect, ↓ View.readCov_fill]
  frame_out
  obtain ⟨r, n, rfl⟩ := exists_ix2 (M := 1) (N := 1024) y
  exact gain7 _ _ _ r n
theorem next7 (t : Fin cfg7.N) (h0 : ¬ t.val % 8 = 0) (y : S1x1024.Idx) :
    (outsAt7 V c t.val t.isLt).2 y = (outsAt7 V c (t.val - 1) (by have := t.isLt; omega)).2 y + gain (M := 512) (iblk7 V c 0 t) (iblk7 V c 1 t) y := by
  rw [outsAt7_B V c t h0]
  frame_open
  simp (disch := decide) only [↓ View.readCov_skip, ↓ View.readCov_cons_toLoadRect, ↓ View.readCov_fill]
  frame_out
  obtain ⟨r, n, rfl⟩ := exists_ix2 (M := 1) (N := 1024) y
  exact gain7 _ _ _ r n
theorem dx7 (t : Fin cfg7.N) (y : S512x1024.Idx) :
    (outsAt7 V c t.val t.isLt).1 y = back (M := 512) (iblk7 V c 0 t) (iblk7 V c 1 t) (V c main_arg7) y := by
  rw [← g7 V c t]
  by_cases h0 : t.val % 8 = 0
  · rw [outsAt7_A V c t h0]
    frame_open
    simp (disch := decide) only [↓ View.readCov_skip, ↓ View.readCov_cons_toLoadRect, ↓ View.readCov_fill]
    frame_out
    obtain ⟨r, n, rfl⟩ := exists_ix2 (M := 512) (N := 1024) y
    exact back7 _ _ _ r n
  · rw [outsAt7_B V c t h0]
    frame_open
    simp (disch := decide) only [↓ View.readCov_skip, ↓ View.readCov_cons_toLoadRect, ↓ View.readCov_fill]
    frame_out
    obtain ⟨r, n, rfl⟩ := exists_ix2 (M := 512) (N := 1024) y
    exact back7 _ _ _ r n
theorem arr7 : (dat7 V c).arrAt 3 cfg7.N = back (M := 4096) (V c main_arg2) (V c main_v6_0) (V c main_arg7) := by
  refine (dat7 V c).arrAt_eq_of_covers 3 _ (by decide +kernel) fun t hf y => ?_
  blk_simp
  rw [after7_3, dx7]
  obtain ⟨r, n, rfl⟩ := exists_ix2 (M := 512) (N := 1024) y
  have lt : t.val < 8 := t.isLt
  have place : (win7_3.blk t).view.emb (ix2 r n) = (ix2 ⟨t.val * 512 + r.val, by omega⟩ n : S4096x1024.Idx) := by blk_ext [idx7 t]
  exact (back_block _ n (x7 V c t r) (d7 V c t r)).trans (congrArg (back (M := 4096) _ _ _) place).symm
theorem arrGain7 : (dat7 V c).arrAt 4 cfg7.N = gain (M := 4096) (V c main_arg2) (V c main_v6_0) := by
  refine (dat7 V c).arrAt_eq_of_after_last 4 t7_7 (by decide +kernel) _ fun y => ?_
  blk_simp
  rw [after7_4, Pipeline.eq_sum_fin_of_reset_step_apply_last (fun n h => (outsAt7 V c n h).2) 8 (k7_pay5 (F := Ideal))
    (fun p => gain (M := 512) (iblk7 V c 0 p) (iblk7 V c 1 p)) (first7 V c) (next7 V c) (by decide) t7_7 (by decide)]
  rw [show k7_pay5 (F := Ideal) y = 0 from Ideal.ofBits_zero .f32, zero_add]
  obtain ⟨i, n, rfl⟩ := exists_ix2 (M := 1) (N := 1024) y
  exact gain_sum (x := fun p => iblk7 V c 0 p) (dy := fun p => iblk7 V c 1 p) (x7 V c) (d7 V c) i n

/-! Backward through the memory's norm: one block, of which the step keeps the gain's gradient. -/
theorem arrGain8 : (dat8 V c).arrAt 4 cfg8.N = gain (M := 256) (V c main_arg1) (V c main_arg12) := by
  refine (dat8 V c).arrAt_eq_of_covers 4 _ (by decide +kernel) fun t hf y => ?_
  blk_simp
  rw [after8_4]
  unfold outsAt8
  frame_open
  simp (disch := decide) only [↓ View.readCov_skip, ↓ View.readCov_cons_toLoadRect, ↓ View.readCov_fill]
  frame_out
  have idx8 : ∀ t : Fin cfg8.N, win8_0.index t = ![0, 0] ∧ win8_1.index t = ![0, 0] ∧ win8_4.index t = ![0, 0] := (by decide +kernel : ∀ t : Fin grid8.N, _)
  have x8 : iblk8 V c 0 t = V c main_arg1 := by blk_ext! [iblk8, idx8 t]
  have d8 : iblk8 V c 1 t = V c main_arg12 := by blk_ext! [iblk8, idx8 t]
  obtain ⟨r, n, rfl⟩ := exists_ix2 (M := 1) (N := 1024) y
  have place : (win8_4.blk t).view.emb (ix2 r n) = (ix2 r n : S1x1024.Idx) := by blk_ext [idx8 t]
  rw [x8, d8]
  refine (gain8 _ _ _ r n).trans (Eq.trans ?_ (congrArg (gain (M := 256) _ _) place).symm)
  exact (congrArg (fun a : EReal => a + _) (Ideal.ofBits_zero .f32)).trans (zero_add _)

/-! Backward through the norm before the mixers. -/
theorem idx9 : ∀ t : Fin cfg9.N, win9_0.index t = ![t.val, 0] ∧ win9_1.index t = ![t.val, 0] ∧ win9_2.index t = ![0, 0] ∧ win9_3.index t = ![t.val, 0] ∧ win9_4.index t = ![t.val, 0] ∧ win9_5.index t = ![0, 0] :=
  (by decide +kernel : ∀ t : Fin grid9.N, _)
theorem g9 (t : Fin cfg9.N) : iblk9 V c 2 t = V c main_arg5 := by
  blk_ext! [iblk9, idx9 t]
theorem x9 (t : Fin cfg9.N) (r : Fin 512) (n : Fin 1024) : iblk9 V c 0 t (ix2 r n) = V c main_arg0 (ix2 (⟨t.val * 512 + r.val, by have lt : t.val < 8 := t.isLt; omega⟩ : Fin 4096) n) := by
  have lt : t.val < 8 := t.isLt
  blk_ext [iblk9, idx9 t]
theorem d9 (t : Fin cfg9.N) (r : Fin 512) (n : Fin 1024) : iblk9 V c 1 t (ix2 r n) = V c main_arg10 (ix2 (⟨t.val * 512 + r.val, by have lt : t.val < 8 := t.isLt; omega⟩ : Fin 4096) n) := by
  have lt : t.val < 8 := t.isLt
  blk_ext [iblk9, idx9 t]
theorem z9 (t : Fin cfg9.N) (r : Fin 512) (n : Fin 1024) : iblk9 V c 3 t (ix2 r n) = V c main_v6_0 (ix2 (⟨t.val * 512 + r.val, by have lt : t.val < 8 := t.isLt; omega⟩ : Fin 4096) n) := by
  have lt : t.val < 8 := t.isLt
  blk_ext [iblk9, idx9 t]
theorem first9 (t : Fin cfg9.N) (h0 : t.val % 8 = 0) (y : S1x1024.Idx) :
    (outsAt9 V c t.val t.isLt).2 y = k9_pay5 (F := Ideal) y + gain (M := 512) (iblk9 V c 0 t) (iblk9 V c 1 t) y := by
  rw [outsAt9_A V c t h0]
  frame_open
  simp (disch := decide) only [↓ View.readCov_skip, ↓ View.readCov_cons_toLoadRect, ↓ View.readCov_fill]
  frame_out
  obtain ⟨r, n, rfl⟩ := exists_ix2 (M := 1) (N := 1024) y
  exact gain9 _ _ _ r n
theorem next9 (t : Fin cfg9.N) (h0 : ¬ t.val % 8 = 0) (y : S1x1024.Idx) :
    (outsAt9 V c t.val t.isLt).2 y = (outsAt9 V c (t.val - 1) (by have := t.isLt; omega)).2 y + gain (M := 512) (iblk9 V c 0 t) (iblk9 V c 1 t) y := by
  rw [outsAt9_B V c t h0]
  frame_open
  simp (disch := decide) only [↓ View.readCov_skip, ↓ View.readCov_cons_toLoadRect, ↓ View.readCov_fill]
  frame_out
  obtain ⟨r, n, rfl⟩ := exists_ix2 (M := 1) (N := 1024) y
  exact gain9 _ _ _ r n
theorem dx9 (t : Fin cfg9.N) (y : S512x1024.Idx) :
    (outsAt9 V c t.val t.isLt).1 y = back (M := 512) (iblk9 V c 0 t) (iblk9 V c 1 t) (V c main_arg5) y + iblk9 V c 3 t y := by
  rw [← g9 V c t]
  by_cases h0 : t.val % 8 = 0
  · rw [outsAt9_A V c t h0]
    frame_open
    simp (disch := decide) only [↓ View.readCov_skip, ↓ View.readCov_cons_toLoadRect, ↓ View.readCov_fill]
    frame_out
    obtain ⟨r, n, rfl⟩ := exists_ix2 (M := 512) (N := 1024) y
    exact back9 _ _ _ _ r n
  · rw [outsAt9_B V c t h0]
    frame_open
    simp (disch := decide) only [↓ View.readCov_skip, ↓ View.readCov_cons_toLoadRect, ↓ View.readCov_fill]
    frame_out
    obtain ⟨r, n, rfl⟩ := exists_ix2 (M := 512) (N := 1024) y
    exact back9 _ _ _ _ r n
theorem arr9 : (dat9 V c).arrAt 4 cfg9.N = plus (M := 4096) (back (V c main_arg0) (V c main_arg10) (V c main_arg5)) (V c main_v6_0) := by
  refine (dat9 V c).arrAt_eq_of_covers 4 _ (by decide +kernel) fun t hf y => ?_
  blk_simp
  rw [after9_4, dx9]
  obtain ⟨r, n, rfl⟩ := exists_ix2 (M := 512) (N := 1024) y
  have lt : t.val < 8 := t.isLt
  have place : (win9_4.blk t).view.emb (ix2 r n) = (ix2 ⟨t.val * 512 + r.val, by omega⟩ n : S4096x1024.Idx) := by blk_ext [idx9 t]
  refine Eq.trans ?_ (congrArg (plus (M := 4096) _ _) place).symm
  exact congrArg₂ (fun a b : EReal => a + b) (back_block _ n (x9 V c t r) (d9 V c t r)) (z9 V c t r n)
theorem arrGain9 : (dat9 V c).arrAt 5 cfg9.N = gain (M := 4096) (V c main_arg0) (V c main_arg10) := by
  refine (dat9 V c).arrAt_eq_of_after_last 5 t9_7 (by decide +kernel) _ fun y => ?_
  blk_simp
  rw [after9_5, Pipeline.eq_sum_fin_of_reset_step_apply_last (fun n h => (outsAt9 V c n h).2) 8 (k9_pay5 (F := Ideal))
    (fun p => gain (M := 512) (iblk9 V c 0 p) (iblk9 V c 1 p)) (first9 V c) (next9 V c) (by decide) t9_7 (by decide)]
  rw [show k9_pay5 (F := Ideal) y = 0 from Ideal.ofBits_zero .f32, zero_add]
  obtain ⟨i, n, rfl⟩ := exists_ix2 (M := 1) (N := 1024) y
  exact gain_sum (x := fun p => iblk9 V c 0 p) (dy := fun p => iblk9 V c 1 p) (x9 V c) (d9 V c) i n

end Cert.NormKernelIdeal.NormRun
end
-- ==== Proof.NormClaim.lean ====
/- The norms' results: what the ten calls leave at the end, and that the reference computes the same. -/
module

public import proofs.«01_k».proof.Defs
public import proofs.«01_k».proof.Proof.NormRef
public import proofs.«01_k».proof.Proof.NormRun

@[expose] public section
set_option maxRecDepth 16384
noncomputable section

namespace Cert.NormKernelIdeal.NormRun
open Cert.NormKernelIdeal Cert.NormKernelIdeal.Gen Cert.Product Cert.NormMath Idealize.ShloMosaic Idealize.ShloMosaic.TcCoe
open Idealize.ShloMosaic.Rounds Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg) (c : Dev nD)

local notation "𝕄" => MT nD τ sig Unit (Elt Ideal) ℕ (UR sig nD τ) ℕ

set_option backward.isDefEq.respectTransparency.types false in
/-- The ten calls run to their end, and every array ends with what the last boundary holds. -/
theorem run_final : θ_run defs (onTc (τ := τ) (main (F := Ideal))) ⟨m, fun _ => 0, ρ⟩ (fun r => ∀ c : Dev nD, ∀ b ∈ Pipeline.ucRefs τ sig,
    r.2.mem (((c : Thread nD τ)).1, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => h)

/-! The arguments: the activations, the gains and the cotangents. -/
abbrev A0 : Mat 4096 1024 := m ((c : Thread nD τ).loc main_arg0)
abbrev A1 : Mat 256 1024 := m ((c : Thread nD τ).loc main_arg1)
abbrev A2 : Mat 4096 1024 := m ((c : Thread nD τ).loc main_arg2)
abbrev A3 : Mat 4096 1024 := m ((c : Thread nD τ).loc main_arg3)
abbrev A4 : Mat 4096 1024 := m ((c : Thread nD τ).loc main_arg4)
abbrev A5 : Mat 1 1024 := m ((c : Thread nD τ).loc main_arg5)
abbrev A6 : Mat 1 1024 := m ((c : Thread nD τ).loc main_arg6)
abbrev A7 : Mat 1 1024 := m ((c : Thread nD τ).loc main_arg7)
abbrev A8 : Mat 1 1024 := m ((c : Thread nD τ).loc main_arg8)
abbrev A9 : Mat 1 1024 := m ((c : Thread nD τ).loc main_arg9)
abbrev A10 : Mat 4096 1024 := m ((c : Thread nD τ).loc main_arg10)
abbrev A11 : Mat 4096 1024 := m ((c : Thread nD τ).loc main_arg11)
abbrev A12 : Mat 256 1024 := m ((c : Thread nD τ).loc main_arg12)

/-- The activations after the mixers. -/
def h1 : Mat 4096 1024 := plus (A0 m c) (normed (A2 m c) (A7 m c))
/-- The error. -/
def e2 : Mat 4096 1024 := minus (plus (h1 m c) (normed (A3 m c) (A9 m c))) (A4 m c)
/-- The loss's gradient at the step's output. -/
def d2 : Mat 4096 1024 := share (e2 m c)
/-- The loss's gradient at the activations after the mixers. -/
def d1 : Mat 4096 1024 := plus (back (h1 m c) (A11 m c) (A8 m c)) (d2 m c)

/-! What each call leaves. -/
theorem u_end : W1 m ρ c main_v0 = normed (A0 m c) (A5 m c) :=
  (W1_arr m ρ c 2).trans (arr0 (V0 m ρ) c)
theorem mn_end : W2 m ρ c main_v1 = normed (A1 m c) (A6 m c) :=
  (W2_arr m ρ c 2).trans ((arr1 (V1 m ρ) c).trans (congrArg₂ normed (W1_args m ρ c main_arg1 (by decide)) (W1_args m ρ c main_arg6 (by decide))))
theorem h1_end : W3 m ρ c main_v2 = h1 m c :=
  (W3_arr m ρ c 3).trans ((arr2 (V2 m ρ) c).trans (congrArg₂ plus (W2_args m ρ c main_arg0 (by decide)) (congrArg₂ normed (W2_args m ρ c main_arg2 (by decide)) (W2_args m ρ c main_arg7 (by decide)))))
theorem u2_end : W4 m ρ c main_v3 = normed (h1 m c) (A8 m c) :=
  (W4_arr m ρ c 2).trans ((arr3 (V3 m ρ) c).trans (congrArg₂ normed (h1_end m ρ c) (W3_args m ρ c main_arg8 (by decide))))
theorem h1_kept4 : W4 m ρ c main_v2 = h1 m c :=
  (W4_of m ρ c main_v2 (by decide +kernel)).trans (h1_end m ρ c)
theorem error_eq : error (V4 m ρ) c = e2 m c :=
  congrArg₂ minus (congrArg₂ plus (h1_kept4 m ρ c) (congrArg₂ normed (W4_args m ρ c main_arg3 (by decide)) (W4_args m ρ c main_arg9 (by decide)))) (W4_args m ρ c main_arg4 (by decide))
theorem d2_end : W5 m ρ c main_v4_0 = d2 m c :=
  (W5_arr m ρ c 4).trans ((arr4 (V4 m ρ) c).trans (congrArg share (error_eq m ρ c)))
theorem loss_end : W5 m ρ c main_v4_1 = loss (e2 m c) :=
  (W5_arr m ρ c 5).trans ((arrLoss (V4 m ρ) c).trans (congrArg loss (error_eq m ρ c)))
theorem dff_end : W6 m ρ c main_v5_0 = back (A3 m c) (d2 m c) (A9 m c) :=
  (W6_arr m ρ c 3).trans ((arr5 (V5 m ρ) c).trans (back_congr (W5_args m ρ c main_arg3 (by decide)) (d2_end m ρ c) (W5_args m ρ c main_arg9 (by decide))))
theorem dgff_end : W6 m ρ c main_v5_1 = gain (A3 m c) (d2 m c) :=
  (W6_arr m ρ c 4).trans ((arrGain5 (V5 m ρ) c).trans (congrArg₂ gain (W5_args m ρ c main_arg3 (by decide)) (d2_end m ρ c)))
theorem h1_kept6 : W6 m ρ c main_v2 = h1 m c :=
  (W6_of m ρ c main_v2 (by decide +kernel)).trans ((W5_of m ρ c main_v2 (by decide +kernel)).trans (h1_kept4 m ρ c))
theorem d2_kept6 : W6 m ρ c main_v4_0 = d2 m c :=
  (W6_of m ρ c main_v4_0 (by decide +kernel)).trans (d2_end m ρ c)
theorem d1_end : W7 m ρ c main_v6_0 = d1 m c :=
  (W7_arr m ρ c 4).trans ((arr6 (V6 m ρ) c).trans (congrArg₂ plus (back_congr (h1_kept6 m ρ c) (W6_args m ρ c main_arg11 (by decide)) (W6_args m ρ c main_arg8 (by decide))) (d2_kept6 m ρ c)))
theorem dgmlp_end : W7 m ρ c main_v6_1 = gain (h1 m c) (A11 m c) :=
  (W7_arr m ρ c 5).trans ((arrGain6 (V6 m ρ) c).trans (congrArg₂ gain (h1_kept6 m ρ c) (W6_args m ρ c main_arg11 (by decide))))
theorem dmix_end : W8 m ρ c main_v7_0 = back (A2 m c) (d1 m c) (A7 m c) :=
  (W8_arr m ρ c 3).trans ((arr7 (V7 m ρ) c).trans (back_congr (W7_args m ρ c main_arg2 (by decide)) (d1_end m ρ c) (W7_args m ρ c main_arg7 (by decide))))
theorem dgmix_end : W8 m ρ c main_v7_1 = gain (A2 m c) (d1 m c) :=
  (W8_arr m ρ c 4).trans ((arrGain7 (V7 m ρ) c).trans (congrArg₂ gain (W7_args m ρ c main_arg2 (by decide)) (d1_end m ρ c)))
theorem dgmem_end : W9 m ρ c main_v8_1 = gain (A1 m c) (A12 m c) :=
  (W9_arr m ρ c 4).trans ((arrGain8 (V8 m ρ) c).trans (congrArg₂ gain (W8_args m ρ c main_arg1 (by decide)) (W8_args m ρ c main_arg12 (by decide))))
theorem d1_kept9 : W9 m ρ c main_v6_0 = d1 m c :=
  (W9_of m ρ c main_v6_0 (by decide +kernel)).trans ((W8_of m ρ c main_v6_0 (by decide +kernel)).trans (d1_end m ρ c))
theorem gradx_last : W10 m ρ c main_v9_0 = plus (back (A0 m c) (A10 m c) (A5 m c)) (d1 m c) :=
  (W10_arr m ρ c 4).trans ((arr9 (V9 m ρ) c).trans (congrArg₂ plus (back_congr (W9_args m ρ c main_arg0 (by decide)) (W9_args m ρ c main_arg10 (by decide)) (W9_args m ρ c main_arg5 (by decide))) (d1_kept9 m ρ c)))
theorem dgpre_last : W10 m ρ c main_v9_1 = gain (A0 m c) (A10 m c) :=
  (W10_arr m ρ c 5).trans ((arrGain9 (V9 m ρ) c).trans (congrArg₂ gain (W9_args m ρ c main_arg0 (by decide)) (W9_args m ρ c main_arg10 (by decide))))

/-! The same at the end of the run. -/
theorem u_last : W10 m ρ c main_v0 = normed (A0 m c) (A5 m c) :=
  (W10_of m ρ c main_v0 (by decide +kernel)).trans ((W9_of m ρ c main_v0 (by decide +kernel)).trans ((W8_of m ρ c main_v0 (by decide +kernel)).trans ((W7_of m ρ c main_v0 (by decide +kernel)).trans ((W6_of m ρ c main_v0 (by decide +kernel)).trans ((W5_of m ρ c main_v0 (by decide +kernel)).trans ((W4_of m ρ c main_v0 (by decide +kernel)).trans ((W3_of m ρ c main_v0 (by decide +kernel)).trans ((W2_of m ρ c main_v0 (by decide +kernel)).trans (u_end m ρ c)))))))))
theorem mn_last : W10 m ρ c main_v1 = normed (A1 m c) (A6 m c) :=
  (W10_of m ρ c main_v1 (by decide +kernel)).trans ((W9_of m ρ c main_v1 (by decide +kernel)).trans ((W8_of m ρ c main_v1 (by decide +kernel)).trans ((W7_of m ρ c main_v1 (by decide +kernel)).trans ((W6_of m ρ c main_v1 (by decide +kernel)).trans ((W5_of m ρ c main_v1 (by decide +kernel)).trans ((W4_of m ρ c main_v1 (by decide +kernel)).trans ((W3_of m ρ c main_v1 (by decide +kernel)).trans (mn_end m ρ c))))))))
theorem u2_last : W10 m ρ c main_v3 = normed (h1 m c) (A8 m c) :=
  (W10_of m ρ c main_v3 (by decide +kernel)).trans ((W9_of m ρ c main_v3 (by decide +kernel)).trans ((W8_of m ρ c main_v3 (by decide +kernel)).trans ((W7_of m ρ c main_v3 (by decide +kernel)).trans ((W6_of m ρ c main_v3 (by decide +kernel)).trans ((W5_of m ρ c main_v3 (by decide +kernel)).trans (u2_end m ρ c))))))
theorem loss_last : W10 m ρ c main_v4_1 = loss (e2 m c) :=
  (W10_of m ρ c main_v4_1 (by decide +kernel)).trans ((W9_of m ρ c main_v4_1 (by decide +kernel)).trans ((W8_of m ρ c main_v4_1 (by decide +kernel)).trans ((W7_of m ρ c main_v4_1 (by decide +kernel)).trans ((W6_of m ρ c main_v4_1 (by decide +kernel)).trans (loss_end m ρ c)))))
theorem dff_last : W10 m ρ c main_v5_0 = back (A3 m c) (d2 m c) (A9 m c) :=
  (W10_of m ρ c main_v5_0 (by decide +kernel)).trans ((W9_of m ρ c main_v5_0 (by decide +kernel)).trans ((W8_of m ρ c main_v5_0 (by decide +kernel)).trans ((W7_of m ρ c main_v5_0 (by decide +kernel)).trans (dff_end m ρ c))))
theorem dmix_last : W10 m ρ c main_v7_0 = back (A2 m c) (d1 m c) (A7 m c) :=
  (W10_of m ρ c main_v7_0 (by decide +kernel)).trans ((W9_of m ρ c main_v7_0 (by decide +kernel)).trans (dmix_end m ρ c))
theorem dgmem_last : W10 m ρ c main_v8_1 = gain (A1 m c) (A12 m c) :=
  (W10_of m ρ c main_v8_1 (by decide +kernel)).trans (dgmem_end m ρ c)
theorem dgmix_last : W10 m ρ c main_v7_1 = gain (A2 m c) (d1 m c) :=
  (W10_of m ρ c main_v7_1 (by decide +kernel)).trans ((W9_of m ρ c main_v7_1 (by decide +kernel)).trans (dgmix_end m ρ c))
theorem dgmlp_last : W10 m ρ c main_v6_1 = gain (h1 m c) (A11 m c) :=
  (W10_of m ρ c main_v6_1 (by decide +kernel)).trans ((W9_of m ρ c main_v6_1 (by decide +kernel)).trans ((W8_of m ρ c main_v6_1 (by decide +kernel)).trans (dgmlp_end m ρ c)))
theorem dgff_last : W10 m ρ c main_v5_1 = gain (A3 m c) (d2 m c) :=
  (W10_of m ρ c main_v5_1 (by decide +kernel)).trans ((W9_of m ρ c main_v5_1 (by decide +kernel)).trans ((W8_of m ρ c main_v5_1 (by decide +kernel)).trans ((W7_of m ρ c main_v5_1 (by decide +kernel)).trans (dgff_end m ρ c))))

end Cert.NormKernelIdeal.NormRun

namespace Cert.NormReferenceIdeal.NormRef
open Cert.NormReferenceIdeal Cert.Product Cert.NormMath Idealize.ShloMosaic Idealize.ShloMosaic.TcCoe Idealize.SL.Sem
open Cert.NormReferenceIdeal.Value Idealize.ShloMosaic.StableHlo

variable (m' : (ℓ : Loc nD τ sig) → Buf (Elt Ideal) ℓ) (m : (ℓ : Loc Cert.NormKernelIdeal.nD Cert.NormKernelIdeal.τ Cert.NormKernelIdeal.sig) → Buf (Elt Ideal) ℓ)

/-- The two programs' arguments agree on device `c`. -/
structure Agree (c : Dev nD) : Prop where
  e0 : a0 (launchContents m' c) = Cert.NormKernelIdeal.NormRun.A0 m c
  e1 : a1 (launchContents m' c) = Cert.NormKernelIdeal.NormRun.A1 m c
  e2 : a2 (launchContents m' c) = Cert.NormKernelIdeal.NormRun.A2 m c
  e3 : a3 (launchContents m' c) = Cert.NormKernelIdeal.NormRun.A3 m c
  e4 : a4 (launchContents m' c) = Cert.NormKernelIdeal.NormRun.A4 m c
  e5 : a5 (launchContents m' c) = Cert.NormKernelIdeal.NormRun.A5 m c
  e6 : a6 (launchContents m' c) = Cert.NormKernelIdeal.NormRun.A6 m c
  e7 : a7 (launchContents m' c) = Cert.NormKernelIdeal.NormRun.A7 m c
  e8 : a8 (launchContents m' c) = Cert.NormKernelIdeal.NormRun.A8 m c
  e9 : a9 (launchContents m' c) = Cert.NormKernelIdeal.NormRun.A9 m c
  e10 : a10 (launchContents m' c) = Cert.NormKernelIdeal.NormRun.A10 m c
  e11 : a11 (launchContents m' c) = Cert.NormKernelIdeal.NormRun.A11 m c
  e12 : a12 (launchContents m' c) = Cert.NormKernelIdeal.NormRun.A12 m c
variable {m' m}
variable {c : Dev nD} (H : Agree m' m c)
open Cert.NormKernelIdeal.NormRun (A0 A1 A2 A3 A4 A5 A6 A7 A8 A9 A10 A11 A12)
include H
theorem h1_same : res_main_v15 (launchContents m' c) = Cert.NormKernelIdeal.NormRun.h1 m c :=
  (h1_eq _).trans (congrArg₂ plus H.e0 (congrArg₂ normed H.e2 H.e7))
theorem e2_same : res_main_v32 (launchContents m' c) = Cert.NormKernelIdeal.NormRun.e2 m c :=
  (err_eq _).trans (congrArg₂ minus (congrArg₂ plus (congrArg₂ plus H.e0 (congrArg₂ normed H.e2 H.e7)) (congrArg₂ normed H.e3 H.e9)) H.e4)
theorem d2_same : res_main_v129 (launchContents m' c) = Cert.NormKernelIdeal.NormRun.d2 m c := (dh2_eq _).trans (congrArg share (e2_same H))
theorem d1_same : res_main_v130 (launchContents m' c) = Cert.NormKernelIdeal.NormRun.d1 m c :=
  (dh1_eq _).trans (congrArg₂ plus (back_congr (h1_same H) H.e11 H.e8) (d2_same H))
end Cert.NormReferenceIdeal.NormRef

namespace Cert.NormClaim
open Idealize.ShloMosaic Idealize.ShloMosaic.TcCoe Idealize.SL.Sem Cert.Product Cert.NormMath Cert.NormKernelIdeal Cert.NormKernelIdeal.NormRun Cert.NormReferenceIdeal.NormRef

/-- The reference runs to its end, keeps its arguments and has no semaphore. -/
theorem frame_reference : Cert.quiescent_NormReferenceIdeal (hNormReferenceIdeal := Cert.NormReferenceIdeal.Gen.facts) := by
  intro m ρ _
  exact (θ_run Cert.NormReferenceIdeal.defs _ _).mono (fun r h => ⟨fun c => (h c).2.2.2.2.2.2.2.2.2.2.2.2, sem_eq_zero_of_no_sems (by decide) r.2⟩) (Cert.NormReferenceIdeal.Value.run m ρ)

set_option maxHeartbeats 2000000 in
/-- Both programs run, and their results agree. -/
theorem algebraic : Cert.algebraic_NormKernelIdeal_NormReferenceIdeal (hNormKernelIdeal := Cert.NormKernelIdeal.Gen.facts)
    (hNormReferenceIdeal := Cert.NormReferenceIdeal.Gen.facts) := by
  intro m ρ m' ρ' _ hargs
  refine ⟨fun c => normed (A0 m c) (A5 m c),
    fun c => normed (A1 m c) (A6 m c),
    fun c => normed (h1 m c) (A8 m c),
    fun c => loss (e2 m c),
    fun c => back (A3 m c) (d2 m c) (A9 m c),
    fun c => back (A2 m c) (d1 m c) (A7 m c),
    fun c => plus (back (A0 m c) (A10 m c) (A5 m c)) (d1 m c),
    fun c => gain (A0 m c) (A10 m c),
    fun c => gain (A1 m c) (A12 m c),
    fun c => gain (A2 m c) (d1 m c),
    fun c => gain (h1 m c) (A11 m c),
    fun c => gain (A3 m c) (d2 m c), ?_, ?_⟩
  · refine (θ_run Cert.NormKernelIdeal.defs _ _).mono (fun r h c => ?_) (run_final m ρ)
    have at_ : ∀ b : Ref Cert.NormKernelIdeal.sig .tc, ¬ b.isScoped → r.2.mem ((c.tc : Thread Cert.NormKernelIdeal.nD Cert.NormKernelIdeal.τ).loc b)
      = Cert.NormKernelIdeal.Gen.W10 m ρ c b := fun b hb => h c _ (Cert.NormKernelIdeal.Gen.mem_uc b hb)
    exact ⟨(at_ _ (by decide)).trans (u_last m ρ c),
      (at_ _ (by decide)).trans (mn_last m ρ c),
      (at_ _ (by decide)).trans (u2_last m ρ c),
      (at_ _ (by decide)).trans (loss_last m ρ c),
      (at_ _ (by decide)).trans (dff_last m ρ c),
      (at_ _ (by decide)).trans (dmix_last m ρ c),
      (at_ _ (by decide)).trans (gradx_last m ρ c),
      (at_ _ (by decide)).trans (dgpre_last m ρ c),
      (at_ _ (by decide)).trans (dgmem_last m ρ c),
      (at_ _ (by decide)).trans (dgmix_last m ρ c),
      (at_ _ (by decide)).trans (dgmlp_last m ρ c),
      (at_ _ (by decide)).trans (dgff_last m ρ c),
      (at_ _ (by decide)).trans (Cert.NormKernelIdeal.Gen.W10_main_arg0 m ρ c),
      (at_ _ (by decide)).trans (Cert.NormKernelIdeal.Gen.W10_main_arg1 m ρ c),
      (at_ _ (by decide)).trans (Cert.NormKernelIdeal.Gen.W10_main_arg2 m ρ c),
      (at_ _ (by decide)).trans (Cert.NormKernelIdeal.Gen.W10_main_arg3 m ρ c),
      (at_ _ (by decide)).trans (Cert.NormKernelIdeal.Gen.W10_main_arg4 m ρ c),
      (at_ _ (by decide)).trans (Cert.NormKernelIdeal.Gen.W10_main_arg5 m ρ c),
      (at_ _ (by decide)).trans (Cert.NormKernelIdeal.Gen.W10_main_arg6 m ρ c),
      (at_ _ (by decide)).trans (Cert.NormKernelIdeal.Gen.W10_main_arg7 m ρ c),
      (at_ _ (by decide)).trans (Cert.NormKernelIdeal.Gen.W10_main_arg8 m ρ c),
      (at_ _ (by decide)).trans (Cert.NormKernelIdeal.Gen.W10_main_arg9 m ρ c),
      (at_ _ (by decide)).trans (Cert.NormKernelIdeal.Gen.W10_main_arg10 m ρ c),
      (at_ _ (by decide)).trans (Cert.NormKernelIdeal.Gen.W10_main_arg11 m ρ c),
      (at_ _ (by decide)).trans (Cert.NormKernelIdeal.Gen.W10_main_arg12 m ρ c)⟩
  · refine (θ_run Cert.NormReferenceIdeal.defs _ _).mono (fun r h c => ?_) (Cert.NormReferenceIdeal.Value.run m' ρ')
    obtain ⟨e0, e1, e2, e3, e4, e5, e6, e7, e8, e9, e10, e11, e12⟩ := hargs c
    have H : Agree m' m c := ⟨e0, e1, e2, e3, e4, e5, e6, e7, e8, e9, e10, e11, e12⟩
    have t0 := h c
    have t1 := t0.2
    have t2 := t1.2
    have t3 := t2.2
    have t4 := t3.2
    have t5 := t4.2
    have t6 := t5.2
    have t7 := t6.2
    have t8 := t7.2
    have t9 := t8.2
    have t10 := t9.2
    have t11 := t10.2
    have t12 := t11.2
    exact ⟨t0.1.trans ((u_eq _).trans (congrArg₂ normed H.e0 H.e5)),
      t1.1.trans ((mn_eq _).trans (congrArg₂ normed H.e1 H.e6)),
      t2.1.trans ((u2_eq _).trans (congrArg₂ normed (h1_same H) H.e8)),
      t3.1.trans ((loss_eq _).trans (congrArg loss (e2_same H))),
      t4.1.trans ((dff_eq _).trans (back_congr H.e3 (d2_same H) H.e9)),
      t5.1.trans ((dmix_eq _).trans (back_congr H.e2 (d1_same H) H.e7)),
      t6.1.trans ((gradx_eq _).trans (congrArg₂ plus (back_congr H.e0 H.e10 H.e5) (d1_same H))),
      t7.1.trans ((dpre_eq _).trans (congrArg₂ gain H.e0 H.e10)),
      t8.1.trans ((dmem_eq _).trans (congrArg₂ gain H.e1 H.e12)),
      t9.1.trans ((dpost_eq _).trans (congrArg₂ gain H.e2 (d1_same H))),
      t10.1.trans ((dmlp_eq _).trans (congrArg₂ gain (h1_same H) H.e11)),
      t11.1.trans ((dffn_eq _).trans (congrArg₂ gain H.e3 (d2_same H))), t12⟩

end Cert.NormClaim
end
-- ==== Proof.MemKvRun.lean ====
/- What the memory's key and value projection, the attention into it and the projection's two gradients leave in their arrays. -/
module

public import proofs.«01_k».proof.Proof.Gen.MemKernelIdeal
public import proofs.«01_k».proof.Proof.Gen.MemKernelIdeal.Skeleton
public import proofs.«01_k».proof.Proof.Gen.MemKernelIdeal.Launch
public import proofs.«01_k».proof.Proof.Gen.MemKernelIdeal.Points
public import proofs.«01_k».proof.Proof.Gen.MemKernelIdeal.Frame
public import proofs.«01_k».proof.Proof.Product
public import proofs.«01_k».proof.Proof.MemBlock
public import proofs.«01_k».proof.Proof.MemRef
public import Idealize.ShloMosaic.Lib.Pipeline.ValueKit
public import Idealize.ShloMosaic.Lib.Pipeline.ReadBack
public import Idealize.ShloMosaic.Lib.Pointwise

@[expose] public section
set_option maxRecDepth 16384
noncomputable section
namespace Cert.MemKernelIdeal.MemKvRun
open Cert.MemKernelIdeal Cert.MemKernelIdeal.Gen Cert.Product Cert.SoftmaxGrad Idealize.ShloMosaic Idealize.ShloMosaic.TcCoe Idealize.SL.Sem
open Cert.KernelIdeal.MemBlock (row mat headRow headKeys headValues ld_lanes emb_lanes)
open Cert.ReferenceIdeal.MemRef (qrow khead vhead)

/-! ## The three products, entry by entry -/

theorem pay0 (x : Vec Ideal S256x1024 .bf16) (y : Vec Ideal S1024x1024 .bf16) (r : Fin 256) (n : Fin 1024) :
    k0_pay1 x y (ix2 r n) = ∑ k : Fin 1024, x (ix2 r k) * y (ix2 k n) := by
  pointwise [k0_pay1]
theorem pay2 (x : Vec Ideal S256x1024 .bf16) (y : Vec Ideal S256x1024 .f32) (r n : Fin 1024) :
    k2_pay1 x y (ix2 r n) = ∑ k : Fin 256, x (ix2 k r) * y (ix2 k n) := by
  pointwise [k2_pay1]
theorem pay3 (x : Vec Ideal S256x2048 .f32) (y : Vec Ideal S1024x2048 .bf16) (r : Fin 256) (n : Fin 1024) :
    k3_pay1 x y (ix2 r n) = ∑ k : Fin 2048, x (ix2 r k) * y (ix2 n k) := by
  pointwise [k3_pay1]

/-! ## One head of the attention -/

section Head
variable (q : Vec Ideal S512x256 .f32) (k v : Vec Ideal S256x256 .f32)

/-- The exponentials of the scores below their row maximum. -/
theorem weight_apply (r : Fin 512) (j : Fin 256) : k1_pay3 q k (ix2 r j) = weight (row q r) (mat k) j := by
  pointwise [k1_pay3]
  rfl

/-- What one head stores: its values, weighted by the probabilities. -/
theorem head_apply (r : Fin 512) (d : Fin 256) :
    k1_pay4 (k1_pay3 q k) v (ix2 r d) = ∑ j, prob (row q r) (mat k) j * v (ix2 j d) := by
  have h := weight_apply q k
  generalize k1_pay3 q k = P at h ⊢
  pointwise [k1_pay4]
  simp only [h]
  rfl

/-! The other heads' pieces are the same function. -/
theorem head0 : k1_pay2 q k v = k1_pay4 (k1_pay3 q k) v := rfl
theorem head2 : k1_pay5 q k v = k1_pay4 (k1_pay3 q k) v := rfl
theorem head3 : k1_pay1 (k1_pay6 q) k v = k1_pay4 (k1_pay3 q k) v := rfl
end Head

/-- The attention of rows of queries into the memory, by lane: `q` gives a head's query row, `k` and `v` its keys and values. -/
def attendBy {S : ℕ} (q : Fin 4 → Fin S → Fin 256 → EReal) (k v : Fin 4 → Fin 256 → Fin 256 → EReal) : Mat S 1024 := fun i =>
  ∑ j, prob (q ⟨(i 1).val / 256 % 4, Nat.mod_lt _ (by decide)⟩ (i 0)) (k ⟨(i 1).val / 256 % 4, Nat.mod_lt _ (by decide)⟩) j
    * v ⟨(i 1).val / 256 % 4, Nat.mod_lt _ (by decide)⟩ j ⟨(i 1).val % 256, Nat.mod_lt _ (by decide)⟩

theorem attendBy_lane {S : ℕ} (q : Fin 4 → Fin S → Fin 256 → EReal) (k v : Fin 4 → Fin 256 → Fin 256 → EReal) (h : Fin 4) (r : Fin S) (d : Fin 256)
    (n : Fin 1024) (hn : n.val = 256 * h.val + d.val) : attendBy q k v (ix2 r n) = ∑ j, prob (q h r) (k h) j * v h j d := by
  have e1 : (⟨n.val / 256 % 4, Nat.mod_lt _ (by decide)⟩ : Fin 4) = h := Fin.ext (by show n.val / 256 % 4 = h.val; omega)
  have e2 : (⟨n.val % 256, Nat.mod_lt _ (by decide)⟩ : Fin 256) = d := Fin.ext (by show n.val % 256 = d.val; omega)
  show ∑ j, prob (q ⟨n.val / 256 % 4, _⟩ r) (k ⟨n.val / 256 % 4, _⟩) j * v ⟨n.val / 256 % 4, _⟩ j ⟨n.val % 256, _⟩ = _
  rw [e1, e2]

/-- The attention of a block of rows. -/
abbrev attendBlock (x0 : Vec Ideal S512x1024 .f32) (x1 : Vec Ideal S256x2048 .f32) : Mat 512 1024 :=
  attendBy (headRow x0) (headKeys x1) (headValues x1)

/-- The attention of all rows, whose queries stand in lanes 9216 to 10239. -/
abbrev attend (Q : Mat 4096 12288) (KV : Mat 256 2048) : Mat 4096 1024 := attendBy (qrow Q) (khead KV) (vhead KV)

section Pieces
variable (x0 : Vec Ideal S512x1024 .f32) (x1 : Vec Ideal S256x2048 .f32) (h : Fin 4) (off offv : ℕ) (hoff : off = 256 * h.val) (hoffv : offv = 1024 + 256 * h.val)
  (inb : ∀ a, (![0, off] : Fin 2 → ℕ) a + (![512, 256] : Fin 2 → ℕ) a ≤ S512x1024.size a)
  (inbk : ∀ a, (![0, off] : Fin 2 → ℕ) a + (![256, 256] : Fin 2 → ℕ) a ≤ S256x2048.size a)
  (inbv : ∀ a, (![0, offv] : Fin 2 → ℕ) a + (![256, 256] : Fin 2 → ℕ) a ≤ S256x2048.size a)
include hoff hoffv

/-- A stored piece, at any head. -/
theorem piece (x : (Rect.unit (s := S512x1024) ![0, off] ![512, 256] inb).shape.Idx) :
    k1_pay4 (F := Ideal) (k1_pay3 (View.ld x0 (Rect.unit ![0, off] ![512, 256] inb)) (View.ld x1 (Rect.unit ![0, off] ![256, 256] inbk)))
        (View.ld x1 (Rect.unit ![0, offv] ![256, 256] inbv)) x
      = attendBlock x0 x1 ((Rect.unit (s := S512x1024) ![0, off] ![512, 256] inb).emb x) := by
  obtain ⟨r, d, rfl⟩ : ∃ (r : Fin 512) (d : Fin 256), x = ix2 r d := ⟨x 0, x 1, eq_ix2 x⟩
  rw [emb_lanes off inb r d ⟨256 * h.val + d.val, by omega⟩ (by show 256 * h.val + d.val = off + d.val; omega), attendBlock, attendBy_lane _ _ _ h r d _ rfl]
  refine (head_apply _ _ _ r d).trans (Finset.sum_congr rfl fun j _ => ?_)
  have eq : ∀ d : Fin 256, View.ld x0 (Rect.unit ![0, off] ![512, 256] inb) (ix2 r d) = headRow x0 h r d := fun d => ld_lanes x0 off inb r d _ (by show 256 * h.val + d.val = off + d.val; omega)
  have ek : ∀ j d : Fin 256, View.ld x1 (Rect.unit ![0, off] ![256, 256] inbk) (ix2 j d) = headKeys x1 h j d := fun j d => ld_lanes x1 off inbk j d _ (by show 256 * h.val + d.val = off + d.val; omega)
  have ev : ∀ j d : Fin 256, View.ld x1 (Rect.unit ![0, offv] ![256, 256] inbv) (ix2 j d) = headValues x1 h j d := fun j d => ld_lanes x1 offv inbv j d _ (by show 1024 + 256 * h.val + d.val = offv + d.val; omega)
  unfold row mat
  simp only [eq, ek, ev]
end Pieces

/-- The block one point stores: the four heads side by side. -/
theorem block (x0 : Vec Ideal S512x1024 .f32) (x1 : Vec Ideal S256x2048 .f32) (y : S512x1024.Idx) : out1_2 x0 x1 y = attendBlock x0 x1 y := by
  unfold out1_2
  simp only [head0, head2, head3]
  refine View.canon_append_of_piecesOf (Val := Elt Ideal) (e := .bf16) (s := S512x1024) (attendBlock x0 x1) [] [_, _, _, _]
    ⟨?_, ?_, ?_, ?_, trivial⟩ y (View.cover_of_tiledL (s := S512x1024) _ S512x256.size (by sl_kernel_rfl) y)
  · exact piece _ _ 3 768 1792 rfl rfl _ _ _
  · exact piece _ _ 2 512 1536 rfl rfl _ _ _
  · exact piece _ _ 1 256 1280 rfl rfl _ _ _
  · exact piece _ _ 0 0 1024 rfl rfl _ _ _

/-! ## The four arrays -/

variable (V : (c : Dev nD) → (b : Ref sig .tc) → Buf (Elt Ideal) ((c : Thread nD τ).loc b)) (c : Dev nD)

/-- The keys and values. -/
theorem arr0 : (dat0 V c).arrAt 2 cfg0.N = nn (M := 256) (K := 1024) (N := 2048) (V c main_arg0) (V c main_arg1) := by
  have idx : ∀ t : Fin cfg0.N, win0_0.index t = ![0, 0] ∧ win0_1.index t = ![0, t.val] ∧ win0_2.index t = ![0, t.val] := (by decide +kernel : ∀ t : Fin grid0.N, _)
  refine (dat0 V c).arrAt_eq_of_covers 2 _ (by decide +kernel) fun t hf y => ?_
  blk_simp
  rw [after0_2, out0_2, View.canon_unit_zero origin, View.ld_unit_zero origin, View.ld_unit_zero origin]
  obtain ⟨r, n, rfl⟩ := exists_ix2 (M := 256) (N := 1024) y
  have lt : t.val < 2 := t.isLt
  have place : (win0_2.blk t).view.emb (ix2 r n) = (ix2 r ⟨t.val * 1024 + n.val, by omega⟩ : S256x2048.Idx) := by blk_ext [idx t]
  exact (pay0 _ _ r n).trans ((nn_tile _ _ (fun k => by blk_ext [iblk0, idx t]) (fun k => by blk_ext [iblk0, idx t])).trans (congrArg (nn _ _) place).symm)

/-- The attention's output. -/
theorem arr1 : (dat1 V c).arrAt 2 cfg1.N = attend (V c main_arg2) (V c main_v0) := by
  have idx : ∀ t : Fin cfg1.N, win1_0.index t = ![t.val, 9] ∧ win1_1.index t = ![0, 0] ∧ win1_2.index t = ![t.val, 0] := (by decide +kernel : ∀ t : Fin grid1.N, _)
  refine (dat1 V c).arrAt_eq_of_covers 2 _ (by decide +kernel) fun t hf y => ?_
  blk_simp
  rw [after1_2, block]
  obtain ⟨r, n, rfl⟩ := exists_ix2 (M := 512) (N := 1024) y
  have lt : t.val < 8 := t.isLt
  obtain ⟨h, d, hn⟩ : ∃ (h : Fin 4) (d : Fin 256), n.val = 256 * h.val + d.val :=
    ⟨⟨n.val / 256, by omega⟩, ⟨n.val % 256, Nat.mod_lt _ (by decide)⟩, by show n.val = 256 * (n.val / 256) + n.val % 256; omega⟩
  have place : (win1_2.blk t).view.emb (ix2 r n) = (ix2 ⟨t.val * 512 + r.val, by omega⟩ n : S4096x1024.Idx) := by blk_ext [idx t]
  have eq : headRow (iblk1 V c 0 t) h r = qrow (V c main_arg2) h ⟨t.val * 512 + r.val, by omega⟩ := by
    funext d
    show (iblk1 V c 0 t) (ix2 r ⟨256 * h.val + d.val, _⟩) = (V c main_arg2) (ix2 ⟨t.val * 512 + r.val, _⟩ ⟨9216 + (256 * h.val + d.val), _⟩)
    blk_ext [iblk1, idx t]
  have ekv : iblk1 V c 1 t = V c main_v0 := by blk_ext! [iblk1, idx t]
  refine Eq.trans ?_ ((congrArg (attend _ _) place).trans (attendBy_lane _ _ _ h _ d n hn)).symm
  rw [attendBlock, attendBy_lane _ _ _ h r d n hn, eq, ekv]

/-- The gradient of the projection's weights. -/
theorem arr2 : (dat2 V c).arrAt 2 cfg2.N = tn (M := 1024) (K := 256) (N := 2048) (V c main_arg0) (V c main_arg3) := by
  have idx : ∀ t : Fin cfg2.N, win2_0.index t = ![0, 0] ∧ win2_1.index t = ![0, t.val] ∧ win2_2.index t = ![0, t.val] := (by decide +kernel : ∀ t : Fin grid2.N, _)
  refine (dat2 V c).arrAt_eq_of_covers 2 _ (by decide +kernel) fun t hf y => ?_
  blk_simp
  rw [after2_2, out2_2, View.canon_unit_zero origin, View.ld_unit_zero origin, View.ld_unit_zero origin]
  obtain ⟨r, n, rfl⟩ := exists_ix2 (M := 1024) (N := 1024) y
  have lt : t.val < 2 := t.isLt
  have place : (win2_2.blk t).view.emb (ix2 r n) = (ix2 r ⟨t.val * 1024 + n.val, by omega⟩ : S1024x2048.Idx) := by blk_ext [idx t]
  exact (pay2 _ _ r n).trans ((tn_tile _ _ (fun k => by blk_ext [iblk2, idx t]) (fun k => by blk_ext [iblk2, idx t])).trans (congrArg (tn _ _) place).symm)

/-- The gradient of the normalised memory. -/
theorem arr3 : (dat3 V c).arrAt 2 cfg3.N = nt (M := 256) (K := 2048) (N := 1024) (V c main_arg3) (V c main_arg1) := by
  have idx : ∀ t : Fin cfg3.N, win3_0.index t = ![0, 0] ∧ win3_1.index t = ![0, 0] ∧ win3_2.index t = ![0, 0] := (by decide +kernel : ∀ t : Fin grid3.N, _)
  refine (dat3 V c).arrAt_eq_of_covers 2 _ (by decide +kernel) fun t hf y => ?_
  blk_simp
  rw [after3_2, out3_2, View.canon_unit_zero origin, View.ld_unit_zero origin, View.ld_unit_zero origin]
  obtain ⟨r, n, rfl⟩ := exists_ix2 (M := 256) (N := 1024) y
  have lt : t.val < 1 := t.isLt
  have place : (win3_2.blk t).view.emb (ix2 r n) = (ix2 r n : S256x1024.Idx) := by blk_ext [idx t]
  exact (pay3 _ _ r n).trans ((nt_tile _ _ (fun k => by blk_ext [iblk3, idx t]) (fun k => by blk_ext [iblk3, idx t])).trans (congrArg (nt _ _) place).symm)

end Cert.MemKernelIdeal.MemKvRun
end
-- ==== Proof.MemKvClaim.lean ====
/- The memory's key and value projection, the attention into it and the projection's gradients: what the four calls leave at the end, and that the
   reference computes the same. -/
module

public import proofs.«01_k».proof.Defs
public import proofs.«01_k».proof.Proof.Gen.MemReferenceIdeal
public import proofs.«01_k».proof.Proof.Gen.MemReferenceIdeal.Run
public import proofs.«01_k».proof.Proof.MemKvRun

@[expose] public section
set_option maxRecDepth 16384
noncomputable section

namespace Cert.MemKernelIdeal.MemKvRun
open Cert.MemKernelIdeal Cert.MemKernelIdeal.Gen Cert.Product Idealize.ShloMosaic Idealize.ShloMosaic.TcCoe
open Idealize.ShloMosaic.Rounds Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg) (c : Dev nD)

local notation "𝕄" => MT nD τ sig Unit (Elt Ideal) ℕ (UR sig nD τ) ℕ

set_option backward.isDefEq.respectTransparency.types false in
/-- The four calls run to their end, and every array ends with what the last boundary holds. -/
theorem run_final : θ_run defs (onTc (τ := τ) (main (F := Ideal))) ⟨m, fun _ => 0, ρ⟩ (fun r => ∀ c : Dev nD, ∀ b ∈ Pipeline.ucRefs τ sig,
    r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-! The arguments: the normalised memory, the projection's weights, the projected activations and the cotangent of the keys and values. -/
abbrev Memory : Mat 256 1024 := m ((c : Thread nD τ).loc main_arg0)
abbrev Weights : Mat 1024 2048 := m ((c : Thread nD τ).loc main_arg1)
abbrev Proj : Mat 4096 12288 := m ((c : Thread nD τ).loc main_arg2)
abbrev G : Mat 256 2048 := m ((c : Thread nD τ).loc main_arg3)

/-! What each call leaves. -/
theorem kv_end : W1 m ρ c main_v0 = nn (Memory m c) (Weights m c) :=
  (W1_arr m ρ c 2).trans (arr0 (V0 m ρ) c)
theorem y_end : W2 m ρ c main_v1 = attend (Proj m c) (nn (Memory m c) (Weights m c)) :=
  (W2_arr m ρ c 2).trans ((arr1 (V1 m ρ) c).trans (congrArg₂ attend (W1_args m ρ c main_arg2 (by decide)) (kv_end m ρ c)))
theorem dw_end : W3 m ρ c main_v2 = tn (Memory m c) (G m c) :=
  (W3_arr m ρ c 2).trans ((arr2 (V2 m ρ) c).trans (congrArg₂ tn (W2_args m ρ c main_arg0 (by decide)) (W2_args m ρ c main_arg3 (by decide))))
theorem dmn_last : W4 m ρ c main_v3 = nt (G m c) (Weights m c) :=
  (W4_arr m ρ c 2).trans ((arr3 (V3 m ρ) c).trans (congrArg₂ nt (W3_args m ρ c main_arg3 (by decide)) (W3_args m ρ c main_arg1 (by decide))))

/-! The same at the end of the run. -/
theorem y_last : W4 m ρ c main_v1 = attend (Proj m c) (nn (Memory m c) (Weights m c)) :=
  (W4_of m ρ c main_v1 (by decide +kernel)).trans ((W3_of m ρ c main_v1 (by decide +kernel)).trans (y_end m ρ c))
theorem dw_last : W4 m ρ c main_v2 = tn (Memory m c) (G m c) :=
  (W4_of m ρ c main_v2 (by decide +kernel)).trans (dw_end m ρ c)

end Cert.MemKernelIdeal.MemKvRun

namespace Cert.MemReferenceIdeal.MemKvRef
open Cert.MemReferenceIdeal Cert.MemReferenceIdeal.Gen Cert.MemReferenceIdeal.Value Cert.Product Cert.SoftmaxGrad Idealize.ShloMosaic Idealize.ShloMosaic.TcCoe Idealize.SL.Sem
open Cert.MemKernelIdeal.MemKvRun Facts
open Cert.ReferenceIdeal.MemRef (values probs probs_apply qrow khead vhead)

/-! The reference's products, entry by entry. -/
theorem kv_eq (x : FVec Ideal S256x1024 .f32) (w : FVec Ideal S1024x2048 .f32) :
    Host.dotGeneral dot_S256x1024_S1024x2048_S256x2048_1_0_0_1_n_n none x w = nn (M := 256) (K := 1024) (N := 2048) x w := by
  funext i; obtain ⟨r, n, rfl⟩ := exists_ix2 (M := 256) (N := 2048) i; rw [nn_apply]; pointwise
theorem dmn_eq (g : FVec Ideal S256x2048 .f32) (w : FVec Ideal S1024x2048 .f32) :
    Host.dotGeneral dot_S256x2048_S1024x2048_S256x1024_1_1_0_0_n_n none g w = nt (M := 256) (K := 2048) (N := 1024) g w := by
  funext i; obtain ⟨r, n, rfl⟩ := exists_ix2 (M := 256) (N := 1024) i; rw [nt_apply]; pointwise
/-- The reference multiplies the factors of the weights' gradient the other way round and transposes. -/
theorem dw_eq (g : FVec Ideal S256x2048 .f32) (x : FVec Ideal S256x1024 .f32) :
    transpose S1024x2048 [1, 0] (Host.dotGeneral dot_S256x2048_S256x1024_S2048x1024_0_0_1_1_n_n none g x) transposes_S2048x1024_S1024x2048_1_0
      = tn (M := 1024) (K := 256) (N := 2048) x g := by
  funext i; obtain ⟨r, n, rfl⟩ := exists_ix2 (M := 1024) (N := 2048) i; rw [tn_apply]; pointwise
  exact Finset.sum_congr rfl fun k _ => mul_comm _ _

/-- The attention's output, from the queries and the keys and values. -/
def mixed (Q : FVec Ideal S4096x12288 .f32) (KV : FVec Ideal S256x2048 .f32) : FVec Ideal S4096x1024 .bf16 :=
  truncf .bf16 (shapeCast S4096x1024 (transpose S4096x4x256 [2, 0, 1]
    (Host.dotGeneral dot_S256x4x256_S4x4096x256_S4x256x4096_0_2_2_1_1_0 none (values KV) (probs Q KV))
    transposes_S4x256x4096_S4096x4x256_2_0_1) shapeCasts_S4096x4x256_S4096x1024) bitsLt_bf16_f32

theorem mixed_apply (Q : FVec Ideal S4096x12288 .f32) (KV : FVec Ideal S256x2048 .f32) (h : Fin 4) (s : Fin 4096) (d : Fin 256) (n : Fin 1024) (hn : n.val = 256 * h.val + d.val) :
    mixed Q KV (ix2 s n) = ∑ j, prob (qrow Q h s) (khead KV h) j * vhead KV h j d := by
  have e := probs_apply Q KV
  unfold mixed
  generalize probs Q KV = X at e ⊢
  pointwise [values]
  obtain rfl : n = ⟨256 * h.val + d.val, by clear hn; omega⟩ := Fin.ext hn
  simp only [show (⟨(256 * h.val + d.val) / 256, by omega⟩ : Fin 4) = h from Fin.ext (by show (256 * h.val + d.val) / 256 = h.val; omega), e]
  refine Finset.sum_congr rfl fun j _ => (mul_comm _ _).trans (congrArg (fun z => prob (qrow Q h s) (khead KV h) j * z) ?_)
  exact congrArg KV (congrArg (ix2 j) (Fin.ext (Nat.add_assoc 1024 (256 * h.val) d.val).symm))

theorem mixed_eq (Q : FVec Ideal S4096x12288 .f32) (KV : FVec Ideal S256x2048 .f32) : mixed Q KV = attend Q KV := by
  funext i
  obtain ⟨s, n, rfl⟩ := exists_ix2 (M := 4096) (N := 1024) i
  obtain ⟨h, d, hn⟩ : ∃ (h : Fin 4) (d : Fin 256), n.val = 256 * h.val + d.val :=
    ⟨⟨n.val / 256, by omega⟩, ⟨n.val % 256, Nat.mod_lt _ (by decide)⟩, by show n.val = 256 * (n.val / 256) + n.val % 256; omega⟩
  exact (mixed_apply Q KV h s d n hn).trans (attendBy_lane _ _ _ h s d n hn).symm

theorem y_eq (m : (ℓ : Loc nD τ sig) → Buf (Elt Ideal) ℓ) (c : Dev nD) : res_main_v26 m c = mixed (m ((c.tc : Thread nD τ).loc main_arg2))
    (Host.dotGeneral dot_S256x1024_S1024x2048_S256x2048_1_0_0_1_n_n none (extf .f32 (m ((c.tc : Thread nD τ).loc main_arg0)) bitsLt_bf16_f32)
      (extf .f32 (m ((c.tc : Thread nD τ).loc main_arg1)) bitsLt_bf16_f32)) := by
  unfold res_main_v26
  rfl

/-- A widened array is the array. -/
theorem ext_eq {s : Shape} (x : FVec Ideal s .bf16) : extf .f32 x bitsLt_bf16_f32 = x := rfl

end Cert.MemReferenceIdeal.MemKvRef

namespace Cert.MemKvClaim
open Idealize.ShloMosaic Idealize.ShloMosaic.TcCoe Idealize.SL.Sem Cert.Product Cert.MemReferenceIdeal.MemKvRef Cert.MemKernelIdeal.MemKvRun

/-- The reference runs to its end, keeps its arguments and has no semaphore. -/
theorem frame_reference : Cert.quiescent_MemReferenceIdeal (hMemReferenceIdeal := Cert.MemReferenceIdeal.Gen.facts) := by
  intro m ρ _
  exact (θ_run Cert.MemReferenceIdeal.defs _ _).mono (fun r h => ⟨fun c => (h c).2.2.2, sem_eq_zero_of_no_sems (by decide) r.2⟩) (Cert.MemReferenceIdeal.Value.run m ρ)

/-- Both programs run, and their results agree. -/
theorem algebraic : Cert.algebraic_MemKernelIdeal_MemReferenceIdeal (hMemKernelIdeal := Cert.MemKernelIdeal.Gen.facts)
    (hMemReferenceIdeal := Cert.MemReferenceIdeal.Gen.facts) := by
  intro m ρ m' ρ' _ hargs
  refine ⟨fun c => attend (Proj m c) (nn (Memory m c) (Weights m c)), fun c => nt (G m c) (Weights m c), fun c => tn (Memory m c) (G m c), ?_, ?_⟩
  · refine (θ_run Cert.MemKernelIdeal.defs _ _).mono (fun r h c => ?_) (run_final m ρ)
    have at_ : ∀ b : Ref Cert.MemKernelIdeal.sig .tc, ¬ b.isScoped → r.2.mem ((c.tc : Thread Cert.MemKernelIdeal.nD Cert.MemKernelIdeal.τ).loc b)
      = Cert.MemKernelIdeal.Gen.W4 m ρ c b := fun b hb => h c _ (Cert.MemKernelIdeal.Gen.mem_uc b hb)
    exact ⟨(at_ _ (by decide)).trans (y_last m ρ c), (at_ _ (by decide)).trans (dmn_last m ρ c), (at_ _ (by decide)).trans (dw_last m ρ c),
      (at_ _ (by decide)).trans (Cert.MemKernelIdeal.Gen.W4_main_arg0 m ρ c), (at_ _ (by decide)).trans (Cert.MemKernelIdeal.Gen.W4_main_arg1 m ρ c),
      (at_ _ (by decide)).trans (Cert.MemKernelIdeal.Gen.W4_main_arg2 m ρ c), (at_ _ (by decide)).trans (Cert.MemKernelIdeal.Gen.W4_main_arg3 m ρ c)⟩
  · refine (θ_run Cert.MemReferenceIdeal.defs _ _).mono (fun r h c => ?_) (Cert.MemReferenceIdeal.Value.run m' ρ')
    obtain ⟨e0, e1, e2, e3⟩ := hargs c
    obtain ⟨h0, h1, h2, rest⟩ := h c
    rw [y_eq, mixed_eq, kv_eq, ext_eq, ext_eq, e0, e1, e2] at h0
    rw [dmn_eq, ext_eq, e1, e3] at h1
    rw [dw_eq, ext_eq, e0, e3] at h2
    exact ⟨h0, h1, h2, rest⟩

end Cert.MemKvClaim
end
-- ==== Proof.ConvTile.lean ====
/- The causal convolution of four rows with its SiLU, its gradients, and what the bodies compute of one tile of 512 rows. -/
module

public import proofs.«01_k».proof.Proof.Gen.ConvKernelIdeal
public import proofs.«01_k».proof.Proof.Gen.ConvKernelIdeal.Skeleton
public import proofs.«01_k».proof.Proof.Product
public import Idealize.ShloMosaic.Lib.Pointwise

@[expose] public section
set_option maxRecDepth 16384
noncomputable section
namespace Cert.ConvKernelIdeal.ConvTile
open Cert.ConvKernelIdeal Cert.ConvKernelIdeal.Gen Cert.Product Idealize.ShloMosaic Idealize.ShloMosaic.TcCoe

/-! ## The convolution and its gradients, on 4096 rows and any number of columns -/

section Math
variable {N : ℕ}

/-- The logistic of a number. -/
def gate (z : EReal) : EReal := Ideal.div 1 (1 + Ideal.exp (0 - z))
/-- What SiLU passes back at `z` of a cotangent. -/
def slope (g z : EReal) : EReal := g * (gate z * (1 + z * (1 - gate z)))

/-- The entry `s` rows earlier, zero before the first row. -/
def past (X : Mat 4096 N) (s : ℕ) (r : Fin 4096) (n : Fin N) : EReal := if h : s ≤ r.val then X (ix2 ⟨r.val - s, by omega⟩ n) else 0
/-- The entry `s` rows later, zero after the last row. -/
def next (G : Mat 4096 N) (s : ℕ) (r : Fin 4096) (n : Fin N) : EReal := if h : r.val + s < 4096 then G (ix2 ⟨r.val + s, h⟩ n) else 0

/-- The convolution: each row sees itself and the three rows before it. -/
def conv (X : Mat 4096 N) (W : Mat 4 N) (B : Mat 1 N) : Mat 4096 N := fun i =>
  B (ix2 0 (i 1)) + W (ix2 3 (i 1)) * X (ix2 (i 0) (i 1)) + W (ix2 0 (i 1)) * past X 3 (i 0) (i 1) + W (ix2 1 (i 1)) * past X 2 (i 0) (i 1)
    + W (ix2 2 (i 1)) * past X 1 (i 0) (i 1)
/-- Its SiLU. -/
def silu (Z : Mat 4096 N) : Mat 4096 N := fun i => Z i * gate (Z i)
/-- The cotangent of the convolution, from that of its SiLU. -/
def dconv (G Z : Mat 4096 N) : Mat 4096 N := fun i => slope (G i) (Z i)
/-- The gradient of the rows: each gets of itself and of the three rows after it. -/
def dx (D : Mat 4096 N) (W : Mat 4 N) : Mat 4096 N := fun i =>
  W (ix2 3 (i 1)) * D (ix2 (i 0) (i 1)) + W (ix2 0 (i 1)) * next D 3 (i 0) (i 1) + W (ix2 1 (i 1)) * next D 2 (i 0) (i 1) + W (ix2 2 (i 1)) * next D 1 (i 0) (i 1)
/-- The gradient of the weights, and four rows of zeros below it. -/
def dw (D X : Mat 4096 N) : Mat 8 N := fun i => if (i 0).val < 4 then ∑ r : Fin 4096, D (ix2 r (i 1)) * past X (3 - (i 0).val) r (i 1) else 0
/-- The gradient of the bias. -/
def db (D : Mat 4096 N) : Mat 1 N := fun i => ∑ r : Fin 4096, D (ix2 r (i 1))

theorem conv_apply (X : Mat 4096 N) (W : Mat 4 N) (B : Mat 1 N) (r : Fin 4096) (n : Fin N) : conv X W B (ix2 r n) =
    B (ix2 0 n) + W (ix2 3 n) * X (ix2 r n) + W (ix2 0 n) * past X 3 r n + W (ix2 1 n) * past X 2 r n + W (ix2 2 n) * past X 1 r n := rfl
theorem dx_apply (D : Mat 4096 N) (W : Mat 4 N) (r : Fin 4096) (n : Fin N) : dx D W (ix2 r n) =
    W (ix2 3 n) * D (ix2 r n) + W (ix2 0 n) * next D 3 r n + W (ix2 1 n) * next D 2 r n + W (ix2 2 n) * next D 1 r n := rfl

/-! A block of columns of each is the same of the blocks. -/
variable {M : ℕ} {x : Mat 4096 M} {X : Mat 4096 N} {w : Mat 4 M} {W : Mat 4 N} {b : Mat 1 M} {B : Mat 1 N} {g z : Mat 4096 M} {G Z : Mat 4096 N} {n : Fin M} {n' : Fin N}

theorem past_block (hx : ∀ r, x (ix2 r n) = X (ix2 r n')) (s : ℕ) (r : Fin 4096) : past x s r n = past X s r n' := by
  unfold past; simp only [hx]
theorem next_block (hx : ∀ r, x (ix2 r n) = X (ix2 r n')) (s : ℕ) (r : Fin 4096) : next x s r n = next X s r n' := by
  unfold next; simp only [hx]
theorem conv_block (hx : ∀ r, x (ix2 r n) = X (ix2 r n')) (hw : ∀ k, w (ix2 k n) = W (ix2 k n')) (hb : ∀ k, b (ix2 k n) = B (ix2 k n')) (r : Fin 4096) :
    conv x w b (ix2 r n) = conv X W B (ix2 r n') := by
  rw [conv_apply, conv_apply]; simp only [hx, hw, hb, past_block hx]
theorem silu_block (hx : ∀ r, x (ix2 r n) = X (ix2 r n')) (r : Fin 4096) : silu x (ix2 r n) = silu X (ix2 r n') := by
  unfold silu; simp only [hx]
theorem dconv_block (hg : ∀ r, g (ix2 r n) = G (ix2 r n')) (hz : ∀ r, z (ix2 r n) = Z (ix2 r n')) (r : Fin 4096) : dconv g z (ix2 r n) = dconv G Z (ix2 r n') := by
  unfold dconv; simp only [hg, hz]
theorem dx_block (hx : ∀ r, x (ix2 r n) = X (ix2 r n')) (hw : ∀ k, w (ix2 k n) = W (ix2 k n')) (r : Fin 4096) : dx x w (ix2 r n) = dx X W (ix2 r n') := by
  rw [dx_apply, dx_apply]; simp only [hx, hw, next_block hx]
theorem dw_block (hg : ∀ r, g (ix2 r n) = G (ix2 r n')) (hx : ∀ r, x (ix2 r n) = X (ix2 r n')) (k : Fin 8) : dw g x (ix2 k n) = dw G X (ix2 k n') := by
  show (if k.val < 4 then ∑ r : Fin 4096, g (ix2 r n) * past x (3 - k.val) r n else 0) = if k.val < 4 then ∑ r : Fin 4096, G (ix2 r n') * past X (3 - k.val) r n' else 0
  simp only [hg, past_block hx]
theorem db_block (hg : ∀ r, g (ix2 r n) = G (ix2 r n')) (k : Fin 1) : db g (ix2 k n) = db G (ix2 k n') := by
  show ∑ r : Fin 4096, g (ix2 r n) = ∑ r : Fin 4096, G (ix2 r n')
  simp only [hg]
end Math

/-! ## Loads of rows -/

theorem ld_rows {A B C : ℕ} (X : Vec Ideal (⟨2, ![A, B]⟩ : Shape) .f32) (off : ℕ)
    (inb : ∀ a, (![off, 0] : Fin 2 → ℕ) a + (![C, B] : Fin 2 → ℕ) a ≤ (⟨2, ![A, B]⟩ : Shape).size a) (r : Fin C) (d : Fin B) (n : Fin A)
    (hn : n.val = off + r.val) : View.ld X (Rect.unit ![off, 0] ![C, B] inb) (ix2 r d) = X (ix2 n d) := by
  refine congrArg X (funext fun a => Fin.ext ?_)
  match a with
  | ⟨0, _⟩ => show off + 1 * r.val = n.val; omega
  | ⟨1, _⟩ => show 0 + 1 * d.val = d.val; omega

theorem emb_rows {A B C : ℕ} (off : ℕ)
    (inb : ∀ a, (![off, 0] : Fin 2 → ℕ) a + (![C, B] : Fin 2 → ℕ) a ≤ (⟨2, ![A, B]⟩ : Shape).size a) (r : Fin C) (d : Fin B) (n : Fin A)
    (hn : n.val = off + r.val) :
    (Rect.unit (s := (⟨2, ![A, B]⟩ : Shape)) ![off, 0] ![C, B] inb).emb (ix2 r d) = ix2 n d := by
  refine funext fun a => Fin.ext ?_
  match a with
  | ⟨0, _⟩ => show off + 1 * r.val = n.val; omega
  | ⟨1, _⟩ => show 0 + 1 * d.val = d.val; omega

/-! ## A tile of the forward pass -/

/-- A tile's rows with the eight rows before them. -/
def joined (halo : Vec Ideal S8x256 .f32) (cur : Vec Ideal S512x256 .f32) (i : Fin 520) (n : Fin 256) : EReal :=
  if h : i.val < 8 then halo (ix2 ⟨i.val, h⟩ n) else cur (ix2 ⟨i.val - 8, by omega⟩ n)

/-- Eight rows of zeros. -/
abbrev zeros : Vec Ideal S8x256 .f32 := broadcast S8x256 (Scalar.ofBits (F := Ideal) .f32 0x00000000#32)
theorem zeros_apply (r : Fin 8) (n : Fin 256) : zeros (ix2 r n) = 0 := by
  pointwise

theorem pay5 (w : Vec Ideal S4x256 .f32) (cur : Vec Ideal S512x256 .f32) (halo : Vec Ideal S8x256 .f32) (b : Vec Ideal S1x256 .f32) (r : Fin 512) (n : Fin 256) :
    k0_pay5 w cur halo b (ix2 r n) = b (ix2 0 n) + w (ix2 3 n) * cur (ix2 r n) + w (ix2 0 n) * joined halo cur ⟨r.val + 5, by omega⟩ n
      + w (ix2 1 n) * joined halo cur ⟨r.val + 6, by omega⟩ n + w (ix2 2 n) * joined halo cur ⟨r.val + 7, by omega⟩ n := by
  pointwise [k0_pay5, joined]
  simp only [show (8 + r.val + 520 - 3) % 520 = r.val + 5 by omega, show (8 + r.val + 520 - 2) % 520 = r.val + 6 by omega, show (8 + r.val + 520 - 1) % 520 = r.val + 7 by omega]
theorem pay6 (w : Vec Ideal S4x256 .f32) (cur : Vec Ideal S512x256 .f32) (halo : Vec Ideal S8x256 .f32) (b : Vec Ideal S1x256 .f32) (r : Fin 512) (n : Fin 256) :
    k0_pay6 w cur halo b (ix2 r n) = k0_pay5 w cur halo b (ix2 r n) * gate (k0_pay5 w cur halo b (ix2 r n)) := by
  unfold k0_pay6
  generalize k0_pay5 w cur halo b = P
  pointwise [gate]

/-! ## A tile of the backward pass -/

theorem cot (z g : Vec Ideal S4096x256 .f32) (r : Fin 4096) (n : Fin 256) : k1_pay3 z g (ix2 r n) = slope (g (ix2 r n)) (z (ix2 r n)) := by
  pointwise [k1_pay3, slope, gate]
theorem fill (r : Fin 8) (n : Fin 256) : k1_pay4 (F := Ideal) (ix2 r n) = 0 := by
  pointwise [k1_pay4]
theorem dxT (w : Vec Ideal S4x256 .f32) (d : Vec Ideal S520x256 .f32) (r : Fin 512) (n : Fin 256) :
    k1_pay28 w d (k1_pay26 w d) (ix2 r n) = w (ix2 3 n) * d (ix2 ⟨r.val, by omega⟩ n) + w (ix2 0 n) * d (ix2 ⟨r.val + 3, by omega⟩ n)
      + w (ix2 1 n) * d (ix2 ⟨r.val + 2, by omega⟩ n) + w (ix2 2 n) * d (ix2 ⟨r.val + 1, by omega⟩ n) := by
  pointwise [k1_pay28, k1_pay26, k1_pay21]
  simp only [show (r.val + 520 - 517) % 520 = r.val + 3 by omega, show (r.val + 520 - 518) % 520 = r.val + 2 by omega, show (r.val + 520 - 519) % 520 = r.val + 1 by omega]
theorem dbT (a : Vec Ideal S1x256 .f32) (d : Vec Ideal S520x256 .f32) (n : Fin 256) :
    k1_pay22 a d (ix2 0 n) = a (ix2 0 n) + ∑ r : Fin 512, d (ix2 ⟨r.val, by omega⟩ n) := by
  pointwise [k1_pay22, k1_pay21]
theorem dw3T (a : Vec Ideal S1x256 .f32) (cur : Vec Ideal S512x256 .f32) (d : Vec Ideal S520x256 .f32) (n : Fin 256) :
    k1_pay23 a cur d (ix2 0 n) = a (ix2 0 n) + ∑ r : Fin 512, d (ix2 ⟨r.val, by omega⟩ n) * cur (ix2 r n) := by
  pointwise [k1_pay23, k1_pay21]
theorem dw0T (a : Vec Ideal S1x256 .f32) (cur : Vec Ideal S512x256 .f32) (halo : Vec Ideal S8x256 .f32) (d : Vec Ideal S520x256 .f32) (n : Fin 256) :
    k1_pay24 a cur halo d (ix2 0 n) = a (ix2 0 n) + ∑ r : Fin 512, d (ix2 ⟨r.val, by omega⟩ n) * joined halo cur ⟨r.val + 5, by omega⟩ n := by
  pointwise [k1_pay24, k1_pay20, k1_pay21, joined]
  simp only [show ∀ r : Fin 512, (8 + r.val + 520 - 3) % 520 = r.val + 5 from fun r => by omega]
theorem dw1T (a : Vec Ideal S1x256 .f32) (cur : Vec Ideal S512x256 .f32) (halo : Vec Ideal S8x256 .f32) (d : Vec Ideal S520x256 .f32) (n : Fin 256) :
    k1_pay25 a cur halo d (ix2 0 n) = a (ix2 0 n) + ∑ r : Fin 512, d (ix2 ⟨r.val, by omega⟩ n) * joined halo cur ⟨r.val + 6, by omega⟩ n := by
  pointwise [k1_pay25, k1_pay20, k1_pay21, joined]
  simp only [show ∀ r : Fin 512, (8 + r.val + 520 - 2) % 520 = r.val + 6 from fun r => by omega]
theorem dw2T (a : Vec Ideal S1x256 .f32) (cur : Vec Ideal S512x256 .f32) (halo : Vec Ideal S8x256 .f32) (d : Vec Ideal S520x256 .f32) (n : Fin 256) :
    k1_pay27 a (k1_pay20 cur halo) (k1_pay21 d) 1#32 (ix2 0 n) = a (ix2 0 n) + ∑ r : Fin 512, d (ix2 ⟨r.val, by omega⟩ n) * joined halo cur ⟨r.val + 7, by omega⟩ n := by
  pointwise [k1_pay27, k1_pay20, k1_pay21, joined]
  simp only [show ∀ r : Fin 512, (8 + r.val + 520 - 1) % 520 = r.val + 7 from fun r => by omega]
end Cert.ConvKernelIdeal.ConvTile
end
-- ==== Proof.ConvStep.lean ====
/- What the two convolution bodies read of their blocks, tile by tile, and a step of each of their sums. -/
module

public import proofs.«01_k».proof.Proof.ConvTile
public import proofs.«01_k».proof.Proof.Gen.ConvKernelIdeal.Frame
public import Idealize.ShloMosaic.Lib.Pipeline.ValueKit
public import Idealize.ShloMosaic.Lib.Pipeline.ReadBack

@[expose] public section
set_option maxRecDepth 16384
noncomputable section
namespace Cert.ConvKernelIdeal.ConvStep
open Cert.ConvKernelIdeal Cert.ConvKernelIdeal.Gen Cert.Product Idealize.ShloMosaic Idealize.ShloMosaic.TcCoe ConvTile

/-! ## A tile of the block, the rows before it, and the rows of the scratch after it -/

theorem in_rows (off : ℕ) (h : off + 512 ≤ 4096) : ∀ a, (![off, 0] : Fin 2 → ℕ) a + S512x256.size a ≤ S4096x256.size a := fun a =>
  match a with
  | ⟨0, _⟩ => h
  | ⟨1, _⟩ => by show 0 + 256 ≤ 256; omega
theorem in_halo (off : ℕ) (h : off + 8 ≤ 4096) : ∀ a, (![off, 0] : Fin 2 → ℕ) a + S8x256.size a ≤ S4096x256.size a := fun a =>
  match a with
  | ⟨0, _⟩ => h
  | ⟨1, _⟩ => by show 0 + 256 ≤ 256; omega
theorem in_window (off : ℕ) (h : off + 520 ≤ 4104) : ∀ a, (![off, 0] : Fin 2 → ℕ) a + S520x256.size a ≤ S4104x256.size a := fun a =>
  match a with
  | ⟨0, _⟩ => h
  | ⟨1, _⟩ => by show 0 + 256 ≤ 256; omega

/-- 512 rows. -/
abbrev rows (X : Vec Ideal S4096x256 .f32) (off : ℕ) (h : off + 512 ≤ 4096) : Vec Ideal S512x256 .f32 := View.ld X (Rect.unit ![off, 0] S512x256.size (in_rows off h))
/-- Eight rows. -/
abbrev halo (X : Vec Ideal S4096x256 .f32) (off : ℕ) (h : off + 8 ≤ 4096) : Vec Ideal S8x256 .f32 := View.ld X (Rect.unit ![off, 0] S8x256.size (in_halo off h))
/-- What the scratch holds: the cotangent of the convolution, and eight rows of zeros after it. -/
abbrev scratch (Z G : Vec Ideal S4096x256 .f32) : List (View.Piece (Elt Ideal) S4104x256 .f32) :=
  [⟨Rect.unit ![4096, 0] ![8, 256] inb_S4104x256_S8x256_4096_0, k1_pay4 (F := Ideal)⟩, ⟨Rect.unit ![0, 0] ![4096, 256] inb_S4104x256_S4096x256_0_0, k1_pay3 Z G⟩]
/-- 520 rows of the scratch. -/
abbrev window (Z G : Vec Ideal S4096x256 .f32) (off : ℕ) (h : off + 520 ≤ 4104) : Vec Ideal S520x256 .f32 :=
  (View.whole cc1_scratch0).readCov (scratch Z G) (Rect.unit (s := S4104x256) ![off, 0] S520x256.size (in_window off h)).toLoadRect

theorem window_apply (Z G : Vec Ideal S4096x256 .f32) (off : ℕ) (h : off + 520 ≤ 4104) (i : Fin 520) (n : Fin 256) :
    window Z G off h (ix2 i n) = if g : off + i.val < 4096 then dconv G Z (ix2 ⟨off + i.val, g⟩ n) else 0 := by
  have e : (Rect.unit (s := S4104x256) ![off, 0] ![520, 256] (in_window off h)).toLoadRect.idx (ix2 i n) = (ix2 ⟨off + i.val, by omega⟩ n : S4104x256.Idx) :=
    emb_rows (A := 4104) (B := 256) (C := 520) off (in_window off h) i n ⟨off + i.val, by omega⟩ rfl
  unfold window
  rw [View.readCov_eq_canon']
  refine (congrArg (View.canon (scratch Z G)) e).trans ?_
  split
  · next g =>
    refine (View.canon_cons_of_not_mem _ _ fun hx => ?_).trans ?_
    · have : 4096 ≤ off + i.val := ((Rect.mem_set_unit (inb := inb_S4104x256_S8x256_4096_0).mp hx) (0 : Fin 2)).1
      omega
    · refine (congrArg (View.canon _) (emb_rows (A := 4104) (B := 256) (C := 4096) 0 inb_S4104x256_S4096x256_0_0 ⟨off + i.val, g⟩ n ⟨off + i.val, by omega⟩ (by show off + i.val = 0 + (off + i.val); omega)).symm).trans ?_
      exact (View.canon_cons_emb _ _ _ _).trans (cot Z G ⟨off + i.val, g⟩ n)
  · next g =>
    refine (congrArg (View.canon _) (emb_rows (A := 4104) (B := 256) (C := 8) 4096 inb_S4104x256_S8x256_4096_0 ⟨off + i.val - 4096, by omega⟩ n ⟨off + i.val, by omega⟩ (by show off + i.val = 4096 + (off + i.val - 4096); omega)).symm).trans ?_
    exact (View.canon_cons_emb _ _ _ _).trans (fill ⟨off + i.val - 4096, by omega⟩ n)

/-- A window's rows are the cotangent's, and those after them. -/
theorem window_next (Z G : Vec Ideal S4096x256 .f32) (off : ℕ) (h : off + 520 ≤ 4104) (s : ℕ) (hs : s ≤ 8) (r : Fin 512) (n : Fin 256) :
    window Z G off h (ix2 ⟨r.val + s, by omega⟩ n) = next (dconv G Z) s ⟨off + r.val, by omega⟩ n := by
  rw [window_apply]; unfold next
  simp only [Nat.add_assoc]
theorem window_row (Z G : Vec Ideal S4096x256 .f32) (off : ℕ) (h : off + 520 ≤ 4104) (r : Fin 512) (n : Fin 256) :
    window Z G off h (ix2 ⟨r.val, by omega⟩ n) = dconv G Z (ix2 ⟨off + r.val, by omega⟩ n) := by
  rw [window_apply, dif_pos (show off + r.val < 4096 by omega)]

/-- A tile's rows, and those before them. -/
structure Tile (X : Vec Ideal S4096x256 .f32) (off : ℕ) (h : off + 512 ≤ 4096) (ha : Vec Ideal S8x256 .f32) (cur : Vec Ideal S512x256 .f32) : Prop where
  row : ∀ (r : Fin 512) (n : Fin 256), cur (ix2 r n) = X (ix2 ⟨off + r.val, by omega⟩ n)
  before : ∀ (k : ℕ) (hk : k < 8) (r : Fin 512) (n : Fin 256), joined ha cur ⟨r.val + k, by omega⟩ n = past X (8 - k) ⟨off + r.val, by omega⟩ n

theorem first (X : Vec Ideal S4096x256 .f32) : Tile X 0 (by omega) zeros (rows X 0 (by omega)) where
  row r n := ld_rows X 0 _ r n _ rfl
  before k hk r n := by
    unfold joined past
    by_cases g : r.val + k < 8
    · rw [dif_pos g, dif_neg (show ¬ 8 - k ≤ 0 + r.val by omega), zeros_apply]
    · rw [dif_neg g, dif_pos (show 8 - k ≤ 0 + r.val by omega)]
      exact ld_rows X 0 _ _ n _ (by show 0 + r.val - (8 - k) = 0 + (r.val + k - 8); omega)
theorem later (X : Vec Ideal S4096x256 .f32) (off : ℕ) (h : off + 512 ≤ 4096) (o8 : ℕ) (e : off = o8 + 8) : Tile X off h (halo X o8 (by omega)) (rows X off h) where
  row r n := ld_rows X off _ r n _ rfl
  before k hk r n := by
    unfold joined past
    rw [dif_pos (show 8 - k ≤ off + r.val by omega)]
    by_cases g : r.val + k < 8
    · rw [dif_pos g]
      exact ld_rows X o8 _ _ n _ (by show off + r.val - (8 - k) = o8 + (r.val + k); omega)
    · rw [dif_neg g]
      exact ld_rows X off _ _ n _ (by show off + r.val - (8 - k) = off + (r.val + k - 8); omega)

/-- A tile of the rows' gradient. -/
theorem dxTile {Z G : Vec Ideal S4096x256 .f32} (off : ℕ) (h : off + 520 ≤ 4104) (w : Vec Ideal S4x256 .f32) (r : Fin 512) (n : Fin 256) :
    k1_pay28 w (window Z G off h) (k1_pay26 w (window Z G off h)) (ix2 r n) = dx (dconv G Z) w (ix2 ⟨off + r.val, by omega⟩ n) := by
  rw [dxT, dx_apply, window_row, window_next Z G off h 3 (by decide), window_next Z G off h 2 (by decide), window_next Z G off h 1 (by decide)]
/-- A step of the bias's running sum. -/
theorem dbStep {Z G : Vec Ideal S4096x256 .f32} (off : ℕ) (h : off + 520 ≤ 4104) (a : Vec Ideal S1x256 .f32) (n : Fin 256) :
    k1_pay22 a (window Z G off h) (ix2 0 n) = a (ix2 0 n) + ∑ r : Fin 512, (fun s : Fin 4096 => dconv G Z (ix2 s n)) ⟨off + r.val, by omega⟩ := by
  rw [dbT]; simp only [window_row]

section Steps
variable {X Z G : Vec Ideal S4096x256 .f32} {off : ℕ} {h : off + 512 ≤ 4096} {ha : Vec Ideal S8x256 .f32} {cur : Vec Ideal S512x256 .f32}

/-- A tile of the convolution. -/
theorem convTile (t : Tile X off h ha cur) (w : Vec Ideal S4x256 .f32) (b : Vec Ideal S1x256 .f32) (r : Fin 512) (n : Fin 256) :
    k0_pay5 w cur ha b (ix2 r n) = conv X w b (ix2 ⟨off + r.val, by omega⟩ n) := by
  rw [pay5, conv_apply, t.row, t.before 5 (by decide), t.before 6 (by decide), t.before 7 (by decide)]
theorem siluTile (t : Tile X off h ha cur) (w : Vec Ideal S4x256 .f32) (b : Vec Ideal S1x256 .f32) (r : Fin 512) (n : Fin 256) :
    k0_pay6 w cur ha b (ix2 r n) = silu (conv X w b) (ix2 ⟨off + r.val, by omega⟩ n) := by
  rw [pay6, convTile t]; rfl

/-! A step of each of the weights' running sums. -/
theorem dw3Step (h' : off + 520 ≤ 4104) (t : Tile X off h ha cur) (a : Vec Ideal S1x256 .f32) (n : Fin 256) :
    k1_pay23 a cur (window Z G off h') (ix2 0 n) = a (ix2 0 n) + ∑ r : Fin 512, (fun s : Fin 4096 => dconv G Z (ix2 s n) * X (ix2 s n)) ⟨off + r.val, by omega⟩ := by
  rw [dw3T]; simp only [window_row, t.row]
theorem dw0Step (h' : off + 520 ≤ 4104) (t : Tile X off h ha cur) (a : Vec Ideal S1x256 .f32) (n : Fin 256) :
    k1_pay24 a cur ha (window Z G off h') (ix2 0 n) = a (ix2 0 n) + ∑ r : Fin 512, (fun s : Fin 4096 => dconv G Z (ix2 s n) * past X 3 s n) ⟨off + r.val, by omega⟩ := by
  rw [dw0T]; simp only [window_row, t.before 5 (by decide)]
theorem dw1Step (h' : off + 520 ≤ 4104) (t : Tile X off h ha cur) (a : Vec Ideal S1x256 .f32) (n : Fin 256) :
    k1_pay25 a cur ha (window Z G off h') (ix2 0 n) = a (ix2 0 n) + ∑ r : Fin 512, (fun s : Fin 4096 => dconv G Z (ix2 s n) * past X 2 s n) ⟨off + r.val, by omega⟩ := by
  rw [dw1T]; simp only [window_row, t.before 6 (by decide)]
theorem dw2Step (h' : off + 520 ≤ 4104) (t : Tile X off h ha cur) (a : Vec Ideal S1x256 .f32) (n : Fin 256) :
    k1_pay27 a (k1_pay20 cur ha) (k1_pay21 (window Z G off h')) 1#32 (ix2 0 n) = a (ix2 0 n) + ∑ r : Fin 512, (fun s : Fin 4096 => dconv G Z (ix2 s n) * past X 1 s n) ⟨off + r.val, by omega⟩ := by
  rw [dw2T]; simp only [window_row, t.before 7 (by decide)]
end Steps

/-- Eight sums of 512 rows, added up in turn, are the sum of all rows. -/
theorem sum_tiles (f : Fin 4096 → EReal) :
    ((((((((0 + ∑ r : Fin 512, f ⟨0 + r.val, by omega⟩) + ∑ r : Fin 512, f ⟨512 + r.val, by omega⟩) + ∑ r : Fin 512, f ⟨1024 + r.val, by omega⟩) + ∑ r : Fin 512, f ⟨1536 + r.val, by omega⟩) + ∑ r : Fin 512, f ⟨2048 + r.val, by omega⟩) + ∑ r : Fin 512, f ⟨2560 + r.val, by omega⟩) + ∑ r : Fin 512, f ⟨3072 + r.val, by omega⟩) + ∑ r : Fin 512, f ⟨3584 + r.val, by omega⟩) = ∑ s, f s := by
  have e : ∑ s, f s = ∑ k : Fin 8, ∑ r : Fin 512, f ⟨r.val + 512 * k.val, by omega⟩ :=
    (Equiv.sum_comp (finProdFinEquiv (m := 8) (n := 512)) f).symm.trans (Fintype.sum_prod_type _)
  rw [e, Fin.sum_univ_eight, zero_add]
  simp only [Nat.add_comm]
  rfl

/-- The four rows of the weights' gradient, and zeros below. -/
def stack (a0 a1 a2 a3 : FVec Ideal S1x256 .f32) : FVec Ideal S8x256 .f32 :=
  concatenate S8x256 0 [⟨S1x256, a0⟩, ⟨S1x256, a1⟩, ⟨S1x256, a2⟩, ⟨S1x256, a3⟩, ⟨S4x256, broadcast S4x256 (Scalar.ofBits (F := Ideal) .f32 0x00000000#32)⟩]
    concatenates_S1x256_S1x256_S1x256_S1x256_S4x256_S8x256_d0
theorem stack_apply (a0 a1 a2 a3 : FVec Ideal S1x256 .f32) (k : Fin 8) (n : Fin 256) : stack a0 a1 a2 a3 (ix2 k n) =
    if k.val = 0 then a0 (ix2 0 n) else if k.val = 1 then a1 (ix2 0 n) else if k.val = 2 then a2 (ix2 0 n) else if k.val = 3 then a3 (ix2 0 n) else 0 := by
  fin_cases k <;> pointwise [stack]

end Cert.ConvKernelIdeal.ConvStep
end
-- ==== Proof.ConvSame.lean ====
/- Every tile of the two bodies computes the same of its rows. -/
module

public import proofs.«01_k».proof.Proof.ConvStep

@[expose] public section
set_option maxRecDepth 16384
noncomputable section
namespace Cert.ConvKernelIdeal.ConvSame
open Cert.ConvKernelIdeal Cert.ConvKernelIdeal.Gen Cert.Product Idealize.ShloMosaic Idealize.ShloMosaic.TcCoe ConvTile ConvStep
variable (w : Vec Ideal S4x256 .f32) (cur : Vec Ideal S512x256 .f32) (ha : Vec Ideal S8x256 .f32) (b a : Vec Ideal S1x256 .f32) (d : Vec Ideal S520x256 .f32)

theorem conv0 : k0_pay3 w cur b = k0_pay5 w cur zeros b := rfl
theorem conv2 : k0_pay8 w cur (k0_pay7 cur ha) b = k0_pay5 w cur ha b := rfl
theorem conv3 : k0_pay12 w cur (k0_pay10 cur ha) b (k0_pay11 w) = k0_pay5 w cur ha b := rfl
theorem conv4 : k0_pay17 w (k0_pay14 cur ha) (k0_pay15 w cur b) (k0_pay16 w) 3#32 = k0_pay5 w cur ha b := rfl
theorem conv5 : k0_pay21 w (k0_pay19 cur ha) (k0_pay20 w cur ha b) = k0_pay5 w cur ha b := rfl
theorem conv6 : k0_pay27 w (k0_pay23 cur ha) (k0_pay24 w cur ha b) (k0_pay25 cur ha) (k0_pay26 w) = k0_pay5 w cur ha b := rfl
theorem conv7 : k0_pay1 (k0_pay30 w cur ha b) (k0_pay31 w) (k0_pay32 cur ha) = k0_pay5 w cur ha b := rfl
theorem silu0 : k0_pay4 w cur b = k0_pay6 w cur zeros b := rfl
theorem silu2 : k0_pay9 w cur (k0_pay7 cur ha) b = k0_pay6 w cur ha b := rfl
theorem silu3 : k0_pay13 w cur (k0_pay10 cur ha) b (k0_pay11 w) = k0_pay6 w cur ha b := rfl
theorem silu4 : k0_pay18 w (k0_pay14 cur ha) (k0_pay15 w cur b) (k0_pay16 w) 3#32 = k0_pay6 w cur ha b := rfl
theorem silu5 : k0_pay22 w (k0_pay19 cur ha) (k0_pay20 w cur ha b) = k0_pay6 w cur ha b := rfl
theorem silu6 : k0_pay28 w (k0_pay23 cur ha) (k0_pay24 w cur ha b) (k0_pay25 cur ha) (k0_pay26 w) = k0_pay6 w cur ha b := rfl
theorem silu7 : k0_pay2 (k0_pay30 w cur ha b) (k0_pay31 w) (k0_pay32 cur ha) = k0_pay6 w cur ha b := rfl

theorem db0 : k1_pay12 a d = k1_pay22 a d := rfl
theorem db2 : k1_pay31 a d = k1_pay22 a d := rfl
theorem db3 : k1_pay41 a d = k1_pay22 a d := rfl
theorem db4 : k1_pay51 a d = k1_pay22 a d := rfl
theorem db5 : k1_pay59 a d = k1_pay22 a d := rfl
theorem db6 : k1_pay69 a d = k1_pay22 a d := rfl
theorem db7 : k1_pay80 a d = k1_pay22 a d := rfl
theorem dx0 : k1_pay19 (k1_pay16 w d) (k1_pay18 w d) = k1_pay28 w d (k1_pay26 w d) := rfl
theorem dx2 : k1_pay38 w d (k1_pay34 w d) = k1_pay28 w d (k1_pay26 w d) := rfl
theorem dx3 : k1_pay48 w d (k1_pay43 w d) = k1_pay28 w d (k1_pay26 w d) := rfl
theorem dx4 : k1_pay56 w d (k1_pay50 d) = k1_pay28 w d (k1_pay26 w d) := rfl
theorem dx5 : k1_pay66 d (k1_pay63 w d) (k1_pay65 w) = k1_pay28 w d (k1_pay26 w d) := rfl
theorem dx6 : k1_pay77 w d (k1_pay72 w d) (k1_pay74 w) (k1_pay75 d) = k1_pay28 w d (k1_pay26 w d) := rfl
theorem dx7 : k1_pay1 w d (k1_pay82 w d) (k1_pay84 d) (k1_pay85 w) = k1_pay28 w d (k1_pay26 w d) := rfl
theorem a0 : k1_pay14 a (k1_pay10 cur) d = k1_pay24 a cur zeros d := rfl
theorem a2 : k1_pay33 a cur ha d = k1_pay24 a cur ha d := rfl
theorem a3 : k1_pay45 a (k1_pay44 cur ha d) = k1_pay24 a cur ha d := rfl
theorem a4 : k1_pay53 a (k1_pay49 cur ha) (k1_pay50 d) = k1_pay24 a cur ha d := rfl
theorem a5 : k1_pay61 a cur ha d = k1_pay24 a cur ha d := rfl
theorem a6 : k1_pay71 a cur ha d = k1_pay24 a cur ha d := rfl
theorem a7 : k1_pay83 a cur ha d = k1_pay24 a cur ha d := rfl
theorem b0 : k1_pay15 a (k1_pay10 cur) d = k1_pay25 a cur zeros d := rfl
theorem b2 : k1_pay36 a (k1_pay30 d) (k1_pay35 cur ha) = k1_pay25 a cur ha d := rfl
theorem b3 : k1_pay46 a (k1_pay39 cur ha) (k1_pay40 d) = k1_pay25 a cur ha d := rfl
theorem b4 : k1_pay54 a (k1_pay49 cur ha) (k1_pay50 d) = k1_pay25 a cur ha d := rfl
theorem b5 : k1_pay62 a cur ha d = k1_pay25 a cur ha d := rfl
theorem b6 : k1_pay73 a cur ha d = k1_pay25 a cur ha d := rfl
theorem c0 : k1_pay17 a (k1_pay10 cur) d = k1_pay27 a (k1_pay20 cur zeros) (k1_pay21 d) 1#32 := rfl
theorem c2 : k1_pay37 a (k1_pay29 cur ha) (k1_pay30 d) = k1_pay27 a (k1_pay20 cur ha) (k1_pay21 d) 1#32 := rfl
theorem c3 : k1_pay47 a (k1_pay39 cur ha) (k1_pay40 d) = k1_pay27 a (k1_pay20 cur ha) (k1_pay21 d) 1#32 := rfl
theorem c4 : k1_pay55 a (k1_pay49 cur ha) (k1_pay50 d) = k1_pay27 a (k1_pay20 cur ha) (k1_pay21 d) 1#32 := rfl
theorem c5 : k1_pay64 a cur ha d = k1_pay27 a (k1_pay20 cur ha) (k1_pay21 d) 1#32 := rfl
theorem c6 : k1_pay76 a (k1_pay67 cur ha) (k1_pay68 d) = k1_pay27 a (k1_pay20 cur ha) (k1_pay21 d) 1#32 := rfl
theorem e0 : k1_pay13 a cur d = k1_pay23 a cur d := rfl
theorem e2 : k1_pay32 a cur d = k1_pay23 a cur d := rfl
theorem e3 : k1_pay42 a cur d = k1_pay23 a cur d := rfl
theorem e4 : k1_pay52 a cur (k1_pay50 d) = k1_pay23 a cur d := rfl
theorem e5 : k1_pay60 a cur d = k1_pay23 a cur d := rfl
theorem e6 : k1_pay70 a cur d = k1_pay23 a cur d := rfl
theorem e7 : k1_pay81 a cur d = k1_pay23 a cur d := rfl
theorem last (s0 s1 s2 s3 : FVec Ideal S1x256 .f32) : k1_pay2 s1 s2 (k1_pay78 cur ha) (k1_pay79 d) s3 s0
    = stack s0 (k1_pay25 s1 cur ha d) (k1_pay27 s2 (k1_pay20 cur ha) (k1_pay21 d) 1#32) s3 := rfl
end Cert.ConvKernelIdeal.ConvSame
end
-- ==== Proof.ConvBlocks.lean ====
/- What the two convolution bodies leave of their blocks. -/
module

public import proofs.«01_k».proof.Proof.ConvSame
public import proofs.«01_k».proof.Proof.Gen.ConvKernelIdeal.Frame
public import Idealize.ShloMosaic.Lib.Pipeline.ValueKit
public import Idealize.ShloMosaic.Lib.Pipeline.ReadBack

@[expose] public section
set_option maxRecDepth 16384
noncomputable section
namespace Cert.ConvKernelIdeal.ConvBlocks
open Cert.ConvKernelIdeal Cert.ConvKernelIdeal.Gen Cert.Product Idealize.ShloMosaic Idealize.ShloMosaic.TcCoe ConvTile ConvStep ConvSame

/-! The sums start at zero. -/
theorem z5 (n : Fin 256) : k1_pay5 (F := Ideal) (ix2 0 n) = 0 := by
  pointwise [k1_pay5]
theorem z6 (n : Fin 256) : k1_pay6 (F := Ideal) (ix2 0 n) = 0 := by
  pointwise [k1_pay6]
theorem z7 (n : Fin 256) : k1_pay7 (F := Ideal) (ix2 0 n) = 0 := by
  pointwise [k1_pay7]
theorem z8 (n : Fin 256) : k1_pay8 (F := Ideal) (ix2 0 n) = 0 := by
  pointwise [k1_pay8]
theorem z9 (n : Fin 256) : k1_pay9 (F := Ideal) (ix2 0 n) = 0 := by
  pointwise [k1_pay9]
/-! The weights and the bias are read whole. -/
theorem wld (w : Vec Ideal S4x256 .f32) : View.ld w r0_0 = w := View.ld_unit_lit inb_S4x256_S4x256_0_0 w (by decide)
theorem bld (b : Vec Ideal S1x256 .f32) : View.ld b r0_2 = b := View.ld_unit_lit inb_S1x256_S1x256_0_0 b (by decide)
set_option maxHeartbeats 4000000 in
/-- The convolution's block. -/
theorem out0_3_eq (x0 : Vec Ideal S4096x256 .f32) (x1 : Vec Ideal S4x256 .f32) (x2 : Vec Ideal S1x256 .f32) (y : S4096x256.Idx) : out0_3 x0 x1 x2 y = conv x0 x1 x2 y := by
  unfold_out out0_3
  refine View.canon_append_of_piecesOf (Val := Elt Ideal) (e := .f32) (s := S4096x256) (conv x0 x1 x2) [] [_, _, _, _, _, _, _, _]
    ⟨fun x => ?_, fun x => ?_, fun x => ?_, fun x => ?_, fun x => ?_, fun x => ?_, fun x => ?_, fun x => ?_, trivial⟩ y (View.cover_of_tiledL (s := S4096x256) _ S512x256.size (by sl_kernel_rfl) y)
  · obtain ⟨r, n, rfl⟩ := exists_ix2 (M := 512) (N := 256) x
    refine Eq.trans (b := k0_pay5 x1 (rows x0 3584 (by omega)) (halo x0 3576 (by omega)) x2 (ix2 r n)) ?_ ((convTile (later x0 3584 (by omega) 3576 rfl) x1 x2 r n).trans (congrArg (conv x0 x1 x2) (emb_rows (A := 4096) (B := 256) (C := 512) 3584 inb_S4096x256_S512x256_3584_0 r n ⟨3584 + r.val, by omega⟩ rfl)).symm)
    rw [wld x1, bld x2]
    exact congrFun (conv7 _ _ _ _) (ix2 r n)
  · obtain ⟨r, n, rfl⟩ := exists_ix2 (M := 512) (N := 256) x
    refine Eq.trans (b := k0_pay5 x1 (rows x0 3072 (by omega)) (halo x0 3064 (by omega)) x2 (ix2 r n)) ?_ ((convTile (later x0 3072 (by omega) 3064 rfl) x1 x2 r n).trans (congrArg (conv x0 x1 x2) (emb_rows (A := 4096) (B := 256) (C := 512) 3072 inb_S4096x256_S512x256_3072_0 r n ⟨3072 + r.val, by omega⟩ rfl)).symm)
    rw [wld x1, bld x2]
    exact congrFun (conv6 _ _ _ _) (ix2 r n)
  · obtain ⟨r, n, rfl⟩ := exists_ix2 (M := 512) (N := 256) x
    refine Eq.trans (b := k0_pay5 x1 (rows x0 2560 (by omega)) (halo x0 2552 (by omega)) x2 (ix2 r n)) ?_ ((convTile (later x0 2560 (by omega) 2552 rfl) x1 x2 r n).trans (congrArg (conv x0 x1 x2) (emb_rows (A := 4096) (B := 256) (C := 512) 2560 inb_S4096x256_S512x256_2560_0 r n ⟨2560 + r.val, by omega⟩ rfl)).symm)
    rw [wld x1, bld x2]
    exact congrFun (conv5 _ _ _ _) (ix2 r n)
  · obtain ⟨r, n, rfl⟩ := exists_ix2 (M := 512) (N := 256) x
    refine Eq.trans (b := k0_pay5 x1 (rows x0 2048 (by omega)) (halo x0 2040 (by omega)) x2 (ix2 r n)) ?_ ((convTile (later x0 2048 (by omega) 2040 rfl) x1 x2 r n).trans (congrArg (conv x0 x1 x2) (emb_rows (A := 4096) (B := 256) (C := 512) 2048 inb_S4096x256_S512x256_2048_0 r n ⟨2048 + r.val, by omega⟩ rfl)).symm)
    rw [wld x1, bld x2]
    exact congrFun (conv4 _ _ _ _) (ix2 r n)
  · obtain ⟨r, n, rfl⟩ := exists_ix2 (M := 512) (N := 256) x
    refine Eq.trans (b := k0_pay5 x1 (rows x0 1536 (by omega)) (halo x0 1528 (by omega)) x2 (ix2 r n)) ?_ ((convTile (later x0 1536 (by omega) 1528 rfl) x1 x2 r n).trans (congrArg (conv x0 x1 x2) (emb_rows (A := 4096) (B := 256) (C := 512) 1536 inb_S4096x256_S512x256_1536_0 r n ⟨1536 + r.val, by omega⟩ rfl)).symm)
    rw [wld x1, bld x2]
    exact congrFun (conv3 _ _ _ _) (ix2 r n)
  · obtain ⟨r, n, rfl⟩ := exists_ix2 (M := 512) (N := 256) x
    refine Eq.trans (b := k0_pay5 x1 (rows x0 1024 (by omega)) (halo x0 1016 (by omega)) x2 (ix2 r n)) ?_ ((convTile (later x0 1024 (by omega) 1016 rfl) x1 x2 r n).trans (congrArg (conv x0 x1 x2) (emb_rows (A := 4096) (B := 256) (C := 512) 1024 inb_S4096x256_S512x256_1024_0 r n ⟨1024 + r.val, by omega⟩ rfl)).symm)
    rw [wld x1, bld x2]
    exact congrFun (conv2 _ _ _ _) (ix2 r n)
  · obtain ⟨r, n, rfl⟩ := exists_ix2 (M := 512) (N := 256) x
    refine Eq.trans (b := k0_pay5 x1 (rows x0 512 (by omega)) (halo x0 504 (by omega)) x2 (ix2 r n)) ?_ ((convTile (later x0 512 (by omega) 504 rfl) x1 x2 r n).trans (congrArg (conv x0 x1 x2) (emb_rows (A := 4096) (B := 256) (C := 512) 512 inb_S4096x256_S512x256_512_0 r n ⟨512 + r.val, by omega⟩ rfl)).symm)
    rw [wld x1, bld x2]
  · obtain ⟨r, n, rfl⟩ := exists_ix2 (M := 512) (N := 256) x
    refine Eq.trans (b := k0_pay5 x1 (rows x0 0 (by omega)) zeros x2 (ix2 r n)) ?_ ((convTile (first x0) x1 x2 r n).trans (congrArg (conv x0 x1 x2) (emb_rows (A := 4096) (B := 256) (C := 512) 0 inb_S4096x256_S512x256_0_0 r n ⟨0 + r.val, by omega⟩ rfl)).symm)
    rw [wld x1, bld x2]
    exact congrFun (conv0 _ _ _) (ix2 r n)
set_option maxHeartbeats 4000000 in
/-- The block of its SiLU. -/
theorem out0_4_eq (x0 : Vec Ideal S4096x256 .f32) (x1 : Vec Ideal S4x256 .f32) (x2 : Vec Ideal S1x256 .f32) (y : S4096x256.Idx) : out0_4 x0 x1 x2 y = silu (conv x0 x1 x2) y := by
  unfold_out out0_4
  refine View.canon_append_of_piecesOf (Val := Elt Ideal) (e := .f32) (s := S4096x256) (silu (conv x0 x1 x2)) [] [_, _, _, _, _, _, _, _]
    ⟨fun x => ?_, fun x => ?_, fun x => ?_, fun x => ?_, fun x => ?_, fun x => ?_, fun x => ?_, fun x => ?_, trivial⟩ y (View.cover_of_tiledL (s := S4096x256) _ S512x256.size (by sl_kernel_rfl) y)
  · obtain ⟨r, n, rfl⟩ := exists_ix2 (M := 512) (N := 256) x
    refine Eq.trans (b := k0_pay6 x1 (rows x0 3584 (by omega)) (halo x0 3576 (by omega)) x2 (ix2 r n)) ?_ ((siluTile (later x0 3584 (by omega) 3576 rfl) x1 x2 r n).trans (congrArg (silu (conv x0 x1 x2)) (emb_rows (A := 4096) (B := 256) (C := 512) 3584 inb_S4096x256_S512x256_3584_0 r n ⟨3584 + r.val, by omega⟩ rfl)).symm)
    rw [wld x1, bld x2]
    exact congrFun (silu7 _ _ _ _) (ix2 r n)
  · obtain ⟨r, n, rfl⟩ := exists_ix2 (M := 512) (N := 256) x
    refine Eq.trans (b := k0_pay6 x1 (rows x0 3072 (by omega)) (halo x0 3064 (by omega)) x2 (ix2 r n)) ?_ ((siluTile (later x0 3072 (by omega) 3064 rfl) x1 x2 r n).trans (congrArg (silu (conv x0 x1 x2)) (emb_rows (A := 4096) (B := 256) (C := 512) 3072 inb_S4096x256_S512x256_3072_0 r n ⟨3072 + r.val, by omega⟩ rfl)).symm)
    rw [wld x1, bld x2]
    exact congrFun (silu6 _ _ _ _) (ix2 r n)
  · obtain ⟨r, n, rfl⟩ := exists_ix2 (M := 512) (N := 256) x
    refine Eq.trans (b := k0_pay6 x1 (rows x0 2560 (by omega)) (halo x0 2552 (by omega)) x2 (ix2 r n)) ?_ ((siluTile (later x0 2560 (by omega) 2552 rfl) x1 x2 r n).trans (congrArg (silu (conv x0 x1 x2)) (emb_rows (A := 4096) (B := 256) (C := 512) 2560 inb_S4096x256_S512x256_2560_0 r n ⟨2560 + r.val, by omega⟩ rfl)).symm)
    rw [wld x1, bld x2]
    exact congrFun (silu5 _ _ _ _) (ix2 r n)
  · obtain ⟨r, n, rfl⟩ := exists_ix2 (M := 512) (N := 256) x
    refine Eq.trans (b := k0_pay6 x1 (rows x0 2048 (by omega)) (halo x0 2040 (by omega)) x2 (ix2 r n)) ?_ ((siluTile (later x0 2048 (by omega) 2040 rfl) x1 x2 r n).trans (congrArg (silu (conv x0 x1 x2)) (emb_rows (A := 4096) (B := 256) (C := 512) 2048 inb_S4096x256_S512x256_2048_0 r n ⟨2048 + r.val, by omega⟩ rfl)).symm)
    rw [wld x1, bld x2]
    exact congrFun (silu4 _ _ _ _) (ix2 r n)
  · obtain ⟨r, n, rfl⟩ := exists_ix2 (M := 512) (N := 256) x
    refine Eq.trans (b := k0_pay6 x1 (rows x0 1536 (by omega)) (halo x0 1528 (by omega)) x2 (ix2 r n)) ?_ ((siluTile (later x0 1536 (by omega) 1528 rfl) x1 x2 r n).trans (congrArg (silu (conv x0 x1 x2)) (emb_rows (A := 4096) (B := 256) (C := 512) 1536 inb_S4096x256_S512x256_1536_0 r n ⟨1536 + r.val, by omega⟩ rfl)).symm)
    rw [wld x1, bld x2]
    exact congrFun (silu3 _ _ _ _) (ix2 r n)
  · obtain ⟨r, n, rfl⟩ := exists_ix2 (M := 512) (N := 256) x
    refine Eq.trans (b := k0_pay6 x1 (rows x0 1024 (by omega)) (halo x0 1016 (by omega)) x2 (ix2 r n)) ?_ ((siluTile (later x0 1024 (by omega) 1016 rfl) x1 x2 r n).trans (congrArg (silu (conv x0 x1 x2)) (emb_rows (A := 4096) (B := 256) (C := 512) 1024 inb_S4096x256_S512x256_1024_0 r n ⟨1024 + r.val, by omega⟩ rfl)).symm)
    rw [wld x1, bld x2]
    exact congrFun (silu2 _ _ _ _) (ix2 r n)
  · obtain ⟨r, n, rfl⟩ := exists_ix2 (M := 512) (N := 256) x
    refine Eq.trans (b := k0_pay6 x1 (rows x0 512 (by omega)) (halo x0 504 (by omega)) x2 (ix2 r n)) ?_ ((siluTile (later x0 512 (by omega) 504 rfl) x1 x2 r n).trans (congrArg (silu (conv x0 x1 x2)) (emb_rows (A := 4096) (B := 256) (C := 512) 512 inb_S4096x256_S512x256_512_0 r n ⟨512 + r.val, by omega⟩ rfl)).symm)
    rw [wld x1, bld x2]
  · obtain ⟨r, n, rfl⟩ := exists_ix2 (M := 512) (N := 256) x
    refine Eq.trans (b := k0_pay6 x1 (rows x0 0 (by omega)) zeros x2 (ix2 r n)) ?_ ((siluTile (first x0) x1 x2 r n).trans (congrArg (silu (conv x0 x1 x2)) (emb_rows (A := 4096) (B := 256) (C := 512) 0 inb_S4096x256_S512x256_0_0 r n ⟨0 + r.val, by omega⟩ rfl)).symm)
    rw [wld x1, bld x2]
    exact congrFun (silu0 _ _ _) (ix2 r n)

variable (V : (c : Dev nD) → (b : Ref sig .tc) → Buf (Elt Ideal) ((c : Thread nD τ).loc b)) (c : Dev nD)
set_option maxHeartbeats 4000000 in
/-- The block of the bias's gradient. -/
theorem dbRun (t : Fin cfg1.N) (x0 x1 x2 : Vec Ideal S4096x256 .f32) (x3 : Vec Ideal S4x256 .f32) (h0 : iblk1 V c 0 t = x0) (h1 : iblk1 V c 1 t = x1) (h2 : iblk1 V c 2 t = x2)
    (h3 : iblk1 V c 3 t = x3) (y : S1x256.Idx) : (outsAt1 V c t).2.2 y = db (dconv x2 x1) y := by
  obtain ⟨k, n, rfl⟩ := exists_ix2 (M := 1) (N := 256) y
  obtain rfl : k = 0 := Subsingleton.elim _ _
  refine Eq.trans (b := (k1_pay22 (k1_pay22 (k1_pay22 (k1_pay22 (k1_pay22 (k1_pay22 (k1_pay22 (k1_pay22 (k1_pay9 (F := Ideal)) (window x1 x2 0 (by omega))) (window x1 x2 512 (by omega))) (window x1 x2 1024 (by omega))) (window x1 x2 1536 (by omega))) (window x1 x2 2048 (by omega))) (window x1 x2 2560 (by omega))) (window x1 x2 3072 (by omega))) (window x1 x2 3584 (by omega))) (ix2 0 n)) ?_ ?_
  · unfold outsAt1
    rw [h0, h1, h2, h3]
    frame_open
    frame_out
    simp only [db0, db2, db3, db4, db5, db6, db7]
  · refine Eq.trans ?_ (sum_tiles fun s : Fin 4096 => dconv x2 x1 (ix2 s n))
    rw [dbStep 3584 (by omega), dbStep 3072 (by omega), dbStep 2560 (by omega), dbStep 2048 (by omega), dbStep 1536 (by omega), dbStep 1024 (by omega), dbStep 512 (by omega), dbStep 0 (by omega), z9]
/-- The running sums of the weights' row 0. -/
def sum0 (x0 x1 x2 : Vec Ideal S4096x256 .f32) : FVec Ideal S1x256 .f32 :=
  (k1_pay24 (k1_pay24 (k1_pay24 (k1_pay24 (k1_pay24 (k1_pay24 (k1_pay24 (k1_pay24 (k1_pay5 (F := Ideal)) (rows x0 0 (by omega)) zeros (window x1 x2 0 (by omega))) (rows x0 512 (by omega)) (halo x0 504 (by omega)) (window x1 x2 512 (by omega))) (rows x0 1024 (by omega)) (halo x0 1016 (by omega)) (window x1 x2 1024 (by omega))) (rows x0 1536 (by omega)) (halo x0 1528 (by omega)) (window x1 x2 1536 (by omega))) (rows x0 2048 (by omega)) (halo x0 2040 (by omega)) (window x1 x2 2048 (by omega))) (rows x0 2560 (by omega)) (halo x0 2552 (by omega)) (window x1 x2 2560 (by omega))) (rows x0 3072 (by omega)) (halo x0 3064 (by omega)) (window x1 x2 3072 (by omega))) (rows x0 3584 (by omega)) (halo x0 3576 (by omega)) (window x1 x2 3584 (by omega)))
theorem sum0_apply (x0 x1 x2 : Vec Ideal S4096x256 .f32) (n : Fin 256) : sum0 x0 x1 x2 (ix2 0 n) = ∑ s : Fin 4096, dconv x2 x1 (ix2 s n) * past x0 3 s n := by
  refine Eq.trans ?_ (sum_tiles fun s : Fin 4096 => dconv x2 x1 (ix2 s n) * past x0 3 s n)
  unfold sum0
  rw [dw0Step (by omega) (later x0 3584 (by omega) 3576 rfl), dw0Step (by omega) (later x0 3072 (by omega) 3064 rfl), dw0Step (by omega) (later x0 2560 (by omega) 2552 rfl), dw0Step (by omega) (later x0 2048 (by omega) 2040 rfl), dw0Step (by omega) (later x0 1536 (by omega) 1528 rfl), dw0Step (by omega) (later x0 1024 (by omega) 1016 rfl), dw0Step (by omega) (later x0 512 (by omega) 504 rfl), dw0Step (by omega) (first x0), z5]
/-- The running sums of the weights' row 1. -/
def sum1 (x0 x1 x2 : Vec Ideal S4096x256 .f32) : FVec Ideal S1x256 .f32 :=
  (k1_pay25 (k1_pay25 (k1_pay25 (k1_pay25 (k1_pay25 (k1_pay25 (k1_pay25 (k1_pay25 (k1_pay6 (F := Ideal)) (rows x0 0 (by omega)) zeros (window x1 x2 0 (by omega))) (rows x0 512 (by omega)) (halo x0 504 (by omega)) (window x1 x2 512 (by omega))) (rows x0 1024 (by omega)) (halo x0 1016 (by omega)) (window x1 x2 1024 (by omega))) (rows x0 1536 (by omega)) (halo x0 1528 (by omega)) (window x1 x2 1536 (by omega))) (rows x0 2048 (by omega)) (halo x0 2040 (by omega)) (window x1 x2 2048 (by omega))) (rows x0 2560 (by omega)) (halo x0 2552 (by omega)) (window x1 x2 2560 (by omega))) (rows x0 3072 (by omega)) (halo x0 3064 (by omega)) (window x1 x2 3072 (by omega))) (rows x0 3584 (by omega)) (halo x0 3576 (by omega)) (window x1 x2 3584 (by omega)))
theorem sum1_apply (x0 x1 x2 : Vec Ideal S4096x256 .f32) (n : Fin 256) : sum1 x0 x1 x2 (ix2 0 n) = ∑ s : Fin 4096, dconv x2 x1 (ix2 s n) * past x0 2 s n := by
  refine Eq.trans ?_ (sum_tiles fun s : Fin 4096 => dconv x2 x1 (ix2 s n) * past x0 2 s n)
  unfold sum1
  rw [dw1Step (by omega) (later x0 3584 (by omega) 3576 rfl), dw1Step (by omega) (later x0 3072 (by omega) 3064 rfl), dw1Step (by omega) (later x0 2560 (by omega) 2552 rfl), dw1Step (by omega) (later x0 2048 (by omega) 2040 rfl), dw1Step (by omega) (later x0 1536 (by omega) 1528 rfl), dw1Step (by omega) (later x0 1024 (by omega) 1016 rfl), dw1Step (by omega) (later x0 512 (by omega) 504 rfl), dw1Step (by omega) (first x0), z6]
/-- The running sums of the weights' row 2. -/
def sum2 (x0 x1 x2 : Vec Ideal S4096x256 .f32) : FVec Ideal S1x256 .f32 :=
  (k1_pay27 (k1_pay27 (k1_pay27 (k1_pay27 (k1_pay27 (k1_pay27 (k1_pay27 (k1_pay27 (k1_pay7 (F := Ideal)) (k1_pay20 (rows x0 0 (by omega)) zeros) (k1_pay21 (window x1 x2 0 (by omega))) 1#32) (k1_pay20 (rows x0 512 (by omega)) (halo x0 504 (by omega))) (k1_pay21 (window x1 x2 512 (by omega))) 1#32) (k1_pay20 (rows x0 1024 (by omega)) (halo x0 1016 (by omega))) (k1_pay21 (window x1 x2 1024 (by omega))) 1#32) (k1_pay20 (rows x0 1536 (by omega)) (halo x0 1528 (by omega))) (k1_pay21 (window x1 x2 1536 (by omega))) 1#32) (k1_pay20 (rows x0 2048 (by omega)) (halo x0 2040 (by omega))) (k1_pay21 (window x1 x2 2048 (by omega))) 1#32) (k1_pay20 (rows x0 2560 (by omega)) (halo x0 2552 (by omega))) (k1_pay21 (window x1 x2 2560 (by omega))) 1#32) (k1_pay20 (rows x0 3072 (by omega)) (halo x0 3064 (by omega))) (k1_pay21 (window x1 x2 3072 (by omega))) 1#32) (k1_pay20 (rows x0 3584 (by omega)) (halo x0 3576 (by omega))) (k1_pay21 (window x1 x2 3584 (by omega))) 1#32)
theorem sum2_apply (x0 x1 x2 : Vec Ideal S4096x256 .f32) (n : Fin 256) : sum2 x0 x1 x2 (ix2 0 n) = ∑ s : Fin 4096, dconv x2 x1 (ix2 s n) * past x0 1 s n := by
  refine Eq.trans ?_ (sum_tiles fun s : Fin 4096 => dconv x2 x1 (ix2 s n) * past x0 1 s n)
  unfold sum2
  rw [dw2Step (by omega) (later x0 3584 (by omega) 3576 rfl), dw2Step (by omega) (later x0 3072 (by omega) 3064 rfl), dw2Step (by omega) (later x0 2560 (by omega) 2552 rfl), dw2Step (by omega) (later x0 2048 (by omega) 2040 rfl), dw2Step (by omega) (later x0 1536 (by omega) 1528 rfl), dw2Step (by omega) (later x0 1024 (by omega) 1016 rfl), dw2Step (by omega) (later x0 512 (by omega) 504 rfl), dw2Step (by omega) (first x0), z7]
/-- The running sums of the weights' row 3. -/
def sum3 (x0 x1 x2 : Vec Ideal S4096x256 .f32) : FVec Ideal S1x256 .f32 :=
  (k1_pay23 (k1_pay23 (k1_pay23 (k1_pay23 (k1_pay23 (k1_pay23 (k1_pay23 (k1_pay23 (k1_pay8 (F := Ideal)) (rows x0 0 (by omega)) (window x1 x2 0 (by omega))) (rows x0 512 (by omega)) (window x1 x2 512 (by omega))) (rows x0 1024 (by omega)) (window x1 x2 1024 (by omega))) (rows x0 1536 (by omega)) (window x1 x2 1536 (by omega))) (rows x0 2048 (by omega)) (window x1 x2 2048 (by omega))) (rows x0 2560 (by omega)) (window x1 x2 2560 (by omega))) (rows x0 3072 (by omega)) (window x1 x2 3072 (by omega))) (rows x0 3584 (by omega)) (window x1 x2 3584 (by omega)))
theorem sum3_apply (x0 x1 x2 : Vec Ideal S4096x256 .f32) (n : Fin 256) : sum3 x0 x1 x2 (ix2 0 n) = ∑ s : Fin 4096, dconv x2 x1 (ix2 s n) * x0 (ix2 s n) := by
  refine Eq.trans ?_ (sum_tiles fun s : Fin 4096 => dconv x2 x1 (ix2 s n) * x0 (ix2 s n))
  unfold sum3
  rw [dw3Step (by omega) (later x0 3584 (by omega) 3576 rfl), dw3Step (by omega) (later x0 3072 (by omega) 3064 rfl), dw3Step (by omega) (later x0 2560 (by omega) 2552 rfl), dw3Step (by omega) (later x0 2048 (by omega) 2040 rfl), dw3Step (by omega) (later x0 1536 (by omega) 1528 rfl), dw3Step (by omega) (later x0 1024 (by omega) 1016 rfl), dw3Step (by omega) (later x0 512 (by omega) 504 rfl), dw3Step (by omega) (first x0), z8]
theorem past_zero (X : Mat 4096 256) (r : Fin 4096) (n : Fin 256) : past X 0 r n = X (ix2 r n) := by
  unfold past; rw [dif_pos (Nat.zero_le _)]; rfl
set_option maxHeartbeats 4000000 in
/-- The block of the weights' gradient. -/
theorem dwRun (t : Fin cfg1.N) (x0 x1 x2 : Vec Ideal S4096x256 .f32) (x3 : Vec Ideal S4x256 .f32) (h0 : iblk1 V c 0 t = x0) (h1 : iblk1 V c 1 t = x1) (h2 : iblk1 V c 2 t = x2)
    (h3 : iblk1 V c 3 t = x3) (y : S8x256.Idx) : (outsAt1 V c t).2.1 y = dw (dconv x2 x1) x0 y := by
  refine Eq.trans (b := stack (sum0 x0 x1 x2) (sum1 x0 x1 x2) (sum2 x0 x1 x2) (sum3 x0 x1 x2) y) ?_ ?_
  · unfold outsAt1
    rw [h0, h1, h2, h3]
    frame_open
    frame_out
    simp only [a0, a2, a3, a4, a5, a6, a7, b0, b2, b3, b4, b5, b6, c0, c2, c3, c4, c5, c6, e0, e2, e3, e4, e5, e6, e7, last]
    rfl
  · obtain ⟨k, n, rfl⟩ := exists_ix2 (M := 8) (N := 256) y
    rw [stack_apply, sum0_apply, sum1_apply, sum2_apply, sum3_apply]
    show _ = if k.val < 4 then ∑ r : Fin 4096, dconv x2 x1 (ix2 r n) * past x0 (3 - k.val) r n else 0
    fin_cases k <;> simp [past_zero]
set_option maxHeartbeats 4000000 in
/-- The block of the rows' gradient. -/
theorem dxRun (t : Fin cfg1.N) (x0 x1 x2 : Vec Ideal S4096x256 .f32) (x3 : Vec Ideal S4x256 .f32) (h0 : iblk1 V c 0 t = x0) (h1 : iblk1 V c 1 t = x1) (h2 : iblk1 V c 2 t = x2)
    (h3 : iblk1 V c 3 t = x3) (y : S4096x256.Idx) : (outsAt1 V c t).1 y = dx (dconv x2 x1) x3 y := by
  unfold outsAt1
  rw [h0, h1, h2, h3]
  frame_open
  frame_out
  refine View.canon_append_of_piecesOf (Val := Elt Ideal) (e := .bf16) (s := S4096x256) (dx (dconv x2 x1) x3) [] [_, _, _, _, _, _, _, _]
    ⟨fun x => ?_, fun x => ?_, fun x => ?_, fun x => ?_, fun x => ?_, fun x => ?_, fun x => ?_, fun x => ?_, trivial⟩ y (View.cover_of_tiledL (s := S4096x256) _ S512x256.size (by sl_kernel_rfl) y)
  · obtain ⟨r, n, rfl⟩ := exists_ix2 (M := 512) (N := 256) x
    have e : (Rect.unit (s := S4096x256) ![3584, 0] S512x256.size inb_S4096x256_S512x256_3584_0).emb (ix2 r n) = (ix2 ⟨3584 + r.val, by omega⟩ n : S4096x256.Idx) :=
      emb_rows (A := 4096) (B := 256) (C := 512) 3584 inb_S4096x256_S512x256_3584_0 r n ⟨3584 + r.val, by omega⟩ rfl
    refine Eq.trans (α := EReal) (b := k1_pay28 x3 (window x1 x2 3584 (by omega)) (k1_pay26 x3 (window x1 x2 3584 (by omega))) (ix2 r n)) ?_ ((dxTile 3584 (by omega) x3 r n).trans (congrArg (dx (dconv x2 x1) x3) e).symm)
    exact congrFun (dx7 _ _) (ix2 r n)
  · obtain ⟨r, n, rfl⟩ := exists_ix2 (M := 512) (N := 256) x
    have e : (Rect.unit (s := S4096x256) ![3072, 0] S512x256.size inb_S4096x256_S512x256_3072_0).emb (ix2 r n) = (ix2 ⟨3072 + r.val, by omega⟩ n : S4096x256.Idx) :=
      emb_rows (A := 4096) (B := 256) (C := 512) 3072 inb_S4096x256_S512x256_3072_0 r n ⟨3072 + r.val, by omega⟩ rfl
    refine Eq.trans (α := EReal) (b := k1_pay28 x3 (window x1 x2 3072 (by omega)) (k1_pay26 x3 (window x1 x2 3072 (by omega))) (ix2 r n)) ?_ ((dxTile 3072 (by omega) x3 r n).trans (congrArg (dx (dconv x2 x1) x3) e).symm)
    exact congrFun (dx6 _ _) (ix2 r n)
  · obtain ⟨r, n, rfl⟩ := exists_ix2 (M := 512) (N := 256) x
    have e : (Rect.unit (s := S4096x256) ![2560, 0] S512x256.size inb_S4096x256_S512x256_2560_0).emb (ix2 r n) = (ix2 ⟨2560 + r.val, by omega⟩ n : S4096x256.Idx) :=
      emb_rows (A := 4096) (B := 256) (C := 512) 2560 inb_S4096x256_S512x256_2560_0 r n ⟨2560 + r.val, by omega⟩ rfl
    refine Eq.trans (α := EReal) (b := k1_pay28 x3 (window x1 x2 2560 (by omega)) (k1_pay26 x3 (window x1 x2 2560 (by omega))) (ix2 r n)) ?_ ((dxTile 2560 (by omega) x3 r n).trans (congrArg (dx (dconv x2 x1) x3) e).symm)
    exact congrFun (dx5 _ _) (ix2 r n)
  · obtain ⟨r, n, rfl⟩ := exists_ix2 (M := 512) (N := 256) x
    have e : (Rect.unit (s := S4096x256) ![2048, 0] S512x256.size inb_S4096x256_S512x256_2048_0).emb (ix2 r n) = (ix2 ⟨2048 + r.val, by omega⟩ n : S4096x256.Idx) :=
      emb_rows (A := 4096) (B := 256) (C := 512) 2048 inb_S4096x256_S512x256_2048_0 r n ⟨2048 + r.val, by omega⟩ rfl
    refine Eq.trans (α := EReal) (b := k1_pay28 x3 (window x1 x2 2048 (by omega)) (k1_pay26 x3 (window x1 x2 2048 (by omega))) (ix2 r n)) ?_ ((dxTile 2048 (by omega) x3 r n).trans (congrArg (dx (dconv x2 x1) x3) e).symm)
    exact congrFun (dx4 _ _) (ix2 r n)
  · obtain ⟨r, n, rfl⟩ := exists_ix2 (M := 512) (N := 256) x
    have e : (Rect.unit (s := S4096x256) ![1536, 0] S512x256.size inb_S4096x256_S512x256_1536_0).emb (ix2 r n) = (ix2 ⟨1536 + r.val, by omega⟩ n : S4096x256.Idx) :=
      emb_rows (A := 4096) (B := 256) (C := 512) 1536 inb_S4096x256_S512x256_1536_0 r n ⟨1536 + r.val, by omega⟩ rfl
    refine Eq.trans (α := EReal) (b := k1_pay28 x3 (window x1 x2 1536 (by omega)) (k1_pay26 x3 (window x1 x2 1536 (by omega))) (ix2 r n)) ?_ ((dxTile 1536 (by omega) x3 r n).trans (congrArg (dx (dconv x2 x1) x3) e).symm)
    exact congrFun (dx3 _ _) (ix2 r n)
  · obtain ⟨r, n, rfl⟩ := exists_ix2 (M := 512) (N := 256) x
    have e : (Rect.unit (s := S4096x256) ![1024, 0] S512x256.size inb_S4096x256_S512x256_1024_0).emb (ix2 r n) = (ix2 ⟨1024 + r.val, by omega⟩ n : S4096x256.Idx) :=
      emb_rows (A := 4096) (B := 256) (C := 512) 1024 inb_S4096x256_S512x256_1024_0 r n ⟨1024 + r.val, by omega⟩ rfl
    refine Eq.trans (α := EReal) (b := k1_pay28 x3 (window x1 x2 1024 (by omega)) (k1_pay26 x3 (window x1 x2 1024 (by omega))) (ix2 r n)) ?_ ((dxTile 1024 (by omega) x3 r n).trans (congrArg (dx (dconv x2 x1) x3) e).symm)
    exact congrFun (dx2 _ _) (ix2 r n)
  · obtain ⟨r, n, rfl⟩ := exists_ix2 (M := 512) (N := 256) x
    have e : (Rect.unit (s := S4096x256) ![512, 0] S512x256.size inb_S4096x256_S512x256_512_0).emb (ix2 r n) = (ix2 ⟨512 + r.val, by omega⟩ n : S4096x256.Idx) :=
      emb_rows (A := 4096) (B := 256) (C := 512) 512 inb_S4096x256_S512x256_512_0 r n ⟨512 + r.val, by omega⟩ rfl
    refine Eq.trans (α := EReal) (b := k1_pay28 x3 (window x1 x2 512 (by omega)) (k1_pay26 x3 (window x1 x2 512 (by omega))) (ix2 r n)) ?_ ((dxTile 512 (by omega) x3 r n).trans (congrArg (dx (dconv x2 x1) x3) e).symm)
    rfl
  · obtain ⟨r, n, rfl⟩ := exists_ix2 (M := 512) (N := 256) x
    have e : (Rect.unit (s := S4096x256) ![0, 0] S512x256.size inb_S4096x256_S512x256_0_0).emb (ix2 r n) = (ix2 ⟨0 + r.val, by omega⟩ n : S4096x256.Idx) :=
      emb_rows (A := 4096) (B := 256) (C := 512) 0 inb_S4096x256_S512x256_0_0 r n ⟨0 + r.val, by omega⟩ rfl
    refine Eq.trans (α := EReal) (b := k1_pay28 x3 (window x1 x2 0 (by omega)) (k1_pay26 x3 (window x1 x2 0 (by omega))) (ix2 r n)) ?_ ((dxTile 0 (by omega) x3 r n).trans (congrArg (dx (dconv x2 x1) x3) e).symm)
    exact congrFun (dx0 _ _) (ix2 r n)

end Cert.ConvKernelIdeal.ConvBlocks
end
-- ==== Proof.ConvRun.lean ====
/- What the two convolution calls leave in their arrays. -/
module

public import proofs.«01_k».proof.Proof.ConvBlocks

@[expose] public section
set_option maxRecDepth 16384
noncomputable section
namespace Cert.ConvKernelIdeal.ConvRun
open Cert.ConvKernelIdeal Cert.ConvKernelIdeal.Gen Cert.Product Idealize.ShloMosaic Idealize.ShloMosaic.TcCoe ConvTile ConvBlocks
variable (V : (c : Dev nD) → (b : Ref sig .tc) → Buf (Elt Ideal) ((c : Thread nD τ).loc b)) (c : Dev nD)

/-- The columns the convolution runs over, of the projected activations. -/
def lanes (P : Mat 4096 12288) : Mat 4096 3072 := fun i => P (ix2 (i 0) ⟨3072 + (i 1).val, by have : (i 1).val < 3072 := (i 1).isLt; omega⟩)

theorem idx0 : ∀ t : Fin cfg0.N, win0_0.index t = ![0, 12 + t.val] ∧ win0_1.index t = ![0, t.val] ∧ win0_2.index t = ![0, t.val] ∧ win0_3.index t = ![0, t.val] ∧ win0_4.index t = ![0, t.val] :=
  (by decide +kernel : ∀ t : Fin grid0.N, _)
theorem idx1 : ∀ t : Fin cfg1.N, win1_0.index t = ![0, 12 + t.val] ∧ win1_1.index t = ![0, t.val] ∧ win1_2.index t = ![0, t.val] ∧ win1_3.index t = ![0, t.val] ∧ win1_4.index t = ![0, t.val]
    ∧ win1_5.index t = ![0, t.val] ∧ win1_6.index t = ![0, t.val] :=
  (by decide +kernel : ∀ t : Fin grid1.N, _)

/-! ## The forward call -/

section Blocks0
variable (t : Fin cfg0.N) (r : Fin 4096) (k : Fin 4) (n : Fin 256) (n' : Fin 3072) (hn : n'.val = 256 * t.val + n.val)
include hn
theorem x0 : iblk0 V c 0 t (ix2 r n) = lanes (V c main_arg0) (ix2 r n') := by
  have e : iblk0 V c 0 t (ix2 r n) = V c main_arg0 (ix2 r ⟨3072 + n'.val, by omega⟩) := by
    rw [show (⟨3072 + n'.val, by omega⟩ : Fin 12288) = ⟨(12 + t.val) * 256 + n.val, by omega⟩ from Fin.ext (by show 3072 + n'.val = (12 + t.val) * 256 + n.val; omega)]
    blk_ext [iblk0, idx0 t]
  exact e
theorem w0 : iblk0 V c 1 t (ix2 k n) = V c main_arg1 (ix2 k n') := by
  rw [show n' = ⟨t.val * 256 + n.val, by omega⟩ from Fin.ext (by show n'.val = t.val * 256 + n.val; omega)]
  blk_ext [iblk0, idx0 t]
theorem b0 (k : Fin 1) : iblk0 V c 2 t (ix2 k n) = V c main_arg2 (ix2 k n') := by
  rw [show n' = ⟨t.val * 256 + n.val, by omega⟩ from Fin.ext (by show n'.val = t.val * 256 + n.val; omega)]
  blk_ext [iblk0, idx0 t]
end Blocks0

/-- The convolution of the arguments. -/
abbrev pre : Mat 4096 3072 := conv (lanes (V c main_arg0)) (V c main_arg1) (V c main_arg2)

theorem arr0 : (dat0 V c).arrAt 3 cfg0.N = pre V c := by
  refine (dat0 V c).arrAt_eq_of_covers 3 _ (by decide +kernel) fun t hf y => ?_
  blk_simp
  rw [after0_3, out0_3_eq]
  obtain ⟨r, n, rfl⟩ := exists_ix2 (M := 4096) (N := 256) y
  have lt : t.val < 12 := t.isLt
  have place : (win0_3.blk t).view.emb (ix2 r n) = (ix2 r ⟨t.val * 256 + n.val, by omega⟩ : S4096x3072.Idx) := by blk_ext [idx0 t]
  have hn : (⟨t.val * 256 + n.val, by omega⟩ : Fin 3072).val = 256 * t.val + n.val := by show t.val * 256 + n.val = _; omega
  exact (conv_block (fun r => x0 V c t r n _ hn) (fun k => w0 V c t k n _ hn) (fun k => b0 V c t n _ hn k) r).trans (congrArg (pre V c) place).symm
theorem arr0' : (dat0 V c).arrAt 4 cfg0.N = silu (pre V c) := by
  refine (dat0 V c).arrAt_eq_of_covers 4 _ (by decide +kernel) fun t hf y => ?_
  blk_simp
  rw [after0_4, out0_4_eq]
  obtain ⟨r, n, rfl⟩ := exists_ix2 (M := 4096) (N := 256) y
  have lt : t.val < 12 := t.isLt
  have place : (win0_4.blk t).view.emb (ix2 r n) = (ix2 r ⟨t.val * 256 + n.val, by omega⟩ : S4096x3072.Idx) := by blk_ext [idx0 t]
  have hn : (⟨t.val * 256 + n.val, by omega⟩ : Fin 3072).val = 256 * t.val + n.val := by show t.val * 256 + n.val = _; omega
  exact (silu_block (fun r => conv_block (fun r => x0 V c t r n _ hn) (fun k => w0 V c t k n _ hn) (fun k => b0 V c t n _ hn k) r) r).trans (congrArg (silu (pre V c)) place).symm

/-! ## The backward call -/

section Blocks1
variable (t : Fin cfg1.N) (r : Fin 4096) (k : Fin 4) (n : Fin 256) (n' : Fin 3072) (hn : n'.val = 256 * t.val + n.val)
include hn
theorem x1 : iblk1 V c 0 t (ix2 r n) = lanes (V c main_arg0) (ix2 r n') := by
  have e : iblk1 V c 0 t (ix2 r n) = V c main_arg0 (ix2 r ⟨3072 + n'.val, by omega⟩) := by
    rw [show (⟨3072 + n'.val, by omega⟩ : Fin 12288) = ⟨(12 + t.val) * 256 + n.val, by omega⟩ from Fin.ext (by show 3072 + n'.val = (12 + t.val) * 256 + n.val; omega)]
    blk_ext [iblk1, idx1 t]
  exact e
theorem z1 : iblk1 V c 1 t (ix2 r n) = V c main_v0_0 (ix2 r n') := by
  rw [show n' = ⟨t.val * 256 + n.val, by omega⟩ from Fin.ext (by show n'.val = t.val * 256 + n.val; omega)]
  blk_ext [iblk1, idx1 t]
theorem g1 : iblk1 V c 2 t (ix2 r n) = V c main_arg3 (ix2 r n') := by
  rw [show n' = ⟨t.val * 256 + n.val, by omega⟩ from Fin.ext (by show n'.val = t.val * 256 + n.val; omega)]
  blk_ext [iblk1, idx1 t]
theorem w1 : iblk1 V c 3 t (ix2 k n) = V c main_arg1 (ix2 k n') := by
  rw [show n' = ⟨t.val * 256 + n.val, by omega⟩ from Fin.ext (by show n'.val = t.val * 256 + n.val; omega)]
  blk_ext [iblk1, idx1 t]
theorem d1 : dconv (iblk1 V c 2 t) (iblk1 V c 1 t) (ix2 r n) = dconv (V c main_arg3) (V c main_v0_0) (ix2 r n') :=
  dconv_block (fun r => g1 V c t r n n' hn) (fun r => z1 V c t r n n' hn) r
end Blocks1

/-- The convolution's cotangent. -/
abbrev cotangent : Mat 4096 3072 := dconv (V c main_arg3) (V c main_v0_0)

theorem arrX : (dat1 V c).arrAt 4 cfg1.N = dx (cotangent V c) (V c main_arg1) := by
  refine (dat1 V c).arrAt_eq_of_covers 4 _ (by decide +kernel) fun t hf y => ?_
  blk_simp
  rw [after1_4, dxRun V c t _ _ _ _ rfl rfl rfl rfl]
  obtain ⟨r, n, rfl⟩ := exists_ix2 (M := 4096) (N := 256) y
  have lt : t.val < 12 := t.isLt
  have place : (win1_4.blk t).view.emb (ix2 r n) = (ix2 r ⟨t.val * 256 + n.val, by omega⟩ : S4096x3072.Idx) := by blk_ext [idx1 t]
  have hn : (⟨t.val * 256 + n.val, by omega⟩ : Fin 3072).val = 256 * t.val + n.val := by show t.val * 256 + n.val = _; omega
  exact (dx_block (fun r => d1 V c t r n _ hn) (fun k => w1 V c t k n _ hn) r).trans (congrArg (dx (cotangent V c) (V c main_arg1)) place).symm
theorem arrW : (dat1 V c).arrAt 5 cfg1.N = dw (cotangent V c) (lanes (V c main_arg0)) := by
  refine (dat1 V c).arrAt_eq_of_covers 5 _ (by decide +kernel) fun t hf y => ?_
  blk_simp
  rw [after1_5, dwRun V c t _ _ _ _ rfl rfl rfl rfl]
  obtain ⟨k, n, rfl⟩ := exists_ix2 (M := 8) (N := 256) y
  have lt : t.val < 12 := t.isLt
  have place : (win1_5.blk t).view.emb (ix2 k n) = (ix2 k ⟨t.val * 256 + n.val, by omega⟩ : S8x3072.Idx) := by blk_ext [idx1 t]
  have hn : (⟨t.val * 256 + n.val, by omega⟩ : Fin 3072).val = 256 * t.val + n.val := by show t.val * 256 + n.val = _; omega
  exact (dw_block (fun r => d1 V c t r n _ hn) (fun r => x1 V c t r n _ hn) k).trans (congrArg (dw (cotangent V c) (lanes (V c main_arg0))) place).symm
theorem arrB : (dat1 V c).arrAt 6 cfg1.N = db (cotangent V c) := by
  refine (dat1 V c).arrAt_eq_of_covers 6 _ (by decide +kernel) fun t hf y => ?_
  blk_simp
  rw [after1_6, dbRun V c t _ _ _ _ rfl rfl rfl rfl]
  obtain ⟨k, n, rfl⟩ := exists_ix2 (M := 1) (N := 256) y
  have lt : t.val < 12 := t.isLt
  have place : (win1_6.blk t).view.emb (ix2 k n) = (ix2 k ⟨t.val * 256 + n.val, by omega⟩ : S1x3072.Idx) := by blk_ext [idx1 t]
  have hn : (⟨t.val * 256 + n.val, by omega⟩ : Fin 3072).val = 256 * t.val + n.val := by show t.val * 256 + n.val = _; omega
  exact (db_block (fun r => d1 V c t r n _ hn) k).trans (congrArg (db (cotangent V c)) place).symm
end Cert.ConvKernelIdeal.ConvRun
end
-- ==== Proof.ConvRef.lean ====
/- The reference's convolution, its SiLU and its gradients, entry by entry: shifted copies of the padded rows, summed. -/
module

public import proofs.«01_k».proof.Proof.Gen.ConvReferenceIdeal
public import proofs.«01_k».proof.Proof.Gen.ConvReferenceIdeal.Run
public import proofs.«01_k».proof.Proof.ConvRun
public import proofs.«01_k».proof.Proof.SoftmaxGrad
public import Idealize.ShloMosaic.Lib.KernelVsHost

@[expose] public section
set_option maxRecDepth 16384
noncomputable section

namespace Cert.ConvReferenceIdeal.ConvRef
open Cert.ConvReferenceIdeal Cert.ConvReferenceIdeal.Gen Cert.ConvReferenceIdeal.Value Cert.Product Idealize.ShloMosaic Idealize.ShloMosaic.TcCoe Idealize.SL.Sem
open Facts Cert.ConvKernelIdeal.ConvTile Cert.ConvKernelIdeal.ConvRun

/-! ## SiLU's derivative: the sum of two products is the product of a sum, for a real cotangent -/

theorem gate_top : gate ⊤ = 1 := by
  have e : Ideal.exp (0 - ⊤) = 0 := by rw [zero_sub, EReal.neg_top]; rfl
  unfold gate; rw [e, add_zero]; unfold Ideal.div; simp
theorem gate_bot : gate ⊥ = 0 := by
  have e : Ideal.exp (0 - ⊥) = ⊤ := by rw [zero_sub, EReal.neg_bot]; rfl
  have t : (1 : EReal) + ⊤ = ⊤ := by rw [← EReal.coe_one]; exact EReal.coe_add_top 1
  unfold gate; rw [e, t]; unfold Ideal.div; simp
theorem gate_real (z : ℝ) : ∃ s : ℝ, gate z = s := by
  refine ⟨1 * (1 + Real.exp (0 - z))⁻¹, ?_⟩
  have h : (1 : ℝ) + Real.exp (0 - z) ≠ 0 := by positivity
  have e : (1 : EReal) + Ideal.exp (0 - (z : EReal)) = ((1 + Real.exp (0 - z) : ℝ) : EReal) := by
    rw [EReal.coe_add, EReal.coe_one]; rfl
  unfold gate
  rw [e]
  unfold Ideal.div
  rw [if_neg (by exact_mod_cast h)]
  norm_cast
theorem slope_sum (g : ℝ) (z : EReal) : (g : EReal) * gate z + z * g * (gate z * (1 - gate z)) = Cert.ConvKernelIdeal.ConvTile.slope g z := by
  unfold Cert.ConvKernelIdeal.ConvTile.slope
  induction z with
  | bot => rw [gate_bot]; simp
  | top =>
    rw [gate_top, show (1 : EReal) - 1 = 0 by rw [← EReal.coe_one, ← EReal.coe_sub, sub_self, EReal.coe_zero]]
    simp
  | coe z =>
    obtain ⟨s, hs⟩ := gate_real z
    rw [hs]
    have e : g * s + z * g * (s * (1 - s)) = g * (s * (1 + z * (1 - s))) := by ring
    exact_mod_cast congrArg (fun x : ℝ => (x : EReal)) e

/-! ## The host's arrays, named -/

variable (P : FVec Ideal S4096x12288 .f32) (W : FVec Ideal S4x3072 .f32) (B : FVec Ideal S1x3072 .f32) (G Z D X : FVec Ideal S4096x3072 .f32)

/-- Three rows of zeros, then the columns the convolution runs over. -/
def padded : FVec Ideal S4099x3072 .f32 :=
  concatenate S4099x3072 0 [⟨S3x3072, broadcastInDim S3x3072 ![] bcast_S_S3x3072 (constant S_ .f32 0x00000000#32)⟩,
    ⟨S4096x3072, extractStridedSlice S4096x3072 ![0, 3072] P slices_S4096x12288_S4096x3072_0_3072⟩] concatenates_S3x3072_S4096x3072_S4099x3072_d0
theorem padded_apply (i : Fin 4099) (n : Fin 3072) : padded P (ix2 i n) = if h : i.val < 3 then 0 else lanes P (ix2 ⟨i.val - 3, by omega⟩ n) := by
  pointwise [padded, lanes]

/-- Row 0 of the weights, down the rows. -/
def weight0 : FVec Ideal S4096x3072 .f32 :=
  broadcastInDim S4096x3072 ![0, 1] bcast_S1x3072_S4096x3072_0_1 (broadcastInDim S1x3072 ![1] bcast_S3072_S1x3072_1
    (shapeCast _ (extractStridedSlice S1x3072 ![0, 0] W slices_S4x3072_S1x3072_0_0) shapeCasts_S1x3072_S3072))
/-- The padded rows from row 0 on. -/
def shift0 : FVec Ideal S4096x3072 .f32 := extractStridedSlice S4096x3072 ![0, 0] (padded P) slices_S4099x3072_S4096x3072_0_0
theorem weight0_apply (r : Fin 4096) (n : Fin 3072) : weight0 W (ix2 r n) = W (ix2 0 n) := by
  pointwise [weight0]
theorem shift0_apply (r : Fin 4096) (n : Fin 3072) : shift0 P (ix2 r n) = past (lanes P) 3 r n := by
  have e := padded_apply P ⟨r.val + 0, by omega⟩ n
  unfold shift0
  generalize padded P = Q at e ⊢
  pointwise
  refine (congrArg Q (congrArg (fun i => ix2 i n) (Fin.ext (by first | rfl | exact Nat.add_comm _ _)))).trans (e.trans ?_)
  unfold past
  by_cases h : 3 ≤ r.val
  · rw [dif_neg (by show ¬ r.val + 0 < 3; omega), dif_pos h]
    exact congrArg (lanes P) (congrArg (fun i => ix2 i n) (Fin.ext (by show r.val + 0 - 3 = r.val - 3; omega)))
  · rw [dif_pos (by show r.val + 0 < 3; omega), dif_neg h]

/-- Row 1 of the weights, down the rows. -/
def weight1 : FVec Ideal S4096x3072 .f32 :=
  broadcastInDim S4096x3072 ![0, 1] bcast_S1x3072_S4096x3072_0_1 (broadcastInDim S1x3072 ![1] bcast_S3072_S1x3072_1
    (shapeCast _ (extractStridedSlice S1x3072 ![1, 0] W slices_S4x3072_S1x3072_1_0) shapeCasts_S1x3072_S3072))
/-- The padded rows from row 1 on. -/
def shift1 : FVec Ideal S4096x3072 .f32 := extractStridedSlice S4096x3072 ![1, 0] (padded P) slices_S4099x3072_S4096x3072_1_0
theorem weight1_apply (r : Fin 4096) (n : Fin 3072) : weight1 W (ix2 r n) = W (ix2 1 n) := by
  pointwise [weight1]
theorem shift1_apply (r : Fin 4096) (n : Fin 3072) : shift1 P (ix2 r n) = past (lanes P) 2 r n := by
  have e := padded_apply P ⟨r.val + 1, by omega⟩ n
  unfold shift1
  generalize padded P = Q at e ⊢
  pointwise
  refine (congrArg Q (congrArg (fun i => ix2 i n) (Fin.ext (by first | rfl | exact Nat.add_comm _ _)))).trans (e.trans ?_)
  unfold past
  by_cases h : 2 ≤ r.val
  · rw [dif_neg (by show ¬ r.val + 1 < 3; omega), dif_pos h]
    exact congrArg (lanes P) (congrArg (fun i => ix2 i n) (Fin.ext (by show r.val + 1 - 3 = r.val - 2; omega)))
  · rw [dif_pos (by show r.val + 1 < 3; omega), dif_neg h]

/-- Row 2 of the weights, down the rows. -/
def weight2 : FVec Ideal S4096x3072 .f32 :=
  broadcastInDim S4096x3072 ![0, 1] bcast_S1x3072_S4096x3072_0_1 (broadcastInDim S1x3072 ![1] bcast_S3072_S1x3072_1
    (shapeCast _ (extractStridedSlice S1x3072 ![2, 0] W slices_S4x3072_S1x3072_2_0) shapeCasts_S1x3072_S3072))
/-- The padded rows from row 2 on. -/
def shift2 : FVec Ideal S4096x3072 .f32 := extractStridedSlice S4096x3072 ![2, 0] (padded P) slices_S4099x3072_S4096x3072_2_0
theorem weight2_apply (r : Fin 4096) (n : Fin 3072) : weight2 W (ix2 r n) = W (ix2 2 n) := by
  pointwise [weight2]
theorem shift2_apply (r : Fin 4096) (n : Fin 3072) : shift2 P (ix2 r n) = past (lanes P) 1 r n := by
  have e := padded_apply P ⟨r.val + 2, by omega⟩ n
  unfold shift2
  generalize padded P = Q at e ⊢
  pointwise
  refine (congrArg Q (congrArg (fun i => ix2 i n) (Fin.ext (by first | rfl | exact Nat.add_comm _ _)))).trans (e.trans ?_)
  unfold past
  by_cases h : 1 ≤ r.val
  · rw [dif_neg (by show ¬ r.val + 2 < 3; omega), dif_pos h]
    exact congrArg (lanes P) (congrArg (fun i => ix2 i n) (Fin.ext (by show r.val + 2 - 3 = r.val - 1; omega)))
  · rw [dif_pos (by show r.val + 2 < 3; omega), dif_neg h]

/-- Row 3 of the weights, down the rows. -/
def weight3 : FVec Ideal S4096x3072 .f32 :=
  broadcastInDim S4096x3072 ![0, 1] bcast_S1x3072_S4096x3072_0_1 (broadcastInDim S1x3072 ![1] bcast_S3072_S1x3072_1
    (shapeCast _ (extractStridedSlice S1x3072 ![3, 0] W slices_S4x3072_S1x3072_3_0) shapeCasts_S1x3072_S3072))
/-- The padded rows from row 3 on. -/
def shift3 : FVec Ideal S4096x3072 .f32 := extractStridedSlice S4096x3072 ![3, 0] (padded P) slices_S4099x3072_S4096x3072_3_0
theorem weight3_apply (r : Fin 4096) (n : Fin 3072) : weight3 W (ix2 r n) = W (ix2 3 n) := by
  pointwise [weight3]
theorem shift3_apply (r : Fin 4096) (n : Fin 3072) : shift3 P (ix2 r n) = past (lanes P) 0 r n := by
  have e := padded_apply P ⟨r.val + 3, by omega⟩ n
  unfold shift3
  generalize padded P = Q at e ⊢
  pointwise
  refine (congrArg Q (congrArg (fun i => ix2 i n) (Fin.ext (by first | rfl | exact Nat.add_comm _ _)))).trans (e.trans ?_)
  unfold past
  by_cases h : 0 ≤ r.val
  · rw [dif_neg (by show ¬ r.val + 3 < 3; omega), dif_pos h]
    exact congrArg (lanes P) (congrArg (fun i => ix2 i n) (Fin.ext (by show r.val + 3 - 3 = r.val - 0; omega)))
  · rw [dif_pos (by show r.val + 3 < 3; omega), dif_neg h]

/-- The convolution. -/
def convR : FVec Ideal S4096x3072 .f32 :=
  addf (addf (addf (addf (addf (broadcastInDim S4096x3072 ![] bcast_S_S4096x3072 (constant S_ .f32 0x00000000#32)) (mulf (weight0 W) (shift0 P))) (mulf (weight1 W) (shift1 P)))
    (mulf (weight2 W) (shift2 P))) (mulf (weight3 W) (shift3 P))) (broadcastInDim S4096x3072 ![0, 1] bcast_S1x3072_S4096x3072_0_1 B)
theorem past_here {N : ℕ} (X : Mat 4096 N) (r : Fin 4096) (n : Fin N) : past X 0 r n = X (ix2 r n) := by
  unfold past; rw [dif_pos (Nat.zero_le _)]; rfl
theorem next_here {N : ℕ} (X : Mat 4096 N) (r : Fin 4096) (n : Fin N) : next X 0 r n = X (ix2 r n) := by
  unfold next; rw [dif_pos (show r.val + 0 < 4096 from r.isLt)]; rfl
theorem order (a b c d e : EReal) : a + b + c + d + e = e + d + a + b + c := by abel
theorem convR_eq : convR P W B = conv (lanes P) W B := by
  funext i; obtain ⟨r, n, rfl⟩ := exists_ix2 (M := 4096) (N := 3072) i
  rw [conv_apply]
  have e0 := shift0_apply P r n
  have e1 := shift1_apply P r n
  have e2 := shift2_apply P r n
  have e3 := (shift3_apply P r n).trans (past_here _ r n)
  have f0 := weight0_apply W r n
  have f1 := weight1_apply W r n
  have f2 := weight2_apply W r n
  have f3 := weight3_apply W r n
  unfold convR
  generalize shift0 P = X0 at *
  generalize shift1 P = X1 at *
  generalize shift2 P = X2 at *
  generalize shift3 P = X3 at *
  generalize weight0 W = W0 at *
  generalize weight1 W = W1 at *
  generalize weight2 W = W2 at *
  generalize weight3 W = W3 at *
  pointwise
  rw [e0, e1, e2, e3, f0, f1, f2, f3]
  exact order _ _ _ _ _

/-- The logistic. -/
def gateR : FVec Ideal S4096x3072 .f32 :=
  Host.divf (broadcastInDim S4096x3072 ![] bcast_S_S4096x3072 (constant S_ .f32 0x3F800000#32))
    (addf (broadcastInDim S4096x3072 ![] bcast_S_S4096x3072 (constant S_ .f32 0x3F800000#32)) (Host.exp (Host.negf Z)))
theorem gateR_apply (r : Fin 4096) (n : Fin 3072) : gateR Z (ix2 r n) = gate (Z (ix2 r n)) := by
  unfold gate
  rw [zero_sub]
  pointwise [gateR]
theorem silu_eq : mulf Z (gateR Z) = silu (N := 3072) Z := by
  funext i; obtain ⟨r, n, rfl⟩ := exists_ix2 (M := 4096) (N := 3072) i
  have e := gateR_apply Z r n
  unfold silu
  generalize gateR Z = S at e ⊢
  pointwise
  rw [e]
/-- The cotangent of the convolution. -/
def dconvR : FVec Ideal S4096x3072 .f32 :=
  addf (mulf G (gateR Z)) (mulf (mulf Z G) (mulf (gateR Z) (subf (broadcastInDim S4096x3072 ![] bcast_S_S4096x3072 (constant S_ .f32 0x3F800000#32)) (gateR Z))))
theorem dconvR_eq (hG : ∀ (r : Fin 4096) (n : Fin 3072), ∃ g : ℝ, G (ix2 r n) = g) : dconvR G Z = dconv (N := 3072) G Z := by
  funext i; obtain ⟨r, n, rfl⟩ := exists_ix2 (M := 4096) (N := 3072) i
  obtain ⟨g, hg⟩ := hG r n
  have e := gateR_apply Z r n
  unfold dconv dconvR
  show _ = Cert.ConvKernelIdeal.ConvTile.slope (G (ix2 r n)) (Z (ix2 r n))
  rw [hg, ← slope_sum]
  generalize gateR Z = S at e ⊢
  pointwise
  rw [e, hg]

/-! ## The gradient of the bias -/

theorem db_eq : shapeCast _ (Host.reduceAdd D (constant S_ .f32 0x00000000#32) reducesTo_S4096x3072_S3072_d0 h_S_) shapeCasts_S3072_S1x3072 = db (N := 3072) D := by
  funext i; obtain ⟨z, n, rfl⟩ := exists_ix2 (M := 1) (N := 3072) i
  unfold db
  pointwise

/-! ## The gradient of the rows -/

theorem zero_ : (constant S_ .f32 0x00000000#32 : FVec Ideal S_ .f32) (Shape.Idx.first h_S_) = 0 := by
  pointwise
theorem word_zero : (FloatOps.sitofp .f32 (0#32 : BitVec 32) : Ideal .f32) = (0 : EReal) := by
  show (((0#32 : BitVec 32).toInt : ℝ) : EReal) = 0
  simp

/-- The weighted cotangent, 0 rows down. -/
def down0 : FVec Ideal S4099x3072 .f32 := pad S4099x3072 ![0, 0] ![3, 0] ![0, 0] (mulf (weight0 W) D) (constant S_ .f32 0x00000000#32) pads_S4096x3072_S4099x3072_030_000 h_S_
theorem down0_apply (r : Fin 4096) (n : Fin 3072) : down0 W D (ix2 ⟨r.val + 3, by omega⟩ n) = W (ix2 0 n) * next D 3 r n := by
  have f := fun r => weight0_apply W r n
  unfold down0 next
  generalize weight0 W = V at f ⊢
  by_cases h : r.val + 3 < 4096
  · rw [dif_pos h, ← f ⟨r.val + 3, h⟩]
    refine (pad_apply_of_inside _ _ _ _ _ _ _ (ix2 ⟨r.val + 3, by omega⟩ n) (ix2 ⟨r.val + 3, h⟩ n) fun a => ?_).trans rfl
    match a with
    | ⟨0, _⟩ => show r.val + 3 = 0 + (r.val + 3) * (0 + 1); omega
    | ⟨1, _⟩ => show n.val = 0 + n.val * (0 + 1); omega
  · rw [dif_neg h, mul_zero]
    refine (pad_apply_of_not_inside _ _ _ _ _ _ _ (ix2 ⟨r.val + 3, by omega⟩ n) (0 : Fin 2) fun q => ?_).trans zero_
    obtain ⟨-, -, q⟩ := q
    change (r.val + 3 - 0) / (0 + 1) < 4096 at q; omega

/-- The weighted cotangent, 1 rows down. -/
def down1 : FVec Ideal S4099x3072 .f32 := pad S4099x3072 ![1, 0] ![2, 0] ![0, 0] (mulf (weight1 W) D) (constant S_ .f32 0x00000000#32) pads_S4096x3072_S4099x3072_120_000 h_S_
theorem down1_apply (r : Fin 4096) (n : Fin 3072) : down1 W D (ix2 ⟨r.val + 3, by omega⟩ n) = W (ix2 1 n) * next D 2 r n := by
  have f := fun r => weight1_apply W r n
  unfold down1 next
  generalize weight1 W = V at f ⊢
  by_cases h : r.val + 2 < 4096
  · rw [dif_pos h, ← f ⟨r.val + 2, h⟩]
    refine (pad_apply_of_inside _ _ _ _ _ _ _ (ix2 ⟨r.val + 3, by omega⟩ n) (ix2 ⟨r.val + 2, h⟩ n) fun a => ?_).trans rfl
    match a with
    | ⟨0, _⟩ => show r.val + 3 = 1 + (r.val + 2) * (0 + 1); omega
    | ⟨1, _⟩ => show n.val = 0 + n.val * (0 + 1); omega
  · rw [dif_neg h, mul_zero]
    refine (pad_apply_of_not_inside _ _ _ _ _ _ _ (ix2 ⟨r.val + 3, by omega⟩ n) (0 : Fin 2) fun q => ?_).trans zero_
    obtain ⟨-, -, q⟩ := q
    change (r.val + 3 - 1) / (0 + 1) < 4096 at q; omega

/-- The weighted cotangent, 2 rows down. -/
def down2 : FVec Ideal S4099x3072 .f32 := pad S4099x3072 ![2, 0] ![1, 0] ![0, 0] (mulf (weight2 W) D) (constant S_ .f32 0x00000000#32) pads_S4096x3072_S4099x3072_210_000 h_S_
theorem down2_apply (r : Fin 4096) (n : Fin 3072) : down2 W D (ix2 ⟨r.val + 3, by omega⟩ n) = W (ix2 2 n) * next D 1 r n := by
  have f := fun r => weight2_apply W r n
  unfold down2 next
  generalize weight2 W = V at f ⊢
  by_cases h : r.val + 1 < 4096
  · rw [dif_pos h, ← f ⟨r.val + 1, h⟩]
    refine (pad_apply_of_inside _ _ _ _ _ _ _ (ix2 ⟨r.val + 3, by omega⟩ n) (ix2 ⟨r.val + 1, h⟩ n) fun a => ?_).trans rfl
    match a with
    | ⟨0, _⟩ => show r.val + 3 = 2 + (r.val + 1) * (0 + 1); omega
    | ⟨1, _⟩ => show n.val = 0 + n.val * (0 + 1); omega
  · rw [dif_neg h, mul_zero]
    refine (pad_apply_of_not_inside _ _ _ _ _ _ _ (ix2 ⟨r.val + 3, by omega⟩ n) (0 : Fin 2) fun q => ?_).trans zero_
    obtain ⟨-, -, q⟩ := q
    change (r.val + 3 - 2) / (0 + 1) < 4096 at q; omega

/-- The weighted cotangent, 3 rows down. -/
def down3 : FVec Ideal S4099x3072 .f32 := pad S4099x3072 ![3, 0] ![0, 0] ![0, 0] (mulf (weight3 W) D) (constant S_ .f32 0x00000000#32) pads_S4096x3072_S4099x3072_300_000 h_S_
theorem down3_apply (r : Fin 4096) (n : Fin 3072) : down3 W D (ix2 ⟨r.val + 3, by omega⟩ n) = W (ix2 3 n) * next D 0 r n := by
  have f := fun r => weight3_apply W r n
  unfold down3 next
  generalize weight3 W = V at f ⊢
  by_cases h : r.val + 0 < 4096
  · rw [dif_pos h, ← f ⟨r.val + 0, h⟩]
    refine (pad_apply_of_inside _ _ _ _ _ _ _ (ix2 ⟨r.val + 3, by omega⟩ n) (ix2 ⟨r.val + 0, h⟩ n) fun a => ?_).trans rfl
    match a with
    | ⟨0, _⟩ => show r.val + 3 = 3 + (r.val + 0) * (0 + 1); omega
    | ⟨1, _⟩ => show n.val = 0 + n.val * (0 + 1); omega
  · rw [dif_neg h, mul_zero]
    refine (pad_apply_of_not_inside _ _ _ _ _ _ _ (ix2 ⟨r.val + 3, by omega⟩ n) (0 : Fin 2) fun q => ?_).trans zero_
    obtain ⟨-, -, q⟩ := q
    change (r.val + 3 - 3) / (0 + 1) < 4096 at q; omega

theorem orderX (a b c d : EReal) : a + b + c + d = a + d + c + b := by abel
theorem dx_eq : truncf .bf16 (extractStridedSlice S4096x3072 ![3, 0] (addf (addf (addf (down3 W D) (down2 W D)) (down1 W D)) (down0 W D)) slices_S4099x3072_S4096x3072_3_0) bitsLt_bf16_f32
    = dx (N := 3072) D W := by
  funext i; obtain ⟨r, n, rfl⟩ := exists_ix2 (M := 4096) (N := 3072) i
  rw [dx_apply]
  have e0 := down0_apply W D r n
  have e1 := down1_apply W D r n
  have e2 := down2_apply W D r n
  have e3 := (down3_apply W D r n).trans (congrArg (fun z => W (ix2 3 n) * z) (next_here _ r n))
  generalize down0 W D = A0 at *
  generalize down1 W D = A1 at *
  generalize down2 W D = A2 at *
  generalize down3 W D = A3 at *
  pointwise
  rw [← e0, ← e1, ← e2, ← e3]
  have at_ : (⟨3 + r.val, by omega⟩ : Fin 4099) = ⟨r.val + 3, by omega⟩ := Fin.ext (Nat.add_comm _ _)
  rw [at_]
  exact orderX _ _ _ _

/-! ## The gradient of the weights -/

/-- A row of it. -/
def rowSum : FVec Ideal S1x3072 .f32 :=
  broadcastInDim S1x3072 ![1] bcast_S3072_S1x3072_1 (Host.reduceAdd (shapeCast _ (Host.reduceAdd (mulf D X) (constant S_ .f32 0x00000000#32) reducesTo_S4096x3072_S3072_d0 h_S_) shapeCasts_S3072_S1x3072)
    (constant S_ .f32 0x00000000#32) reducesTo_S1x3072_S3072_d0 h_S_)
theorem rowSum_apply (n : Fin 3072) : rowSum D X (ix2 0 n) = ∑ r : Fin 4096, D (ix2 r n) * X (ix2 r n) := by
  pointwise [rowSum]
  exact Fin.sum_univ_one _

/-- A row at row 0 of four. -/
def at0 (x : FVec Ideal S1x3072 .f32) : FVec Ideal S4x3072 .f32 := pad S4x3072 ![0, 0] ![3, 0] ![0, 0] x (constant S_ .f32 0x00000000#32) pads_S1x3072_S4x3072_030_000 h_S_
theorem at0_apply (x : FVec Ideal S1x3072 .f32) (i : Fin 4) (n : Fin 3072) : at0 x (ix2 i n) = if i.val = 0 then x (ix2 0 n) else 0 := by
  fin_cases i <;> pointwise [at0]

/-- A row at row 1 of four. -/
def at1 (x : FVec Ideal S1x3072 .f32) : FVec Ideal S4x3072 .f32 := pad S4x3072 ![1, 0] ![2, 0] ![0, 0] x (constant S_ .f32 0x00000000#32) pads_S1x3072_S4x3072_120_000 h_S_
theorem at1_apply (x : FVec Ideal S1x3072 .f32) (i : Fin 4) (n : Fin 3072) : at1 x (ix2 i n) = if i.val = 1 then x (ix2 0 n) else 0 := by
  fin_cases i <;> pointwise [at1]

/-- A row at row 2 of four. -/
def at2 (x : FVec Ideal S1x3072 .f32) : FVec Ideal S4x3072 .f32 := pad S4x3072 ![2, 0] ![1, 0] ![0, 0] x (constant S_ .f32 0x00000000#32) pads_S1x3072_S4x3072_210_000 h_S_
theorem at2_apply (x : FVec Ideal S1x3072 .f32) (i : Fin 4) (n : Fin 3072) : at2 x (ix2 i n) = if i.val = 2 then x (ix2 0 n) else 0 := by
  fin_cases i <;> pointwise [at2]

/-- A row at row 3 of four. -/
def at3 (x : FVec Ideal S1x3072 .f32) : FVec Ideal S4x3072 .f32 := pad S4x3072 ![3, 0] ![0, 0] ![0, 0] x (constant S_ .f32 0x00000000#32) pads_S1x3072_S4x3072_300_000 h_S_
theorem at3_apply (x : FVec Ideal S1x3072 .f32) (i : Fin 4) (n : Fin 3072) : at3 x (ix2 i n) = if i.val = 3 then x (ix2 0 n) else 0 := by
  fin_cases i <;> pointwise [at3]

/-- The four rows. -/
def rowsR : FVec Ideal S4x3072 .f32 :=
  addf (addf (addf (at3 (rowSum D (shift3 P))) (at2 (rowSum D (shift2 P)))) (at1 (rowSum D (shift1 P)))) (at0 (rowSum D (shift0 P)))
theorem rowsR_apply (i : Fin 4) (n : Fin 3072) : rowsR P D (ix2 i n) = ∑ r : Fin 4096, D (ix2 r n) * past (lanes P) (3 - i.val) r n := by
  have e0 := fun i => at0_apply (rowSum D (shift0 P)) i n
  have e1 := fun i => at1_apply (rowSum D (shift1 P)) i n
  have e2 := fun i => at2_apply (rowSum D (shift2 P)) i n
  have e3 := fun i => at3_apply (rowSum D (shift3 P)) i n
  simp only [rowSum_apply, shift0_apply, shift1_apply, shift2_apply, shift3_apply] at e0 e1 e2 e3
  show at3 _ (ix2 i n) + at2 _ (ix2 i n) + at1 _ (ix2 i n) + at0 _ (ix2 i n) = _
  rw [e0, e1, e2, e3]
  fin_cases i <;> simp
theorem dw_eq : pad S8x3072 ![0, 0] ![4, 0] ![0, 0] (rowsR P D) (sitofp .f32 (constantI S_ 32 0#32)) pads_S4x3072_S8x3072_040_000 h_S_ = dw (N := 3072) D (lanes P) := by
  funext i; obtain ⟨k, n, rfl⟩ := exists_ix2 (M := 8) (N := 3072) i
  have e := fun i => rowsR_apply P D i n
  show _ = if k.val < 4 then ∑ r : Fin 4096, D (ix2 r n) * past (lanes P) (3 - k.val) r n else 0
  generalize rowsR P D = R at e ⊢
  by_cases h : k.val < 4
  · rw [if_pos h]
    refine Eq.trans ?_ (e ⟨k.val, h⟩)
    pointwise
    rw [dif_pos h]
  · rw [if_neg h]
    pointwise
    rw [dif_neg h]
    exact word_zero

/-! ## The printed results are these -/

section Printed
variable (m : (ℓ : Loc nD τ sig) → Buf (Elt Ideal) ℓ) (c : Dev nD)
abbrev A0 : FVec Ideal S4096x12288 .f32 := m ((c.tc : Thread nD τ).loc main_arg0)
abbrev A1 : FVec Ideal S4x3072 .f32 := m ((c.tc : Thread nD τ).loc main_arg1)
abbrev A2 : FVec Ideal S1x3072 .f32 := m ((c.tc : Thread nD τ).loc main_arg2)
abbrev A3 : FVec Ideal S4096x3072 .f32 := m ((c.tc : Thread nD τ).loc main_arg3)
theorem out0_eq : res_main_v35_0 m c = mulf (convR (A0 m c) (A1 m c) (A2 m c)) (gateR (convR (A0 m c) (A1 m c) (A2 m c))) := by
  unfold res_main_v35_0; rfl
theorem out1_eq : res_main_v83 m c = truncf .bf16 (extractStridedSlice S4096x3072 ![3, 0] (addf (addf (addf (down3 (A1 m c) (dconvR (A3 m c) (convR (A0 m c) (A1 m c) (A2 m c))))
    (down2 (A1 m c) (dconvR (A3 m c) (convR (A0 m c) (A1 m c) (A2 m c))))) (down1 (A1 m c) (dconvR (A3 m c) (convR (A0 m c) (A1 m c) (A2 m c)))))
    (down0 (A1 m c) (dconvR (A3 m c) (convR (A0 m c) (A1 m c) (A2 m c))))) slices_S4099x3072_S4096x3072_3_0) bitsLt_bf16_f32 := by
  unfold res_main_v83; rfl
theorem out2_eq : res_main_v84 m c = pad S8x3072 ![0, 0] ![4, 0] ![0, 0] (rowsR (A0 m c) (dconvR (A3 m c) (convR (A0 m c) (A1 m c) (A2 m c))))
    (sitofp .f32 (constantI S_ 32 0#32)) pads_S4x3072_S8x3072_040_000 h_S_ := by
  unfold res_main_v84; rfl
theorem out3_eq : res_main_v38 m c = shapeCast _ (Host.reduceAdd (dconvR (A3 m c) (convR (A0 m c) (A1 m c) (A2 m c))) (constant S_ .f32 0x00000000#32) reducesTo_S4096x3072_S3072_d0 h_S_) shapeCasts_S3072_S1x3072 := by
  unfold res_main_v38; rfl
end Printed
end Cert.ConvReferenceIdeal.ConvRef
end
-- ==== Proof.ConvClaim.lean ====
/- The causal convolution with its SiLU, forward and backward: what the two calls leave at the end, and that the reference computes the same when the
   cotangent is finite. -/
module

public import proofs.«01_k».proof.Defs
public import proofs.«01_k».proof.Proof.Finite
public import proofs.«01_k».proof.Proof.Gen.ConvKernelIdeal.Frame
public import proofs.«01_k».proof.Proof.ConvRef

@[expose] public section
set_option maxRecDepth 16384
noncomputable section

namespace Cert.CotangentFinite
open Cert.Pre_cotangent_finite Idealize.ShloMosaic

/-- The side conditions of the precondition's operations. -/
theorem facts : Cert.Pre_cotangent_finite.Facts where
  bcast_S_S4096x3072 := by decide
  reducesTo_S4096x3072_S_d0_1 := by decide
  h_S_ := by decide

variable [Facts]
open Facts
/-- The precondition says that every entry of the cotangent is real. -/
theorem of_pre (A0 : FVec Ideal S4096x12288 .f32) (A1 : FVec Ideal S4x3072 .f32) (A2 : FVec Ideal S1x3072 .f32) (A3 : FVec Ideal S4096x3072 .f32)
    (h : fn (F := Ideal) A0 A1 A2 A3 = fun _ => 1#1) (r : Fin 4096) (n : Fin 3072) : ∃ g : ℝ, A3 (ix2 r n) = g := by
  have h' := congrFun h (fun a => a.elim0)
  unfold fn at h'
  have e := Host.reduce_andi_all _ _ _ _ _ h' (ix2 r n)
  pointwise at e
  exact Cert.Finite.real_of_abs_lt e
end Cert.CotangentFinite

namespace Cert.ConvKernelIdeal.ConvRun
open Cert.ConvKernelIdeal Cert.ConvKernelIdeal.Gen Cert.Product Idealize.ShloMosaic Idealize.ShloMosaic.TcCoe ConvTile
open Idealize.ShloMosaic.Rounds Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg) (c : Dev nD)

local notation "𝕄" => MT nD τ sig Unit (Elt Ideal) ℕ (UR sig nD τ) ℕ

set_option backward.isDefEq.respectTransparency.types false in
/-- The two calls run to their end, and every array ends with what the last boundary holds. -/
theorem run_final : θ_run defs (onTc (τ := τ) (main (F := Ideal))) ⟨m, fun _ => 0, ρ⟩ (fun r => ∀ c : Dev nD, ∀ b ∈ Pipeline.ucRefs τ sig,
    r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => h)

/-! The arguments: the projected activations, the weights, the bias and the cotangent. -/
abbrev Proj : Mat 4096 12288 := m ((c : Thread nD τ).loc main_arg0)
abbrev Weights : Mat 4 3072 := m ((c : Thread nD τ).loc main_arg1)
abbrev Bias : Mat 1 3072 := m ((c : Thread nD τ).loc main_arg2)
abbrev Cot : Mat 4096 3072 := m ((c : Thread nD τ).loc main_arg3)
/-- The convolution, and the cotangent that reaches it. -/
abbrev Pre : Mat 4096 3072 := conv (lanes (Proj m c)) (Weights m c) (Bias m c)
abbrev Back : Mat 4096 3072 := dconv (Cot m c) (Pre m c)

/-! What each call leaves. -/
theorem pre_end : W1 m ρ c main_v0_0 = Pre m c := (W1_arr m ρ c 3).trans (arr0 (V0 m ρ) c)
theorem act_end : W1 m ρ c main_v0_1 = silu (Pre m c) := (W1_arr m ρ c 4).trans (arr0' (V0 m ρ) c)
theorem act_last : W2 m ρ c main_v0_1 = silu (Pre m c) := (W2_of m ρ c main_v0_1 (by decide +kernel)).trans (act_end m ρ c)
theorem back_eq : cotangent (V1 m ρ) c = Back m c := congrArg₂ dconv (W1_args m ρ c main_arg3 (by decide)) (pre_end m ρ c)
theorem dx_last : W2 m ρ c main_v1_0 = dx (Back m c) (Weights m c) :=
  (W2_arr m ρ c 4).trans ((arrX (V1 m ρ) c).trans (congrArg₂ dx (back_eq m ρ c) (W1_args m ρ c main_arg1 (by decide))))
theorem dw_last : W2 m ρ c main_v1_1 = dw (Back m c) (lanes (Proj m c)) :=
  (W2_arr m ρ c 5).trans ((arrW (V1 m ρ) c).trans (congrArg₂ (fun D P => dw D (lanes P)) (back_eq m ρ c) (W1_args m ρ c main_arg0 (by decide))))
theorem db_last : W2 m ρ c main_v1_2 = db (Back m c) :=
  (W2_arr m ρ c 6).trans ((arrB (V1 m ρ) c).trans (congrArg db (back_eq m ρ c)))

end Cert.ConvKernelIdeal.ConvRun

namespace Cert.ConvClaim
open Idealize.ShloMosaic Idealize.ShloMosaic.TcCoe Idealize.SL.Sem Cert.Product Cert.ConvKernelIdeal.ConvTile Cert.ConvKernelIdeal.ConvRun Cert.ConvReferenceIdeal.ConvRef

/-- The reference runs to its end, keeps its arguments and has no semaphore. -/
theorem frame_reference : Cert.quiescent_ConvReferenceIdeal (hConvReferenceIdeal := Cert.ConvReferenceIdeal.Gen.facts) := by
  intro m ρ _
  exact (θ_run Cert.ConvReferenceIdeal.defs _ _).mono (fun r h => ⟨fun c => (h c).2.2.2.2, sem_eq_zero_of_no_sems (by decide) r.2⟩) (Cert.ConvReferenceIdeal.Value.run m ρ)

/-- Both programs run, and their results agree. -/
theorem algebraic : Cert.algebraic_ConvKernelIdeal_ConvReferenceIdeal_pre_cotangent_finite (hConvKernelIdeal := Cert.ConvKernelIdeal.Gen.facts)
    (hConvReferenceIdeal := Cert.ConvReferenceIdeal.Gen.facts) (hPre_cotangent_finite := Cert.CotangentFinite.facts) := by
  intro m ρ m' ρ' hpre hargs
  refine ⟨fun c => silu (Pre m c), fun c => dx (Back m c) (Weights m c), fun c => dw (Back m c) (lanes (Proj m c)), fun c => db (Back m c), ?_, ?_⟩
  · refine (θ_run Cert.ConvKernelIdeal.defs _ _).mono (fun r h c => ?_) (run_final m ρ)
    have at_ : ∀ b : Ref Cert.ConvKernelIdeal.sig .tc, ¬ b.isScoped → r.2.mem ((c.tc : Thread Cert.ConvKernelIdeal.nD Cert.ConvKernelIdeal.τ).loc b)
      = Cert.ConvKernelIdeal.Gen.W2 m ρ c b := fun b hb => h c _ (Cert.ConvKernelIdeal.Gen.mem_uc b hb)
    exact ⟨(at_ _ (by decide)).trans (act_last m ρ c), (at_ _ (by decide)).trans (dx_last m ρ c), (at_ _ (by decide)).trans (dw_last m ρ c), (at_ _ (by decide)).trans (db_last m ρ c),
      (at_ _ (by decide)).trans (Cert.ConvKernelIdeal.Gen.W2_main_arg0 m ρ c), (at_ _ (by decide)).trans (Cert.ConvKernelIdeal.Gen.W2_main_arg1 m ρ c),
      (at_ _ (by decide)).trans (Cert.ConvKernelIdeal.Gen.W2_main_arg2 m ρ c), (at_ _ (by decide)).trans (Cert.ConvKernelIdeal.Gen.W2_main_arg3 m ρ c)⟩
  · refine (θ_run Cert.ConvReferenceIdeal.defs _ _).mono (fun r h c => ?_) (Cert.ConvReferenceIdeal.Value.run m' ρ')
    haveI := Cert.CotangentFinite.facts
    have real := Cert.CotangentFinite.of_pre _ _ _ _ (hpre c)
    obtain ⟨e0, e1, e2, e3⟩ := hargs c
    obtain ⟨h0, h1, h2, h3, rest⟩ := h c
    have a0 : A0 m' c = Proj m c := e0
    have a1 : A1 m' c = Weights m c := e1
    have a2 : A2 m' c = Bias m c := e2
    have a3 : A3 m' c = Cot m c := e3
    have back : dconvR (A3 m' c) (convR (A0 m' c) (A1 m' c) (A2 m' c)) = Back m c := by
      rw [convR_eq]
      rw [a0, a1, a2, a3]
      exact dconvR_eq _ _ real
    rw [out0_eq, convR_eq, silu_eq] at h0
    rw [out1_eq, back, dx_eq] at h1
    rw [out2_eq, back, dw_eq] at h2
    rw [out3_eq, back, db_eq] at h3
    refine ⟨h0.trans ?_, h1.trans ?_, h2.trans ?_, h3, rest⟩
    · rw [a0, a1, a2]
    · exact congrArg (dx (Back m c)) e1
    · exact congrArg (fun P => dw (Back m c) (lanes P)) e0

end Cert.ConvClaim
end
-- ==== Proof.lean ====
/- The whole certificate: every program's frame, and the values of the calls stated. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.MemClaim
public import proofs.«01_k».proof.Proof.Gen.MlpKernel
public import proofs.«01_k».proof.Proof.Gen.MlpKernel.Skeleton
public import proofs.«01_k».proof.Proof.Gen.MlpKernel.Launch
public import proofs.«01_k».proof.Proof.Gen.MlpKernel.Points
public import proofs.«01_k».proof.Proof.Gen.MlpKernel.Frame
public import proofs.«01_k».proof.Proof.MlpClaim
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InReferenceIdeal
public import proofs.«01_k».proof.Proof.Gen.InReferenceIdeal.Run
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixReferenceIdeal
public import proofs.«01_k».proof.Proof.Gen.MixReferenceIdeal.Run
public import proofs.«01_k».proof.Proof.Gen.AdamKernel.Frame
public import proofs.«01_k».proof.Proof.Gen.AdamKernelIdeal.Frame
public import proofs.«01_k».proof.Proof.Gen.AdamReferenceIdeal.Run
public import proofs.«01_k».proof.Proof.Gen.NormKernel.Frame
public import proofs.«01_k».proof.Proof.Gen.NormKernelIdeal.Frame
public import proofs.«01_k».proof.Proof.Gen.NormReferenceIdeal.Run
public import proofs.«01_k».proof.Proof.Gen.MemKernel.Frame
public import proofs.«01_k».proof.Proof.Gen.MemKernelIdeal.Frame
public import proofs.«01_k».proof.Proof.Gen.MemReferenceIdeal.Run
public import proofs.«01_k».proof.Proof.Gen.ConvKernel.Frame
public import proofs.«01_k».proof.Proof.Gen.ConvKernelIdeal.Frame
public import proofs.«01_k».proof.Proof.Gen.ConvReferenceIdeal.Run
public import proofs.«01_k».proof.Proof.InClaim
public import proofs.«01_k».proof.Proof.MixClaim
public import proofs.«01_k».proof.Proof.AdamClaim
public import proofs.«01_k».proof.Proof.NormClaim
public import proofs.«01_k».proof.Proof.MemKvClaim
public import proofs.«01_k».proof.Proof.ConvClaim
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs to its end, keeps its arguments and has no semaphore. -/
theorem frame_reference : Cert.quiescent_ReferenceIdeal (hReferenceIdeal := Cert.ReferenceIdeal.Gen.facts) := by
  intro m ρ _
  refine (θ_run Cert.ReferenceIdeal.defs _ _).mono (fun r h => ⟨fun c => (h c).2.2, sem_eq_zero_of_no_sems (by decide) r.2⟩) (Cert.ReferenceIdeal.Value.run m ρ)

/-- Everything claimed. -/
theorem claim : Cert.Claim := ⟨Cert.Kernel.Gen.facts, Cert.KernelIdeal.Gen.facts, Cert.ReferenceIdeal.Gen.facts,
  Cert.MlpKernel.Gen.facts, Cert.MlpKernelIdeal.Gen.facts, Cert.MlpReferenceIdeal.Gen.facts,
  Cert.InKernel.Gen.facts, Cert.InKernelIdeal.Gen.facts, Cert.InReferenceIdeal.Gen.facts,
  Cert.MixKernel.Gen.facts, Cert.MixKernelIdeal.Gen.facts, Cert.MixReferenceIdeal.Gen.facts,
  Cert.AdamKernel.Gen.facts, Cert.AdamKernelIdeal.Gen.facts, Cert.AdamReferenceIdeal.Gen.facts,
  Cert.NormKernel.Gen.facts, Cert.NormKernelIdeal.Gen.facts, Cert.NormReferenceIdeal.Gen.facts,
  Cert.MemKernel.Gen.facts, Cert.MemKernelIdeal.Gen.facts, Cert.MemReferenceIdeal.Gen.facts,
  Cert.ConvKernel.Gen.facts, Cert.ConvKernelIdeal.Gen.facts, Cert.ConvReferenceIdeal.Gen.facts,
  Cert.Finite.facts, Cert.CotangentFinite.facts,
  fun m ρ _ => Cert.Kernel.Gen.frame m ρ,
  fun m ρ _ => Cert.KernelIdeal.Gen.frame m ρ,
  fun m ρ _ => Cert.KernelIdeal.Gen.frame m ρ,
  fun m ρ _ => frame_reference m ρ trivial,
  fun m ρ _ => frame_reference m ρ trivial,
  fun m ρ _ => Cert.MlpKernel.Gen.frame m ρ,
  fun m ρ _ => Cert.MlpKernelIdeal.Gen.frame m ρ,
  Cert.MlpClaim.frame_reference,
  fun m ρ _ => Cert.InKernel.Gen.frame m ρ,
  fun m ρ _ => Cert.InKernelIdeal.Gen.frame m ρ,
  Cert.InClaim.frame_reference,
  fun m ρ _ => Cert.MixKernel.Gen.frame m ρ,
  fun m ρ _ => Cert.MixKernelIdeal.Gen.frame m ρ,
  Cert.MixClaim.frame_reference,
  fun m ρ _ => Cert.AdamKernel.Gen.frame m ρ,
  fun m ρ _ => Cert.AdamKernelIdeal.Gen.frame m ρ,
  Cert.AdamClaim.frame_reference,
  fun m ρ _ => Cert.NormKernel.Gen.frame m ρ,
  fun m ρ _ => Cert.NormKernelIdeal.Gen.frame m ρ,
  Cert.NormClaim.frame_reference,
  fun m ρ _ => Cert.MemKernel.Gen.frame m ρ,
  fun m ρ _ => Cert.MemKernelIdeal.Gen.frame m ρ,
  Cert.MemKvClaim.frame_reference,
  fun m ρ _ => Cert.ConvKernel.Gen.frame m ρ,
  fun m ρ _ => Cert.ConvKernelIdeal.Gen.frame m ρ,
  fun m ρ _ => Cert.ConvKernelIdeal.Gen.frame m ρ,
  fun m ρ _ => Cert.ConvClaim.frame_reference m ρ trivial,
  fun m ρ _ => Cert.ConvClaim.frame_reference m ρ trivial,
  trivial,
  Cert.MemClaim.algebraic,
  trivial,
  Cert.MlpClaim.algebraic,
  trivial,
  Cert.InClaim.algebraic,
  trivial,
  Cert.MixClaim.algebraic,
  trivial,
  Cert.AdamClaim.algebraic,
  trivial,
  Cert.NormClaim.algebraic,
  trivial,
  Cert.MemKvClaim.algebraic,
  trivial,
  Cert.ConvClaim.algebraic⟩

end Cert.Proof

end
